-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)) (v2 : (c : Dev Cert.Kernel7Ideal.nD) → Buf (Elt Ideal) ((c.tc : Thread Cert.Kernel7Ideal.nD Cert.Kernel7Ideal.τ).loc Cert.Kernel7Ideal.main_v7_2)) (v3 : (c : Dev Cert.Kernel7Ideal.nD) → Buf (Elt Ideal) ((c.tc : Thread Cert.Kernel7Ideal.nD Cert.Kernel7Ideal.τ).loc Cert.Kernel7Ideal.main_v7_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_v7_2) = v2 c
          ∧ r.2.mem ((c.tc : Thread Cert.Kernel7Ideal.nD Cert.Kernel7Ideal.τ).loc Cert.Kernel7Ideal.main_v7_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_v11) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v32_0)) (v1 : (c : Dev Cert.Kernel10Ideal.nD) → Buf (Elt Ideal) ((c.tc : Thread Cert.Kernel10Ideal.nD Cert.Kernel10Ideal.τ).loc Cert.Kernel10Ideal.main_v32_1)) (v2 : (c : Dev Cert.Kernel10Ideal.nD) → Buf (Elt Ideal) ((c.tc : Thread Cert.Kernel10Ideal.nD Cert.Kernel10Ideal.τ).loc Cert.Kernel10Ideal.main_v32_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v32_0) = v0 c
          ∧ r.2.mem ((c.tc : Thread Cert.Kernel10Ideal.nD Cert.Kernel10Ideal.τ).loc Cert.Kernel10Ideal.main_v32_1) = v1 c
          ∧ r.2.mem ((c.tc : Thread Cert.Kernel10Ideal.nD Cert.Kernel10Ideal.τ).loc Cert.Kernel10Ideal.main_v32_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v56) = v0 c
          ∧ r.2.mem ((c.tc : Thread Cert.Reference10Ideal.nD Cert.Reference10Ideal.τ).loc Cert.Reference10Ideal.main_v57) = v1 c
          ∧ r.2.mem ((c.tc : Thread Cert.Reference10Ideal.nD Cert.Reference10Ideal.τ).loc Cert.Reference10Ideal.main_v58) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v14)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v14) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v60) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v138) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite12 : Cert.Pre_finite12.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
-- ==== Pre_finite12.lean ====
abbrev S8192x3584 : Shape := ⟨2, ![8192, 3584]⟩
abbrev S1x4x512x512 : Shape := ⟨4, ![1, 4, 512, 512]⟩
abbrev S1x2048 : Shape := ⟨2, ![1, 2048]⟩
abbrev S8192x2048 : Shape := ⟨2, ![8192, 2048]⟩
abbrev S_ : Shape := ⟨0, ![]⟩

class Facts : Prop where
  slices_S8192x3584_S8192x2048_0_0 : S8192x3584.Slices ![0, 0] S8192x2048
  bcast_S_S8192x2048 : S_.BroadcastsInDim S8192x2048 (![] : Fin 0 → Fin S8192x2048.rank)

variable [Facts]

def fn {F : FTy → Type} [FloatOps F] (main_arg0 : FVec F S8192x3584 .f32) (main_arg1 : FVec F S1x4x512x512 .f32) (main_arg2 : FVec F S1x2048 .f32) : IVec S8192x2048 1 :=
  let main_v0 : FVec F S8192x2048 .f32 := (extractStridedSlice S8192x2048 ![0, 0] · slices_S8192x3584_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  main_v3
-- ==== Kernel.lean ====
abbrev S8192x4096 : Shape := ⟨2, ![8192, 4096]⟩
abbrev S1x8192x4096 : Shape := ⟨3, ![1, 8192, 4096]⟩
abbrev S1x4096 : Shape := ⟨2, ![1, 4096]⟩
abbrev S4096 : Shape := ⟨1, ![4096]⟩
abbrev S3x256x4096 : Shape := ⟨3, ![3, 256, 4096]⟩
abbrev S3 : Shape := ⟨1, ![3]⟩
abbrev S2x256x4096 : Shape := ⟨3, ![2, 256, 4096]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x8192x4096, .f32⟩
  | .hbm, ⟨2, _⟩ => ⟨S1x4096, .f32⟩
  | .hbm, ⟨3, _⟩ => ⟨S1x4096, .f32⟩
  | .hbm, ⟨4, _⟩ => ⟨S8192x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S8192x4096, .f32⟩
  | .hbm, ⟨10, _⟩ => ⟨S8192x4096, .bf16⟩
  | .local _ .vmem, ⟨0, _⟩ => ⟨S3x256x4096, .bf16⟩
  | .local _ .vmem, ⟨1, _⟩ => ⟨S3x256x4096, .f32⟩
  | .local _ .vmem, ⟨2, _⟩ => ⟨S1x4096, .f32⟩
  | .local _ .vmem, ⟨3, _⟩ => ⟨S1x4096, .f32⟩
  | .local _ .vmem, ⟨4, _⟩ => ⟨S2x256x4096, .f32⟩
  | .local _ .vmem, ⟨5, _⟩ => ⟨S2x256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped5 : Ref sig .tc := ⟨.vmem, 3, rfl⟩
abbrev cc0_scoped6 : Ref sig .tc := ⟨.vmem, 4, rfl⟩
abbrev cc0_scoped8 : Ref sig .tc := ⟨.vmem, 5, rfl⟩

abbrev nD : Nat := 1
abbrev τ : Topo := Topo.v7x

variable {F : FTy → Type} [FloatOps F]

abbrev grid0 : Pipeline.Grid := .none

def k0_off1 : Fin 1 → Nat :=
  let c0_i32_21_r0 : BitVec 32 := 0#32
  let c3_i32_r0 : BitVec 32 := 3#32
  let v22_r0 : BitVec 32 := Scalar.remui c0_i32_21_r0 c3_i32_r0
  ![v22_r0.toNat]
def k0_off2 : Fin 3 → Nat :=
  let c0_i32_21_r0 : BitVec 32 := 0#32
  let c3_i32_r0 : BitVec 32 := 3#32
  let v22_r0 : BitVec 32 := Scalar.remui c0_i32_21_r0 c3_i32_r0
  let c0_i32_22_r0 : BitVec 32 := 0#32
  let c0_i32_23_r0 : BitVec 32 := 0#32
  ![v22_r0.toNat, 0, 0]
def k0_cond1 : BitVec 1 :=
  let true_37_r0 : BitVec 1 := 1#1
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c32_i32_r0 : BitVec 32 := 32#32
  let v9_r0 : BitVec 1 := Scalar.cmpi .eq v8_r0 c32_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c0_i32_36_r0 : BitVec 32 := 0#32
  let v36_r0 : BitVec 1 := Scalar.cmpi .ne v11_r0 c0_i32_36_r0
  let v37_r0 : BitVec 1 := Scalar.andi true_37_r0 v36_r0
  let true_38_r0 : BitVec 1 := 1#1
  let v38_r0 : BitVec 1 := Scalar.andi v37_r0 true_38_r0
  let v39_r0 : BitVec 32 := Scalar.extui v38_r0
  let c0_i32_39_r0 : BitVec 32 := 0#32
  let v40_r0 : BitVec 1 := Scalar.cmpi .ne v39_r0 c0_i32_39_r0
  v40_r0

def k0_off3 : Fin 1 → Nat :=
  let c0_i32_26_r0 : BitVec 32 := 0#32
  let c1_i32_27_r0 : BitVec 32 := 1#32
  let v28_r0 : BitVec 32 := Scalar.addi c0_i32_26_r0 c1_i32_27_r0
  let c3_i32_94_r0 : BitVec 32 := 3#32
  let v91_r0 : BitVec 32 := Scalar.remui v28_r0 c3_i32_94_r0
  ![v91_r0.toNat]
def k0_off4 : Fin 3 → Nat :=
  let c0_i32_26_r0 : BitVec 32 := 0#32
  let c1_i32_27_r0 : BitVec 32 := 1#32
  let v28_r0 : BitVec 32 := Scalar.addi c0_i32_26_r0 c1_i32_27_r0
  let c3_i32_94_r0 : BitVec 32 := 3#32
  let v91_r0 : BitVec 32 := Scalar.remui v28_r0 c3_i32_94_r0
  let c0_i32_96_r0 : BitVec 32 := 0#32
  let c0_i32_97_r0 : BitVec 32 := 0#32
  ![v91_r0.toNat, 0, 0]
def k0_off5 : Fin 2 → Nat :=
  let c256_i32_95_r0 : BitVec 32 := 256#32
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c32_i32_r0 : BitVec 32 := 32#32
  let v9_r0 : BitVec 1 := Scalar.cmpi .eq v8_r0 c32_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let v92_r0 : BitVec 32 := Scalar.muli c256_i32_95_r0 v11_r0
  let c0_i32_98_r0 : BitVec 32 := 0#32
  ![v92_r0.toNat, 0]
def k0_cond2 : BitVec 1 :=
  let true_42_r0 : BitVec 1 := 1#1
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c32_i32_r0 : BitVec 32 := 32#32
  let v9_r0 : BitVec 1 := Scalar.cmpi .eq v8_r0 c32_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let c0_i32_41_r0 : BitVec 32 := 0#32
  let v43_r0 : BitVec 1 := Scalar.cmpi .ne v11_r0 c0_i32_41_r0
  let v44_r0 : BitVec 1 := Scalar.andi true_42_r0 v43_r0
  let true_43_r0 : BitVec 1 := 1#1
  let v45_r0 : BitVec 1 := Scalar.andi v44_r0 true_43_r0
  let v46_r0 : BitVec 32 := Scalar.extui v45_r0
  let c0_i32_44_r0 : BitVec 32 := 0#32
  let v47_r0 : BitVec 1 := Scalar.cmpi .ne v46_r0 c0_i32_44_r0
  v47_r0

def k0_off6 : Fin 1 → Nat :=
  let c0_i32_34_r0 : BitVec 32 := 0#32
  let c1_i32_35_r0 : BitVec 32 := 1#32
  let v35_r0 : BitVec 32 := Scalar.addi c0_i32_34_r0 c1_i32_35_r0
  let c3_i32_94_r0 : BitVec 32 := 3#32
  let v91_r0 : BitVec 32 := Scalar.remui v35_r0 c3_i32_94_r0
  ![v91_r0.toNat]
def k0_off7 : Fin 3 → Nat :=
  let c0_i32_34_r0 : BitVec 32 := 0#32
  let c1_i32_35_r0 : BitVec 32 := 1#32
  let v35_r0 : BitVec 32 := Scalar.addi c0_i32_34_r0 c1_i32_35_r0
  let c3_i32_94_r0 : BitVec 32 := 3#32
  let v91_r0 : BitVec 32 := Scalar.remui v35_r0 c3_i32_94_r0
  let c0_i32_96_r0 : BitVec 32 := 0#32
  let c0_i32_97_r0 : BitVec 32 := 0#32
  ![v91_r0.toNat, 0, 0]
def k0_off8 : Fin 2 → Nat :=
  let c256_i32_95_r0 : BitVec 32 := 256#32
  let true_7_r0 : BitVec 1 := 1#1
  let c1_i32_r0 : BitVec 32 := 1#32
  let c0_i32_8_r0 : BitVec 32 := 0#32
  let v8_r0 : BitVec 32 := Scalar.select true_7_r0 c1_i32_r0 c0_i32_8_r0
  let c32_i32_r0 : BitVec 32 := 32#32
  let v9_r0 : BitVec 1 := Scalar.cmpi .eq v8_r0 c32_i32_r0
  let c0_i32_9_r0 : BitVec 32 := 0#32
  let v10_r0 : BitVec 32 := Scalar.select v9_r0 c0_i32_9_r0 v8_r0
  let c0_i32_10_r0 : BitVec 32 := 0#32
  let v11_r0 : BitVec 32 := Scalar.addi v10_r0 c0_i32_10_r0
  let v92_r0 : BitVec 32 := Scalar.muli c256_i32_95_r0 v11_r0
  let c0_i32_98_r0 : BitVec 32 := 0#32
  ![v92_r0.toNat, 0]
@[reducible] def k0_t1_loop : Scf.Loop 32 :=
  let c0_i32_57_r0 : BitVec 32 := 0#32
  let c32_i32_58_r0 : BitVec 32 := 32#32
  let v50_r0 : BitVec 32 := Scalar.addi c0_i32_57_r0 c32_i32_58_r0
  let c1_i32_59_r0 : BitVec 32 := 1#32
  ⟨c0_i32_57_r0, v50_r0, c1_i32_59_r0⟩
def k0_off9 (arg7_r0 : BitVec 32) : Fin 1 → Nat :=
  let c3_i32_193_r0 : BitVec 32 := 3#32
  let v285_r0 : BitVec 32 := Scalar.remui arg7_r0 c3_i32_193_r0
  ![v285_r0.toNat]
def k0_cond3 (k0_t1 : Fin k0_t1_loop.trips) (arg17_r0 : BitVec 32) : BitVec 1 :=
  let true_103_r0 : BitVec 1 := 1#1
  let c1_i32_102_r0 : BitVec 32 := 1#32
  let v99_r0 : BitVec 32 := Scalar.addi arg17_r0 c1_i32_102_r0
  let v100_r0 : BitVec 32 := Scalar.select true_103_r0 v99_r0 arg17_r0
  let c32_i32_104_r0 : BitVec 32 := 32#32
  let v101_r0 : BitVec 1 := Scalar.cmpi .eq v100_r0 c32_i32_104_r0
  let c0_i32_105_r0 : BitVec 32 := 0#32
  let v102_r0 : BitVec 32 := Scalar.select v101_r0 c0_i32_105_r0 v100_r0
  let c0_i32_106_r0 : BitVec 32 := 0#32
  let v103_r0 : BitVec 32 := Scalar.addi v102_r0 c0_i32_106_r0
  let true_108_r0 : BitVec 1 := 1#1
  let c1_i32_107_r0 : BitVec 32 := 1#32
  let v104_r0 : BitVec 32 := Scalar.addi v102_r0 c1_i32_107_r0
  let v105_r0 : BitVec 32 := Scalar.select true_108_r0 v104_r0 v102_r0
  let c32_i32_109_r0 : BitVec 32 := 32#32
  let v106_r0 : BitVec 1 := Scalar.cmpi .eq v105_r0 c32_i32_109_r0
  let c0_i32_110_r0 : BitVec 32 := 0#32
  let v107_r0 : BitVec 32 := Scalar.select v106_r0 c0_i32_110_r0 v105_r0
  let c0_i32_111_r0 : BitVec 32 := 0#32
  let v108_r0 : BitVec 32 := Scalar.addi v107_r0 c0_i32_111_r0
  let v114_r0 : BitVec 1 := Scalar.cmpi .ne v103_r0 v108_r0
  let c0_i32_57_r0 : BitVec 32 := 0#32
  let c1_i32_59_r0 : BitVec 32 := 1#32
  let arg6_r0 : BitVec 32 := Scf.iv c0_i32_57_r0 c1_i32_59_r0 k0_t1
  let c30_i32_r0 : BitVec 32 := 30#32
  let v115_r0 : BitVec 1 := Scalar.cmpi .sge arg6_r0 c30_i32_r0
  let true_117_r0 : BitVec 1 := 1#1
  let v116_r0 : BitVec 1 := Scalar.xori v115_r0 true_117_r0
  let v117_r0 : BitVec 1 := Scalar.andi v114_r0 v116_r0
  let true_118_r0 : BitVec 1 := 1#1
  let v118_r0 : BitVec 1 := Scalar.andi v117_r0 true_118_r0
  let v119_r0 : BitVec 32 := Scalar.extui v118_r0
  let c0_i32_119_r0 : BitVec 32 := 0#32
  let v120_r0 : BitVec 1 := Scalar.cmpi .ne v119_r0 c0_i32_119_r0
  v120_r0

def k0_off10 (arg7_r0 : BitVec 32) : Fin 3 → Nat :=
  let c3_i32_193_r0 : BitVec 32 := 3#32
  let v285_r0 : BitVec 32 := Scalar.remui arg7_r0 c3_i32_193_r0
  let c0_i32_195_r0 : BitVec 32 := 0#32
  let c0_i32_196_r0 : BitVec 32 := 0#32
  ![v285_r0.toNat, 0, 0]
def k0_off11 (arg17_r0 : BitVec 32) : Fin 2 → Nat :=
  let c256_i32_194_r0 : BitVec 32 := 256#32
  let true_108_r0 : BitVec 1 := 1#1
  let true_103_r0 : BitVec 1 := 1#1
  let c1_i32_102_r0 : BitVec 32 := 1#32
  let v99_r0 : BitVec 32 := Scalar.addi arg17_r0 c1_i32_102_r0
  let v100_r0 : BitVec 32 := Scalar.select true_103_r0 v99_r0 arg17_r0
  let c32_i32_104_r0 : BitVec 32 := 32#32
  let v101_r0 : BitVec 1 := Scalar.cmpi .eq v100_r0 c32_i32_104_r0
  let c0_i32_105_r0 : BitVec 32 := 0#32
  let v102_r0 : BitVec 32 := Scalar.select v101_r0 c0_i32_105_r0 v100_r0
  let c1_i32_107_r0 : BitVec 32 := 1#32
  let v104_r0 : BitVec 32 := Scalar.addi v102_r0 c1_i32_107_r0
  let v105_r0 : BitVec 32 := Scalar.select true_108_r0 v104_r0 v102_r0
  let c32_i32_109_r0 : BitVec 32 := 32#32
  let v106_r0 : BitVec 1 := Scalar.cmpi .eq v105_r0 c32_i32_109_r0
  let c0_i32_110_r0 : BitVec 32 := 0#32
  let v107_r0 : BitVec 32 := Scalar.select v106_r0 c0_i32_110_r0 v105_r0
  let c0_i32_111_r0 : BitVec 32 := 0#32
  let v108_r0 : BitVec 32 := Scalar.addi v107_r0 c0_i32_111_r0
  let v286_r0 : BitVec 32 := Scalar.muli c256_i32_194_r0 v108_r0
  let c0_i32_197_r0 : BitVec 32 := 0#32
  ![v286_r0.toNat, 0]
def k0_off12 (arg9_r0 : BitVec 32) : Fin 1 → Nat :=
  let c3_i32_193_r0 : BitVec 32 := 3#32
  let v285_r0 : BitVec 32 := Scalar.remui arg9_r0 c3_i32_193_r0
  ![v285_r0.toNat]
def k0_cond4 (k0_t1 : Fin k0_t1_loop.trips) (arg17_r0 : BitVec 32) : BitVec 1 :=
  let true_103_r0 : BitVec 1 := 1#1
  let c1_i32_102_r0 : BitVec 32 := 1#32
  let v99_r0 : BitVec 32 := Scalar.addi arg17_r0 c1_i32_102_r0
  let v100_r0 : BitVec 32 := Scalar.select true_103_r0 v99_r0 arg17_r0
  let c32_i32_104_r0 : BitVec 32 := 32#32
  let v101_r0 : BitVec 1 := Scalar.cmpi .eq v100_r0 c32_i32_104_r0
  let c0_i32_105_r0 : BitVec 32 := 0#32
  let v102_r0 : BitVec 32 := Scalar.select v101_r0 c0_i32_105_r0 v100_r0
  let c0_i32_106_r0 : BitVec 32 := 0#32
  let v103_r0 : BitVec 32 := Scalar.addi v102_r0 c0_i32_106_r0
  let true_108_r0 : BitVec 1 := 1#1
  let c1_i32_107_r0 : BitVec 32 := 1#32
  let v104_r0 : BitVec 32 := Scalar.addi v102_r0 c1_i32_107_r0
  let v105_r0 : BitVec 32 := Scalar.select true_108_r0 v104_r0 v102_r0
  let c32_i32_109_r0 : BitVec 32 := 32#32
  let v106_r0 : BitVec 1 := Scalar.cmpi .eq v105_r0 c32_i32_109_r0
  let c0_i32_110_r0 : BitVec 32 := 0#32
  let v107_r0 : BitVec 32 := Scalar.select v106_r0 c0_i32_110_r0 v105_r0
  let c0_i32_111_r0 : BitVec 32 := 0#32
  let v108_r0 : BitVec 32 := Scalar.addi v107_r0 c0_i32_111_r0
  let v124_r0 : BitVec 1 := Scalar.cmpi .ne v103_r0 v108_r0
  let c0_i32_57_r0 : BitVec 32 := 0#32
  let c1_i32_59_r0 : BitVec 32 := 1#32
  let arg6_r0 : BitVec 32 := Scf.iv c0_i32_57_r0 c1_i32_59_r0 k0_t1
  let c30_i32_122_r0 : BitVec 32 := 30#32
  let v125_r0 : BitVec 1 := Scalar.cmpi .sge arg6_r0 c30_i32_122_r0
  let true_123_r0 : BitVec 1 := 1#1
  let v126_r0 : BitVec 1 := Scalar.xori v125_r0 true_123_r0
  let v127_r0 : BitVec 1 := Scalar.andi v124_r0 v126_r0
  let true_124_r0 : BitVec 1 := 1#1
  let v128_r0 : BitVec 1 := Scalar.andi v127_r0 true_124_r0
  let v129_r0 : BitVec 32 := Scalar.extui v128_r0
  let c0_i32_125_r0 : BitVec 32 := 0#32
  let v130_r0 : BitVec 1 := Scalar.cmpi .ne v129_r0 c0_i32_125_r0
  v130_r0

def k0_off13 (arg9_r0 : BitVec 32) : Fin 3 → Nat :=
  let c3_i32_193_r0 : BitVec 32 := 3#32
  let v285_r0 : BitVec 32 := Scalar.remui arg9_r0 c3_i32_193_r0
  let c0_i32_195_r0 : BitVec 32 := 0#32
  let c0_i32_196_r0 : BitVec 32 := 0#32
  ![v285_r0.toNat, 0, 0]
def k0_off14 (arg17_r0 : BitVec 32) : Fin 2 → Nat :=
  let c256_i32_194_r0 : BitVec 32 := 256#32
  let true_108_r0 : BitVec 1 := 1#1
  let true_103_r0 : BitVec 1 := 1#1
  let c1_i32_102_r0 : BitVec 32 := 1#32
  let v99_r0 : BitVec 32 := Scalar.addi arg17_r0 c1_i32_102_r0
  let v100_r0 : BitVec 32 := Scalar.select true_103_r0 v99_r0 arg17_r0
  let c32_i32_104_r0 : BitVec 32 := 32#32
  let v101_r0 : BitVec 1 := Scalar.cmpi .eq v100_r0 c32_i32_104_r0
  let c0_i32_105_r0 : BitVec 32 := 0#32
  let v102_r0 : BitVec 32 := Scalar.select v101_r0 c0_i32_105_r0 v100_r0
  let c1_i32_107_r0 : BitVec 32 := 1#32
  let v104_r0 : BitVec 32 := Scalar.addi v102_r0 c1_i32_107_r0
  let v105_r0 : BitVec 32 := Scalar.select true_108_r0 v104_r0 v102_r0
  let c32_i32_109_r0 : BitVec 32 := 32#32
  let v106_r0 : BitVec 1 := Scalar.cmpi .eq v105_r0 c32_i32_109_r0
  let c0_i32_110_r0 : BitVec 32 := 0#32
  let v107_r0 : BitVec 32 := Scalar.select v106_r0 c0_i32_110_r0 v105_r0
  let c0_i32_111_r0 : BitVec 32 := 0#32
  let v108_r0 : BitVec 32 := Scalar.addi v107_r0 c0_i32_111_r0
  let v286_r0 : BitVec 32 := Scalar.muli c256_i32_194_r0 v108_r0
  let c0_i32_197_r0 : BitVec 32 := 0#32
  ![v286_r0.toNat, 0]
def k0_off15 (arg8_r0 : BitVec 32) : Fin 1 → Nat :=
  let c3_i32_194_r0 : BitVec 32 := 3#32
  let v286_r0 : BitVec 32 := Scalar.remui arg8_r0 c3_i32_194_r0
  ![v286_r0.toNat]
def k0_cond5 (k0_t1 : Fin k0_t1_loop.trips) (arg17_r0 : BitVec 32) : BitVec 1 :=
  let c0_i32_96_r0 : BitVec 32 := 0#32
  let v93_r0 : BitVec 32 := Scalar.addi arg17_r0 c0_i32_96_r0
  let true_98_r0 : BitVec 1 := 1#1
  let c1_i32_97_r0 : BitVec 32 := 1#32
  let v94_r0 : BitVec 32 := Scalar.subi arg17_r0 c1_i32_97_r0
  let v95_r0 : BitVec 32 := Scalar.select true_98_r0 v94_r0 arg17_r0
  let c_m1_i32_99_r0 : BitVec 32 := 4294967295#32
  let v96_r0 : BitVec 1 := Scalar.cmpi .eq v95_r0 c_m1_i32_99_r0
  let c31_i32_100_r0 : BitVec 32 := 31#32
  let v97_r0 : BitVec 32 := Scalar.select v96_r0 c31_i32_100_r0 v95_r0
  let c0_i32_101_r0 : BitVec 32 := 0#32
  let v98_r0 : BitVec 32 := Scalar.addi v97_r0 c0_i32_101_r0
  let v142_r0 : BitVec 1 := Scalar.cmpi .ne v93_r0 v98_r0
  let c0_i32_57_r0 : BitVec 32 := 0#32
  let c1_i32_59_r0 : BitVec 32 := 1#32
  let arg6_r0 : BitVec 32 := Scf.iv c0_i32_57_r0 c1_i32_59_r0 k0_t1
  let c0_i32_94_r0 : BitVec 32 := 0#32
  let v91_r0 : BitVec 1 := Scalar.cmpi .eq arg6_r0 c0_i32_94_r0
  let v143_r0 : BitVec 1 := Scalar.ori v142_r0 v91_r0
  let c0_i32_132_r0 : BitVec 32 := 0#32
  let v144_r0 : BitVec 1 := Scalar.cmpi .sge arg6_r0 c0_i32_132_r0
  let v145_r0 : BitVec 1 := Scalar.andi v143_r0 v144_r0
  let v146_r0 : BitVec 32 := Scalar.extui v145_r0
  let c0_i32_133_r0 : BitVec 32 := 0#32
  let v147_r0 : BitVec 1 := Scalar.cmpi .ne v146_r0 c0_i32_133_r0
  v147_r0

def k0_off16 (arg8_r0 : BitVec 32) : Fin 3 → Nat :=
  let c3_i32_194_r0 : BitVec 32 := 3#32
  let v286_r0 : BitVec 32 := Scalar.remui arg8_r0 c3_i32_194_r0
  let c0_i32_195_r0 : BitVec 32 := 0#32
  let c0_i32_196_r0 : BitVec 32 := 0#32
  ![v286_r0.toNat, 0, 0]
def k0_off17 (arg17_r0 : BitVec 32) : Fin 2 → Nat :=
  let c256_i32_193_r0 : BitVec 32 := 256#32
  let c0_i32_96_r0 : BitVec 32 := 0#32
  let v93_r0 : BitVec 32 := Scalar.addi arg17_r0 c0_i32_96_r0
  let v285_r0 : BitVec 32 := Scalar.muli c256_i32_193_r0 v93_r0
  let c0_i32_197_r0 : BitVec 32 := 0#32
  ![v285_r0.toNat, 0]
def k0_off18 (arg10_r0 : BitVec 32) : Fin 1 → Nat :=
  let c3_i32_194_r0 : BitVec 32 := 3#32
  let v286_r0 : BitVec 32 := Scalar.remui arg10_r0 c3_i32_194_r0
  ![v286_r0.toNat]
def k0_cond6 (k0_t1 : Fin k0_t1_loop.trips) (arg17_r0 : BitVec 32) : BitVec 1 :=
  let c0_i32_96_r0 : BitVec 32 := 0#32
  let v93_r0 : BitVec 32 := Scalar.addi arg17_r0 c0_i32_96_r0
  let true_98_r0 : BitVec 1 := 1#1
  let c1_i32_97_r0 : BitVec 32 := 1#32
  let v94_r0 : BitVec 32 := Scalar.subi arg17_r0 c1_i32_97_r0
  let v95_r0 : BitVec 32 := Scalar.select true_98_r0 v94_r0 arg17_r0
  let c_m1_i32_99_r0 : BitVec 32 := 4294967295#32
  let v96_r0 : BitVec 1 := Scalar.cmpi .eq v95_r0 c_m1_i32_99_r0
  let c31_i32_100_r0 : BitVec 32 := 31#32
  let v97_r0 : BitVec 32 := Scalar.select v96_r0 c31_i32_100_r0 v95_r0
  let c0_i32_101_r0 : BitVec 32 := 0#32
  let v98_r0 : BitVec 32 := Scalar.addi v97_r0 c0_i32_101_r0
  let v148_r0 : BitVec 1 := Scalar.cmpi .ne v93_r0 v98_r0
  let c0_i32_57_r0 : BitVec 32 := 0#32
  let c1_i32_59_r0 : BitVec 32 := 1#32
  let arg6_r0 : BitVec 32 := Scf.iv c0_i32_57_r0 c1_i32_59_r0 k0_t1
  let c0_i32_94_r0 : BitVec 32 := 0#32
  let v91_r0 : BitVec 1 := Scalar.cmpi .eq arg6_r0 c0_i32_94_r0
  let v149_r0 : BitVec 1 := Scalar.ori v148_r0 v91_r0
  let c0_i32_134_r0 : BitVec 32 := 0#32
  let v150_r0 : BitVec 1 := Scalar.cmpi .sge arg6_r0 c0_i32_134_r0
  let v151_r0 : BitVec 1 := Scalar.andi v149_r0 v150_r0
  let v152_r0 : BitVec 32 := Scalar.extui v151_r0
  let c0_i32_135_r0 : BitVec 32 := 0#32
  let v153_r0 : BitVec 1 := Scalar.cmpi .ne v152_r0 c0_i32_135_r0
  v153_r0

def k0_off19 (arg10_r0 : BitVec 32) : Fin 3 → Nat :=
  let c3_i32_194_r0 : BitVec 32 := 3#32
  let v286_r0 : BitVec 32 := Scalar.remui arg10_r0 c3_i32_194_r0
  let c0_i32_195_r0 : BitVec 32 := 0#32
  let c0_i32_196_r0 : BitVec 32 := 0#32
  ![v286_r0.toNat, 0, 0]
def k0_off20 (arg17_r0 : BitVec 32) : Fin 2 → Nat :=
  let c256_i32_193_r0 : BitVec 32 := 256#32
  let c0_i32_96_r0 : BitVec 32 := 0#32
  let v93_r0 : BitVec 32 := Scalar.addi arg17_r0 c0_i32_96_r0
  let v285_r0 : BitVec 32 := Scalar.muli c256_i32_193_r0 v93_r0
  let c0_i32_197_r0 : BitVec 32 := 0#32
  ![v285_r0.toNat, 0]
def k0_off21 (arg10_r0 : BitVec 32) : Fin 3 → Nat :=
  let c3_i32_141_r0 : BitVec 32 := 3#32
  let v167_r0 : BitVec 32 := Scalar.remui arg10_r0 c3_i32_141_r0
  let v170_r0 : Index := Scalar.indexCast v167_r0
  let c0_r0 : Index := 0#32
  let c0_144_r0 : Index := 0#32
  ![v170_r0.toNat, 0, 0]

def k0_chk2 (arg10_r0 : BitVec 32) : Prop :=
  (∀ a, (k0_off21 arg10_r0) a + S1x256x4096.size a ≤ S3x256x4096.size a)
theorem k0_off21_inb : ∀ (arg10_r0 : BitVec 32) (k0_hw2 : k0_chk2 arg10_r0), ∀ a, (k0_off21 arg10_r0) a + S1x256x4096.size a ≤ S3x256x4096.size a := fun arg10_r0 k0_hw2 => k0_hw2

def k0_off22 (arg8_r0 : BitVec 32) : Fin 3 → Nat :=
  let c3_i32_140_r0 : BitVec 32 := 3#32
  let v166_r0 : BitVec 32 := Scalar.remui arg8_r0 c3_i32_140_r0
  let v173_r0 : Index := Scalar.indexCast v166_r0
  let c0_145_r0 : Index := 0#32
  let c0_146_r0 : Index := 0#32
  ![v173_r0.toNat, 0, 0]

def k0_chk3 (arg8_r0 : BitVec 32) : Prop :=
  (∀ a, (k0_off22 arg8_r0) a + S1x256x4096.size a ≤ S3x256x4096.size a)
theorem k0_off22_inb : ∀ (arg8_r0 : BitVec 32) (k0_hw3 : k0_chk3 arg8_r0), ∀ a, (k0_off22 arg8_r0) a + S1x256x4096.size a ≤ S3x256x4096.size a := fun arg8_r0 k0_hw3 => k0_hw3

def k0_off23 (arg13_r0 : BitVec 32) : Fin 3 → Nat :=
  let c2_i32_142_r0 : BitVec 32 := 2#32
  let v168_r0 : BitVec 32 := Scalar.remui arg13_r0 c2_i32_142_r0
  let v192_r0 : Index := Scalar.indexCast v168_r0
  let c0_151_r0 : Index := 0#32
  let c0_152_r0 : Index := 0#32
  ![v192_r0.toNat, 0, 0]

def k0_chk4 (arg13_r0 : BitVec 32) : Prop :=
  (∀ a, (k0_off23 arg13_r0) a + S1x256x4096.size a ≤ S2x256x4096.size a)
theorem k0_off23_inb : ∀ (arg13_r0 : BitVec 32) (k0_hw4 : k0_chk4 arg13_r0), ∀ a, (k0_off23 arg13_r0) a + S1x256x4096.size a ≤ S2x256x4096.size a := fun arg13_r0 k0_hw4 => k0_hw4

def k0_off24 (arg15_r0 : BitVec 32) : Fin 3 → Nat :=
  let c2_i32_143_r0 : BitVec 32 := 2#32
  let v169_r0 : BitVec 32 := Scalar.remui arg15_r0 c2_i32_143_r0
  let v211_r0 : Index := Scalar.indexCast v169_r0
  let c0_158_r0 : Index := 0#32
  let c0_159_r0 : Index := 0#32
  ![v211_r0.toNat, 0, 0]

def k0_chk5 (arg15_r0 : BitVec 32) : Prop :=
  (∀ a, (k0_off24 arg15_r0) a + S1x256x4096.size a ≤ S2x256x4096.size a) ∧
  (∀ (hinb : ∀ a, (k0_off24 arg15_r0) a + S1x256x4096.size a ≤ S2x256x4096.size a), (Rect.unit (s := S2x256x4096) (k0_off24 arg15_r0) S1x256x4096.size hinb).PackedRows (EltTy.packing .bf16))
theorem k0_off24_inb : ∀ (arg15_r0 : BitVec 32) (k0_hw5 : k0_chk5 arg15_r0), ∀ a, (k0_off24 arg15_r0) a + S1x256x4096.size a ≤ S2x256x4096.size a := fun arg15_r0 k0_hw5 => k0_hw5.1
theorem k0_off24_packedbf16 : ∀ (arg15_r0 : BitVec 32) (k0_hw5 : k0_chk5 arg15_r0), (Rect.unit (s := S2x256x4096) (k0_off24 arg15_r0) S1x256x4096.size (k0_off24_inb arg15_r0 k0_hw5)).PackedRows (EltTy.packing .bf16) := fun arg15_r0 k0_hw5 => k0_hw5.2 (k0_off24_inb arg15_r0 k0_hw5)

def k0_off25 (arg13_r0 : BitVec 32) : Fin 1 → Nat :=
  let c2_i32_193_r0 : BitVec 32 := 2#32
  let v285_r0 : BitVec 32 := Scalar.remui arg13_r0 c2_i32_193_r0
  ![v285_r0.toNat]
def k0_cond11 (k0_t1 : Fin k0_t1_loop.trips) (arg17_r0 : BitVec 32) : BitVec 1 :=
  let c0_i32_96_r0 : BitVec 32 := 0#32
  let v93_r0 : BitVec 32 := Scalar.addi arg17_r0 c0_i32_96_r0
  let true_103_r0 : BitVec 1 := 1#1
  let c1_i32_102_r0 : BitVec 32 := 1#32
  let v99_r0 : BitVec 32 := Scalar.addi arg17_r0 c1_i32_102_r0
  let v100_r0 : BitVec 32 := Scalar.select true_103_r0 v99_r0 arg17_r0
  let c32_i32_104_r0 : BitVec 32 := 32#32
  let v101_r0 : BitVec 1 := Scalar.cmpi .eq v100_r0 c32_i32_104_r0
  let c0_i32_105_r0 : BitVec 32 := 0#32
  let v102_r0 : BitVec 32 := Scalar.select v101_r0 c0_i32_105_r0 v100_r0
  let c0_i32_106_r0 : BitVec 32 := 0#32
  let v103_r0 : BitVec 32 := Scalar.addi v102_r0 c0_i32_106_r0
  let v225_r0 : BitVec 1 := Scalar.cmpi .ne v93_r0 v103_r0
  let c0_i32_57_r0 : BitVec 32 := 0#32
  let c1_i32_59_r0 : BitVec 32 := 1#32
  let arg6_r0 : BitVec 32 := Scf.iv c0_i32_57_r0 c1_i32_59_r0 k0_t1
  let c31_i32_95_r0 : BitVec 32 := 31#32
  let v92_r0 : BitVec 1 := Scalar.cmpi .eq arg6_r0 c31_i32_95_r0
  let v226_r0 : BitVec 1 := Scalar.ori v225_r0 v92_r0
  let v227_r0 : BitVec 32 := Scalar.extui v226_r0
  let c0_i32_163_r0 : BitVec 32 := 0#32
  let v228_r0 : BitVec 1 := Scalar.cmpi .ne v227_r0 c0_i32_163_r0
  v228_r0

def k0_off26 (arg17_r0 : BitVec 32) : Fin 2 → Nat :=
  let c256_i32_194_r0 : BitVec 32 := 256#32
  let c0_i32_96_r0 : BitVec 32 := 0#32
  let v93_r0 : BitVec 32 := Scalar.addi arg17_r0 c0_i32_96_r0
  let v286_r0 : BitVec 32 := Scalar.muli c256_i32_194_r0 v93_r0
  let c0_i32_195_r0 : BitVec 32 := 0#32
  ![v286_r0.toNat, 0]
def k0_off27 (arg13_r0 : BitVec 32) : Fin 3 → Nat :=
  let c2_i32_193_r0 : BitVec 32 := 2#32
  let v285_r0 : BitVec 32 := Scalar.remui arg13_r0 c2_i32_193_r0
  let c0_i32_196_r0 : BitVec 32 := 0#32
  let c0_i32_197_r0 : BitVec 32 := 0#32
  ![v285_r0.toNat, 0, 0]
def k0_off28 (arg15_r0 : BitVec 32) : Fin 1 → Nat :=
  let c2_i32_193_r0 : BitVec 32 := 2#32
  let v285_r0 : BitVec 32 := Scalar.remui arg15_r0 c2_i32_193_r0
  ![v285_r0.toNat]
def k0_cond12 (k0_t1 : Fin k0_t1_loop.trips) (arg17_r0 : BitVec 32) : BitVec 1 :=
  let c0_i32_96_r0 : BitVec 32 := 0#32
  let v93_r0 : BitVec 32 := Scalar.addi arg17_r0 c0_i32_96_r0
  let true_103_r0 : BitVec 1 := 1#1
  let c1_i32_102_r0 : BitVec 32 := 1#32
  let v99_r0 : BitVec 32 := Scalar.addi arg17_r0 c1_i32_102_r0
  let v100_r0 : BitVec 32 := Scalar.select true_103_r0 v99_r0 arg17_r0
  let c32_i32_104_r0 : BitVec 32 := 32#32
  let v101_r0 : BitVec 1 := Scalar.cmpi .eq v100_r0 c32_i32_104_r0
  let c0_i32_105_r0 : BitVec 32 := 0#32
  let v102_r0 : BitVec 32 := Scalar.select v101_r0 c0_i32_105_r0 v100_r0
  let c0_i32_106_r0 : BitVec 32 := 0#32
  let v103_r0 : BitVec 32 := Scalar.addi v102_r0 c0_i32_106_r0
  let v232_r0 : BitVec 1 := Scalar.cmpi .ne v93_r0 v103_r0
  let c0_i32_57_r0 : BitVec 32 := 0#32
  let c1_i32_59_r0 : BitVec 32 := 1#32
  let arg6_r0 : BitVec 32 := Scf.iv c0_i32_57_r0 c1_i32_59_r0 k0_t1
  let c31_i32_95_r0 : BitVec 32 := 31#32
  let v92_r0 : BitVec 1 := Scalar.cmpi .eq arg6_r0 c31_i32_95_r0
  let v233_r0 : BitVec 1 := Scalar.ori v232_r0 v92_r0
  let v234_r0 : BitVec 32 := Scalar.extui v233_r0
  let c0_i32_166_r0 : BitVec 32 := 0#32
  let v235_r0 : BitVec 1 := Scalar.cmpi .ne v234_r0 c0_i32_166_r0
  v235_r0

def k0_off29 (arg17_r0 : BitVec 32) : Fin 2 → Nat :=
  let c256_i32_194_r0 : BitVec 32 := 256#32
  let c0_i32_96_r0 : BitVec 32 := 0#32
  let v93_r0 : BitVec 32 := Scalar.addi arg17_r0 c0_i32_96_r0
  let v286_r0 : BitVec 32 := Scalar.muli c256_i32_194_r0 v93_r0
  let c0_i32_195_r0 : BitVec 32 := 0#32
  ![v286_r0.toNat, 0]
def k0_off30 (arg15_r0 : BitVec 32) : Fin 3 → Nat :=
  let c2_i32_193_r0 : BitVec 32 := 2#32
  let v285_r0 : BitVec 32 := Scalar.remui arg15_r0 c2_i32_193_r0
  let c0_i32_196_r0 : BitVec 32 := 0#32
  let c0_i32_197_r0 : BitVec 32 := 0#32
  ![v285_r0.toNat, 0, 0]
def k0_off31 (arg14_r0 : BitVec 32) : Fin 1 → Nat :=
  let c2_i32_193_r0 : BitVec 32 := 2#32
  let v285_r0 : BitVec 32 := Scalar.remui arg14_r0 c2_i32_193_r0
  ![v285_r0.toNat]
def k0_cond15 (k0_t1 : Fin k0_t1_loop.trips) (arg17_r0 : BitVec 32) : BitVec 1 :=
  let c0_i32_96_r0 : BitVec 32 := 0#32
  let v93_r0 : BitVec 32 := Scalar.addi arg17_r0 c0_i32_96_r0
  let true_98_r0 : BitVec 1 := 1#1
  let c1_i32_97_r0 : BitVec 32 := 1#32
  let v94_r0 : BitVec 32 := Scalar.subi arg17_r0 c1_i32_97_r0
  let v95_r0 : BitVec 32 := Scalar.select true_98_r0 v94_r0 arg17_r0
  let c_m1_i32_99_r0 : BitVec 32 := 4294967295#32
  let v96_r0 : BitVec 1 := Scalar.cmpi .eq v95_r0 c_m1_i32_99_r0
  let c31_i32_100_r0 : BitVec 32 := 31#32
  let v97_r0 : BitVec 32 := Scalar.select v96_r0 c31_i32_100_r0 v95_r0
  let c0_i32_101_r0 : BitVec 32 := 0#32
  let v98_r0 : BitVec 32 := Scalar.addi v97_r0 c0_i32_101_r0
  let v251_r0 : BitVec 1 := Scalar.cmpi .ne v93_r0 v98_r0
  let c0_i32_57_r0 : BitVec 32 := 0#32
  let c1_i32_59_r0 : BitVec 32 := 1#32
  let arg6_r0 : BitVec 32 := Scf.iv c0_i32_57_r0 c1_i32_59_r0 k0_t1
  let c0_i32_94_r0 : BitVec 32 := 0#32
  let v91_r0 : BitVec 1 := Scalar.cmpi .eq arg6_r0 c0_i32_94_r0
  let true_175_r0 : BitVec 1 := 1#1
  let v252_r0 : BitVec 1 := Scalar.xori v91_r0 true_175_r0
  let v253_r0 : BitVec 1 := Scalar.andi v251_r0 v252_r0
  let v254_r0 : BitVec 32 := Scalar.extui v253_r0
  let c0_i32_176_r0 : BitVec 32 := 0#32
  let v255_r0 : BitVec 1 := Scalar.cmpi .ne v254_r0 c0_i32_176_r0
  v255_r0

def k0_off32 (arg17_r0 : BitVec 32) : Fin 2 → Nat :=
  let c256_i32_194_r0 : BitVec 32 := 256#32
  let true_98_r0 : BitVec 1 := 1#1
  let c1_i32_97_r0 : BitVec 32 := 1#32
  let v94_r0 : BitVec 32 := Scalar.subi arg17_r0 c1_i32_97_r0
  let v95_r0 : BitVec 32 := Scalar.select true_98_r0 v94_r0 arg17_r0
  let c_m1_i32_99_r0 : BitVec 32 := 4294967295#32
  let v96_r0 : BitVec 1 := Scalar.cmpi .eq v95_r0 c_m1_i32_99_r0
  let c31_i32_100_r0 : BitVec 32 := 31#32
  let v97_r0 : BitVec 32 := Scalar.select v96_r0 c31_i32_100_r0 v95_r0
  let c0_i32_101_r0 : BitVec 32 := 0#32
  let v98_r0 : BitVec 32 := Scalar.addi v97_r0 c0_i32_101_r0
  let v286_r0 : BitVec 32 := Scalar.muli c256_i32_194_r0 v98_r0
  let c0_i32_195_r0 : BitVec 32 := 0#32
  ![v286_r0.toNat, 0]
def k0_off33 (arg14_r0 : BitVec 32) : Fin 3 → Nat :=
  let c2_i32_193_r0 : BitVec 32 := 2#32
  let v285_r0 : BitVec 32 := Scalar.remui arg14_r0 c2_i32_193_r0
  let c0_i32_196_r0 : BitVec 32 := 0#32
  let c0_i32_197_r0 : BitVec 32 := 0#32
  ![v285_r0.toNat, 0, 0]
def k0_off34 (arg16_r0 : BitVec 32) : Fin 1 → Nat :=
  let c2_i32_193_r0 : BitVec 32 := 2#32
  let v285_r0 : BitVec 32 := Scalar.remui arg16_r0 c2_i32_193_r0
  ![v285_r0.toNat]
def k0_cond16 (k0_t1 : Fin k0_t1_loop.trips) (arg17_r0 : BitVec 32) : BitVec 1 :=
  let c0_i32_96_r0 : BitVec 32 := 0#32
  let v93_r0 : BitVec 32 := Scalar.addi arg17_r0 c0_i32_96_r0
  let true_98_r0 : BitVec 1 := 1#1
  let c1_i32_97_r0 : BitVec 32 := 1#32
  let v94_r0 : BitVec 32 := Scalar.subi arg17_r0 c1_i32_97_r0
  let v95_r0 : BitVec 32 := Scalar.select true_98_r0 v94_r0 arg17_r0
  let c_m1_i32_99_r0 : BitVec 32 := 4294967295#32
  let v96_r0 : BitVec 1 := Scalar.cmpi .eq v95_r0 c_m1_i32_99_r0
  let c31_i32_100_r0 : BitVec 32 := 31#32
  let v97_r0 : BitVec 32 := Scalar.select v96_r0 c31_i32_100_r0 v95_r0
  let c0_i32_101_r0 : BitVec 32 := 0#32
  let v98_r0 : BitVec 32 := Scalar.addi v97_r0 c0_i32_101_r0
  let v259_r0 : BitVec 1 := Scalar.cmpi .ne v93_r0 v98_r0
  let c0_i32_57_r0 : BitVec 32 := 0#32
  let c1_i32_59_r0 : BitVec 32 := 1#32
  let arg6_r0 : BitVec 32 := Scf.iv c0_i32_57_r0 c1_i32_59_r0 k0_t1
  let c0_i32_94_r0 : BitVec 32 := 0#32
  let v91_r0 : BitVec 1 := Scalar.cmpi .eq arg6_r0 c0_i32_94_r0
  let true_179_r0 : BitVec 1 := 1#1
  let v260_r0 : BitVec 1 := Scalar.xori v91_r0 true_179_r0
  let v261_r0 : BitVec 1 := Scalar.andi v259_r0 v260_r0
  let v262_r0 : BitVec 32 := Scalar.extui v261_r0
  let c0_i32_180_r0 : BitVec 32 := 0#32
  let v263_r0 : BitVec 1 := Scalar.cmpi .ne v262_r0 c0_i32_180_r0
  v263_r0

def k0_off35 (arg17_r0 : BitVec 32) : Fin 2 → Nat :=
  let c256_i32_194_r0 : BitVec 32 := 256#32
  let true_98_r0 : BitVec 1 := 1#1
  let c1_i32_97_r0 : BitVec 32 := 1#32
  let v94_r0 : BitVec 32 := Scalar.subi arg17_r0 c1_i32_97_r0
  let v95_r0 : BitVec 32 := Scalar.select true_98_r0 v94_r0 arg17_r0
  let c_m1_i32_99_r0 : BitVec 32 := 4294967295#32
  let v96_r0 : BitVec 1 := Scalar.cmpi .eq v95_r0 c_m1_i32_99_r0
  let c31_i32_100_r0 : BitVec 32 := 31#32
  let v97_r0 : BitVec 32 := Scalar.select v96_r0 c31_i32_100_r0 v95_r0
  let c0_i32_101_r0 : BitVec 32 := 0#32
  let v98_r0 : BitVec 32 := Scalar.addi v97_r0 c0_i32_101_r0
  let v286_r0 : BitVec 32 := Scalar.muli c256_i32_194_r0 v98_r0
  let c0_i32_195_r0 : BitVec 32 := 0#32
  ![v286_r0.toNat, 0]
def k0_off36 (arg16_r0 : BitVec 32) : Fin 3 → Nat :=
  let c2_i32_193_r0 : BitVec 32 := 2#32
  let v285_r0 : BitVec 32 := Scalar.remui arg16_r0 c2_i32_193_r0
  let c0_i32_196_r0 : BitVec 32 := 0#32
  let c0_i32_197_r0 : BitVec 32 := 0#32
  ![v285_r0.toNat, 0, 0]

def k0_chk1 (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) : Prop :=
  (∀ (k0_h3 : k0_cond3 k0_t1 arg17_r0 = 1#1), ∀ a, (k0_off9 arg7_r0) a + S1.size a ≤ S3.size a) ∧
  (∀ (k0_h3 : k0_cond3 k0_t1 arg17_r0 = 1#1), ∀ a, (k0_off10 arg7_r0) a + S1x256x4096.size a ≤ S3x256x4096.size a) ∧
  (∀ (k0_h3 : k0_cond3 k0_t1 arg17_r0 = 1#1), ∀ a, (k0_off11 arg17_r0) a + S256x4096.size a ≤ S8192x4096.size a) ∧
  (∀ (k0_h3 : k0_cond3 k0_t1 arg17_r0 = 1#1), ∀ (hinb : ∀ a, (k0_off11 arg17_r0) a + S256x4096.size a ≤ S8192x4096.size a), (Rect.unit (s := S8192x4096) (k0_off11 arg17_r0) S256x4096.size hinb).WholeWords (EltTy.packing .bf16)) ∧
  (∀ (k0_h3 : k0_cond3 k0_t1 arg17_r0 = 1#1), ∀ (hinb : ∀ a, (k0_off10 arg7_r0) a + S1x256x4096.size a ≤ S3x256x4096.size a), (Rect.unit (s := S3x256x4096) (k0_off10 arg7_r0) S1x256x4096.size hinb).WholeWords (EltTy.packing .bf16)) ∧
  (∀ (k0_h4 : k0_cond4 k0_t1 arg17_r0 = 1#1), ∀ a, (k0_off12 arg9_r0) a + S1.size a ≤ S3.size a) ∧
  (∀ (k0_h4 : k0_cond4 k0_t1 arg17_r0 = 1#1), ∀ a, (k0_off13 arg9_r0) a + S1x256x4096.size a ≤ S3x256x4096.size a) ∧
  (∀ (k0_h4 : k0_cond4 k0_t1 arg17_r0 = 1#1), ∀ a, (k0_off14 arg17_r0) a + S256x4096.size a ≤ S8192x4096.size a) ∧
  (∀ (k0_h5 : k0_cond5 k0_t1 arg17_r0 = 1#1), ∀ a, (k0_off15 arg8_r0) a + S1.size a ≤ S3.size a) ∧
  (∀ (k0_h5 : k0_cond5 k0_t1 arg17_r0 = 1#1), ∀ a, (k0_off16 arg8_r0) a + S1x256x4096.size a ≤ S3x256x4096.size a) ∧
  (∀ (k0_h5 : k0_cond5 k0_t1 arg17_r0 = 1#1), ∀ a, (k0_off17 arg17_r0) a + S256x4096.size a ≤ S8192x4096.size a) ∧
  (∀ (k0_h5 : k0_cond5 k0_t1 arg17_r0 = 1#1), ∀ (hinb : ∀ a, (k0_off17 arg17_r0) a + S256x4096.size a ≤ S8192x4096.size a), (Rect.unit (s := S8192x4096) (k0_off17 arg17_r0) S256x4096.size hinb).WholeWords (EltTy.packing .bf16)) ∧
  (∀ (k0_h5 : k0_cond5 k0_t1 arg17_r0 = 1#1), ∀ (hinb : ∀ a, (k0_off16 arg8_r0) a + S1x256x4096.size a ≤ S3x256x4096.size a), (Rect.unit (s := S3x256x4096) (k0_off16 arg8_r0) S1x256x4096.size hinb).WholeWords (EltTy.packing .bf16)) ∧
  (∀ (k0_h6 : k0_cond6 k0_t1 arg17_r0 = 1#1), ∀ a, (k0_off18 arg10_r0) a + S1.size a ≤ S3.size a) ∧
  (∀ (k0_h6 : k0_cond6 k0_t1 arg17_r0 = 1#1), ∀ a, (k0_off19 arg10_r0) a + S1x256x4096.size a ≤ S3x256x4096.size a) ∧
  (∀ (k0_h6 : k0_cond6 k0_t1 arg17_r0 = 1#1), ∀ a, (k0_off20 arg17_r0) a + S256x4096.size a ≤ S8192x4096.size a) ∧
  (∀ (k0_h11 : k0_cond11 k0_t1 arg17_r0 = 1#1), ∀ a, (k0_off25 arg13_r0) a + S1.size a ≤ S2.size a) ∧
  (∀ (k0_h11 : k0_cond11 k0_t1 arg17_r0 = 1#1), ∀ a, (k0_off26 arg17_r0) a + S256x4096.size a ≤ S8192x4096.size a) ∧
  (∀ (k0_h11 : k0_cond11 k0_t1 arg17_r0 = 1#1), ∀ a, (k0_off27 arg13_r0) a + S1x256x4096.size a ≤ S2x256x4096.size a) ∧
  (∀ (k0_h12 : k0_cond12 k0_t1 arg17_r0 = 1#1), ∀ a, (k0_off28 arg15_r0) a + S1.size a ≤ S2.size a) ∧
  (∀ (k0_h12 : k0_cond12 k0_t1 arg17_r0 = 1#1), ∀ a, (k0_off29 arg17_r0) a + S256x4096.size a ≤ S8192x4096.size a) ∧
  (∀ (k0_h12 : k0_cond12 k0_t1 arg17_r0 = 1#1), ∀ a, (k0_off30 arg15_r0) a + S1x256x4096.size a ≤ S2x256x4096.size a) ∧
  (∀ (k0_h12 : k0_cond12 k0_t1 arg17_r0 = 1#1), ∀ (hinb : ∀ a, (k0_off30 arg15_r0) a + S1x256x4096.size a ≤ S2x256x4096.size a), (Rect.unit (s := S2x256x4096) (k0_off30 arg15_r0) S1x256x4096.size hinb).WholeWords (EltTy.packing .bf16)) ∧
  (∀ (k0_h12 : k0_cond12 k0_t1 arg17_r0 = 1#1), ∀ (hinb : ∀ a, (k0_off29 arg17_r0) a + S256x4096.size a ≤ S8192x4096.size a), (Rect.unit (s := S8192x4096) (k0_off29 arg17_r0) S256x4096.size hinb).WholeWords (EltTy.packing .bf16)) ∧
  (∀ (k0_h15 : k0_cond15 k0_t1 arg17_r0 = 1#1), ∀ a, (k0_off31 arg14_r0) a + S1.size a ≤ S2.size a) ∧
  (∀ (k0_h15 : k0_cond15 k0_t1 arg17_r0 = 1#1), ∀ a, (k0_off32 arg17_r0) a + S256x4096.size a ≤ S8192x4096.size a) ∧
  (∀ (k0_h15 : k0_cond15 k0_t1 arg17_r0 = 1#1), ∀ a, (k0_off33 arg14_r0) a + S1x256x4096.size a ≤ S2x256x4096.size a) ∧
  (∀ (k0_h16 : k0_cond16 k0_t1 arg17_r0 = 1#1), ∀ a, (k0_off34 arg16_r0) a + S1.size a ≤ S2.size a) ∧
  (∀ (k0_h16 : k0_cond16 k0_t1 arg17_r0 = 1#1), ∀ a, (k0_off35 arg17_r0) a + S256x4096.size a ≤ S8192x4096.size a) ∧
  (∀ (k0_h16 : k0_cond16 k0_t1 arg17_r0 = 1#1), ∀ a, (k0_off36 arg16_r0) a + S1x256x4096.size a ≤ S2x256x4096.size a) ∧
  (∀ (k0_h16 : k0_cond16 k0_t1 arg17_r0 = 1#1), ∀ (hinb : ∀ a, (k0_off36 arg16_r0) a + S1x256x4096.size a ≤ S2x256x4096.size a), (Rect.unit (s := S2x256x4096) (k0_off36 arg16_r0) S1x256x4096.size hinb).WholeWords (EltTy.packing .bf16)) ∧
  (∀ (k0_h16 : k0_cond16 k0_t1 arg17_r0 = 1#1), ∀ (hinb : ∀ a, (k0_off35 arg17_r0) a + S256x4096.size a ≤ S8192x4096.size a), (Rect.unit (s := S8192x4096) (k0_off35 arg17_r0) S256x4096.size hinb).WholeWords (EltTy.packing .bf16))
theorem k0_off9_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h3 : k0_cond3 k0_t1 arg17_r0 = 1#1), ∀ a, (k0_off9 arg7_r0) a + S1.size a ≤ S3.size a := fun k0_t1 arg7_r0 arg8_r0 arg9_r0 arg10_r0 arg13_r0 arg14_r0 arg15_r0 arg16_r0 arg17_r0 k0_hw1 k0_h3 => k0_hw1.1 k0_h3
theorem k0_off10_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h3 : k0_cond3 k0_t1 arg17_r0 = 1#1), ∀ a, (k0_off10 arg7_r0) a + S1x256x4096.size a ≤ S3x256x4096.size a := fun k0_t1 arg7_r0 arg8_r0 arg9_r0 arg10_r0 arg13_r0 arg14_r0 arg15_r0 arg16_r0 arg17_r0 k0_hw1 k0_h3 => k0_hw1.2.1 k0_h3
theorem k0_off11_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h3 : k0_cond3 k0_t1 arg17_r0 = 1#1), ∀ a, (k0_off11 arg17_r0) a + S256x4096.size a ≤ S8192x4096.size a := fun k0_t1 arg7_r0 arg8_r0 arg9_r0 arg10_r0 arg13_r0 arg14_r0 arg15_r0 arg16_r0 arg17_r0 k0_hw1 k0_h3 => k0_hw1.2.2.1 k0_h3
theorem k0_off11_wordsbf16 : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h3 : k0_cond3 k0_t1 arg17_r0 = 1#1), (Rect.unit (s := S8192x4096) (k0_off11 arg17_r0) S256x4096.size (k0_off11_inb k0_t1 arg7_r0 arg8_r0 arg9_r0 arg10_r0 arg13_r0 arg14_r0 arg15_r0 arg16_r0 arg17_r0 k0_hw1 k0_h3)).WholeWords (EltTy.packing .bf16) := fun k0_t1 arg7_r0 arg8_r0 arg9_r0 arg10_r0 arg13_r0 arg14_r0 arg15_r0 arg16_r0 arg17_r0 k0_hw1 k0_h3 => k0_hw1.2.2.2.1 k0_h3 (k0_off11_inb k0_t1 arg7_r0 arg8_r0 arg9_r0 arg10_r0 arg13_r0 arg14_r0 arg15_r0 arg16_r0 arg17_r0 k0_hw1 k0_h3)
theorem k0_off10_wordsbf16 : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h3 : k0_cond3 k0_t1 arg17_r0 = 1#1), (Rect.unit (s := S3x256x4096) (k0_off10 arg7_r0) S1x256x4096.size (k0_off10_inb k0_t1 arg7_r0 arg8_r0 arg9_r0 arg10_r0 arg13_r0 arg14_r0 arg15_r0 arg16_r0 arg17_r0 k0_hw1 k0_h3)).WholeWords (EltTy.packing .bf16) := fun k0_t1 arg7_r0 arg8_r0 arg9_r0 arg10_r0 arg13_r0 arg14_r0 arg15_r0 arg16_r0 arg17_r0 k0_hw1 k0_h3 => k0_hw1.2.2.2.2.1 k0_h3 (k0_off10_inb k0_t1 arg7_r0 arg8_r0 arg9_r0 arg10_r0 arg13_r0 arg14_r0 arg15_r0 arg16_r0 arg17_r0 k0_hw1 k0_h3)
theorem k0_off12_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h4 : k0_cond4 k0_t1 arg17_r0 = 1#1), ∀ a, (k0_off12 arg9_r0) a + S1.size a ≤ S3.size a := fun k0_t1 arg7_r0 arg8_r0 arg9_r0 arg10_r0 arg13_r0 arg14_r0 arg15_r0 arg16_r0 arg17_r0 k0_hw1 k0_h4 => k0_hw1.2.2.2.2.2.1 k0_h4
theorem k0_off13_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h4 : k0_cond4 k0_t1 arg17_r0 = 1#1), ∀ a, (k0_off13 arg9_r0) a + S1x256x4096.size a ≤ S3x256x4096.size a := fun k0_t1 arg7_r0 arg8_r0 arg9_r0 arg10_r0 arg13_r0 arg14_r0 arg15_r0 arg16_r0 arg17_r0 k0_hw1 k0_h4 => k0_hw1.2.2.2.2.2.2.1 k0_h4
theorem k0_off14_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h4 : k0_cond4 k0_t1 arg17_r0 = 1#1), ∀ a, (k0_off14 arg17_r0) a + S256x4096.size a ≤ S8192x4096.size a := fun k0_t1 arg7_r0 arg8_r0 arg9_r0 arg10_r0 arg13_r0 arg14_r0 arg15_r0 arg16_r0 arg17_r0 k0_hw1 k0_h4 => k0_hw1.2.2.2.2.2.2.2.1 k0_h4
theorem k0_off15_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h5 : k0_cond5 k0_t1 arg17_r0 = 1#1), ∀ a, (k0_off15 arg8_r0) a + S1.size a ≤ S3.size a := fun k0_t1 arg7_r0 arg8_r0 arg9_r0 arg10_r0 arg13_r0 arg14_r0 arg15_r0 arg16_r0 arg17_r0 k0_hw1 k0_h5 => k0_hw1.2.2.2.2.2.2.2.2.1 k0_h5
theorem k0_off16_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h5 : k0_cond5 k0_t1 arg17_r0 = 1#1), ∀ a, (k0_off16 arg8_r0) a + S1x256x4096.size a ≤ S3x256x4096.size a := fun k0_t1 arg7_r0 arg8_r0 arg9_r0 arg10_r0 arg13_r0 arg14_r0 arg15_r0 arg16_r0 arg17_r0 k0_hw1 k0_h5 => k0_hw1.2.2.2.2.2.2.2.2.2.1 k0_h5
theorem k0_off17_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h5 : k0_cond5 k0_t1 arg17_r0 = 1#1), ∀ a, (k0_off17 arg17_r0) a + S256x4096.size a ≤ S8192x4096.size a := fun k0_t1 arg7_r0 arg8_r0 arg9_r0 arg10_r0 arg13_r0 arg14_r0 arg15_r0 arg16_r0 arg17_r0 k0_hw1 k0_h5 => k0_hw1.2.2.2.2.2.2.2.2.2.2.1 k0_h5
theorem k0_off17_wordsbf16 : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h5 : k0_cond5 k0_t1 arg17_r0 = 1#1), (Rect.unit (s := S8192x4096) (k0_off17 arg17_r0) S256x4096.size (k0_off17_inb k0_t1 arg7_r0 arg8_r0 arg9_r0 arg10_r0 arg13_r0 arg14_r0 arg15_r0 arg16_r0 arg17_r0 k0_hw1 k0_h5)).WholeWords (EltTy.packing .bf16) := fun k0_t1 arg7_r0 arg8_r0 arg9_r0 arg10_r0 arg13_r0 arg14_r0 arg15_r0 arg16_r0 arg17_r0 k0_hw1 k0_h5 => k0_hw1.2.2.2.2.2.2.2.2.2.2.2.1 k0_h5 (k0_off17_inb k0_t1 arg7_r0 arg8_r0 arg9_r0 arg10_r0 arg13_r0 arg14_r0 arg15_r0 arg16_r0 arg17_r0 k0_hw1 k0_h5)
theorem k0_off16_wordsbf16 : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h5 : k0_cond5 k0_t1 arg17_r0 = 1#1), (Rect.unit (s := S3x256x4096) (k0_off16 arg8_r0) S1x256x4096.size (k0_off16_inb k0_t1 arg7_r0 arg8_r0 arg9_r0 arg10_r0 arg13_r0 arg14_r0 arg15_r0 arg16_r0 arg17_r0 k0_hw1 k0_h5)).WholeWords (EltTy.packing .bf16) := fun k0_t1 arg7_r0 arg8_r0 arg9_r0 arg10_r0 arg13_r0 arg14_r0 arg15_r0 arg16_r0 arg17_r0 k0_hw1 k0_h5 => k0_hw1.2.2.2.2.2.2.2.2.2.2.2.2.1 k0_h5 (k0_off16_inb k0_t1 arg7_r0 arg8_r0 arg9_r0 arg10_r0 arg13_r0 arg14_r0 arg15_r0 arg16_r0 arg17_r0 k0_hw1 k0_h5)
theorem k0_off18_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h6 : k0_cond6 k0_t1 arg17_r0 = 1#1), ∀ a, (k0_off18 arg10_r0) a + S1.size a ≤ S3.size a := fun k0_t1 arg7_r0 arg8_r0 arg9_r0 arg10_r0 arg13_r0 arg14_r0 arg15_r0 arg16_r0 arg17_r0 k0_hw1 k0_h6 => k0_hw1.2.2.2.2.2.2.2.2.2.2.2.2.2.1 k0_h6
theorem k0_off19_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h6 : k0_cond6 k0_t1 arg17_r0 = 1#1), ∀ a, (k0_off19 arg10_r0) a + S1x256x4096.size a ≤ S3x256x4096.size a := fun k0_t1 arg7_r0 arg8_r0 arg9_r0 arg10_r0 arg13_r0 arg14_r0 arg15_r0 arg16_r0 arg17_r0 k0_hw1 k0_h6 => k0_hw1.2.2.2.2.2.2.2.2.2.2.2.2.2.2.1 k0_h6
theorem k0_off20_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h6 : k0_cond6 k0_t1 arg17_r0 = 1#1), ∀ a, (k0_off20 arg17_r0) a + S256x4096.size a ≤ S8192x4096.size a := fun k0_t1 arg7_r0 arg8_r0 arg9_r0 arg10_r0 arg13_r0 arg14_r0 arg15_r0 arg16_r0 arg17_r0 k0_hw1 k0_h6 => k0_hw1.2.2.2.2.2.2.2.2.2.2.2.2.2.2.2.1 k0_h6
theorem k0_off25_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h11 : k0_cond11 k0_t1 arg17_r0 = 1#1), ∀ a, (k0_off25 arg13_r0) a + S1.size a ≤ S2.size a := fun k0_t1 arg7_r0 arg8_r0 arg9_r0 arg10_r0 arg13_r0 arg14_r0 arg15_r0 arg16_r0 arg17_r0 k0_hw1 k0_h11 => k0_hw1.2.2.2.2.2.2.2.2.2.2.2.2.2.2.2.2.1 k0_h11
theorem k0_off26_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h11 : k0_cond11 k0_t1 arg17_r0 = 1#1), ∀ a, (k0_off26 arg17_r0) a + S256x4096.size a ≤ S8192x4096.size a := fun k0_t1 arg7_r0 arg8_r0 arg9_r0 arg10_r0 arg13_r0 arg14_r0 arg15_r0 arg16_r0 arg17_r0 k0_hw1 k0_h11 => k0_hw1.2.2.2.2.2.2.2.2.2.2.2.2.2.2.2.2.2.1 k0_h11
theorem k0_off27_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h11 : k0_cond11 k0_t1 arg17_r0 = 1#1), ∀ a, (k0_off27 arg13_r0) a + S1x256x4096.size a ≤ S2x256x4096.size a := fun k0_t1 arg7_r0 arg8_r0 arg9_r0 arg10_r0 arg13_r0 arg14_r0 arg15_r0 arg16_r0 arg17_r0 k0_hw1 k0_h11 => k0_hw1.2.2.2.2.2.2.2.2.2.2.2.2.2.2.2.2.2.2.1 k0_h11
theorem k0_off28_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h12 : k0_cond12 k0_t1 arg17_r0 = 1#1), ∀ a, (k0_off28 arg15_r0) a + S1.size a ≤ S2.size a := fun k0_t1 arg7_r0 arg8_r0 arg9_r0 arg10_r0 arg13_r0 arg14_r0 arg15_r0 arg16_r0 arg17_r0 k0_hw1 k0_h12 => k0_hw1.2.2.2.2.2.2.2.2.2.2.2.2.2.2.2.2.2.2.2.1 k0_h12
theorem k0_off29_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h12 : k0_cond12 k0_t1 arg17_r0 = 1#1), ∀ a, (k0_off29 arg17_r0) a + S256x4096.size a ≤ S8192x4096.size a := fun k0_t1 arg7_r0 arg8_r0 arg9_r0 arg10_r0 arg13_r0 arg14_r0 arg15_r0 arg16_r0 arg17_r0 k0_hw1 k0_h12 => k0_hw1.2.2.2.2.2.2.2.2.2.2.2.2.2.2.2.2.2.2.2.2.1 k0_h12
theorem k0_off30_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h12 : k0_cond12 k0_t1 arg17_r0 = 1#1), ∀ a, (k0_off30 arg15_r0) a + S1x256x4096.size a ≤ S2x256x4096.size a := fun k0_t1 arg7_r0 arg8_r0 arg9_r0 arg10_r0 arg13_r0 arg14_r0 arg15_r0 arg16_r0 arg17_r0 k0_hw1 k0_h12 => k0_hw1.2.2.2.2.2.2.2.2.2.2.2.2.2.2.2.2.2.2.2.2.2.1 k0_h12
theorem k0_off30_wordsbf16 : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h12 : k0_cond12 k0_t1 arg17_r0 = 1#1), (Rect.unit (s := S2x256x4096) (k0_off30 arg15_r0) S1x256x4096.size (k0_off30_inb k0_t1 arg7_r0 arg8_r0 arg9_r0 arg10_r0 arg13_r0 arg14_r0 arg15_r0 arg16_r0 arg17_r0 k0_hw1 k0_h12)).WholeWords (EltTy.packing .bf16) := fun k0_t1 arg7_r0 arg8_r0 arg9_r0 arg10_r0 arg13_r0 arg14_r0 arg15_r0 arg16_r0 arg17_r0 k0_hw1 k0_h12 => k0_hw1.2.2.2.2.2.2.2.2.2.2.2.2.2.2.2.2.2.2.2.2.2.2.1 k0_h12 (k0_off30_inb k0_t1 arg7_r0 arg8_r0 arg9_r0 arg10_r0 arg13_r0 arg14_r0 arg15_r0 arg16_r0 arg17_r0 k0_hw1 k0_h12)
theorem k0_off29_wordsbf16 : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h12 : k0_cond12 k0_t1 arg17_r0 = 1#1), (Rect.unit (s := S8192x4096) (k0_off29 arg17_r0) S256x4096.size (k0_off29_inb k0_t1 arg7_r0 arg8_r0 arg9_r0 arg10_r0 arg13_r0 arg14_r0 arg15_r0 arg16_r0 arg17_r0 k0_hw1 k0_h12)).WholeWords (EltTy.packing .bf16) := fun k0_t1 arg7_r0 arg8_r0 arg9_r0 arg10_r0 arg13_r0 arg14_r0 arg15_r0 arg16_r0 arg17_r0 k0_hw1 k0_h12 => k0_hw1.2.2.2.2.2.2.2.2.2.2.2.2.2.2.2.2.2.2.2.2.2.2.2.1 k0_h12 (k0_off29_inb k0_t1 arg7_r0 arg8_r0 arg9_r0 arg10_r0 arg13_r0 arg14_r0 arg15_r0 arg16_r0 arg17_r0 k0_hw1 k0_h12)
theorem k0_off31_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h15 : k0_cond15 k0_t1 arg17_r0 = 1#1), ∀ a, (k0_off31 arg14_r0) a + S1.size a ≤ S2.size a := fun k0_t1 arg7_r0 arg8_r0 arg9_r0 arg10_r0 arg13_r0 arg14_r0 arg15_r0 arg16_r0 arg17_r0 k0_hw1 k0_h15 => k0_hw1.2.2.2.2.2.2.2.2.2.2.2.2.2.2.2.2.2.2.2.2.2.2.2.2.1 k0_h15
theorem k0_off32_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h15 : k0_cond15 k0_t1 arg17_r0 = 1#1), ∀ a, (k0_off32 arg17_r0) a + S256x4096.size a ≤ S8192x4096.size a := fun k0_t1 arg7_r0 arg8_r0 arg9_r0 arg10_r0 arg13_r0 arg14_r0 arg15_r0 arg16_r0 arg17_r0 k0_hw1 k0_h15 => k0_hw1.2.2.2.2.2.2.2.2.2.2.2.2.2.2.2.2.2.2.2.2.2.2.2.2.2.1 k0_h15
theorem k0_off33_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h15 : k0_cond15 k0_t1 arg17_r0 = 1#1), ∀ a, (k0_off33 arg14_r0) a + S1x256x4096.size a ≤ S2x256x4096.size a := fun k0_t1 arg7_r0 arg8_r0 arg9_r0 arg10_r0 arg13_r0 arg14_r0 arg15_r0 arg16_r0 arg17_r0 k0_hw1 k0_h15 => k0_hw1.2.2.2.2.2.2.2.2.2.2.2.2.2.2.2.2.2.2.2.2.2.2.2.2.2.2.1 k0_h15
theorem k0_off34_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h16 : k0_cond16 k0_t1 arg17_r0 = 1#1), ∀ a, (k0_off34 arg16_r0) a + S1.size a ≤ S2.size a := fun k0_t1 arg7_r0 arg8_r0 arg9_r0 arg10_r0 arg13_r0 arg14_r0 arg15_r0 arg16_r0 arg17_r0 k0_hw1 k0_h16 => k0_hw1.2.2.2.2.2.2.2.2.2.2.2.2.2.2.2.2.2.2.2.2.2.2.2.2.2.2.2.1 k0_h16
theorem k0_off35_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h16 : k0_cond16 k0_t1 arg17_r0 = 1#1), ∀ a, (k0_off35 arg17_r0) a + S256x4096.size a ≤ S8192x4096.size a := fun k0_t1 arg7_r0 arg8_r0 arg9_r0 arg10_r0 arg13_r0 arg14_r0 arg15_r0 arg16_r0 arg17_r0 k0_hw1 k0_h16 => k0_hw1.2.2.2.2.2.2.2.2.2.2.2.2.2.2.2.2.2.2.2.2.2.2.2.2.2.2.2.2.1 k0_h16
theorem k0_off36_inb : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h16 : k0_cond16 k0_t1 arg17_r0 = 1#1), ∀ a, (k0_off36 arg16_r0) a + S1x256x4096.size a ≤ S2x256x4096.size a := fun k0_t1 arg7_r0 arg8_r0 arg9_r0 arg10_r0 arg13_r0 arg14_r0 arg15_r0 arg16_r0 arg17_r0 k0_hw1 k0_h16 => k0_hw1.2.2.2.2.2.2.2.2.2.2.2.2.2.2.2.2.2.2.2.2.2.2.2.2.2.2.2.2.2.1 k0_h16
theorem k0_off36_wordsbf16 : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h16 : k0_cond16 k0_t1 arg17_r0 = 1#1), (Rect.unit (s := S2x256x4096) (k0_off36 arg16_r0) S1x256x4096.size (k0_off36_inb k0_t1 arg7_r0 arg8_r0 arg9_r0 arg10_r0 arg13_r0 arg14_r0 arg15_r0 arg16_r0 arg17_r0 k0_hw1 k0_h16)).WholeWords (EltTy.packing .bf16) := fun k0_t1 arg7_r0 arg8_r0 arg9_r0 arg10_r0 arg13_r0 arg14_r0 arg15_r0 arg16_r0 arg17_r0 k0_hw1 k0_h16 => k0_hw1.2.2.2.2.2.2.2.2.2.2.2.2.2.2.2.2.2.2.2.2.2.2.2.2.2.2.2.2.2.2.1 k0_h16 (k0_off36_inb k0_t1 arg7_r0 arg8_r0 arg9_r0 arg10_r0 arg13_r0 arg14_r0 arg15_r0 arg16_r0 arg17_r0 k0_hw1 k0_h16)
theorem k0_off35_wordsbf16 : ∀ (k0_t1 : Fin k0_t1_loop.trips) (arg7_r0 : BitVec 32) (arg8_r0 : BitVec 32) (arg9_r0 : BitVec 32) (arg10_r0 : BitVec 32) (arg13_r0 : BitVec 32) (arg14_r0 : BitVec 32) (arg15_r0 : BitVec 32) (arg16_r0 : BitVec 32) (arg17_r0 : BitVec 32) (k0_hw1 : k0_chk1 k0_t1 arg7_r0 arg8_r0 arg9_r0 arg10_r0 arg13_r0 arg14_r0 arg15_r0 arg16_r0 arg17_r0), ∀ (k0_h16 : k0_cond16 k0_t1 arg17_r0 = 1#1), (Rect.unit (s := S8192x4096) (k0_off35 arg17_r0) S256x4096.size (k0_off35_inb k0_t1 arg7_r0 arg8_r0 arg9_r0 arg10_r0 arg13_r0 arg14_r0 arg15_r0 arg16_r0 arg17_r0 k0_hw1 k0_h16)).WholeWords (EltTy.packing .bf16) := fun k0_t1 arg7_r0 arg8_r0 arg9_r0 arg10_r0 arg13_r0 arg14_r0 arg15_r0 arg16_r0 arg17_r0 k0_hw1 k0_h16 => k0_hw1.2.2.2.2.2.2.2.2.2.2.2.2.2.2.2.2.2.2.2.2.2.2.2.2.2.2.2.2.2.2.2 k0_h16 (k0_off35_inb k0_t1 arg7_r0 arg8_r0 arg9_r0 arg10_r0 arg13_r0 arg14_r0 arg15_r0 arg16_r0 arg17_r0 k0_hw1 k0_h16)

def k0_off37 (v51_7_r0 : BitVec 32) : Fin 1 → Nat :=
  let c2_i32_r0 : BitVec 32 := 2#32
  let v77_r0 : BitVec 32 := Scalar.remui v51_7_r0 c2_i32_r0
  ![v77_r0.toNat]

def k0_off38 (v51_10_r0 : BitVec 32) : Fin 2 → Nat :=
  let c256_i32_r0 : BitVec 32 := 256#32
  let true_62_r0 : BitVec 1 := 1#1
  let c1_i32_61_r0 : BitVec 32 := 1#32
  let v52_r0 : BitVec 32 := Scalar.subi v51_10_r0 c1_i32_61_r0
  let v53_r0 : BitVec 32 := Scalar.select true_62_r0 v52_r0 v51_10_r0
  let c_m1_i32_63_r0 : BitVec 32 := 4294967295#32
  let v54_r0 : BitVec 1 := Scalar.cmpi .eq v53_r0 c_m1_i32_63_r0
  let c31_i32_64_r0 : BitVec 32 := 31#32
  let v55_r0 : BitVec 32 := Scalar.select v54_r0 c31_i32_64_r0 v53_r0
  let c0_i32_65_r0 : BitVec 32 := 0#32
  let v56_r0 : BitVec 32 := Scalar.addi v55_r0 c0_i32_65_r0
  let v78_r0 : BitVec 32 := Scalar.muli c256_i32_r0 v56_r0
  let c0_i32_86_r0 : BitVec 32 := 0#32
  ![v78_r0.toNat, 0]

def k0_off39 (v51_7_r0 : BitVec 32) : Fin 3 → Nat :=
  let c2_i32_r0 : BitVec 32 := 2#32
  let v77_r0 : BitVec 32 := Scalar.remui v51_7_r0 c2_i32_r0
  let c0_i32_87_r0 : BitVec 32 := 0#32
  let c0_i32_88_r0 : BitVec 32 := 0#32
  ![v77_r0.toNat, 0, 0]

def k0_chk6 (v51_7_r0 : BitVec 32) : Prop :=
  (∀ a, (k0_off37 v51_7_r0) a + S1.size a ≤ S2.size a) ∧
  (∀ a, (k0_off39 v51_7_r0) a + S1x256x4096.size a ≤ S2x256x4096.size a)
theorem k0_off37_inb : ∀ (v51_7_r0 : BitVec 32) (k0_hw6 : k0_chk6 v51_7_r0), ∀ a, (k0_off37 v51_7_r0) a + S1.size a ≤ S2.size a := fun v51_7_r0 k0_hw6 => k0_hw6.1
theorem k0_off39_inb : ∀ (v51_7_r0 : BitVec 32) (k0_hw6 : k0_chk6 v51_7_r0), ∀ a, (k0_off39 v51_7_r0) a + S1x256x4096.size a ≤ S2x256x4096.size a := fun v51_7_r0 k0_hw6 => k0_hw6.2

def k0_off40 (v51_9_r0 : BitVec 32) : Fin 1 → Nat :=
  let c2_i32_89_r0 : BitVec 32 := 2#32
  let v84_r0 : BitVec 32 := Scalar.remui v51_9_r0 c2_i32_89_r0
  ![v84_r0.toNat]

def k0_off41 (v51_10_r0 : BitVec 32) : Fin 2 → Nat :=
  let c256_i32_90_r0 : BitVec 32 := 256#32
  let true_62_r0 : BitVec 1 := 1#1
  let c1_i32_61_r0 : BitVec 32 := 1#32
  let v52_r0 : BitVec 32 := Scalar.subi v51_10_r0 c1_i32_61_r0
  let v53_r0 : BitVec 32 := Scalar.select true_62_r0 v52_r0 v51_10_r0
  let c_m1_i32_63_r0 : BitVec 32 := 4294967295#32
  let v54_r0 : BitVec 1 := Scalar.cmpi .eq v53_r0 c_m1_i32_63_r0
  let c31_i32_64_r0 : BitVec 32 := 31#32
  let v55_r0 : BitVec 32 := Scalar.select v54_r0 c31_i32_64_r0 v53_r0
  let c0_i32_65_r0 : BitVec 32 := 0#32
  let v56_r0 : BitVec 32 := Scalar.addi v55_r0 c0_i32_65_r0
  let v85_r0 : BitVec 32 := Scalar.muli c256_i32_90_r0 v56_r0
  let c0_i32_91_r0 : BitVec 32 := 0#32
  ![v85_r0.toNat, 0]
def k0_off42 (v51_9_r0 : BitVec 32) : Fin 3 → Nat :=
  let c2_i32_89_r0 : BitVec 32 := 2#32
  let v84_r0 : BitVec 32 := Scalar.remui v51_9_r0 c2_i32_89_r0
  let c0_i32_92_r0 : BitVec 32 := 0#32
  let c0_i32_93_r0 : BitVec 32 := 0#32
  ![v84_r0.toNat, 0, 0]

def k0_chk8 (v51_9_r0 : BitVec 32) : Prop :=
  (∀ a, (k0_off40 v51_9_r0) a + S1.size a ≤ S2.size a) ∧
  (∀ a, (k0_off42 v51_9_r0) a + S1x256x4096.size a ≤ S2x256x4096.size a) ∧
  (∀ (hinb : ∀ a, (k0_off42 v51_9_r0) a + S1x256x4096.size a ≤ S2x256x4096.size a), (Rect.unit (s := S2x256x4096) (k0_off42 v51_9_r0) S1x256x4096.size hinb).WholeWords (EltTy.packing .bf16))
theorem k0_off40_inb : ∀ (v51_9_r0 : BitVec 32) (k0_hw8 : k0_chk8 v51_9_r0), ∀ a, (k0_off40 v51_9_r0) a + S1.size a ≤ S2.size a := fun v51_9_r0 k0_hw8 => k0_hw8.1
theorem k0_off42_inb : ∀ (v51_9_r0 : BitVec 32) (k0_hw8 : k0_chk8 v51_9_r0), ∀ a, (k0_off42 v51_9_r0) a + S1x256x4096.size a ≤ S2x256x4096.size a := fun v51_9_r0 k0_hw8 => k0_hw8.2.1
theorem k0_off42_wordsbf16 : ∀ (v51_9_r0 : BitVec 32) (k0_hw8 : k0_chk8 v51_9_r0), (Rect.unit (s := S2x256x4096) (k0_off42 v51_9_r0) S1x256x4096.size (k0_off42_inb v51_9_r0 k0_hw8)).WholeWords (EltTy.packing .bf16) := fun v51_9_r0 k0_hw8 => k0_hw8.2.2 (k0_off42_inb v51_9_r0 k0_hw8)

def k0_chk7 (v51_10_r0 : BitVec 32) : Prop :=
  (∀ a, (k0_off38 v51_10_r0) a + S256x4096.size a ≤ S8192x4096.size a) ∧
  (∀ a, (k0_off41 v51_10_r0) a + S256x4096.size a ≤ S8192x4096.size a) ∧
  (∀ (hinb : ∀ a, (k0_off41 v51_10_r0) a + S256x4096.size a ≤ S8192x4096.size a), (Rect.unit (s := S8192x4096) (k0_off41 v51_10_r0) S256x4096.size hinb).WholeWords (EltTy.packing .bf16))
theorem k0_off38_inb : ∀ (v51_10_r0 : BitVec 32) (k0_hw7 : k0_chk7 v51_10_r0), ∀ a, (k0_off38 v51_10_r0) a + S256x4096.size a ≤ S8192x4096.size a := fun v51_10_r0 k0_hw7 => k0_hw7.1
theorem k0_off41_inb : ∀ (v51_10_r0 : BitVec 32) (k0_hw7 : k0_chk7 v51_10_r0), ∀ a, (k0_off41 v51_10_r0) a + S256x4096.size a ≤ S8192x4096.size a := fun v51_10_r0 k0_hw7 => k0_hw7.2.1
theorem k0_off41_wordsbf16 : ∀ (v51_10_r0 : BitVec 32) (k0_hw7 : k0_chk7 v51_10_r0), (Rect.unit (s := S8192x4096) (k0_off41 v51_10_r0) S256x4096.size (k0_off41_inb v51_10_r0 k0_hw7)).WholeWords (EltTy.packing .bf16) := fun v51_10_r0 k0_hw7 => k0_hw7.2.2 (k0_off41_inb v51_10_r0 k0_hw7)
-- ==== ReferenceIdeal.lean ====
abbrev S8192x4096 : Shape := ⟨2, ![8192, 4096]⟩
abbrev S1x8192x4096 : Shape := ⟨3, ![1, 8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x8192x4096, .f32⟩
  | .hbm, ⟨2, _⟩ => ⟨S1x4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel2.lean ====
abbrev S8192x4096 : Shape := ⟨2, ![8192, 4096]⟩
abbrev S1x4096x11008 : Shape := ⟨3, ![1, 4096, 11008]⟩
abbrev S1x11008x4096 : Shape := ⟨3, ![1, 11008, 4096]⟩
abbrev S4096x11008 : Shape := ⟨2, ![4096, 11008]⟩
abbrev S11008x4096 : Shape := ⟨2, ![11008, 4096]⟩
abbrev S8192x11008 : Shape := ⟨2, ![8192, 11008]⟩
abbrev S1024x4096 : Shape := ⟨2, ![1024, 4096]⟩
abbrev S4096x256 : Shape := ⟨2, ![4096, 256]⟩
abbrev S32x4096 : Shape := ⟨2, ![32, 4096]⟩
abbrev S1024x256 : Shape := ⟨2, ![1024, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S1x11008x4096, .f32⟩
  | .hbm, ⟨4, _⟩ => ⟨S4096x11008, .f32⟩
  | .hbm, ⟨5, _⟩ => ⟨S4096x11008, .f32⟩
  | .hbm, ⟨6, _⟩ => ⟨S11008x4096, .f32⟩
  | .hbm, ⟨7, _⟩ => ⟨S8192x11008, .bf16⟩
  | .hbm, ⟨8, _⟩ => ⟨S11008x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S32x4096, .f32⟩
  | .local _ .vmem, ⟨7, _⟩ => ⟨S32x4096, .f32⟩
  | .local _ .vmem, ⟨8, _⟩ => ⟨S1024x256, .bf16⟩
  | .local _ .vmem, ⟨9, _⟩ => ⟨S1024x256, .bf16⟩
  | .local _ .vmem, ⟨10, _⟩ => ⟨S32x4096, .bf16⟩
  | .local _ .vmem, ⟨11, _⟩ => ⟨S32x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x4096 : Shape := ⟨2, ![8192, 4096]⟩
abbrev S1x4096x11008 : Shape := ⟨3, ![1, 4096, 11008]⟩
abbrev S1x11008x4096 : Shape := ⟨3, ![1, 11008, 4096]⟩
abbrev S4096x11008 : Shape := ⟨2, ![4096, 11008]⟩
abbrev S8192x11008 : Shape := ⟨2, ![8192, 11008]⟩
abbrev S_ : Shape := ⟨0, ![]⟩
abbrev S11008x4096 : Shape := ⟨2, ![11008, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S1x11008x4096, .f32⟩
  | .hbm, ⟨4, _⟩ => ⟨S8192x4096, .f32⟩
  | .hbm, ⟨5, _⟩ => ⟨S4096x11008, .f32⟩
  | .hbm, ⟨6, _⟩ => ⟨S8192x11008, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S4096x11008, .f32⟩
  | .hbm, ⟨17, _⟩ => ⟨S8192x11008, .f32⟩
  | .hbm, ⟨18, _⟩ => ⟨S8192x11008, .f32⟩
  | .hbm, ⟨19, _⟩ => ⟨S8192x11008, .bf16⟩
  | .hbm, ⟨20, _⟩ => ⟨S11008x4096, .f32⟩
  | .hbm, ⟨21, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Kernel3.lean ====
abbrev S8192x2048 : Shape := ⟨2, ![8192, 2048]⟩
abbrev S8192x4096 : Shape := ⟨2, ![8192, 4096]⟩
abbrev S2048x4096 : Shape := ⟨2, ![2048, 4096]⟩
abbrev S1x4096x2x4096 : Shape := ⟨4, ![1, 4096, 2, 4096]⟩
abbrev S1x4096x4096 : Shape := ⟨3, ![1, 4096, 4096]⟩
abbrev S4096x2x4096 : Shape := ⟨3, ![4096, 2, 4096]⟩
abbrev S4096x8192 : Shape := ⟨2, ![4096, 8192]⟩
abbrev S4096x4096 : Shape := ⟨2, ![4096, 4096]⟩
abbrev S1024x2048 : Shape := ⟨2, ![1024, 2048]⟩
abbrev S1024x4096 : Shape := ⟨2, ![1024, 4096]⟩
abbrev S2048x256 : Shape := ⟨2, ![2048, 256]⟩
abbrev S4096x256 : Shape := ⟨2, ![4096, 256]⟩
abbrev S32x4096 : Shape := ⟨2, ![32, 4096]⟩
abbrev S1024x256 : Shape := ⟨2, ![1024, 256]⟩

abbrev nBuf : Space → Nat
  | .hbm => 13
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .bf16⟩
  | .hbm, ⟨3, _⟩ => ⟨S2048x4096, .bf16⟩
  | .hbm, ⟨4, _⟩ => ⟨S2048x4096, .bf16⟩
  | .hbm, ⟨5, _⟩ => ⟨S1x4096x2x4096, .f32⟩
  | .hbm, ⟨6, _⟩ => ⟨S1x4096x4096, .f32⟩
  | .hbm, ⟨7, _⟩ => ⟨S4096x2x4096, .f32⟩
  | .hbm, ⟨8, _⟩ => ⟨S4096x2x4096, .bf16⟩
  | .hbm, ⟨9, _⟩ => ⟨S4096x8192, .bf16⟩
  | .hbm, ⟨10, _⟩ => ⟨S4096x4096, .f32⟩
  | .hbm, ⟨11, _⟩ => ⟨S8192x4096, .bf16⟩
  | .hbm, ⟨12, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x4096, .bf16⟩
  | .local _ .vmem, ⟨5, _⟩ => ⟨S1024x4096, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S32x4096, .f32⟩
  | .local _ .vmem, ⟨15, _⟩ => ⟨S32x4096, .f32⟩
  | .local _ .vmem, ⟨16, _⟩ => ⟨S1024x256, .bf16⟩
  | .local _ .vmem, ⟨17, _⟩ => ⟨S1024x256, .bf16⟩
  | .local _ .vmem, ⟨18, _⟩ => ⟨S32x4096, .bf16⟩
  | .local _ .vmem, ⟨19, _⟩ => ⟨S32x4096, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8192x2048 : Shape := ⟨2, ![8192, 2048]⟩
abbrev S8192x4096 : Shape := ⟨2, ![8192, 4096]⟩
abbrev S2048x4096 : Shape := ⟨2, ![2048, 4096]⟩
abbrev S1x4096x2x4096 : Shape := ⟨4, ![1, 4096, 2, 4096]⟩
abbrev S1x4096x4096 : Shape := ⟨3, ![1, 4096, 4096]⟩
abbrev S4096x2x4096 : Shape := ⟨3, ![4096, 2, 4096]⟩
abbrev S8192x2x4096 : Shape := ⟨3, ![8192, 2, 4096]⟩
abbrev S_ : Shape := ⟨0, ![]⟩
abbrev S8192x1x4096 : Shape := ⟨3, ![8192, 1, 4096]⟩
abbrev S4096x4096 : Shape := ⟨2, ![4096, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .bf16⟩
  | .hbm, ⟨3, _⟩ => ⟨S2048x4096, .bf16⟩
  | .hbm, ⟨4, _⟩ => ⟨S2048x4096, .bf16⟩
  | .hbm, ⟨5, _⟩ => ⟨S1x4096x2x4096, .f32⟩
  | .hbm, ⟨6, _⟩ => ⟨S1x4096x4096, .f32⟩
  | .hbm, ⟨7, _⟩ => ⟨S8192x2048, .f32⟩
  | .hbm, ⟨8, _⟩ => ⟨S8192x2048, .f32⟩
  | .hbm, ⟨9, _⟩ => ⟨S8192x4096, .f32⟩
  | .hbm, ⟨10, _⟩ => ⟨S2048x4096, .f32⟩
  | .hbm, ⟨11, _⟩ => ⟨S2048x4096, .f32⟩
  | .hbm, ⟨12, _⟩ => ⟨S8192x4096, .f32⟩
  | .hbm, ⟨13, _⟩ => ⟨S8192x4096, .f32⟩
  | .hbm, ⟨14, _⟩ => ⟨S4096x2x4096, .f32⟩
  | .hbm, ⟨15, _⟩ => ⟨S8192x2x4096, .f32⟩
  | .hbm, ⟨16, _⟩ => ⟨S8192x2x4096, .f32⟩
  | .hbm, ⟨17, _⟩ => ⟨S8192x2x4096, .f32⟩
  | .hbm, ⟨18, _⟩ => ⟨S_, .f32⟩
  | .hbm, ⟨19, _⟩ => ⟨S8192x2x4096, .f32⟩
  | .hbm, ⟨20, _⟩ => ⟨S8192x2x4096, .f32⟩
  | .hbm, ⟨21, _⟩ => ⟨S_, .f32⟩
  | .hbm, ⟨22, _⟩ => ⟨S8192x2x4096, .f32⟩
  | .hbm, ⟨23, _⟩ => ⟨S8192x2x4096, .f32⟩
  | .hbm, ⟨24, _⟩ => ⟨S8192x1x4096, .f32⟩
  | .hbm, ⟨25, _⟩ => ⟨S8192x4096, .f32⟩
  | .hbm, ⟨26, _⟩ => ⟨S8192x4096, .f32⟩
  | .hbm, ⟨27, _⟩ => ⟨S8192x1x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .bf16⟩
  | .hbm, ⟨32, _⟩ => ⟨S4096x4096, .f32⟩
  | .hbm, ⟨33, _⟩ => ⟨S4096x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel4.lean ====
abbrev S8192x11008 : Shape := ⟨2, ![8192, 11008]⟩
abbrev S11008x4096 : Shape := ⟨2, ![11008, 4096]⟩
abbrev S1x4096x4096 : Shape := ⟨3, ![1, 4096, 4096]⟩
abbrev S4096x4096 : Shape := ⟨2, ![4096, 4096]⟩
abbrev S8192x4096 : Shape := ⟨2, ![8192, 4096]⟩
abbrev S512x11008 : Shape := ⟨2, ![512, 11008]⟩
abbrev S11008x512 : Shape := ⟨2, ![11008, 512]⟩
abbrev S32x4096 : Shape := ⟨2, ![32, 4096]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S1x4096x4096, .f32⟩
  | .hbm, ⟨3, _⟩ => ⟨S4096x4096, .f32⟩
  | .hbm, ⟨4, _⟩ => ⟨S8192x4096, .bf16⟩
  | .hbm, ⟨5, _⟩ => ⟨S4096x4096, .bf16⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S32x4096, .f32⟩
  | .local _ .vmem, ⟨5, _⟩ => ⟨S32x4096, .f32⟩
  | .local _ .vmem, ⟨6, _⟩ => ⟨S512x512, .bf16⟩
  | .local _ .vmem, ⟨7, _⟩ => ⟨S512x512, .bf16⟩
  | .local _ .vmem, ⟨8, _⟩ => ⟨S32x4096, .bf16⟩
  | .local _ .vmem, ⟨9, _⟩ => ⟨S32x4096, .bf16⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x11008 : Shape := ⟨2, ![8192, 11008]⟩
abbrev S11008x4096 : Shape := ⟨2, ![11008, 4096]⟩
abbrev S1x4096x4096 : Shape := ⟨3, ![1, 4096, 4096]⟩
abbrev S8192x4096 : Shape := ⟨2, ![8192, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S1x4096x4096, .f32⟩
  | .hbm, ⟨3, _⟩ => ⟨S8192x11008, .f32⟩
  | .hbm, ⟨4, _⟩ => ⟨S11008x4096, .f32⟩
  | .hbm, ⟨5, _⟩ => ⟨S8192x4096, .f32⟩
  | .hbm, ⟨6, _⟩ => ⟨S8192x4096, .bf16⟩
  | .hbm, ⟨7, _⟩ => ⟨S4096x4096, .f32⟩
  | .hbm, ⟨8, _⟩ => ⟨S4096x4096, .bf16⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x4096 : Shape := ⟨2, ![8192, 4096]⟩
abbrev S1x1x8192x256 : Shape := ⟨4, ![1, 1, 8192, 256]⟩
abbrev S4096x4096 : Shape := ⟨2, ![4096, 4096]⟩
abbrev S1x256x4096 : Shape := ⟨3, ![1, 256, 4096]⟩
abbrev S1x8192x256 : Shape := ⟨3, ![1, 8192, 256]⟩
abbrev S8192x256 : Shape := ⟨2, ![8192, 256]⟩
abbrev S256x4096 : Shape := ⟨2, ![256, 4096]⟩
abbrev S1024x4096 : Shape := ⟨2, ![1024, 4096]⟩
abbrev S1024x256 : Shape := ⟨2, ![1024, 256]⟩
abbrev S4096x1024 : Shape := ⟨2, ![4096, 1024]⟩
abbrev S256x1024 : Shape := ⟨2, ![256, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x1x8192x256, .f32⟩
  | .hbm, ⟨2, _⟩ => ⟨S4096x4096, .bf16⟩
  | .hbm, ⟨3, _⟩ => ⟨S1x256x4096, .f32⟩
  | .hbm, ⟨4, _⟩ => ⟨S1x8192x256, .f32⟩
  | .hbm, ⟨5, _⟩ => ⟨S8192x256, .f32⟩
  | .hbm, ⟨6, _⟩ => ⟨S256x4096, .f32⟩
  | .hbm, ⟨7, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x256, .f32⟩
  | .local _ .vmem, ⟨3, _⟩ => ⟨S1024x256, .f32⟩
  | .local _ .vmem, ⟨4, _⟩ => ⟨S4096x1024, .bf16⟩
  | .local _ .vmem, ⟨5, _⟩ => ⟨S4096x1024, .bf16⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x4096 : Shape := ⟨2, ![8192, 4096]⟩
abbrev S1x1x8192x256 : Shape := ⟨4, ![1, 1, 8192, 256]⟩
abbrev S4096x4096 : Shape := ⟨2, ![4096, 4096]⟩
abbrev S1x256x4096 : Shape := ⟨3, ![1, 256, 4096]⟩
abbrev S_ : Shape := ⟨0, ![]⟩
abbrev S1x8192x256 : Shape := ⟨3, ![1, 8192, 256]⟩
abbrev S256x4096 : Shape := ⟨2, ![256, 4096]⟩
abbrev S1x8192x4096 : Shape := ⟨3, ![1, 8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x1x8192x256, .f32⟩
  | .hbm, ⟨2, _⟩ => ⟨S4096x4096, .bf16⟩
  | .hbm, ⟨3, _⟩ => ⟨S1x256x4096, .f32⟩
  | .hbm, ⟨4, _⟩ => ⟨S8192x4096, .f32⟩
  | .hbm, ⟨5, _⟩ => ⟨S4096x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S1x8192x256, .f32⟩
  | .hbm, ⟨16, _⟩ => ⟨S256x4096, .f32⟩
  | .hbm, ⟨17, _⟩ => ⟨S1x8192x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4096x4096, .f32⟩
  | .hbm, ⟨4, _⟩ => ⟨S8192x4096, .f32⟩
  | .hbm, ⟨5, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x4096 : Shape := ⟨2, ![8192, 4096]⟩
abbrev S1x4096x3648 : Shape := ⟨3, ![1, 4096, 3648]⟩
abbrev S1x2048x4096 : Shape := ⟨3, ![1, 2048, 4096]⟩
abbrev S1x1024x16x192 : Shape := ⟨4, ![1, 1024, 16, 192]⟩
abbrev S4096x3648 : Shape := ⟨2, ![4096, 3648]⟩
abbrev S3648x4096 : Shape := ⟨2, ![3648, 4096]⟩
abbrev S1024x16x192 : Shape := ⟨3, ![1024, 16, 192]⟩
abbrev S16x192x1024 : Shape := ⟨3, ![16, 192, 1024]⟩
abbrev S3072x1024 : Shape := ⟨2, ![3072, 1024]⟩
abbrev S2048x4096 : Shape := ⟨2, ![2048, 4096]⟩
abbrev S8192x3584 : Shape := ⟨2, ![8192, 3584]⟩
abbrev S1024x4096 : Shape := ⟨2, ![1024, 4096]⟩
abbrev S512x4096 : Shape := ⟨2, ![512, 4096]⟩
abbrev S64x4096 : Shape := ⟨2, ![64, 4096]⟩
abbrev S64x1024 : Shape := ⟨2, ![64, 1024]⟩
abbrev S1024x512 : Shape := ⟨2, ![1024, 512]⟩

abbrev nBuf : Space → Nat
  | .hbm => 16
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S1x4096x3648, .f32⟩
  | .hbm, ⟨2, _⟩ => ⟨S1x2048x4096, .f32⟩
  | .hbm, ⟨3, _⟩ => ⟨S1x2048x4096, .f32⟩
  | .hbm, ⟨4, _⟩ => ⟨S1x1024x16x192, .f32⟩
  | .hbm, ⟨5, _⟩ => ⟨S4096x3648, .f32⟩
  | .hbm, ⟨6, _⟩ => ⟨S3648x4096, .f32⟩
  | .hbm, ⟨7, _⟩ => ⟨S1024x16x192, .f32⟩
  | .hbm, ⟨8, _⟩ => ⟨S16x192x1024, .f32⟩
  | .hbm, ⟨9, _⟩ => ⟨S3072x1024, .f32⟩
  | .hbm, ⟨10, _⟩ => ⟨S2048x4096, .f32⟩
  | .hbm, ⟨11, _⟩ => ⟨S2048x4096, .f32⟩
  | .hbm, ⟨12, _⟩ => ⟨S8192x3584, .f32⟩
  | .hbm, ⟨13, _⟩ => ⟨S2048x4096, .bf16⟩
  | .hbm, ⟨14, _⟩ => ⟨S2048x4096, .bf16⟩
  | .hbm, ⟨15, _⟩ => ⟨S3072x1024, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x1024, .f32⟩
  | .local _ .vmem, ⟨9, _⟩ => ⟨S64x1024, .f32⟩
  | .local _ .vmem, ⟨10, _⟩ => ⟨S1024x512, .f32⟩
  | .local _ .vmem, ⟨11, _⟩ => ⟨S1024x512, .f32⟩
  | .local _ .vmem, ⟨12, _⟩ => ⟨S64x4096, .bf16⟩
  | .local _ .vmem, ⟨13, _⟩ => ⟨S64x4096, .bf16⟩
  | .local _ .vmem, ⟨14, _⟩ => ⟨S64x4096, .bf16⟩
  | .local _ .vmem, ⟨15, _⟩ => ⟨S64x4096, .bf16⟩
  | .local _ .vmem, ⟨16, _⟩ => ⟨S64x1024, .bf16⟩
  | .local _ .vmem, ⟨17, _⟩ => ⟨S64x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c47_i32 : BitVec 32 := 47#32
  let v2 : BitVec 32 := Scalar.minsi v1 c47_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c47_i32 : BitVec 32 := 47#32
  let v2 : BitVec 32 := Scalar.minsi v1 c47_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S8192x4096 : Shape := ⟨2, ![8192, 4096]⟩
abbrev S1x4096x3648 : Shape := ⟨3, ![1, 4096, 3648]⟩
abbrev S1x2048x4096 : Shape := ⟨3, ![1, 2048, 4096]⟩
abbrev S1x1024x16x192 : Shape := ⟨4, ![1, 1024, 16, 192]⟩
abbrev S4096x3648 : Shape := ⟨2, ![4096, 3648]⟩
abbrev S4096x3584 : Shape := ⟨2, ![4096, 3584]⟩
abbrev S8192x3584 : Shape := ⟨2, ![8192, 3584]⟩
abbrev S1024x16x192 : Shape := ⟨3, ![1024, 16, 192]⟩
abbrev S16x192x1024 : Shape := ⟨3, ![16, 192, 1024]⟩
abbrev S3072x1024 : Shape := ⟨2, ![3072, 1024]⟩
abbrev S2048x4096 : Shape := ⟨2, ![2048, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x3648, .f32⟩
  | .hbm, ⟨2, _⟩ => ⟨S1x2048x4096, .f32⟩
  | .hbm, ⟨3, _⟩ => ⟨S1x2048x4096, .f32⟩
  | .hbm, ⟨4, _⟩ => ⟨S1x1024x16x192, .f32⟩
  | .hbm, ⟨5, _⟩ => ⟨S8192x4096, .f32⟩
  | .hbm, ⟨6, _⟩ => ⟨S4096x3648, .f32⟩
  | .hbm, ⟨7, _⟩ => ⟨S4096x3584, .f32⟩
  | .hbm, ⟨8, _⟩ => ⟨S8192x3584, .f32⟩
  | .hbm, ⟨9, _⟩ => ⟨S1024x16x192, .f32⟩
  | .hbm, ⟨10, _⟩ => ⟨S16x192x1024, .f32⟩
  | .hbm, ⟨11, _⟩ => ⟨S3072x1024, .f32⟩
  | .hbm, ⟨12, _⟩ => ⟨S2048x4096, .f32⟩
  | .hbm, ⟨13, _⟩ => ⟨S2048x4096, .bf16⟩
  | .hbm, ⟨14, _⟩ => ⟨S2048x4096, .f32⟩
  | .hbm, ⟨15, _⟩ => ⟨S2048x4096, .bf16⟩
  | .hbm, ⟨16, _⟩ => ⟨S3072x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel8.lean ====
abbrev S8192x4096 : Shape := ⟨2, ![8192, 4096]⟩
abbrev S1x8192x4096 : Shape := ⟨3, ![1, 8192, 4096]⟩
abbrev S1x4096 : Shape := ⟨2, ![1, 4096]⟩
abbrev S4096 : Shape := ⟨1, ![4096]⟩
abbrev S3x256x4096 : Shape := ⟨3, ![3, 256, 4096]⟩
abbrev S3 : Shape := ⟨1, ![3]⟩
abbrev S2x256x4096 : Shape := ⟨3, ![2, 256, 4096]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 4
  | .smem => 0
  | _ => 0

abbrev bufTy : (tb : Table) → Fin (tcTables nBuf tb) → BufTy
  | .hbm, ⟨0, _⟩ => ⟨S8192x4096, .bf16⟩
  | .hbm, ⟨1, _⟩ => ⟨S1x8192x4096, .f32⟩
  | .hbm, ⟨2, _⟩ => ⟨S1x4096, .f32⟩
  | .hbm, ⟨3, _⟩ => ⟨S8192x4096, .f32⟩
  | .hbm, ⟨4, _⟩ => ⟨S4096, .f32⟩
  | .hbm, ⟨5, _⟩ => ⟨S1x4096, .f32⟩
  | .hbm, ⟨6, _⟩ => ⟨S8192x4096, .f32⟩
  | .local _ .vmem, ⟨0, _⟩ => ⟨S3x256x4096, .bf16⟩
  | .local _ .vmem, ⟨1, _⟩ => ⟨S3x256x4096, .f32⟩
  | .local _ .vmem, ⟨2, _⟩ => ⟨S1x4096, .f32⟩
  | .local _ .vmem, ⟨3, _⟩ => ⟨S2x256x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped5 : Ref sig .tc := ⟨.vmem, 3, rfl⟩

abbrev nD : Nat := 1
abbrev τ : Topo := Topo.v7x

variable {F : FTy → Type} [FloatOps F]

abbrev grid0 : Pipeline.Grid := .none

def k0_off1 : Fin 1 → Nat :=
  let c0_i32_19_r0 : BitVec 32 := 0#32
  let c3_i32_r0 : BitVec 32 := 3#32
  let v21_r0 : BitVec 32 := Scalar.remui c0_i32_19_r0 c3_i32_r0
  ![v21_r0.toNat]
def k0_off2 : Fin 3 → Nat :=
  let c0_i32_19_r0 : BitVec 32 := 0#32
  let c3_i32_r0 : BitVec 32 := 3#32
  let v21_r0 : BitVec 32 := Scalar.remui c0_i32_19_r0 c3_i32_r0
  let c0_i32_20_r0 : BitVec 32 := 0#32
  let c0_i32_21_r0 : BitVec 32 := 0#32
  ![v21_r0.toNat, 0, 0]
def k0_cond1 : BitVec 1 :=
  let true_35_r0 : BitVec 1 := 1#1
  let true_5_r0 : BitVec 1 := 1#1
  let c1_i32_r0 : BitVec 32 := 1#32
  let c0_i32_6_r0 : BitVec 32 := 0#32
  let v7_r0 : BitVec 32 := Scalar.select true_5_r0 c1_i32_r0 c0_i32_6_r0
  let c32_i32_r0 : BitVec 32 := 32#32
  let v8_r0 : BitVec 1 := Scalar.cmpi .eq v7_r0 c32_i32_r0
  let c0_i32_7_r0 : BitVec 32 := 0#32
  let v9_r0 : BitVec 32 := Scalar.select v8_r0 c0_i32_7_r0 v7_r0
  let c0_i32_8_r0 : BitVec 32 := 0#32
  let v10_r0 : BitVec 32 := Scalar.addi v9_r0 c0_i32_8_r0
  let c0_i32_34_r0 : BitVec 32 := 0#32
  let v35_r0 : BitVec 1 := Scalar.cmpi .ne v10_r0 c0_i32_34_r0
  let v36_r0 : BitVec 1 := Scalar.andi true_35_r0 v35_r0
  let true_36_r0 : BitVec 1 := 1#1
  let v37_r0 : BitVec 1 := Scalar.andi v36_r0 true_36_r0
  let v38_r0 : BitVec 32 := Scalar.extui v37_r0
  let c0_i32_37_r0 : BitVec 32 := 0#32
  let v39_r0 : BitVec 1 := Scalar.cmpi .ne v38_r0 c0_i32_37_r0
  v39_r0

def k0_off3 : Fin 1 → Nat :=
  let c0_i32_24_r0 : BitVec 32 := 0#32
  let c1_i32_25_r0 : BitVec 32 := 1#32
  let v27_r0 : BitVec 32 := Scalar.addi c0_i32_24_r0 c1_i32_25_r0
  let c3_i32_83_r0 : BitVec 32 := 3#32
  let v83_r0 : BitVec 32 := Scalar.remui v27_r0 c3_i32_83_r0
  ![v83_r0.toNat]
def k0_off4 : Fin 3 → Nat :=
  let c0_i32_24_r0 : BitVec 32 := 0#32
  let c1_i32_25_r0 : BitVec 32 := 1#32
  let v27_r0 : BitVec 32 := Scalar.addi c0_i32_24_r0 c1_i32_25_r0
  let c3_i32_83_r0 : BitVec 32 := 3#32
  let v83_r0 : BitVec 32 := Scalar.remui v27_r0 c3_i32_83_r0
  let c0_i32_85_r0 : BitVec 32 := 0#32
  let c0_i32_86_r0 : BitVec 32 := 0#32
  ![v83_r0.toNat, 0, 0]
def k0_off5 : Fin 2 → Nat :=
  let c256_i32_84_r0 : BitVec 32 := 256#32
  let true_5_r0 : BitVec 1 := 1#1
  let c1_i32_r0 : BitVec 32 := 1#32
  let c0_i32_6_r0 : BitVec 32 := 0#32
  let v7_r0 : BitVec 32 := Scalar.select true_5_r0 c1_i32_r0 c0_i32_6_r0
  let c32_i32_r0 : BitVec 32 := 32#32
  let v8_r0 : BitVec 1 := Scalar.cmpi .eq v7_r0 c32_i32_r0
  let c0_i32_7_r0 : BitVec 32 := 0#32
  let v9_r0 : BitVec 32 := Scalar.select v8_r0 c0_i32_7_r0 v7_r0
  let c0_i32_8_r0 : BitVec 32 := 0#32
  let v10_r0 : BitVec 32 := Scalar.addi v9_r0 c0_i32_8_r0
  let v84_r0 : BitVec 32 := Scalar.muli c256_i32_84_r0 v10_r0
  let c0_i32_87_r0 : BitVec 32 := 0#32
  ![v84_r0.toNat, 0]
def k0_cond2 : BitVec 1 :=
  let true_40_r0 : BitVec 1 := 1#1
  let true_5_r0 : BitVec 1 := 1#1
  let c1_i32_r0 : BitVec 32 := 1#32
  let c0_i32_6_r0 : BitVec 32 := 0#32
  let v7_r0 : BitVec 32 := Scalar.select true_5_r0 c1_i32_r0 c0_i32_6_r0
  let c32_i32_r0 : BitVec 32 := 32#32
  let v8_r0 : BitVec 1 := Scalar.cmpi .eq v7_r0 c32_i32_r0
  let c0_i32_7_r0 : BitVec 32 := 0#32
  let v9_r0 : BitVec 32 := Scalar.select v8_r0 c0_i32_7_r0 v7_r0
  let c0_i32_8_r0 : BitVec 32 := 0#32
  let v10_r0 : BitVec 32 := Scalar.addi v9_r0 c0_i32_8_r0
  let c0_i32_39_r0 : BitVec 32 := 0#32
  let v42_r0 : BitVec 1 := Scalar.cmpi .ne v10_r0 c0_i32_39_r0
  let v43_r0 : BitVec 1 := Scalar.andi true_40_r0 v42_r0
  let true_41_r0 : BitVec 1 := 1#1
  let v44_r0 : BitVec 1 := Scalar.andi v43_r0 true_41_r0
  let v45_r0 : BitVec 32 := Scalar.extui v44_r0
  let c0_i32_42_r0 : BitVec 32 := 0#32
  let v46_r0 : BitVec 1 := Scalar.cmpi .ne v45_r0 c0_i32_42_r0
  v46_r0

def k0_off6 : Fin 1 → Nat :=
  let c0_i32_32_r0 : BitVec 32 := 0#32
  let c1_i32_33_r0 : BitVec 32 := 1#32
  let v34_r0 : BitVec 32 := Scalar.addi c0_i32_32_r0 c1_i32_33_r0
  let c3_i32_83_r0 : BitVec 32 := 3#32
  let v83_r0 : BitVec 32 := Scalar.remui v34_r0 c3_i32_83_r0
  ![v83_r0.toNat]
def k0_off7 : Fin 3 → Nat :=
  let c0_i32_32_r0 : BitVec 32 := 0#32
  let c1_i32_33_r0 : BitVec 32 := 1#32
  let v34_r0 : BitVec 32 := Scalar.addi c0_i32_32_r0 c1_i32_33_r0
  let c3_i32_83_r0 : BitVec 32 := 3#32
  let v83_r0 : BitVec 32 := Scalar.remui v34_r0 c3_i32_83_r0
  let c0_i32_85_r0 : BitVec 32 := 0#32
  let c0_i32_86_r0 : BitVec 32 := 0#32
  ![v83_r0.toNat, 0, 0]
def k0_off8 : Fin 2 → Nat :=
  let c256_i32_84_r0 : BitVec 32 := 256#32
  let true_5_r0 : BitVec 1 := 1#1
  let c1_i32_r0 : BitVec 32 := 1#32
  let c0_i32_6_r0 : BitVec 32 := 0#32
  let v7_r0 : BitVec 32 := Scalar.select true_5_r0 c1_i32_r0 c0_i32_6_r0
  let c32_i32_r0 : BitVec 32 := 32#32
  let v8_r0 : BitVec 1 := Scalar.cmpi .eq v7_r0 c32_i32_r0
  let c0_i32_7_r0 : BitVec 32 := 0#32
  let v9_r0 : BitVec 32 := Scalar.select v8_r0 c0_i32_7_r0 v7_r0
  let c0_i32_8_r0 : BitVec 32 := 0#32
  let v10_r0 : BitVec 32 := Scalar.addi v9_r0 c0_i32_8_r0
  let v84_r0 : BitVec 32 := Scalar.muli c256_i32_84_r0 v10_r0
  let c0_i32_87_r0 : BitVec 32 := 0#32
  ![v84_r0.toNat, 0]
@[reducible] def k0_t1_loop : Scf.Loop 32 :=
  let c0_i32_51_r0 : BitVec 32 := 0#32
  let c32_i32_52_r0 : BitVec 32 := 32#32
  let v49_r0 : BitVec 32 := Scalar.addi c0_i32_51_r0 c32_i32_52_r0
  let c1_i32_53_r0 : BitVec 32 := 1#32
  ⟨c0_i32_51_r0, v49_r0, c1_i32_53_r0⟩
def k0_off9 (arg5_r0 : BitVec 32) : Fin 1 → Nat :=
  let c3_i32_161_r0 : BitVec 32 := 3#32
  let v229_r0 : BitVec 32 := Scalar.remui arg5_r0 c3_i32_161_r0
  ![v229_r0.toNat]
def k0_cond3 (k0_t1 : Fin k0_t1_loop.trips) (arg12_r0 : BitVec 32) : BitVec 1 :=
  let true_92_r0 : BitVec 1 := 1#1
  let c1_i32_91_r0 : BitVec 32 := 1#32
  let v91_r0 : BitVec 32 := Scalar.addi arg12_r0 c1_i32_91_r0
  let v92_r0 : BitVec 32 := Scalar.select true_92_r0 v91_r0 arg12_r0
  let c32_i32_93_r0 : BitVec 32 := 32#32
  let v93_r0 : BitVec 1 := Scalar.cmpi .eq v92_r0 c32_i32_93_r0
  let c0_i32_94_r0 : BitVec 32 := 0#32
  let v94_r0 : BitVec 32 := Scalar.select v93_r0 c0_i32_94_r0 v92_r0
  let c0_i32_95_r0 : BitVec 32 := 0#32
  let v95_r0 : BitVec 32 := Scalar.addi v94_r0 c0_i32_95_r0
  let true_97_r0 : BitVec 1 := 1#1
  let c1_i32_96_r0 : BitVec 32 := 1#32
  let v96_r0 : BitVec 32 := Scalar.addi v94_r0 c1_i32_96_r0
  let v97_r0 : BitVec 32 := Scalar.select true_97_r0 v96_r0 v94_r0
  let c32_i32_98_r0 : BitVec 32 := 32#32
  let v98_r0 : BitVec 1 := Scalar.cmpi .eq v97_r0 c32_i32_98_r0
  let c0_i32_99_r0 : BitVec 32 := 0#32
  let v99_r0 : BitVec 32 := Scalar.select v98_r0 c0_i32_99_r0 v97_r0
  let c0_i32_100_r0 : BitVec 32 := 0#32
  let v100_r0 : BitVec 32 := Scalar.addi v99_r0 c0_i32_100_r0
  let v106_r0 : BitVec 1 := Scalar.cmpi .ne v95_r0 v100_r0
  let c0_i32_51_r0 : BitVec 32 := 0#32
  let c1_i32_53_r0 : BitVec 32 := 1#32
  let arg4_r0 : BitVec 32 := Scf.iv c0_i32_51_r0 c1_i32_53_r0 k0_t1
  let c30_i32_r0 : BitVec 32 := 30#32
  let v107_r0 : BitVec 1 := Scalar.cmpi .sge arg4_r0 c30_i32_r0
  let true_106_r0 : BitVec 1 := 1#1
  let v108_r0 : BitVec 1 := Scalar.xori v107_r0 true_106_r0
  let v109_r0 : BitVec 1 := Scalar.andi v106_r0 v108_r0
  let true_107_r0 : BitVec 1 := 1#1
  let v110_r0 : BitVec 1 := Scalar.andi v109_r0 true_107_r0
  let v111_r0 : BitVec 32 := Scalar.extui v110_r0
  let c0_i32_108_r0 : BitVec 32 := 0#32
  let v112_r0 : BitVec 1 := Scalar.cmpi .ne v111_r0 c0_i32_108_r0
  v112_r0

def k0_off10 (arg5_r0 : BitVec 32) : Fin 3 → Nat :=
  let c3_i32_161_r0 : BitVec 32 := 3#32
  let v229_r0 : BitVec 32 := Scalar.remui arg5_r0 c3_i32_161_r0
  let c0_i32_163_r0 : BitVec 32 := 0#32
  let c0_i32_164_r0 : BitVec 32 := 0#32
  ![v229_r0.toNat, 0, 0]
def k0_off11 (arg12_r0 : BitVec 32) : Fin 2 → Nat :=
  let c256_i32_162_r0 : BitVec 32 := 256#32
  let true_97_r0 : BitVec 1 := 1#1
  let true_92_r0 : BitVec 1 := 1#1
  let c1_i32_91_r0 : BitVec 32 := 1#32
  let v91_r0 : BitVec 32 := Scalar.addi arg12_r0 c1_i32_91_r0
  let v92_r0 : BitVec 32 := Scalar.select true_92_r0 v91_r0 arg12_r0
  let c32_i32_93_r0 : BitVec 32 := 32#32
  let v93_r0 : BitVec 1 := Scalar.cmpi .eq v92_r0 c32_i32_93_r0
  let c0_i32_94_r0 : BitVec 32 := 0#32
  let v94_r0 : BitVec 32 := Scalar.select v93_r0 c0_i32_94_r0 v92_r0
  let c1_i32_96_r0 : BitVec 32 := 1#32
  let v96_r0 : BitVec 32 := Scalar.addi v94_r0 c1_i32_96_r0
  let v97_r0 : BitVec 32 := Scalar.select true_97_r0 v96_r0 v94_r0
  let c32_i32_98_r0 : BitVec 32 := 32#32
  let v98_r0 : BitVec 1 := Scalar.cmpi .eq v97_r0 c32_i32_98_r0
  let c0_i32_99_r0 : BitVec 32 := 0#32
  let v99_r0 : BitVec 32 := Scalar.select v98_r0 c0_i32_99_r0 v97_r0
  let c0_i32_100_r0 : BitVec 32 := 0#32
  let v100_r0 : BitVec 32 := Scalar.addi v99_r0 c0_i32_100_r0
  let v230_r0 : BitVec 32 := Scalar.muli c256_i32_162_r0 v100_r0
  let c0_i32_165_r0 : BitVec 32 := 0#32
  ![v230_r0.toNat, 0]
def k0_off12 (arg7_r0 : BitVec 32) : Fin 1 → Nat :=
  let c3_i32_161_r0 : BitVec 32 := 3#32
  let v229_r0 : BitVec 32 := Scalar.remui arg7_r0 c3_i32_161_r0
  ![v229_r0.toNat]
def k0_cond4 (k0_t1 : Fin k0_t1_loop.trips) (arg12_r0 : BitVec 32) : BitVec 1 :=
  let true_92_r0 : BitVec 1 := 1#1
  let c1_i32_91_r0 : BitVec 32 := 1#32
  let v91_r0 : BitVec 32 := Scalar.addi arg12_r0 c1_i32_91_r0
  let v92_r0 : BitVec 32 := Scalar.select true_92_r0 v91_r0 arg12_r0
  let c32_i32_93_r0 : BitVec 32 := 32#32
  let v93_r0 : BitVec 1 := Scalar.cmpi .eq v92_r0 c32_i32_93_r0
  let c0_i32_94_r0 : BitVec 32 := 0#32
  let v94_r0 : BitVec 32 := Scalar.select v93_r0 c0_i32_94_r0 v92_r0
  let c0_i32_95_r0 : BitVec 32 := 0#32
  let v95_r0 : BitVec 32 := Scalar.addi v94_r0 c0_i32_95_r0
  let true_97_r0 : BitVec 1 := 1#1
  let c1_i32_96_r0 : BitVec 32 := 1#32
  let v96_r0 : BitVec 32 := Scalar.addi v94_r0 c1_i32_96_r0
  let v97_r0 : BitVec 32 := Scalar.select true_97_r0 v96_r0 v94_r0
  let c32_i32_98_r0 : BitVec 32 := 32#32
  let v98_r0 : BitVec 1 := Scalar.cmpi .eq v97_r0 c32_i32_98_r0
  let c0_i32_99_r0 : BitVec 32 := 0#32
  let v99_r0 : BitVec 32 := Scalar.select v98_r0 c0_i32_99_r0 v97_r0
  let c0_i32_100_r0 : BitVec 32 := 0#32
  let v100_r0 : BitVec 32 := Scalar.addi v99_r0 c0_i32_100_r0
  let v116_r0 : BitVec 1 := Scalar.cmpi .ne v95_r0 v100_r0
  let c0_i32_51_r0 : BitVec 32 := 0#32
  let c1_i32_53_r0 : BitVec 32 := 1#32
  let arg4_r0 : BitVec 32 := Scf.iv c0_i32_51_r0 c1_i32_53_r0 k0_t1
  let c30_i32_111_r0 : BitVec 32 := 30#32
  let v117_r0 : BitVec 1 := Scalar.cmpi .sge arg4_r0 c30_i32_111_r0
  let true_112_r0 : BitVec 1 := 1#1
  let v118_r0 : BitVec 1 := Scalar.xori v117_r0 true_112_r0
  let v119_r0 : BitVec 1 := Scalar.andi v116_r0 v118_r0
  let true_113_r0 : BitVec 1 := 1#1
  let v120_r0 : BitVec 1 := Scalar.andi v119_r0 true_113_r0
  let v121_r0 : BitVec 32 := Scalar.extui v120_r0
  let c0_i32_114_r0 : BitVec 32 := 0#32
  let v122_r0 : BitVec 1 := Scalar.cmpi .ne v121_r0 c0_i32_114_r0
  v122_r0

def k0_off13 (arg7_r0 : BitVec 32) : Fin 3 → Nat :=
  let c3_i32_161_r0 : BitVec 32 := 3#32
  let v229_r0 : BitVec 32 := Scalar.remui arg7_r0 c3_i32_161_r0
  let c0_i32_163_r0 : BitVec 32 := 0#32
  let c0_i32_164_r0 : BitVec 32 := 0#32
  ![v229_r0.toNat, 0, 0]
def k0_off14 (arg12_r0 : BitVec 32) : Fin 2 → Nat :=
  let c256_i32_162_r0 : BitVec 32 := 256#32
  let true_97_r0 : BitVec 1 := 1#1
  let true_92_r0 : BitVec 1 := 1#1
  let c1_i32_91_r0 : BitVec 32 := 1#32
  let v91_r0 : BitVec 32 := Scalar.addi arg12_r0 c1_i32_91_r0
  let v92_r0 : BitVec 32 := Scalar.select true_92_r0 v91_r0 arg12_r0
  let c32_i32_93_r0 : BitVec 32 := 32#32
  let v93_r0 : BitVec 1 := Scalar.cmpi .eq v92_r0 c32_i32_93_r0
  let c0_i32_94_r0 : BitVec 32 := 0#32
  let v94_r0 : BitVec 32 := Scalar.select v93_r0 c0_i32_94_r0 v92_r0
  let c1_i32_96_r0 : BitVec 32 := 1#32
  let v96_r0 : BitVec 32 := Scalar.addi v94_r0 c1_i32_96_r0
  let v97_r0 : BitVec 32 := Scalar.select true_97_r0 v96_r0 v94_r0
  let c32_i32_98_r0 : BitVec 32 := 32#32
  let v98_r0 : BitVec 1 := Scalar.cmpi .eq v97_r0 c32_i32_98_r0
  let c0_i32_99_r0 : BitVec 32 := 0#32
  let v99_r0 : BitVec 32 := Scalar.select v98_r0 c0_i32_99_r0 v97_r0
  let c0_i32_100_r0 : BitVec 32 := 0#32
  let v100_r0 : BitVec 32 := Scalar.addi v99_r0 c0_i32_100_r0
  let v230_r0 : BitVec 32 := Scalar.muli c256_i32_162_r0 v100_r0
  let c0_i32_165_r0 : BitVec 32 := 0#32
  ![v230_r0.toNat, 0]
def k0_off15 (arg6_r0 : BitVec 32) : Fin 1 → Nat :=
  let c3_i32_162_r0 : BitVec 32 := 3#32
  let v230_r0 : BitVec 32 := Scalar.remui arg6_r0 c3_i32_162_r0
  ![v230_r0.toNat]
def k0_cond5 (k0_t1 : Fin k0_t1_loop.trips) (arg12_r0 : BitVec 32) : BitVec 1 :=
  let c0_i32_85_r0 : BitVec 32 := 0#32
  let v85_r0 : BitVec 32 := Scalar.addi arg12_r0 c0_i32_85_r0
  let true_87_r0 : BitVec 1 := 1#1
  let c1_i32_86_r0 : BitVec 32 := 1#32
  let v86_r0 : BitVec 32 := Scalar.subi arg12_r0 c1_i32_86_r0
  let v87_r0 : BitVec 32 := Scalar.select true_87_r0 v86_r0 arg12_r0
  let c_m1_i32_88_r0 : BitVec 32 := 4294967295#32
  let v88_r0 : BitVec 1 := Scalar.cmpi .eq v87_r0 c_m1_i32_88_r0
  let c31_i32_89_r0 : BitVec 32 := 31#32
  let v89_r0 : BitVec 32 := Scalar.select v88_r0 c31_i32_89_r0 v87_r0
  let c0_i32_90_r0 : BitVec 32 := 0#32
  let v90_r0 : BitVec 32 := Scalar.addi v89_r0 c0_i32_90_r0
  let v130_r0 : BitVec 1 := Scalar.cmpi .ne v85_r0 v90_r0
  let c0_i32_51_r0 : BitVec 32 := 0#32
  let c1_i32_53_r0 : BitVec 32 := 1#32
  let arg4_r0 : BitVec 32 := Scf.iv c0_i32_51_r0 c1_i32_53_r0 k0_t1
  let c0_i32_83_r0 : BitVec 32 := 0#32
  let v83_r0 : BitVec 1 := Scalar.cmpi .eq arg4_r0 c0_i32_83_r0
  let v131_r0 : BitVec 1 := Scalar.ori v130_r0 v83_r0
  let c0_i32_119_r0 : BitVec 32 := 0#32
  let v132_r0 : BitVec 1 := Scalar.cmpi .sge arg4_r0 c0_i32_119_r0
  let v133_r0 : BitVec 1 := Scalar.andi v131_r0 v132_r0
  let v134_r0 : BitVec 32 := Scalar.extui v133_r0
  let c0_i32_120_r0 : BitVec 32 := 0#32
  let v135_r0 : BitVec 1 := Scalar.cmpi .ne v134_r0 c0_i32_120_r0
  v135_r0

def k0_off16 (arg6_r0 : BitVec 32) : Fin 3 → Nat :=
  let c3_i32_162_r0 : BitVec 32 := 3#32
  let v230_r0 : BitVec 32 := Scalar.remui arg6_r0 c3_i32_162_r0
  let c0_i32_163_r0 : BitVec 32 := 0#32
  let c0_i32_164_r0 : BitVec 32 := 0#32
  ![v230_r0.toNat, 0, 0]
def k0_off17 (arg12_r0 : BitVec 32) : Fin 2 → Nat :=
  let c256_i32_161_r0 : BitVec 32 := 256#32
  let c0_i32_85_r0 : BitVec 32 := 0#32
  let v85_r0 : BitVec 32 := Scalar.addi arg12_r0 c0_i32_85_r0
  let v229_r0 : BitVec 32 := Scalar.muli c256_i32_161_r0 v85_r0
  let c0_i32_165_r0 : BitVec 32 := 0#32
  ![v229_r0.toNat, 0]
def k0_off18 (arg8_r0 : BitVec 32) : Fin 1 → Nat :=
  let c3_i32_162_r0 : BitVec 32 := 3#32
  let v230_r0 : BitVec 32 := Scalar.remui arg8_r0 c3_i32_162_r0
  ![v230_r0.toNat]
def k0_cond6 (k0_t1 : Fin k0_t1_loop.trips) (arg12_r0 : BitVec 32) : BitVec 1 :=
  let c0_i32_85_r0 : BitVec 32 := 0#32
  let v85_r0 : BitVec 32 := Scalar.addi arg12_r0 c0_i32_85_r0
  let true_87_r0 : BitVec 1 := 1#1
  let c1_i32_86_r0 : BitVec 32 := 1#32
  let v86_r0 : BitVec 32 := Scalar.subi arg12_r0 c1_i32_86_r0
  let v87_r0 : BitVec 32 := Scalar.select true_87_r0 v86_r0 arg12_r0
  let c_m1_i32_88_r0 : BitVec 32 := 4294967295#32
  let v88_r0 : BitVec 1 := Scalar.cmpi .eq v87_r0 c_m1_i32_88_r0
  let c31_i32_89_r0 : BitVec 32 := 31#32
  let v89_r0 : BitVec 32 := Scalar.select v88_r0 c31_i32_89_r0 v87_r0
  let c0_i32_90_r0 : BitVec 32 := 0#32
  let v90_r0 : BitVec 32 := Scalar.addi v89_r0 c0_i32_90_r0
  let v136_r0 : BitVec 1 := Scalar.cmpi .ne v85_r0 v90_r0
  let c0_i32_51_r0 : BitVec 32 := 0#32
  let c1_i32_53_r0 : BitVec 32 := 1#32
  let arg4_r0 : BitVec 32 := Scf.iv c0_i32_51_r0 c1_i32_53_r0 k0_t1
  let c0_i32_83_r0 : BitVec 32 := 0#32
  let v83_r0 : BitVec 1 := Scalar.cmpi .eq arg4_r0 c0_i32_83_r0
  let v137_r0 : BitVec 1 := Scalar.ori v136_r0 v83_r0
  let c0_i32_121_r0 : BitVec 32 := 0#32
  let v138_r0 : BitVec 1 := Scalar.cmpi .sge arg4_r0 c0_i32_121_r0
  let v139_r0 : BitVec 1 := Scalar.andi v137_r0 v138_r0
  let v140_r0 : BitVec 32 := Scalar.extui v139_r0
  let c0_i32_122_r0 : BitVec 32 := 0#32
  let v141_r0 : BitVec 1 := Scalar.cmpi .ne v140_r0 c0_i32_122_r0
  v141_r0

def k0_off19 (arg8_r0 : BitVec 32) : Fin 3 → Nat :=
  let c3_i32_162_r0 : BitVec 32 := 3#32
  let v230_r0 : BitVec 32 := Scalar.remui arg8_r0 c3_i32_162_r0
  let c0_i32_163_r0 : BitVec 32 := 0#32
  let c0_i32_164_r0 : BitVec 32 := 0#32
  ![v230_r0.toNat, 0, 0]
def k0_off20 (arg12_r0 : BitVec 32) : Fin 2 → Nat :=
  let c256_i32_161_r0 : BitVec 32 := 256#32
  let c0_i32_85_r0 : BitVec 32 := 0#32
  let v85_r0 : BitVec 32 := Scalar.addi arg12_r0 c0_i32_85_r0
  let v229_r0 : BitVec 32 := Scalar.muli c256_i32_161_r0 v85_r0
  let c0_i32_165_r0 : BitVec 32 := 0#32
  ![v229_r0.toNat, 0]
def k0_off21 (arg8_r0 : BitVec 32) : Fin 3 → Nat :=
  let c3_i32_126_r0 : BitVec 32 := 3#32
  let v149_r0 : BitVec 32 := Scalar.remui arg8_r0 c3_i32_126_r0
  let v151_r0 : Index := Scalar.indexCast v149_r0
  let c0_r0 : Index := 0#32
  let c0_128_r0 : Index := 0#32
  ![v151_r0.toNat, 0, 0]

def k0_chk2 (arg8_r0 : BitVec 32) : Prop :=
  (∀ a, (k0_off21 arg8_r0) a + S1x256x4096.size a ≤ S3x256x4096.size a)
theorem k0_off21_inb : ∀ (arg8_r0 : BitVec 32) (k0_hw2 : k0_chk2 arg8_r0), ∀ a, (k0_off21 arg8_r0) a + S1x256x4096.size a ≤ S3x256x4096.size a := fun arg8_r0 k0_hw2 => k0_hw2

def k0_off22 (arg6_r0 : BitVec 32) : Fin 3 → Nat :=
  let c3_i32_125_r0 : BitVec 32 := 3#32
  let v148_r0 : BitVec 32 := Scalar.remui arg6_r0 c3_i32_125_r0
  let v154_r0 : Index := Scalar.indexCast v148_r0
  let c0_129_r0 : Index := 0#32
  let c0_130_r0 : Index := 0#32
  ![v154_r0.toNat, 0, 0]

def k0_chk3 (arg6_r0 : BitVec 32) : Prop :=
  (∀ a, (k0_off22 arg6_r0) a + S1x256x4096.size a ≤ S3x256x4096.size a)
theorem k0_off22_inb : ∀ (arg6_r0 : BitVec 32) (k0_hw3 : k0_chk3 arg6_r0), ∀ a, (k0_off22 arg6_r0) a + S1x256x4096.size a ≤ S3x256x4096.size a := fun arg6_r0 k0_hw3 => k0_hw3

def k0_off23 (arg10_r0 : BitVec 32) : Fin 3 → Nat :=
  let c2_i32_127_r0 : BitVec 32 := 2#32
  let v150_r0 : BitVec 32 := Scalar.remui arg10_r0 c2_i32_127_r0
  let v173_r0 : Index := Scalar.indexCast v150_r0
  let c0_135_r0 : Index := 0#32
  let c0_136_r0 : Index := 0#32
  ![v173_r0.toNat, 0, 0]

def k0_chk4 (arg10_r0 : BitVec 32) : Prop :=
  (∀ a, (k0_off23 arg10_r0) a + S1x256x4096.size a ≤ S2x256x4096.size a)
theorem k0_off23_inb : ∀ (arg10_r0 : BitVec 32) (k0_hw4 : k0_chk4 arg10_r0), ∀ a, (k0_off23 arg10_r0) a + S1x256x4096.size a ≤ S2x256x4096.size a := fun arg10_r0 k0_hw4 => k0_hw4

def k0_off24 (arg10_r0 : BitVec 32) : Fin 1 → Nat :=
  let c2_i32_161_r0 : BitVec 32 := 2#32
  let v229_r0 : BitVec 32 := Scalar.remui arg10_r0 c2_i32_161_r0
  ![v229_r0.toNat]
def k0_cond10 (k0_t1 : Fin k0_t1_loop.trips) (arg12_r0 : BitVec 32) : BitVec 1 :=
  let c0_i32_85_r0 : BitVec 32 := 0#32
  let v85_r0 : BitVec 32 := Scalar.addi arg12_r0 c0_i32_85_r0
  let true_92_r0 : BitVec 1 := 1#1
  let c1_i32_91_r0 : BitVec 32 := 1#32
  let v91_r0 : BitVec 32 := Scalar.addi arg12_r0 c1_i32_91_r0
  let v92_r0 : BitVec 32 := Scalar.select true_92_r0 v91_r0 arg12_r0
  let c32_i32_93_r0 : BitVec 32 := 32#32
  let v93_r0 : BitVec 1 := Scalar.cmpi .eq v92_r0 c32_i32_93_r0
  let c0_i32_94_r0 : BitVec 32 := 0#32
  let v94_r0 : BitVec 32 := Scalar.select v93_r0 c0_i32_94_r0 v92_r0
  let c0_i32_95_r0 : BitVec 32 := 0#32
  let v95_r0 : BitVec 32 := Scalar.addi v94_r0 c0_i32_95_r0
  let v187_r0 : BitVec 1 := Scalar.cmpi .ne v85_r0 v95_r0
  let c0_i32_51_r0 : BitVec 32 := 0#32
  let c1_i32_53_r0 : BitVec 32 := 1#32
  let arg4_r0 : BitVec 32 := Scf.iv c0_i32_51_r0 c1_i32_53_r0 k0_t1
  let c31_i32_84_r0 : BitVec 32 := 31#32
  let v84_r0 : BitVec 1 := Scalar.cmpi .eq arg4_r0 c31_i32_84_r0
  let v188_r0 : BitVec 1 := Scalar.ori v187_r0 v84_r0
  let v189_r0 : BitVec 32 := Scalar.extui v188_r0
  let c0_i32_140_r0 : BitVec 32 := 0#32
  let v190_r0 : BitVec 1 := Scalar.cmpi .ne v189_r0 c0_i32_140_r0
  v190_r0

def k0_off25 (arg12_r0 : BitVec 32) : Fin 2 → Nat :=
  let c256_i32_162_r0 : BitVec 32 := 256#32
  let c0_i32_85_r0 : BitVec 32 := 0#32
  let v85_r0 : BitVec 32 := Scalar.addi arg12_r0 c0_i32_85_r0
  let v230_r0 : BitVec 32 := Scalar.muli c256_i32_162_r0 v85_r0
  let c0_i32_163_r0 : BitVec 32 := 0#32
  ![v230_r0.toNat, 0]
def k0_off26 (arg10_r0 : BitVec 32) : Fin 3 → Nat :=
  let c2_i32_161_r0 : BitVec 32 := 2#32
  let v229_r0 : BitVec 32 := Scalar.remui arg10_r0 c2_i32_161_r0
  let c0_i32_164_r0 : BitVec 32 := 0#32
  let c0_i32_165_r0 : BitVec 32 := 0#32
  ![v229_r0.toNat, 0, 0]
def k0_off27 (arg11_r0 : BitVec 32) : Fin 1 → Nat :=
  let c2_i32_161_r0 : BitVec 32 := 2#32
  let v229_r0 : BitVec 32 := Scalar.remui arg11_r0 c2_i32_161_r0
  ![v229_r0.toNat]
def k0_cond13 (k0_t1 : Fin k0_t1_loop.trips) (arg12_r0 : BitVec 32) : BitVec 1 :=
  let c0_i32_85_r0 : BitVec 32 := 0#32
  let v85_r0 : BitVec 32 := Scalar.addi arg12_r0 c0_i32_85_r0
  let true_87_r0 : BitVec 1 := 1#1
  let c1_i32_86_r0 : BitVec 32 := 1#32
  let v86_r0 : BitVec 32 := Scalar.subi arg12_r0 c1_i32_86_r0
  let v87_r0 : BitVec 32 := Scalar.select true_87_r0 v86_r0 arg12_r0
  let c_m1_i32_88_r0 : BitVec 32 := 4294967295#32
  let v88_r0 : BitVec 1 := Scalar.cmpi .eq v87_r0 c_m1_i32_88_r0
  let c31_i32_89_r0 : BitVec 32 := 31#32
  let v89_r0 : BitVec 32 := Scalar.select v88_r0 c31_i32_89_r0 v87_r0
  let c0_i32_90_r0 : BitVec 32 := 0#32
  let v90_r0 : BitVec 32 := Scalar.addi v89_r0 c0_i32_90_r0
  let v206_r0 : BitVec 1 := Scalar.cmpi .ne v85_r0 v90_r0
  let c0_i32_51_r0 : BitVec 32 := 0#32
  let c1_i32_53_r0 : BitVec 32 := 1#32
  let arg4_r0 : BitVec 32 := Scf.iv c0_i32_51_r0 c1_i32_53_r0 k0_t1
  let c0_i32_83_r0 : BitVec 32 := 0#32
  let v83_r0 : BitVec 1 := Scalar.cmpi .eq arg4_r0 c0_i32_83_r0
  let true_149_r0 : BitVec 1 := 1#1
  let v207_r0 : BitVec 1 := Scalar.xori v83_r0 true_149_r0
  let v208_r0 : BitVec 1 := Scalar.andi v206_r0 v207_r0
  let v209_r0 : BitVec 32 := Scalar.extui v208_r0
  let c0_i32_150_r0 : BitVec 32 := 0#32
  let v210_r0 : BitVec 1 := Scalar.cmpi .ne v209_r0 c0_i32_150_r0
  v210_r0

def k0_off28 (arg12_r0 : BitVec 32) : Fin 2 → Nat :=
  let c256_i32_162_r0 : BitVec 32 := 256#32
  let true_87_r0 : BitVec 1 := 1#1
  let c1_i32_86_r0 : BitVec 32 := 1#32
  let v86_r0 : BitVec 32 := Scalar.subi arg12_r0 c1_i32_86_r0
  let v87_r0 : BitVec 32 := Scalar.select true_87_r0 v86_r0 arg12_r0
  let c_m1_i32_88_r0 : BitVec 32 := 4294967295#32
  let v88_r0 : BitVec 1 := Scalar.cmpi .eq v87_r0 c_m1_i32_88_r0
  let c31_i32_89_r0 : BitVec 32 := 31#32
  let v89_r0 : BitVec 32 := Scalar.select v88_r0 c31_i32_89_r0 v87_r0
  let c0_i32_90_r0 : BitVec 32 := 0#32
  let v90_r0 : BitVec 32 := Scalar.addi v89_r0 c0_i32_90_r0
  let v230_r0 : BitVec 32 := Scalar.muli c256_i32_162_r0 v90_r0
  let c0_i32_163_r0 : BitVec 32 := 0#32
  ![v230_r0.toNat, 0]
def k0_off29 (arg11_r0 : BitVec 32) : Fin 3 → Nat :=
  let c2_i32_161_r0 : BitVec 32 := 2#32
  let v229_r0 : BitVec 32 := Scalar.remui arg11_r0 c2_i32_161_r0
  let c0_i32_164_r0 : BitVec 32 := 0#32
  let c0_i32_165_r0 : BitVec 32 := 0#32
  ![v229_r0.toNat, 0, 0]

def k0_chk1 (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) : Prop :=
  (∀ (k0_h3 : k0_cond3 k0_t1 arg12_r0 = 1#1), ∀ a, (k0_off9 arg5_r0) a + S1.size a ≤ S3.size a) ∧
  (∀ (k0_h3 : k0_cond3 k0_t1 arg12_r0 = 1#1), ∀ a, (k0_off10 arg5_r0) a + S1x256x4096.size a ≤ S3x256x4096.size a) ∧
  (∀ (k0_h3 : k0_cond3 k0_t1 arg12_r0 = 1#1), ∀ a, (k0_off11 arg12_r0) a + S256x4096.size a ≤ S8192x4096.size a) ∧
  (∀ (k0_h3 : k0_cond3 k0_t1 arg12_r0 = 1#1), ∀ (hinb : ∀ a, (k0_off11 arg12_r0) a + S256x4096.size a ≤ S8192x4096.size a), (Rect.unit (s := S8192x4096) (k0_off11 arg12_r0) S256x4096.size hinb).WholeWords (EltTy.packing .bf16)) ∧
  (∀ (k0_h3 : k0_cond3 k0_t1 arg12_r0 = 1#1), ∀ (hinb : ∀ a, (k0_off10 arg5_r0) a + S1x256x4096.size a ≤ S3x256x4096.size a), (Rect.unit (s := S3x256x4096) (k0_off10 arg5_r0) S1x256x4096.size hinb).WholeWords (EltTy.packing .bf16)) ∧
  (∀ (k0_h4 : k0_cond4 k0_t1 arg12_r0 = 1#1), ∀ a, (k0_off12 arg7_r0) a + S1.size a ≤ S3.size a) ∧
  (∀ (k0_h4 : k0_cond4 k0_t1 arg12_r0 = 1#1), ∀ a, (k0_off13 arg7_r0) a + S1x256x4096.size a ≤ S3x256x4096.size a) ∧
  (∀ (k0_h4 : k0_cond4 k0_t1 arg12_r0 = 1#1), ∀ a, (k0_off14 arg12_r0) a + S256x4096.size a ≤ S8192x4096.size a) ∧
  (∀ (k0_h5 : k0_cond5 k0_t1 arg12_r0 = 1#1), ∀ a, (k0_off15 arg6_r0) a + S1.size a ≤ S3.size a) ∧
  (∀ (k0_h5 : k0_cond5 k0_t1 arg12_r0 = 1#1), ∀ a, (k0_off16 arg6_r0) a + S1x256x4096.size a ≤ S3x256x4096.size a) ∧
  (∀ (k0_h5 : k0_cond5 k0_t1 arg12_r0 = 1#1), ∀ a, (k0_off17 arg12_r0) a + S256x4096.size a ≤ S8192x4096.size a) ∧
  (∀ (k0_h5 : k0_cond5 k0_t1 arg12_r0 = 1#1), ∀ (hinb : ∀ a, (k0_off17 arg12_r0) a + S256x4096.size a ≤ S8192x4096.size a), (Rect.unit (s := S8192x4096) (k0_off17 arg12_r0) S256x4096.size hinb).WholeWords (EltTy.packing .bf16)) ∧
  (∀ (k0_h5 : k0_cond5 k0_t1 arg12_r0 = 1#1), ∀ (hinb : ∀ a, (k0_off16 arg6_r0) a + S1x256x4096.size a ≤ S3x256x4096.size a), (Rect.unit (s := S3x256x4096) (k0_off16 arg6_r0) S1x256x4096.size hinb).WholeWords (EltTy.packing .bf16)) ∧
  (∀ (k0_h6 : k0_cond6 k0_t1 arg12_r0 = 1#1), ∀ a, (k0_off18 arg8_r0) a + S1.size a ≤ S3.size a) ∧
  (∀ (k0_h6 : k0_cond6 k0_t1 arg12_r0 = 1#1), ∀ a, (k0_off19 arg8_r0) a + S1x256x4096.size a ≤ S3x256x4096.size a) ∧
  (∀ (k0_h6 : k0_cond6 k0_t1 arg12_r0 = 1#1), ∀ a, (k0_off20 arg12_r0) a + S256x4096.size a ≤ S8192x4096.size a) ∧
  (∀ (k0_h10 : k0_cond10 k0_t1 arg12_r0 = 1#1), ∀ a, (k0_off24 arg10_r0) a + S1.size a ≤ S2.size a) ∧
  (∀ (k0_h10 : k0_cond10 k0_t1 arg12_r0 = 1#1), ∀ a, (k0_off25 arg12_r0) a + S256x4096.size a ≤ S8192x4096.size a) ∧
  (∀ (k0_h10 : k0_cond10 k0_t1 arg12_r0 = 1#1), ∀ a, (k0_off26 arg10_r0) a + S1x256x4096.size a ≤ S2x256x4096.size a) ∧
  (∀ (k0_h13 : k0_cond13 k0_t1 arg12_r0 = 1#1), ∀ a, (k0_off27 arg11_r0) a + S1.size a ≤ S2.size a) ∧
  (∀ (k0_h13 : k0_cond13 k0_t1 arg12_r0 = 1#1), ∀ a, (k0_off28 arg12_r0) a + S256x4096.size a ≤ S8192x4096.size a) ∧
  (∀ (k0_h13 : k0_cond13 k0_t1 arg12_r0 = 1#1), ∀ a, (k0_off29 arg11_r0) a + S1x256x4096.size a ≤ S2x256x4096.size a)
theorem k0_off9_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h3 : k0_cond3 k0_t1 arg12_r0 = 1#1), ∀ a, (k0_off9 arg5_r0) a + S1.size a ≤ S3.size a := fun k0_t1 arg5_r0 arg6_r0 arg7_r0 arg8_r0 arg10_r0 arg11_r0 arg12_r0 k0_hw1 k0_h3 => k0_hw1.1 k0_h3
theorem k0_off10_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h3 : k0_cond3 k0_t1 arg12_r0 = 1#1), ∀ a, (k0_off10 arg5_r0) a + S1x256x4096.size a ≤ S3x256x4096.size a := fun k0_t1 arg5_r0 arg6_r0 arg7_r0 arg8_r0 arg10_r0 arg11_r0 arg12_r0 k0_hw1 k0_h3 => k0_hw1.2.1 k0_h3
theorem k0_off11_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h3 : k0_cond3 k0_t1 arg12_r0 = 1#1), ∀ a, (k0_off11 arg12_r0) a + S256x4096.size a ≤ S8192x4096.size a := fun k0_t1 arg5_r0 arg6_r0 arg7_r0 arg8_r0 arg10_r0 arg11_r0 arg12_r0 k0_hw1 k0_h3 => k0_hw1.2.2.1 k0_h3
theorem k0_off11_wordsbf16 : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h3 : k0_cond3 k0_t1 arg12_r0 = 1#1), (Rect.unit (s := S8192x4096) (k0_off11 arg12_r0) S256x4096.size (k0_off11_inb k0_t1 arg5_r0 arg6_r0 arg7_r0 arg8_r0 arg10_r0 arg11_r0 arg12_r0 k0_hw1 k0_h3)).WholeWords (EltTy.packing .bf16) := fun k0_t1 arg5_r0 arg6_r0 arg7_r0 arg8_r0 arg10_r0 arg11_r0 arg12_r0 k0_hw1 k0_h3 => k0_hw1.2.2.2.1 k0_h3 (k0_off11_inb k0_t1 arg5_r0 arg6_r0 arg7_r0 arg8_r0 arg10_r0 arg11_r0 arg12_r0 k0_hw1 k0_h3)
theorem k0_off10_wordsbf16 : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h3 : k0_cond3 k0_t1 arg12_r0 = 1#1), (Rect.unit (s := S3x256x4096) (k0_off10 arg5_r0) S1x256x4096.size (k0_off10_inb k0_t1 arg5_r0 arg6_r0 arg7_r0 arg8_r0 arg10_r0 arg11_r0 arg12_r0 k0_hw1 k0_h3)).WholeWords (EltTy.packing .bf16) := fun k0_t1 arg5_r0 arg6_r0 arg7_r0 arg8_r0 arg10_r0 arg11_r0 arg12_r0 k0_hw1 k0_h3 => k0_hw1.2.2.2.2.1 k0_h3 (k0_off10_inb k0_t1 arg5_r0 arg6_r0 arg7_r0 arg8_r0 arg10_r0 arg11_r0 arg12_r0 k0_hw1 k0_h3)
theorem k0_off12_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h4 : k0_cond4 k0_t1 arg12_r0 = 1#1), ∀ a, (k0_off12 arg7_r0) a + S1.size a ≤ S3.size a := fun k0_t1 arg5_r0 arg6_r0 arg7_r0 arg8_r0 arg10_r0 arg11_r0 arg12_r0 k0_hw1 k0_h4 => k0_hw1.2.2.2.2.2.1 k0_h4
theorem k0_off13_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h4 : k0_cond4 k0_t1 arg12_r0 = 1#1), ∀ a, (k0_off13 arg7_r0) a + S1x256x4096.size a ≤ S3x256x4096.size a := fun k0_t1 arg5_r0 arg6_r0 arg7_r0 arg8_r0 arg10_r0 arg11_r0 arg12_r0 k0_hw1 k0_h4 => k0_hw1.2.2.2.2.2.2.1 k0_h4
theorem k0_off14_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h4 : k0_cond4 k0_t1 arg12_r0 = 1#1), ∀ a, (k0_off14 arg12_r0) a + S256x4096.size a ≤ S8192x4096.size a := fun k0_t1 arg5_r0 arg6_r0 arg7_r0 arg8_r0 arg10_r0 arg11_r0 arg12_r0 k0_hw1 k0_h4 => k0_hw1.2.2.2.2.2.2.2.1 k0_h4
theorem k0_off15_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h5 : k0_cond5 k0_t1 arg12_r0 = 1#1), ∀ a, (k0_off15 arg6_r0) a + S1.size a ≤ S3.size a := fun k0_t1 arg5_r0 arg6_r0 arg7_r0 arg8_r0 arg10_r0 arg11_r0 arg12_r0 k0_hw1 k0_h5 => k0_hw1.2.2.2.2.2.2.2.2.1 k0_h5
theorem k0_off16_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h5 : k0_cond5 k0_t1 arg12_r0 = 1#1), ∀ a, (k0_off16 arg6_r0) a + S1x256x4096.size a ≤ S3x256x4096.size a := fun k0_t1 arg5_r0 arg6_r0 arg7_r0 arg8_r0 arg10_r0 arg11_r0 arg12_r0 k0_hw1 k0_h5 => k0_hw1.2.2.2.2.2.2.2.2.2.1 k0_h5
theorem k0_off17_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h5 : k0_cond5 k0_t1 arg12_r0 = 1#1), ∀ a, (k0_off17 arg12_r0) a + S256x4096.size a ≤ S8192x4096.size a := fun k0_t1 arg5_r0 arg6_r0 arg7_r0 arg8_r0 arg10_r0 arg11_r0 arg12_r0 k0_hw1 k0_h5 => k0_hw1.2.2.2.2.2.2.2.2.2.2.1 k0_h5
theorem k0_off17_wordsbf16 : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h5 : k0_cond5 k0_t1 arg12_r0 = 1#1), (Rect.unit (s := S8192x4096) (k0_off17 arg12_r0) S256x4096.size (k0_off17_inb k0_t1 arg5_r0 arg6_r0 arg7_r0 arg8_r0 arg10_r0 arg11_r0 arg12_r0 k0_hw1 k0_h5)).WholeWords (EltTy.packing .bf16) := fun k0_t1 arg5_r0 arg6_r0 arg7_r0 arg8_r0 arg10_r0 arg11_r0 arg12_r0 k0_hw1 k0_h5 => k0_hw1.2.2.2.2.2.2.2.2.2.2.2.1 k0_h5 (k0_off17_inb k0_t1 arg5_r0 arg6_r0 arg7_r0 arg8_r0 arg10_r0 arg11_r0 arg12_r0 k0_hw1 k0_h5)
theorem k0_off16_wordsbf16 : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h5 : k0_cond5 k0_t1 arg12_r0 = 1#1), (Rect.unit (s := S3x256x4096) (k0_off16 arg6_r0) S1x256x4096.size (k0_off16_inb k0_t1 arg5_r0 arg6_r0 arg7_r0 arg8_r0 arg10_r0 arg11_r0 arg12_r0 k0_hw1 k0_h5)).WholeWords (EltTy.packing .bf16) := fun k0_t1 arg5_r0 arg6_r0 arg7_r0 arg8_r0 arg10_r0 arg11_r0 arg12_r0 k0_hw1 k0_h5 => k0_hw1.2.2.2.2.2.2.2.2.2.2.2.2.1 k0_h5 (k0_off16_inb k0_t1 arg5_r0 arg6_r0 arg7_r0 arg8_r0 arg10_r0 arg11_r0 arg12_r0 k0_hw1 k0_h5)
theorem k0_off18_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h6 : k0_cond6 k0_t1 arg12_r0 = 1#1), ∀ a, (k0_off18 arg8_r0) a + S1.size a ≤ S3.size a := fun k0_t1 arg5_r0 arg6_r0 arg7_r0 arg8_r0 arg10_r0 arg11_r0 arg12_r0 k0_hw1 k0_h6 => k0_hw1.2.2.2.2.2.2.2.2.2.2.2.2.2.1 k0_h6
theorem k0_off19_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h6 : k0_cond6 k0_t1 arg12_r0 = 1#1), ∀ a, (k0_off19 arg8_r0) a + S1x256x4096.size a ≤ S3x256x4096.size a := fun k0_t1 arg5_r0 arg6_r0 arg7_r0 arg8_r0 arg10_r0 arg11_r0 arg12_r0 k0_hw1 k0_h6 => k0_hw1.2.2.2.2.2.2.2.2.2.2.2.2.2.2.1 k0_h6
theorem k0_off20_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h6 : k0_cond6 k0_t1 arg12_r0 = 1#1), ∀ a, (k0_off20 arg12_r0) a + S256x4096.size a ≤ S8192x4096.size a := fun k0_t1 arg5_r0 arg6_r0 arg7_r0 arg8_r0 arg10_r0 arg11_r0 arg12_r0 k0_hw1 k0_h6 => k0_hw1.2.2.2.2.2.2.2.2.2.2.2.2.2.2.2.1 k0_h6
theorem k0_off24_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h10 : k0_cond10 k0_t1 arg12_r0 = 1#1), ∀ a, (k0_off24 arg10_r0) a + S1.size a ≤ S2.size a := fun k0_t1 arg5_r0 arg6_r0 arg7_r0 arg8_r0 arg10_r0 arg11_r0 arg12_r0 k0_hw1 k0_h10 => k0_hw1.2.2.2.2.2.2.2.2.2.2.2.2.2.2.2.2.1 k0_h10
theorem k0_off25_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h10 : k0_cond10 k0_t1 arg12_r0 = 1#1), ∀ a, (k0_off25 arg12_r0) a + S256x4096.size a ≤ S8192x4096.size a := fun k0_t1 arg5_r0 arg6_r0 arg7_r0 arg8_r0 arg10_r0 arg11_r0 arg12_r0 k0_hw1 k0_h10 => k0_hw1.2.2.2.2.2.2.2.2.2.2.2.2.2.2.2.2.2.1 k0_h10
theorem k0_off26_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h10 : k0_cond10 k0_t1 arg12_r0 = 1#1), ∀ a, (k0_off26 arg10_r0) a + S1x256x4096.size a ≤ S2x256x4096.size a := fun k0_t1 arg5_r0 arg6_r0 arg7_r0 arg8_r0 arg10_r0 arg11_r0 arg12_r0 k0_hw1 k0_h10 => k0_hw1.2.2.2.2.2.2.2.2.2.2.2.2.2.2.2.2.2.2.1 k0_h10
theorem k0_off27_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h13 : k0_cond13 k0_t1 arg12_r0 = 1#1), ∀ a, (k0_off27 arg11_r0) a + S1.size a ≤ S2.size a := fun k0_t1 arg5_r0 arg6_r0 arg7_r0 arg8_r0 arg10_r0 arg11_r0 arg12_r0 k0_hw1 k0_h13 => k0_hw1.2.2.2.2.2.2.2.2.2.2.2.2.2.2.2.2.2.2.2.1 k0_h13
theorem k0_off28_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h13 : k0_cond13 k0_t1 arg12_r0 = 1#1), ∀ a, (k0_off28 arg12_r0) a + S256x4096.size a ≤ S8192x4096.size a := fun k0_t1 arg5_r0 arg6_r0 arg7_r0 arg8_r0 arg10_r0 arg11_r0 arg12_r0 k0_hw1 k0_h13 => k0_hw1.2.2.2.2.2.2.2.2.2.2.2.2.2.2.2.2.2.2.2.2.1 k0_h13
theorem k0_off29_inb : ∀ (k0_t1 : Fin k0_t1_loop.trips) (arg5_r0 : BitVec 32) (arg6_r0 : BitVec 32) (arg7_r0 : BitVec 32) (arg8_r0 : BitVec 32) (arg10_r0 : BitVec 32) (arg11_r0 : BitVec 32) (arg12_r0 : BitVec 32) (k0_hw1 : k0_chk1 k0_t1 arg5_r0 arg6_r0 arg7_r0 arg8_r0 arg10_r0 arg11_r0 arg12_r0), ∀ (k0_h13 : k0_cond13 k0_t1 arg12_r0 = 1#1), ∀ a, (k0_off29 arg11_r0) a + S1x256x4096.size a ≤ S2x256x4096.size a := fun k0_t1 arg5_r0 arg6_r0 arg7_r0 arg8_r0 arg10_r0 arg11_r0 arg12_r0 k0_hw1 k0_h13 => k0_hw1.2.2.2.2.2.2.2.2.2.2.2.2.2.2.2.2.2.2.2.2.2 k0_h13

def k0_off30 (v50_6_r0 : BitVec 32) : Fin 1 → Nat :=
  let c2_i32_r0 : BitVec 32 := 2#32
  let v76_r0 : BitVec 32 := Scalar.remui v50_6_r0 c2_i32_r0
  ![v76_r0.toNat]

def k0_off31 (v50_7_r0 : BitVec 32) : Fin 2 → Nat :=
  let c256_i32_r0 : BitVec 32 := 256#32
  let true_56_r0 : BitVec 1 := 1#1
  let c1_i32_55_r0 : BitVec 32 := 1#32
  let v51_r0 : BitVec 32 := Scalar.subi v50_7_r0 c1_i32_55_r0
  let v52_r0 : BitVec 32 := Scalar.select true_56_r0 v51_r0 v50_7_r0
  let c_m1_i32_57_r0 : BitVec 32 := 4294967295#32
  let v53_r0 : BitVec 1 := Scalar.cmpi .eq v52_r0 c_m1_i32_57_r0
  let c31_i32_58_r0 : BitVec 32 := 31#32
  let v54_r0 : BitVec 32 := Scalar.select v53_r0 c31_i32_58_r0 v52_r0
  let c0_i32_59_r0 : BitVec 32 := 0#32
  let v55_r0 : BitVec 32 := Scalar.addi v54_r0 c0_i32_59_r0
  let v77_r0 : BitVec 32 := Scalar.muli c256_i32_r0 v55_r0
  let c0_i32_80_r0 : BitVec 32 := 0#32
  ![v77_r0.toNat, 0]

def k0_chk6 (v50_7_r0 : BitVec 32) : Prop :=
  (∀ a, (k0_off31 v50_7_r0) a + S256x4096.size a ≤ S8192x4096.size a)
theorem k0_off31_inb : ∀ (v50_7_r0 : BitVec 32) (k0_hw6 : k0_chk6 v50_7_r0), ∀ a, (k0_off31 v50_7_r0) a + S256x4096.size a ≤ S8192x4096.size a := fun v50_7_r0 k0_hw6 => k0_hw6

def k0_off32 (v50_6_r0 : BitVec 32) : Fin 3 → Nat :=
  let c2_i32_r0 : BitVec 32 := 2#32
  let v76_r0 : BitVec 32 := Scalar.remui v50_6_r0 c2_i32_r0
  let c0_i32_81_r0 : BitVec 32 := 0#32
  let c0_i32_82_r0 : BitVec 32 := 0#32
  ![v76_r0.toNat, 0, 0]

def k0_chk5 (v50_6_r0 : BitVec 32) : Prop :=
  (∀ a, (k0_off30 v50_6_r0) a + S1.size a ≤ S2.size a) ∧
  (∀ a, (k0_off32 v50_6_r0) a + S1x256x4096.size a ≤ S2x256x4096.size a)
theorem k0_off30_inb : ∀ (v50_6_r0 : BitVec 32) (k0_hw5 : k0_chk5 v50_6_r0), ∀ a, (k0_off30 v50_6_r0) a + S1.size a ≤ S2.size a := fun v50_6_r0 k0_hw5 => k0_hw5.1
theorem k0_off32_inb : ∀ (v50_6_r0 : BitVec 32) (k0_hw5 : k0_chk5 v50_6_r0), ∀ a, (k0_off32 v50_6_r0) a + S1x256x4096.size a ≤ S2x256x4096.size a := fun v50_6_r0 k0_hw5 => k0_hw5.2
-- ==== Reference8Ideal.lean ====
abbrev S8192x4096 : Shape := ⟨2, ![8192, 4096]⟩
abbrev S1x8192x4096 : Shape := ⟨3, ![1, 8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x8192x4096, .f32⟩
  | .hbm, ⟨2, _⟩ => ⟨S1x4096, .f32⟩
  | .hbm, ⟨3, _⟩ => ⟨S8192x4096, .f32⟩
  | .hbm, ⟨4, _⟩ => ⟨S8192x4096, .f32⟩
  | .hbm, ⟨5, _⟩ => ⟨S4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel9.lean ====
abbrev S1x8192x4096 : Shape := ⟨3, ![1, 8192, 4096]⟩
abbrev S1x4096 : Shape := ⟨2, ![1, 4096]⟩
abbrev S8192x4096 : Shape := ⟨2, ![8192, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S1x8192x4096, .f32⟩
  | .hbm, ⟨1, _⟩ => ⟨S1x4096, .f32⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S1x8192x4096 : Shape := ⟨3, ![1, 8192, 4096]⟩
abbrev S1x4096 : Shape := ⟨2, ![1, 4096]⟩
abbrev S4096 : Shape := ⟨1, ![4096]⟩
abbrev S_ : Shape := ⟨0, ![]⟩
abbrev S1x8192 : Shape := ⟨2, ![1, 8192]⟩
abbrev S1x8192x1 : Shape := ⟨3, ![1, 8192, 1]⟩
abbrev S1x1x4096 : Shape := ⟨3, ![1, 1, 4096]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S1x4096, .f32⟩
  | .hbm, ⟨2, _⟩ => ⟨S4096, .f32⟩
  | .hbm, ⟨3, _⟩ => ⟨S1x8192x4096, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x4096, .f32⟩
  | .hbm, ⟨15, _⟩ => ⟨S1x8192x4096, .f32⟩
  | .hbm, ⟨16, _⟩ => ⟨S1x1x4096, .f32⟩
  | .hbm, ⟨17, _⟩ => ⟨S1x8192x4096, .f32⟩
  | .hbm, ⟨18, _⟩ => ⟨S1x8192x4096, .f32⟩
  | .hbm, ⟨19, _⟩ => ⟨S8192x4096, .f32⟩
  | .hbm, ⟨20, _⟩ => ⟨S8192x4096, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel10.lean ====
abbrev S8192x3584 : Shape := ⟨2, ![8192, 3584]⟩
abbrev S8192x4096 : Shape := ⟨2, ![8192, 4096]⟩
abbrev S1x4096x3648 : Shape := ⟨3, ![1, 4096, 3648]⟩
abbrev S1x512 : Shape := ⟨2, ![1, 512]⟩
abbrev S1x512x16x256 : Shape := ⟨4, ![1, 512, 16, 256]⟩
abbrev S1x8192 : Shape := ⟨2, ![1, 8192]⟩
abbrev S32 : Shape := ⟨1, ![32]⟩
abbrev S_ : Shape := ⟨0, ![]⟩
abbrev S1x128 : Shape := ⟨2, ![1, 128]⟩
abbrev S1 : Shape := ⟨1, ![1]⟩
abbrev S2 : Shape := ⟨1, ![2]⟩
abbrev S8192x1 : Shape := ⟨2, ![8192, 1]⟩
abbrev S4096x3648 : Shape := ⟨2, ![4096, 3648]⟩
abbrev S3648x4096 : Shape := ⟨2, ![3648, 4096]⟩
abbrev S512x16x256 : Shape := ⟨3, ![512, 16, 256]⟩
abbrev S512x16x128 : Shape := ⟨3, ![512, 16, 128]⟩
abbrev S512x2048 : Shape := ⟨2, ![512, 2048]⟩
abbrev S16x128x512 : Shape := ⟨3, ![16, 128, 512]⟩
abbrev S2048x512 : Shape := ⟨2, ![2048, 512]⟩
abbrev S512 : Shape := ⟨1, ![512]⟩
abbrev S8192x2048 : Shape := ⟨2, ![8192, 2048]⟩
abbrev S16x16x128x512 : Shape := ⟨4, ![16, 16, 128, 512]⟩
abbrev S8192x128 : Shape := ⟨2, ![8192, 128]⟩
abbrev S512x512 : Shape := ⟨2, ![512, 512]⟩
abbrev S512x4096 : Shape := ⟨2, ![512, 4096]⟩
abbrev S64x4096 : Shape := ⟨2, ![64, 4096]⟩
abbrev S512x1 : Shape := ⟨2, ![512, 1]⟩
abbrev S16x1x128x512 : Shape := ⟨4, ![16, 1, 128, 512]⟩
abbrev S512x128 : Shape := ⟨2, ![512, 128]⟩
abbrev S128x4096 : Shape := ⟨2, ![128, 4096]⟩

abbrev nBuf : Space → Nat
  | .hbm => 50
  | .vmem => 17
  | .smem => 0
  | _ => 0

abbrev bufTy : (tb : Table) → Fin (tcTables nBuf tb) → BufTy
  | .hbm, ⟨0, _⟩ => ⟨S8192x3584, .f32⟩
  | .hbm, ⟨1, _⟩ => ⟨S8192x4096, .bf16⟩
  | .hbm, ⟨2, _⟩ => ⟨S1x4096x3648, .f32⟩
  | .hbm, ⟨3, _⟩ => ⟨S1x512, .f32⟩
  | .hbm, ⟨4, _⟩ => ⟨S1x512x16x256, .f32⟩
  | .hbm, ⟨5, _⟩ => ⟨S1x8192, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S1x8192, .f32⟩
  | .hbm, ⟨35, _⟩ => ⟨S8192x1, .f32⟩
  | .hbm, ⟨36, _⟩ => ⟨S4096x3648, .f32⟩
  | .hbm, ⟨37, _⟩ => ⟨S3648x4096, .f32⟩
  | .hbm, ⟨38, _⟩ => ⟨S512x16x256, .f32⟩
  | .hbm, ⟨39, _⟩ => ⟨S512x16x256, .bf16⟩
  | .hbm, ⟨40, _⟩ => ⟨S512x16x128, .bf16⟩
  | .hbm, ⟨41, _⟩ => ⟨S512x2048, .bf16⟩
  | .hbm, ⟨42, _⟩ => ⟨S512x16x128, .bf16⟩
  | .hbm, ⟨43, _⟩ => ⟨S16x128x512, .bf16⟩
  | .hbm, ⟨44, _⟩ => ⟨S2048x512, .bf16⟩
  | .hbm, ⟨45, _⟩ => ⟨S512, .f32⟩
  | .hbm, ⟨46, _⟩ => ⟨S1x512, .f32⟩
  | .hbm, ⟨47, _⟩ => ⟨S8192x2048, .bf16⟩
  | .hbm, ⟨48, _⟩ => ⟨S16x16x128x512, .bf16⟩
  | .hbm, ⟨49, _⟩ => ⟨S8192x128, .bf16⟩
  | .local _ .vmem, ⟨0, _⟩ => ⟨S512x512, .f32⟩
  | .local _ .vmem, ⟨1, _⟩ => ⟨S512x512, .f32⟩
  | .local _ .vmem, ⟨2, _⟩ => ⟨S512x4096, .bf16⟩
  | .local _ .vmem, ⟨3, _⟩ => ⟨S512x4096, .bf16⟩
  | .local _ .vmem, ⟨4, _⟩ => ⟨S64x4096, .f32⟩
  | .local _ .vmem, ⟨5, _⟩ => ⟨S1x512, .f32⟩
  | .local _ .vmem, ⟨6, _⟩ => ⟨S512x2048, .bf16⟩
  | .local _ .vmem, ⟨7, _⟩ => ⟨S2048x512, .bf16⟩
  | .local _ .vmem, ⟨8, _⟩ => ⟨S512x1, .f32⟩
  | .local _ .vmem, ⟨9, _⟩ => ⟨S512x1, .f32⟩
  | .local _ .vmem, ⟨10, _⟩ => ⟨S1x128, .f32⟩
  | .local _ .vmem, ⟨11, _⟩ => ⟨S512x2048, .bf16⟩
  | .local _ .vmem, ⟨12, _⟩ => ⟨S512x2048, .bf16⟩
  | .local _ .vmem, ⟨13, _⟩ => ⟨S16x1x128x512, .bf16⟩
  | .local _ .vmem, ⟨14, _⟩ => ⟨S16x1x128x512, .bf16⟩
  | .local _ .vmem, ⟨15, _⟩ => ⟨S512x128, .bf16⟩
  | .local _ .vmem, ⟨16, _⟩ => ⟨S512x128, .bf16⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v32_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c56_i32 : BitVec 32 := 56#32
  let c0_i32 : BitVec 32 := 0#32
  let c0_i32_0 : BitVec 32 := 0#32
  ![c56_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S8192x3584 : Shape := ⟨2, ![8192, 3584]⟩
abbrev S8192x4096 : Shape := ⟨2, ![8192, 4096]⟩
abbrev S1x4096x3648 : Shape := ⟨3, ![1, 4096, 3648]⟩
abbrev S1x512 : Shape := ⟨2, ![1, 512]⟩
abbrev S1x512x16x256 : Shape := ⟨4, ![1, 512, 16, 256]⟩
abbrev S1x8192 : Shape := ⟨2, ![1, 8192]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x512 : Shape := ⟨2, ![8192, 512]⟩
abbrev S512 : Shape := ⟨1, ![512]⟩
abbrev S512x16x256 : Shape := ⟨3, ![512, 16, 256]⟩
abbrev S8192x16x256 : Shape := ⟨3, ![8192, 16, 256]⟩
abbrev S8192x16x128 : Shape := ⟨3, ![8192, 16, 128]⟩
abbrev S4096x3648 : Shape := ⟨2, ![4096, 3648]⟩
abbrev S4096x64 : Shape := ⟨2, ![4096, 64]⟩
abbrev S8192x64 : Shape := ⟨2, ![8192, 64]⟩
abbrev S16x512x16x128 : Shape := ⟨4, ![16, 512, 16, 128]⟩
abbrev S16x16x128x512 : Shape := ⟨4, ![16, 16, 128, 512]⟩
abbrev S8192x128 : Shape := ⟨2, ![8192, 128]⟩
abbrev S8192x2048 : Shape := ⟨2, ![8192, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S8192x4096, .bf16⟩
  | .hbm, ⟨2, _⟩ => ⟨S1x4096x3648, .f32⟩
  | .hbm, ⟨3, _⟩ => ⟨S1x512, .f32⟩
  | .hbm, ⟨4, _⟩ => ⟨S1x512x16x256, .f32⟩
  | .hbm, ⟨5, _⟩ => ⟨S1x8192, .i32⟩
  | .hbm, ⟨6, _⟩ => ⟨S8192, .i32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S8192, .f32⟩
  | .hbm, ⟨22, _⟩ => ⟨S8192x1, .f32⟩
  | .hbm, ⟨23, _⟩ => ⟨S1x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x512, .f32⟩
  | .hbm, ⟨30, _⟩ => ⟨S512, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S512x16x256, .f32⟩
  | .hbm, ⟨48, _⟩ => ⟨S8192x16x256, .f32⟩
  | .hbm, ⟨49, _⟩ => ⟨S8192x16x128, .f32⟩
  | .hbm, ⟨50, _⟩ => ⟨S8192x16x128, .f32⟩
  | .hbm, ⟨51, _⟩ => ⟨S8192x4096, .f32⟩
  | .hbm, ⟨52, _⟩ => ⟨S4096x3648, .f32⟩
  | .hbm, ⟨53, _⟩ => ⟨S4096x64, .f32⟩
  | .hbm, ⟨54, _⟩ => ⟨S8192x64, .f32⟩
  | .hbm, ⟨55, _⟩ => ⟨S8192x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192x32, .f32⟩
  | .hbm, ⟨60, _⟩ => ⟨S8192x32, .f32⟩
  | .hbm, ⟨61, _⟩ => ⟨S8192x32, .f32⟩
  | .hbm, ⟨62, _⟩ => ⟨S8192x32, .f32⟩
  | .hbm, ⟨63, _⟩ => ⟨S8192x64, .f32⟩
  | .hbm, ⟨64, _⟩ => ⟨S16x512x16x128, .f32⟩
  | .hbm, ⟨65, _⟩ => ⟨S16x16x128x512, .f32⟩
  | .hbm, ⟨66, _⟩ => ⟨S_, .f32⟩
  | .hbm, ⟨67, _⟩ => ⟨S8192x64, .f32⟩
  | .hbm, ⟨68, _⟩ => ⟨S8192x128, .f32⟩
  | .hbm, ⟨69, _⟩ => ⟨S8192x2048, .f32⟩
  | .hbm, ⟨70, _⟩ => ⟨S8192x2048, .bf16⟩
  | .hbm, ⟨71, _⟩ => ⟨S16x16x128x512, .bf16⟩
  | .hbm, ⟨72, _⟩ => ⟨S8192x128, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Kernel11.lean ====
abbrev S8192x3584 : Shape := ⟨2, ![8192, 3584]⟩
abbrev S1x1024 : Shape := ⟨2, ![1, 1024]⟩
abbrev S3072x1024 : Shape := ⟨2, ![3072, 1024]⟩
abbrev S1x8192 : Shape := ⟨2, ![1, 8192]⟩
abbrev S32 : Shape := ⟨1, ![32]⟩
abbrev S_ : Shape := ⟨0, ![]⟩
abbrev S1024 : Shape := ⟨1, ![1024]⟩
abbrev S32x1 : Shape := ⟨2, ![32, 1]⟩
abbrev S16x16x256x512 : Shape := ⟨4, ![16, 16, 256, 512]⟩
abbrev S512x1024 : Shape := ⟨2, ![512, 1024]⟩
abbrev S1536x1024 : Shape := ⟨2, ![1536, 1024]⟩
abbrev S1x512 : Shape := ⟨2, ![1, 512]⟩
abbrev S8x1x256x512 : Shape := ⟨4, ![8, 1, 256, 512]⟩
abbrev S32x512 : Shape := ⟨2, ![32, 512]⟩
abbrev S512 : Shape := ⟨1, ![512]⟩
abbrev S512x1 : Shape := ⟨2, ![512, 1]⟩
abbrev S1536x512 : Shape := ⟨2, ![1536, 512]⟩
abbrev S192x512 : Shape := ⟨2, ![192, 512]⟩
abbrev S128x512 : Shape := ⟨2, ![128, 512]⟩
abbrev S1x1x128x512 : Shape := ⟨4, ![1, 1, 128, 512]⟩
abbrev S1x1x32x512 : Shape := ⟨4, ![1, 1, 32, 512]⟩
abbrev S64x512 : Shape := ⟨2, ![64, 512]⟩
abbrev S1x1x64x512 : Shape := ⟨4, ![1, 1, 64, 512]⟩

abbrev nBuf : Space → Nat
  | .hbm => 23
  | .vmem => 13
  | .smem => 0
  | _ => 0

abbrev bufTy : (tb : Table) → Fin (tcTables nBuf tb) → BufTy
  | .hbm, ⟨0, _⟩ => ⟨S8192x3584, .f32⟩
  | .hbm, ⟨1, _⟩ => ⟨S1x1024, .f32⟩
  | .hbm, ⟨2, _⟩ => ⟨S3072x1024, .bf16⟩
  | .hbm, ⟨3, _⟩ => ⟨S1x8192, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1024, .f32⟩
  | .hbm, ⟨19, _⟩ => ⟨S1x1024, .f32⟩
  | .hbm, ⟨20, _⟩ => ⟨S1x8192, .f32⟩
  | .hbm, ⟨21, _⟩ => ⟨S32x1, .f32⟩
  | .hbm, ⟨22, _⟩ => ⟨S16x16x256x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S1536x1024, .bf16⟩
  | .local _ .vmem, ⟨5, _⟩ => ⟨S1x512, .f32⟩
  | .local _ .vmem, ⟨6, _⟩ => ⟨S1x512, .f32⟩
  | .local _ .vmem, ⟨7, _⟩ => ⟨S32x1, .f32⟩
  | .local _ .vmem, ⟨8, _⟩ => ⟨S8x1x256x512, .bf16⟩
  | .local _ .vmem, ⟨9, _⟩ => ⟨S8x1x256x512, .bf16⟩
  | .local _ .vmem, ⟨10, _⟩ => ⟨S512x1024, .bf16⟩
  | .local _ .vmem, ⟨11, _⟩ => ⟨S32x512, .f32⟩
  | .local _ .vmem, ⟨12, _⟩ => ⟨S32x512, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S8192x3584 : Shape := ⟨2, ![8192, 3584]⟩
abbrev S1x1024 : Shape := ⟨2, ![1, 1024]⟩
abbrev S3072x1024 : Shape := ⟨2, ![3072, 1024]⟩
abbrev S1x8192 : Shape := ⟨2, ![1, 8192]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1024 : Shape := ⟨2, ![8192, 1024]⟩
abbrev S1024 : Shape := ⟨1, ![1024]⟩
abbrev S8192x3072 : Shape := ⟨2, ![8192, 3072]⟩
abbrev S8192x16x192 : Shape := ⟨3, ![8192, 16, 192]⟩
abbrev S8192x16x64 : Shape := ⟨3, ![8192, 16, 64]⟩
abbrev S8192x1x32 : Shape := ⟨3, ![8192, 1, 32]⟩
abbrev S8192x16x32 : Shape := ⟨3, ![8192, 16, 32]⟩
abbrev S8192x16x128 : Shape := ⟨3, ![8192, 16, 128]⟩
abbrev S8192x16x256 : Shape := ⟨3, ![8192, 16, 256]⟩
abbrev S16x512x16x256 : Shape := ⟨4, ![16, 512, 16, 256]⟩
abbrev S16x16x256x512 : Shape := ⟨4, ![16, 16, 256, 512]⟩

abbrev nBuf : Space → Nat
  | .hbm => 74
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S1x1024, .f32⟩
  | .hbm, ⟨2, _⟩ => ⟨S3072x1024, .bf16⟩
  | .hbm, ⟨3, _⟩ => ⟨S1x8192, .i32⟩
  | .hbm, ⟨4, _⟩ => ⟨S8192, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192, .f32⟩
  | .hbm, ⟨20, _⟩ => ⟨S8192x1, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x1024, .f32⟩
  | .hbm, ⟨28, _⟩ => ⟨S1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S3072x1024, .f32⟩
  | .hbm, ⟨46, _⟩ => ⟨S8192x3072, .f32⟩
  | .hbm, ⟨47, _⟩ => ⟨S8192x16x192, .f32⟩
  | .hbm, ⟨48, _⟩ => ⟨S8192x16x64, .f32⟩
  | .hbm, ⟨49, _⟩ => ⟨S8192x1x32, .f32⟩
  | .hbm, ⟨50, _⟩ => ⟨S8192x1x32, .f32⟩
  | .hbm, ⟨51, _⟩ => ⟨S8192x16x32, .f32⟩
  | .hbm, ⟨52, _⟩ => ⟨S8192x16x32, .f32⟩
  | .hbm, ⟨53, _⟩ => ⟨S8192x16x32, .f32⟩
  | .hbm, ⟨54, _⟩ => ⟨S8192x16x32, .f32⟩
  | .hbm, ⟨55, _⟩ => ⟨S8192x16x32, .f32⟩
  | .hbm, ⟨56, _⟩ => ⟨S8192x16x32, .f32⟩
  | .hbm, ⟨57, _⟩ => ⟨S8192x16x32, .f32⟩
  | .hbm, ⟨58, _⟩ => ⟨S8192x16x32, .f32⟩
  | .hbm, ⟨59, _⟩ => ⟨S8192x16x32, .f32⟩
  | .hbm, ⟨60, _⟩ => ⟨S8192x16x32, .f32⟩
  | .hbm, ⟨61, _⟩ => ⟨S8192x16x32, .f32⟩
  | .hbm, ⟨62, _⟩ => ⟨S8192x16x32, .f32⟩
  | .hbm, ⟨63, _⟩ => ⟨S8192x16x64, .f32⟩
  | .hbm, ⟨64, _⟩ => ⟨S8192x16x128, .f32⟩
  | .hbm, ⟨65, _⟩ => ⟨S_, .f32⟩
  | .hbm, ⟨66, _⟩ => ⟨S8192x16x64, .f32⟩
  | .hbm, ⟨67, _⟩ => ⟨S8192x16x256, .f32⟩
  | .hbm, ⟨68, _⟩ => ⟨S_, .f32⟩
  | .hbm, ⟨69, _⟩ => ⟨S8192x16x256, .f32⟩
  | .hbm, ⟨70, _⟩ => ⟨S8192x16x256, .f32⟩
  | .hbm, ⟨71, _⟩ => ⟨S16x512x16x256, .f32⟩
  | .hbm, ⟨72, _⟩ => ⟨S16x16x256x512, .f32⟩
  | .hbm, ⟨73, _⟩ => ⟨S16x16x256x512, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== Kernel12.lean ====
abbrev S8192x3584 : Shape := ⟨2, ![8192, 3584]⟩
abbrev S1x4x512x512 : Shape := ⟨4, ![1, 4, 512, 512]⟩
abbrev S1x2048 : Shape := ⟨2, ![1, 2048]⟩
abbrev S4x512x512 : Shape := ⟨3, ![4, 512, 512]⟩
abbrev S2048 : Shape := ⟨1, ![2048]⟩
abbrev S8192x2048 : Shape := ⟨2, ![8192, 2048]⟩
abbrev S16x2048 : Shape := ⟨2, ![16, 2048]⟩
abbrev S512x2048 : Shape := ⟨2, ![512, 2048]⟩
abbrev S536x2048 : Shape := ⟨2, ![536, 2048]⟩
abbrev S8x2048 : Shape := ⟨2, ![8, 2048]⟩
abbrev S512x1 : Shape := ⟨2, ![512, 1]⟩
abbrev S512x512 : Shape := ⟨2, ![512, 512]⟩
abbrev S1x512x512 : Shape := ⟨3, ![1, 512, 512]⟩
abbrev S1x512 : Shape := ⟨2, ![1, 512]⟩
abbrev S528x1536 : Shape := ⟨2, ![528, 1536]⟩
abbrev S528x1024 : Shape := ⟨2, ![528, 1024]⟩
abbrev S528x512 : Shape := ⟨2, ![528, 512]⟩

abbrev nBuf : Space → Nat
  | .hbm => 8
  | .vmem => 11
  | .smem => 0
  | _ => 0

abbrev bufTy : (tb : Table) → Fin (tcTables nBuf tb) → BufTy
  | .hbm, ⟨0, _⟩ => ⟨S8192x3584, .f32⟩
  | .hbm, ⟨1, _⟩ => ⟨S1x4x512x512, .f32⟩
  | .hbm, ⟨2, _⟩ => ⟨S1x2048, .f32⟩
  | .hbm, ⟨3, _⟩ => ⟨S4x512x512, .f32⟩
  | .hbm, ⟨4, _⟩ => ⟨S4x512x512, .bf16⟩
  | .hbm, ⟨5, _⟩ => ⟨S2048, .f32⟩
  | .hbm, ⟨6, _⟩ => ⟨S1x2048, .f32⟩
  | .hbm, ⟨7, _⟩ => ⟨S8192x2048, .bf16⟩
  | .local _ .vmem, ⟨0, _⟩ => ⟨S16x2048, .f32⟩
  | .local _ .vmem, ⟨1, _⟩ => ⟨S16x2048, .f32⟩
  | .local _ .vmem, ⟨2, _⟩ => ⟨S512x2048, .f32⟩
  | .local _ .vmem, ⟨3, _⟩ => ⟨S512x2048, .f32⟩
  | .local _ .vmem, ⟨4, _⟩ => ⟨S4x512x512, .bf16⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S536x2048, .f32⟩
  | .local _ .vmem, ⟨9, _⟩ => ⟨S536x2048, .f32⟩
  | .local _ .vmem, ⟨10, _⟩ => ⟨S536x2048, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S8192x3584 : Shape := ⟨2, ![8192, 3584]⟩
abbrev S1x4x512x512 : Shape := ⟨4, ![1, 4, 512, 512]⟩
abbrev S1x2048 : Shape := ⟨2, ![1, 2048]⟩
abbrev S8192x2048 : Shape := ⟨2, ![8192, 2048]⟩
abbrev S8192x4x512 : Shape := ⟨3, ![8192, 4, 512]⟩
abbrev S_ : Shape := ⟨0, ![]⟩
abbrev S8193x4x512 : Shape := ⟨3, ![8193, 4, 512]⟩
abbrev S8192 : Shape := ⟨1, ![8192]⟩
abbrev S8192x1 : Shape := ⟨2, ![8192, 1]⟩
abbrev S8192x1x512 : Shape := ⟨3, ![8192, 1, 512]⟩
abbrev S8192x512 : Shape := ⟨2, ![8192, 512]⟩
abbrev S8192x2 : Shape := ⟨2, ![8192, 2]⟩
abbrev S4x512x512 : Shape := ⟨3, ![4, 512, 512]⟩
abbrev S4x512x8192 : Shape := ⟨3, ![4, 512, 8192]⟩
abbrev S2048 : Shape := ⟨1, ![2048]⟩

abbrev nBuf : Space → Nat
  | .hbm => 174
  | .vmem => 0
  | .smem => 0
  | _ => 0

abbrev hbmTy0_0 (i : Nat) : BufTy := match i % 128 with
  | 0 => ⟨S8192x3584, .f32⟩
  | 1 => ⟨S1x4x512x512, .f32⟩
  | 2 => ⟨S1x2048, .f32⟩
  | 3 => ⟨S8192x2048, .f32⟩
  | 4 => ⟨S8192x4x512, .f32⟩
  | 5 => ⟨S_, .f32⟩
  | 6 => ⟨S_, .f32⟩
  | 7 => ⟨S8192x4x512, .f32⟩
  | 8 => ⟨S_, .i32⟩
  | 9 => ⟨S_, .f32⟩
  | 10 => ⟨S8193x4x512, .f32⟩
  | 11 => ⟨S8192, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S8192, .i32⟩
  | 25 => ⟨S8192, .f32⟩
  | 26 => ⟨S8192x1, .f32⟩
  | 27 => ⟨S8192x1x512, .f32⟩
  | 28 => ⟨S8192x512, .f32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S_, .i32⟩
  | 37 => ⟨S8192, .i32⟩
  | 38 => ⟨S8192, .i32⟩
  | 39 => ⟨S8192x1, .i32⟩
  | 40 => ⟨S8192x1, .i32⟩
  | 41 => ⟨S8192x2, .i32⟩
  | 42 => ⟨S8192x512, .f32⟩
  | 43 => ⟨S8192x512, .f32⟩
  | 44 => ⟨S8192x512, .f32⟩
  | 45 => ⟨S8192x512, .f32⟩
  | 46 => ⟨S8192x1x512, .f32⟩
  | 47 => ⟨S8192x512, .f32⟩
  | 48 => ⟨S8192x512, .f32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .i32⟩
  | 62 => ⟨S8192, .f32⟩
  | 63 => ⟨S8192x1, .f32⟩
  | 64 => ⟨S8192x1x512, .f32⟩
  | 65 => ⟨S8192x512, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S_, .i32⟩
  | 74 => ⟨S8192, .i32⟩
  | 75 => ⟨S8192, .i32⟩
  | 76 => ⟨S8192x1, .i32⟩
  | 77 => ⟨S8192x1, .i32⟩
  | 78 => ⟨S8192x2, .i32⟩
  | 79 => ⟨S8192x512, .f32⟩
  | 80 => ⟨S8192x512, .f32⟩
  | 81 => ⟨S8192x512, .f32⟩
  | 82 => ⟨S8192x512, .f32⟩
  | 83 => ⟨S8192x1x512, .f32⟩
  | 84 => ⟨S8192x512, .f32⟩
  | 85 => ⟨S8192x512, .f32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S8192, .i32⟩
  | 99 => ⟨S8192, .f32⟩
  | 100 => ⟨S8192x1, .f32⟩
  | 101 => ⟨S8192x1x512, .f32⟩
  | 102 => ⟨S8192x512, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S_, .i32⟩
  | 111 => ⟨S8192, .i32⟩
  | 112 => ⟨S8192, .i32⟩
  | 113 => ⟨S8192x1, .i32⟩
  | 114 => ⟨S8192x1, .i32⟩
  | 115 => ⟨S8192x2, .i32⟩
  | 116 => ⟨S8192x512, .f32⟩
  | 117 => ⟨S8192x512, .f32⟩
  | 118 => ⟨S8192x512, .f32⟩
  | 119 => ⟨S8192x512, .f32⟩
  | 120 => ⟨S8192x1x512, .f32⟩
  | 121 => ⟨S8192x512, .f32⟩
  | 122 => ⟨S8192x512, .f32⟩
  | 123 => ⟨S_, .i32⟩
  | 124 => ⟨S8192, .i32⟩
  | 125 => ⟨S8192, .i32⟩
  | 126 => ⟨S_, .i32⟩
  | 127 => ⟨S8192, .i32⟩
  | _ => ⟨S8192x3584, .f32⟩

abbrev hbmTy0_1 (i : Nat) : BufTy := match i % 128 with
  | 0 => ⟨S8192, .i32⟩
  | 1 => ⟨S_, .i32⟩
  | 2 => ⟨S8192, .i32⟩
  | 3 => ⟨S8192, .i32⟩
  | 4 => ⟨S_, .i32⟩
  | 5 => ⟨S8192, .i32⟩
  | 6 => ⟨S8192, .i32⟩
  | 7 => ⟨S8192, .i32⟩
  | 8 => ⟨S8192, .f32⟩
  | 9 => ⟨S8192x1, .f32⟩
  | 10 => ⟨S8192x1x512, .f32⟩
  | 11 => ⟨S8192x512, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S_, .i32⟩
  | 20 => ⟨S8192, .i32⟩
  | 21 => ⟨S8192, .i32⟩
  | 22 => ⟨S8192x1, .i32⟩
  | 23 => ⟨S8192x1, .i32⟩
  | 24 => ⟨S8192x2, .i32⟩
  | 25 => ⟨S8192x512, .f32⟩
  | 26 => ⟨S8192x512, .f32⟩
  | 27 => ⟨S8192x512, .f32⟩
  | 28 => ⟨S8192x512, .f32⟩
  | 29 => ⟨S8192x1x512, .f32⟩
  | 30 => ⟨S8192x512, .f32⟩
  | 31 => ⟨S8192x512, .f32⟩
  | 32 => ⟨S8192x1x512, .f32⟩
  | 33 => ⟨S8192x1x512, .f32⟩
  | 34 => ⟨S8192x1x512, .f32⟩
  | 35 => ⟨S8192x1x512, .f32⟩
  | 36 => ⟨S8192x4x512, .f32⟩
  | 37 => ⟨S4x512x512, .f32⟩
  | 38 => ⟨S4x512x8192, .f32⟩
  | 39 => ⟨S8192x4x512, .f32⟩
  | 40 => ⟨S8192x2048, .f32⟩
  | 41 => ⟨S2048, .f32⟩
  | 42 => ⟨S1x2048, .f32⟩
  | 43 => ⟨S8192x2048, .f32⟩
  | 44 => ⟨S8192x2048, .f32⟩
  | 45 => ⟨S8192x2048, .bf16⟩
  | _ => ⟨S8192x3584, .f32⟩

abbrev hbmTy (i : Nat) : BufTy := match i / 128 with
  | 0 => hbmTy0_0 i
  | 1 => hbmTy0_1 i
  | _ => ⟨S8192x3584, .f32⟩

abbrev bufTy : (tb : Table) → Fin (tcTables nBuf tb) → BufTy
  | .hbm, ⟨i, _⟩ => hbmTy i
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_c : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_11 : Ref sig .tc := ⟨.hbm, 66, rfl⟩
abbrev main_v48 : Ref sig .tc := ⟨.hbm, 67, rfl⟩
abbrev main_v49 : Ref sig .tc := ⟨.hbm, 68, rfl⟩
abbrev main_c_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_14 : Ref sig .tc := ⟨.hbm, 86, rfl⟩
abbrev main_v65 : Ref sig .tc := ⟨.hbm, 87, rfl⟩
abbrev main_v66 : Ref sig .tc := ⟨.hbm, 88, rfl⟩
abbrev main_c_15 : Ref sig .tc := ⟨.hbm, 89, rfl⟩
abbrev main_v67 : Ref sig .tc := ⟨.hbm, 90, rfl⟩
abbrev main_v68 : Ref sig .tc := ⟨.hbm, 91, rfl⟩
abbrev main_c_16 : Ref sig .tc := ⟨.hbm, 92, rfl⟩
abbrev main_v69 : Ref sig .tc := ⟨.hbm, 93, rfl⟩
abbrev main_v70 : Ref sig .tc := ⟨.hbm, 94, rfl⟩
abbrev main_c_17 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_18 : Ref sig .tc := ⟨.hbm, 103, rfl⟩
abbrev main_v78 : Ref sig .tc := ⟨.hbm, 104, rfl⟩
abbrev main_v79 : Ref sig .tc := ⟨.hbm, 105, rfl⟩
abbrev main_c_19 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_20 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_c_21 : Ref sig .tc := ⟨.hbm, 123, rfl⟩
abbrev main_v95 : Ref sig .tc := ⟨.hbm, 124, rfl⟩
abbrev main_v96 : Ref sig .tc := ⟨.hbm, 125, rfl⟩
abbrev main_c_22 : Ref sig .tc := ⟨.hbm, 126, rfl⟩
abbrev main_v97 : Ref sig .tc := ⟨.hbm, 127, rfl⟩
abbrev main_v98 : Ref sig .tc := ⟨.hbm, 128, rfl⟩
abbrev main_c_23 : Ref sig .tc := ⟨.hbm, 129, rfl⟩
abbrev main_v99 : Ref sig .tc := ⟨.hbm, 130, rfl⟩
abbrev main_v100 : Ref sig .tc := ⟨.hbm, 131, rfl⟩
abbrev main_c_24 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_c_25 : Ref sig .tc := ⟨.hbm, 140, rfl⟩
abbrev main_v108 : Ref sig .tc := ⟨.hbm, 141, rfl⟩
abbrev main_v109 : Ref sig .tc := ⟨.hbm, 142, rfl⟩
abbrev main_c_26 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_c_27 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩

abbrev nD : Nat := 1
abbrev τ : Topo := Topo.v7x

variable {F : FTy → Type} [FloatOps F]
-- ==== Proof.Names.lean ====
/- The names the proof of `residual_norm`'s pipeline speaks in: the row blocks of the four arrays left in HBM, the
   slots of the four VMEM rings, the slots' DMA semaphores, and the words trip `k` of the loop carries; with the
   equations that say the kernel's computed slices are these. -/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.Sem

/-! ## The memrefs of the body -/

abbrev mixM : Memref sig .tc .hbm S8192x4096 .bf16 := Memref.whole main_arg0
abbrev xM : Memref sig .tc .hbm S8192x4096 .f32 := Memref.whole main_v0
abbrev g1M : Memref sig .tc .hbm S1x4096 .f32 := Memref.whole main_v2
abbrev g2M : Memref sig .tc .hbm S1x4096 .f32 := Memref.whole main_v4
abbrev yM : Memref sig .tc .hbm S8192x4096 .f32 := Memref.whole main_v5_0
abbrev hM : Memref sig .tc .hbm S8192x4096 .bf16 := Memref.whole main_v5_1
abbrev mixR : Memref sig .tc .vmem S3x256x4096 .bf16 := Memref.whole cc0_scoped0
abbrev xR : Memref sig .tc .vmem S3x256x4096 .f32 := Memref.whole cc0_scoped2
abbrev g1V : Memref sig .tc .vmem S1x4096 .f32 := Memref.whole cc0_scoped4
abbrev g2V : Memref sig .tc .vmem S1x4096 .f32 := Memref.whole cc0_scoped5
abbrev yR : Memref sig .tc .vmem S2x256x4096 .f32 := Memref.whole cc0_scoped6
abbrev hR : Memref sig .tc .vmem S2x256x4096 .bf16 := Memref.whole cc0_scoped8

/-! ## Row block `b` of an array, slot `s` of a ring, slot `s`'s semaphore -/

abbrev rowOff (b : Fin 32) : Fin 2 → Nat := ![256 * b.val, 0]
theorem rowOff_inb (b : Fin 32) : ∀ a, rowOff b a + S256x4096.size a ≤ S8192x4096.size a := by
  have := b.isLt; intro a; fin_cases a
  · show 256 * b.val + 256 ≤ 8192; omega
  · show 0 + 4096 ≤ 4096; omega
abbrev slotOff {n : Nat} (s : Fin n) : Fin 3 → Nat := ![s.val, 0, 0]
theorem slot3_inb (s : Fin 3) : ∀ a, slotOff s a + S1x256x4096.size a ≤ S3x256x4096.size a := by
  have := s.isLt; intro a; fin_cases a
  · show s.val + 1 ≤ 3; omega
  · show 0 + 256 ≤ 256; omega
  · show 0 + 4096 ≤ 4096; omega
theorem slot2_inb (s : Fin 2) : ∀ a, slotOff s a + S1x256x4096.size a ≤ S2x256x4096.size a := by
  have := s.isLt; intro a; fin_cases a
  · show s.val + 1 ≤ 2; omega
  · show 0 + 256 ≤ 256; omega
  · show 0 + 4096 ≤ 4096; omega
abbrev semOff {n : Nat} (s : Fin n) : Fin 1 → Nat := ![s.val]
theorem sem3_inb (s : Fin 3) : ∀ a, semOff s a + S1.size a ≤ S3.size a := by
  have := s.isLt; intro a; fin_cases a; show s.val + 1 ≤ 3; omega
theorem sem2_inb (s : Fin 2) : ∀ a, semOff s a + S1.size a ≤ S2.size a := by
  have := s.isLt; intro a; fin_cases a; show s.val + 1 ≤ 2; omega

instance (b : Fin 32) : ClosedOff (rowOff b) := ⟨rowOff b, rfl⟩
instance {n : Nat} (s : Fin n) : ClosedOff (slotOff s) := ⟨slotOff s, rfl⟩

/-- Row block `b` of each array in HBM. -/
def mixB (b : Fin 32) : Memref sig .tc .hbm S256x4096 .bf16 :=
  mixM.slice (Rect.unit (s := S8192x4096) (rowOff b) S256x4096.size (rowOff_inb b)) (fun _ => rfl)
def xB (b : Fin 32) : Memref sig .tc .hbm S256x4096 .f32 :=
  xM.slice (Rect.unit (s := S8192x4096) (rowOff b) S256x4096.size (rowOff_inb b)) (fun _ => rfl)
def yB (b : Fin 32) : Memref sig .tc .hbm S256x4096 .f32 :=
  yM.slice (Rect.unit (s := S8192x4096) (rowOff b) S256x4096.size (rowOff_inb b)) (fun _ => rfl)
def hB (b : Fin 32) : Memref sig .tc .hbm S256x4096 .bf16 :=
  hM.slice (Rect.unit (s := S8192x4096) (rowOff b) S256x4096.size (rowOff_inb b)) (fun _ => rfl)

/-- Slot `s` of each ring. -/
def mixS (s : Fin 3) : Memref sig .tc .vmem S256x4096 .bf16 :=
  (mixR.slice (Rect.unit (s := S3x256x4096) (slotOff s) S1x256x4096.size (slot3_inb s)) (fun _ => rfl)).squeeze S256x4096 squeezes_S1x256x4096_S256x4096
def xS (s : Fin 3) : Memref sig .tc .vmem S256x4096 .f32 :=
  (xR.slice (Rect.unit (s := S3x256x4096) (slotOff s) S1x256x4096.size (slot3_inb s)) (fun _ => rfl)).squeeze S256x4096 squeezes_S1x256x4096_S256x4096
def yS (s : Fin 2) : Memref sig .tc .vmem S256x4096 .f32 :=
  (yR.slice (Rect.unit (s := S2x256x4096) (slotOff s) S1x256x4096.size (slot2_inb s)) (fun _ => rfl)).squeeze S256x4096 squeezes_S1x256x4096_S256x4096
def hS (s : Fin 2) : Memref sig .tc .vmem S256x4096 .bf16 :=
  (hR.slice (Rect.unit (s := S2x256x4096) (slotOff s) S1x256x4096.size (slot2_inb s)) (fun _ => rfl)).squeeze S256x4096 squeezes_S1x256x4096_S256x4096

/-- Slot `s`'s DMA semaphore of each ring. -/
def mixC (s : Fin 3) : DmaSems sig S_ := (cc0_scoped1.slice (Rect.unit (s := S3) (semOff s) S1.size (sem3_inb s))).squeeze S_ squeezes_S1_S_
def xC (s : Fin 3) : DmaSems sig S_ := (cc0_scoped3.slice (Rect.unit (s := S3) (semOff s) S1.size (sem3_inb s))).squeeze S_ squeezes_S1_S_
def yC (s : Fin 2) : DmaSems sig S_ := (cc0_scoped7.slice (Rect.unit (s := S2) (semOff s) S1.size (sem2_inb s))).squeeze S_ squeezes_S1_S_
def hC (s : Fin 2) : DmaSems sig S_ := (cc0_scoped9.slice (Rect.unit (s := S2) (semOff s) S1.size (sem2_inb s))).squeeze S_ squeezes_S1_S_

/-! ## The words before trip `k` -/

/-- The blocks issued so far into an input ring; -/
def wIss (k : ℕ) : BitVec 32 := BitVec.ofNat 32 (min (k + 2) 32)
/-- the trips so far: the blocks waited of an input ring, the blocks issued of an output ring; -/
def wCnt (k : ℕ) : BitVec 32 := BitVec.ofNat 32 k
/-- the blocks waited of an output ring; -/
def wPrev (k : ℕ) : BitVec 32 := BitVec.ofNat 32 (k - 1)
/-- the grid's coordinate, back at zero after the last trip; -/
def wGrid (k : ℕ) : BitVec 32 := BitVec.ofNat 32 (k % 32)
/-- the fetches of a constant operand. -/
def wOnce (k : ℕ) : BitVec 32 := BitVec.ofNat 32 (k / 32)

abbrev Acc : Type := BitVec 32 × BitVec 32 × BitVec 32 × BitVec 32 × BitVec 32 × BitVec 32 × BitVec 32 × BitVec 32 × BitVec 32 × BitVec 32 × BitVec 32
abbrev accAt (k : ℕ) : Acc :=
  (wIss k, wCnt k, wIss k, wCnt k, wOnce k, wOnce k, wCnt k, wPrev k, wCnt k, wPrev k, wGrid k)

abbrev Trip : Type := Fin k0_t1_loop.trips
theorem trips_eq : k0_t1_loop.trips = 32 := by decide +kernel
theorem trip_lt (k : Trip) : k.val < 32 := Nat.lt_of_lt_of_eq k.isLt trips_eq

/-! ### The body's side conditions hold of them -/

theorem chk1_at : ∀ k : Trip, k0_chk1 k (wIss k.val) (wCnt k.val) (wIss k.val) (wCnt k.val) (wCnt k.val) (wPrev k.val) (wCnt k.val) (wPrev k.val) (wGrid k.val) := by
  decide +kernel
theorem chk2_at : ∀ k : Trip, k0_chk2 (wCnt k.val) := by decide +kernel
theorem chk3_at : ∀ k : Trip, k0_chk3 (wCnt k.val) := by decide +kernel
theorem chk4_at : ∀ k : Trip, k0_chk4 (wCnt k.val) := by decide +kernel
theorem chk5_at : ∀ k : Trip, k0_chk5 (wCnt k.val) := by decide +kernel

/-! ### The branches taken -/

theorem cond3_lt : ∀ k : Trip, k.val < 30 → k0_cond3 k (wGrid k.val) = 1#1 := by decide +kernel
theorem cond3_ge : ∀ k : Trip, ¬ k.val < 30 → ¬ k0_cond3 k (wGrid k.val) = 1#1 := by decide +kernel
theorem cond4_lt : ∀ k : Trip, k.val < 30 → k0_cond4 k (wGrid k.val) = 1#1 := by decide +kernel
theorem cond4_ge : ∀ k : Trip, ¬ k.val < 30 → ¬ k0_cond4 k (wGrid k.val) = 1#1 := by decide +kernel
theorem cond5_at : ∀ k : Trip, k0_cond5 k (wGrid k.val) = 1#1 := by decide +kernel
theorem cond6_at : ∀ k : Trip, k0_cond6 k (wGrid k.val) = 1#1 := by decide +kernel
theorem cond11_at : ∀ k : Trip, k0_cond11 k (wGrid k.val) = 1#1 := by decide +kernel
theorem cond12_at : ∀ k : Trip, k0_cond12 k (wGrid k.val) = 1#1 := by decide +kernel
theorem cond15_pos : ∀ k : Trip, 1 ≤ k.val → k0_cond15 k (wGrid k.val) = 1#1 := by decide +kernel
theorem cond15_zero : ∀ k : Trip, k.val = 0 → ¬ k0_cond15 k (wGrid k.val) = 1#1 := by decide +kernel
theorem cond16_pos : ∀ k : Trip, 1 ≤ k.val → k0_cond16 k (wGrid k.val) = 1#1 := by decide +kernel
theorem cond16_zero : ∀ k : Trip, k.val = 0 → ¬ k0_cond16 k (wGrid k.val) = 1#1 := by decide +kernel

end Cert.Proof.Norm

end
-- ==== Proof.Slices.lean ====
/- The kernel's computed slices under their canonical names: each window's offset in closed form at trip `k`, at the
   prologue's literals and after the loop, and the equations the executor rewrites with. -/
module

public import proofs.«01_k».proof.Proof.Names

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.Sem

/-! ## Slices at equal offsets are equal -/

theorem mixC_congr {off : Fin 1 → Nat} {s : Fin 3} (e : off = semOff s) (hh) :
    (cc0_scoped1.slice (Rect.unit (s := S3) off S1.size hh)).squeeze S_ squeezes_S1_S_ = mixC s :=
  congrArg (fun A : DmaSems sig S1 => A.squeeze S_ squeezes_S1_S_) (SemArray.slice_unit_congr _ e _ _)
theorem mixS_congr {off : Fin 3 → Nat} {s : Fin 3} (e : off = slotOff s) (hh hs) :
    (mixR.slice (Rect.unit (s := S3x256x4096) off S1x256x4096.size hh) hs).squeeze S256x4096 squeezes_S1x256x4096_S256x4096 = mixS s :=
  congrArg (fun M : Memref sig .tc .vmem S1x256x4096 .bf16 => M.squeeze S256x4096 squeezes_S1x256x4096_S256x4096) (Memref.slice_unit_congr _ e _ _ _ _)
theorem mixB_congr {off : Fin 2 → Nat} {b : Fin 32} (e : off = rowOff b) (hh hs) :
    mixM.slice (Rect.unit (s := S8192x4096) off S256x4096.size hh) hs = mixB b :=
  Memref.slice_unit_congr _ e _ _ _ (fun _ => rfl)
theorem xC_congr {off : Fin 1 → Nat} {s : Fin 3} (e : off = semOff s) (hh) :
    (cc0_scoped3.slice (Rect.unit (s := S3) off S1.size hh)).squeeze S_ squeezes_S1_S_ = xC s :=
  congrArg (fun A : DmaSems sig S1 => A.squeeze S_ squeezes_S1_S_) (SemArray.slice_unit_congr _ e _ _)
theorem xS_congr {off : Fin 3 → Nat} {s : Fin 3} (e : off = slotOff s) (hh hs) :
    (xR.slice (Rect.unit (s := S3x256x4096) off S1x256x4096.size hh) hs).squeeze S256x4096 squeezes_S1x256x4096_S256x4096 = xS s :=
  congrArg (fun M : Memref sig .tc .vmem S1x256x4096 .f32 => M.squeeze S256x4096 squeezes_S1x256x4096_S256x4096) (Memref.slice_unit_congr _ e _ _ _ _)
theorem xB_congr {off : Fin 2 → Nat} {b : Fin 32} (e : off = rowOff b) (hh hs) :
    xM.slice (Rect.unit (s := S8192x4096) off S256x4096.size hh) hs = xB b :=
  Memref.slice_unit_congr _ e _ _ _ (fun _ => rfl)
theorem yC_congr {off : Fin 1 → Nat} {s : Fin 2} (e : off = semOff s) (hh) :
    (cc0_scoped7.slice (Rect.unit (s := S2) off S1.size hh)).squeeze S_ squeezes_S1_S_ = yC s :=
  congrArg (fun A : DmaSems sig S1 => A.squeeze S_ squeezes_S1_S_) (SemArray.slice_unit_congr _ e _ _)
theorem yS_congr {off : Fin 3 → Nat} {s : Fin 2} (e : off = slotOff s) (hh hs) :
    (yR.slice (Rect.unit (s := S2x256x4096) off S1x256x4096.size hh) hs).squeeze S256x4096 squeezes_S1x256x4096_S256x4096 = yS s :=
  congrArg (fun M : Memref sig .tc .vmem S1x256x4096 .f32 => M.squeeze S256x4096 squeezes_S1x256x4096_S256x4096) (Memref.slice_unit_congr _ e _ _ _ _)
theorem yB_congr {off : Fin 2 → Nat} {b : Fin 32} (e : off = rowOff b) (hh hs) :
    yM.slice (Rect.unit (s := S8192x4096) off S256x4096.size hh) hs = yB b :=
  Memref.slice_unit_congr _ e _ _ _ (fun _ => rfl)
theorem hC_congr {off : Fin 1 → Nat} {s : Fin 2} (e : off = semOff s) (hh) :
    (cc0_scoped9.slice (Rect.unit (s := S2) off S1.size hh)).squeeze S_ squeezes_S1_S_ = hC s :=
  congrArg (fun A : DmaSems sig S1 => A.squeeze S_ squeezes_S1_S_) (SemArray.slice_unit_congr _ e _ _)
theorem hS_congr {off : Fin 3 → Nat} {s : Fin 2} (e : off = slotOff s) (hh hs) :
    (hR.slice (Rect.unit (s := S2x256x4096) off S1x256x4096.size hh) hs).squeeze S256x4096 squeezes_S1x256x4096_S256x4096 = hS s :=
  congrArg (fun M : Memref sig .tc .vmem S1x256x4096 .bf16 => M.squeeze S256x4096 squeezes_S1x256x4096_S256x4096) (Memref.slice_unit_congr _ e _ _ _ _)
theorem hB_congr {off : Fin 2 → Nat} {b : Fin 32} (e : off = rowOff b) (hh hs) :
    hM.slice (Rect.unit (s := S8192x4096) off S256x4096.size hh) hs = hB b :=
  Memref.slice_unit_congr _ e _ _ _ (fun _ => rfl)

/-! ## The offsets in closed form -/

theorem off9_at : ∀ k : Trip, k.val < 30 → k0_off9 (wIss k.val) = semOff (Ring.sl 3 (k.val + 2)) := by decide +kernel
theorem off12_at : ∀ k : Trip, k.val < 30 → k0_off12 (wIss k.val) = semOff (Ring.sl 3 (k.val + 2)) := by decide +kernel
theorem off10_at : ∀ k : Trip, k.val < 30 → k0_off10 (wIss k.val) = slotOff (Ring.sl 3 (k.val + 2)) := by decide +kernel
theorem off13_at : ∀ k : Trip, k.val < 30 → k0_off13 (wIss k.val) = slotOff (Ring.sl 3 (k.val + 2)) := by decide +kernel
theorem off11_at : ∀ k : Trip, k.val < 30 → k0_off11 (wGrid k.val) = rowOff (Ring.bk 32 (k.val + 2)) := by decide +kernel
theorem off14_at : ∀ k : Trip, k.val < 30 → k0_off14 (wGrid k.val) = rowOff (Ring.bk 32 (k.val + 2)) := by decide +kernel
theorem off15_at : ∀ k : Trip, k0_off15 (wCnt k.val) = semOff (Ring.sl 3 k.val) := by decide +kernel
theorem off18_at : ∀ k : Trip, k0_off18 (wCnt k.val) = semOff (Ring.sl 3 k.val) := by decide +kernel
theorem off16_at : ∀ k : Trip, k0_off16 (wCnt k.val) = slotOff (Ring.sl 3 k.val) := by decide +kernel
theorem off19_at : ∀ k : Trip, k0_off19 (wCnt k.val) = slotOff (Ring.sl 3 k.val) := by decide +kernel
theorem off21_at : ∀ k : Trip, k0_off21 (wCnt k.val) = slotOff (Ring.sl 3 k.val) := by decide +kernel
theorem off22_at : ∀ k : Trip, k0_off22 (wCnt k.val) = slotOff (Ring.sl 3 k.val) := by decide +kernel
theorem off17_at : ∀ k : Trip, k0_off17 (wGrid k.val) = rowOff (Ring.bk 32 k.val) := by decide +kernel
theorem off20_at : ∀ k : Trip, k0_off20 (wGrid k.val) = rowOff (Ring.bk 32 k.val) := by decide +kernel
theorem off23_at : ∀ k : Trip, k0_off23 (wCnt k.val) = slotOff (Ring.sl 2 k.val) := by decide +kernel
theorem off24_at : ∀ k : Trip, k0_off24 (wCnt k.val) = slotOff (Ring.sl 2 k.val) := by decide +kernel
theorem off27_at : ∀ k : Trip, k0_off27 (wCnt k.val) = slotOff (Ring.sl 2 k.val) := by decide +kernel
theorem off30_at : ∀ k : Trip, k0_off30 (wCnt k.val) = slotOff (Ring.sl 2 k.val) := by decide +kernel
theorem off25_at : ∀ k : Trip, k0_off25 (wCnt k.val) = semOff (Ring.sl 2 k.val) := by decide +kernel
theorem off28_at : ∀ k : Trip, k0_off28 (wCnt k.val) = semOff (Ring.sl 2 k.val) := by decide +kernel
theorem off26_at : ∀ k : Trip, k0_off26 (wGrid k.val) = rowOff (Ring.bk 32 k.val) := by decide +kernel
theorem off29_at : ∀ k : Trip, k0_off29 (wGrid k.val) = rowOff (Ring.bk 32 k.val) := by decide +kernel
theorem off31_at : ∀ k : Trip, 1 ≤ k.val → k0_off31 (wPrev k.val) = semOff (Ring.sl 2 (k.val + 1)) := by decide +kernel
theorem off34_at : ∀ k : Trip, 1 ≤ k.val → k0_off34 (wPrev k.val) = semOff (Ring.sl 2 (k.val + 1)) := by decide +kernel
theorem off33_at : ∀ k : Trip, 1 ≤ k.val → k0_off33 (wPrev k.val) = slotOff (Ring.sl 2 (k.val + 1)) := by decide +kernel
theorem off36_at : ∀ k : Trip, 1 ≤ k.val → k0_off36 (wPrev k.val) = slotOff (Ring.sl 2 (k.val + 1)) := by decide +kernel
theorem off32_at : ∀ k : Trip, 1 ≤ k.val → k0_off32 (wGrid k.val) = rowOff (Ring.bk 32 (k.val - 1)) := by decide +kernel
theorem off35_at : ∀ k : Trip, 1 ≤ k.val → k0_off35 (wGrid k.val) = rowOff (Ring.bk 32 (k.val - 1)) := by decide +kernel
theorem off37_end : k0_off37 (wPrev k0_t1_loop.trips) = semOff (Ring.sl 2 (k0_t1_loop.trips + 1)) := by decide +kernel
theorem off40_end : k0_off40 (wPrev k0_t1_loop.trips) = semOff (Ring.sl 2 (k0_t1_loop.trips + 1)) := by decide +kernel
theorem off39_end : k0_off39 (wPrev k0_t1_loop.trips) = slotOff (Ring.sl 2 (k0_t1_loop.trips + 1)) := by decide +kernel
theorem off42_end : k0_off42 (wPrev k0_t1_loop.trips) = slotOff (Ring.sl 2 (k0_t1_loop.trips + 1)) := by decide +kernel
theorem off38_end : k0_off38 (wGrid k0_t1_loop.trips) = rowOff (Ring.bk 32 (k0_t1_loop.trips - 1)) := by decide +kernel
theorem off41_end : k0_off41 (wGrid k0_t1_loop.trips) = rowOff (Ring.bk 32 (k0_t1_loop.trips - 1)) := by decide +kernel

instance (k : Trip) : ClosedOff (k0_off21 (wCnt k.val)) := ⟨slotOff (Ring.sl 3 k.val), off21_at k⟩
instance (k : Trip) : ClosedOff (k0_off22 (wCnt k.val)) := ⟨slotOff (Ring.sl 3 k.val), off22_at k⟩
instance (k : Trip) : ClosedOff (k0_off23 (wCnt k.val)) := ⟨slotOff (Ring.sl 2 k.val), off23_at k⟩
instance (k : Trip) : ClosedOff (k0_off24 (wCnt k.val)) := ⟨slotOff (Ring.sl 2 k.val), off24_at k⟩

/-! ## The slices of a trip -/

@[sl_canon] theorem c9 (k : Trip) (hk : k.val < 30) (hh) :
    (cc0_scoped1.slice (Rect.unit (s := S3) (k0_off9 (wIss k.val)) S1.size hh)).squeeze S_ squeezes_S1_S_ = mixC (Ring.sl 3 (k.val + 2)) := mixC_congr (off9_at k hk) _
@[sl_canon] theorem c10 (k : Trip) (hk : k.val < 30) (hh hs) :
    (mixR.slice (Rect.unit (s := S3x256x4096) (k0_off10 (wIss k.val)) S1x256x4096.size hh) hs).squeeze S256x4096 squeezes_S1x256x4096_S256x4096 = mixS (Ring.sl 3 (k.val + 2)) := mixS_congr (off10_at k hk) _ _
@[sl_canon] theorem c11 (k : Trip) (hk : k.val < 30) (hh hs) :
    mixM.slice (Rect.unit (s := S8192x4096) (k0_off11 (wGrid k.val)) S256x4096.size hh) hs = mixB (Ring.bk 32 (k.val + 2)) := mixB_congr (off11_at k hk) _ _
@[sl_canon] theorem c12 (k : Trip) (hk : k.val < 30) (hh) :
    (cc0_scoped3.slice (Rect.unit (s := S3) (k0_off12 (wIss k.val)) S1.size hh)).squeeze S_ squeezes_S1_S_ = xC (Ring.sl 3 (k.val + 2)) := xC_congr (off12_at k hk) _
@[sl_canon] theorem c13 (k : Trip) (hk : k.val < 30) (hh hs) :
    (xR.slice (Rect.unit (s := S3x256x4096) (k0_off13 (wIss k.val)) S1x256x4096.size hh) hs).squeeze S256x4096 squeezes_S1x256x4096_S256x4096 = xS (Ring.sl 3 (k.val + 2)) := xS_congr (off13_at k hk) _ _
@[sl_canon] theorem c14 (k : Trip) (hk : k.val < 30) (hh hs) :
    xM.slice (Rect.unit (s := S8192x4096) (k0_off14 (wGrid k.val)) S256x4096.size hh) hs = xB (Ring.bk 32 (k.val + 2)) := xB_congr (off14_at k hk) _ _
@[sl_canon] theorem c15 (k : Trip) (hh) :
    (cc0_scoped1.slice (Rect.unit (s := S3) (k0_off15 (wCnt k.val)) S1.size hh)).squeeze S_ squeezes_S1_S_ = mixC (Ring.sl 3 k.val) := mixC_congr (off15_at k) _
@[sl_canon] theorem c16 (k : Trip) (hh hs) :
    (mixR.slice (Rect.unit (s := S3x256x4096) (k0_off16 (wCnt k.val)) S1x256x4096.size hh) hs).squeeze S256x4096 squeezes_S1x256x4096_S256x4096 = mixS (Ring.sl 3 k.val) := mixS_congr (off16_at k) _ _
@[sl_canon] theorem c17 (k : Trip) (hh hs) :
    mixM.slice (Rect.unit (s := S8192x4096) (k0_off17 (wGrid k.val)) S256x4096.size hh) hs = mixB (Ring.bk 32 k.val) := mixB_congr (off17_at k) _ _
@[sl_canon] theorem c18 (k : Trip) (hh) :
    (cc0_scoped3.slice (Rect.unit (s := S3) (k0_off18 (wCnt k.val)) S1.size hh)).squeeze S_ squeezes_S1_S_ = xC (Ring.sl 3 k.val) := xC_congr (off18_at k) _
@[sl_canon] theorem c19 (k : Trip) (hh hs) :
    (xR.slice (Rect.unit (s := S3x256x4096) (k0_off19 (wCnt k.val)) S1x256x4096.size hh) hs).squeeze S256x4096 squeezes_S1x256x4096_S256x4096 = xS (Ring.sl 3 k.val) := xS_congr (off19_at k) _ _
@[sl_canon] theorem c20 (k : Trip) (hh hs) :
    xM.slice (Rect.unit (s := S8192x4096) (k0_off20 (wGrid k.val)) S256x4096.size hh) hs = xB (Ring.bk 32 k.val) := xB_congr (off20_at k) _ _
@[sl_canon] theorem c25 (k : Trip) (hh) :
    (cc0_scoped7.slice (Rect.unit (s := S2) (k0_off25 (wCnt k.val)) S1.size hh)).squeeze S_ squeezes_S1_S_ = yC (Ring.sl 2 k.val) := yC_congr (off25_at k) _
@[sl_canon] theorem c27 (k : Trip) (hh hs) :
    (yR.slice (Rect.unit (s := S2x256x4096) (k0_off27 (wCnt k.val)) S1x256x4096.size hh) hs).squeeze S256x4096 squeezes_S1x256x4096_S256x4096 = yS (Ring.sl 2 k.val) := yS_congr (off27_at k) _ _
@[sl_canon] theorem c26 (k : Trip) (hh hs) :
    yM.slice (Rect.unit (s := S8192x4096) (k0_off26 (wGrid k.val)) S256x4096.size hh) hs = yB (Ring.bk 32 k.val) := yB_congr (off26_at k) _ _
@[sl_canon] theorem c28 (k : Trip) (hh) :
    (cc0_scoped9.slice (Rect.unit (s := S2) (k0_off28 (wCnt k.val)) S1.size hh)).squeeze S_ squeezes_S1_S_ = hC (Ring.sl 2 k.val) := hC_congr (off28_at k) _
@[sl_canon] theorem c30 (k : Trip) (hh hs) :
    (hR.slice (Rect.unit (s := S2x256x4096) (k0_off30 (wCnt k.val)) S1x256x4096.size hh) hs).squeeze S256x4096 squeezes_S1x256x4096_S256x4096 = hS (Ring.sl 2 k.val) := hS_congr (off30_at k) _ _
@[sl_canon] theorem c29 (k : Trip) (hh hs) :
    hM.slice (Rect.unit (s := S8192x4096) (k0_off29 (wGrid k.val)) S256x4096.size hh) hs = hB (Ring.bk 32 k.val) := hB_congr (off29_at k) _ _
@[sl_canon] theorem c31 (k : Trip) (hk : 1 ≤ k.val) (hh) :
    (cc0_scoped7.slice (Rect.unit (s := S2) (k0_off31 (wPrev k.val)) S1.size hh)).squeeze S_ squeezes_S1_S_ = yC (Ring.sl 2 (k.val + 1)) := yC_congr (off31_at k hk) _
@[sl_canon] theorem c33 (k : Trip) (hk : 1 ≤ k.val) (hh hs) :
    (yR.slice (Rect.unit (s := S2x256x4096) (k0_off33 (wPrev k.val)) S1x256x4096.size hh) hs).squeeze S256x4096 squeezes_S1x256x4096_S256x4096 = yS (Ring.sl 2 (k.val + 1)) := yS_congr (off33_at k hk) _ _
@[sl_canon] theorem c32 (k : Trip) (hk : 1 ≤ k.val) (hh hs) :
    yM.slice (Rect.unit (s := S8192x4096) (k0_off32 (wGrid k.val)) S256x4096.size hh) hs = yB (Ring.bk 32 (k.val - 1)) := yB_congr (off32_at k hk) _ _
@[sl_canon] theorem c34 (k : Trip) (hk : 1 ≤ k.val) (hh) :
    (cc0_scoped9.slice (Rect.unit (s := S2) (k0_off34 (wPrev k.val)) S1.size hh)).squeeze S_ squeezes_S1_S_ = hC (Ring.sl 2 (k.val + 1)) := hC_congr (off34_at k hk) _
@[sl_canon] theorem c36 (k : Trip) (hk : 1 ≤ k.val) (hh hs) :
    (hR.slice (Rect.unit (s := S2x256x4096) (k0_off36 (wPrev k.val)) S1x256x4096.size hh) hs).squeeze S256x4096 squeezes_S1x256x4096_S256x4096 = hS (Ring.sl 2 (k.val + 1)) := hS_congr (off36_at k hk) _ _
@[sl_canon] theorem c35 (k : Trip) (hk : 1 ≤ k.val) (hh hs) :
    hM.slice (Rect.unit (s := S8192x4096) (k0_off35 (wGrid k.val)) S256x4096.size hh) hs = hB (Ring.bk 32 (k.val - 1)) := hB_congr (off35_at k hk) _ _

/-! ## The slices before and after the loop -/

@[sl_canon] theorem mixC_lit0 (hh) :
    (cc0_scoped1.slice (Rect.unit (s := S3) ![0] S1.size hh)).squeeze S_ squeezes_S1_S_ = mixC 0 := mixC_congr (by decide) _
@[sl_canon] theorem mixS_lit0 (hh hs) :
    (mixR.slice (Rect.unit (s := S3x256x4096) ![0, 0, 0] S1x256x4096.size hh) hs).squeeze S256x4096 squeezes_S1x256x4096_S256x4096 = mixS 0 := mixS_congr (by decide) _ _
@[sl_canon] theorem mixB_lit0 (hh hs) :
    mixM.slice (Rect.unit (s := S8192x4096) ![0, 0] S256x4096.size hh) hs = mixB 0 := mixB_congr (by decide) _ _
@[sl_canon] theorem mixC_lit1 (hh) :
    (cc0_scoped1.slice (Rect.unit (s := S3) ![1] S1.size hh)).squeeze S_ squeezes_S1_S_ = mixC 1 := mixC_congr (by decide) _
@[sl_canon] theorem mixS_lit1 (hh hs) :
    (mixR.slice (Rect.unit (s := S3x256x4096) ![1, 0, 0] S1x256x4096.size hh) hs).squeeze S256x4096 squeezes_S1x256x4096_S256x4096 = mixS 1 := mixS_congr (by decide) _ _
@[sl_canon] theorem mixB_lit1 (hh hs) :
    mixM.slice (Rect.unit (s := S8192x4096) ![256, 0] S256x4096.size hh) hs = mixB 1 := mixB_congr (by decide) _ _
@[sl_canon] theorem xC_lit0 (hh) :
    (cc0_scoped3.slice (Rect.unit (s := S3) ![0] S1.size hh)).squeeze S_ squeezes_S1_S_ = xC 0 := xC_congr (by decide) _
@[sl_canon] theorem xS_lit0 (hh hs) :
    (xR.slice (Rect.unit (s := S3x256x4096) ![0, 0, 0] S1x256x4096.size hh) hs).squeeze S256x4096 squeezes_S1x256x4096_S256x4096 = xS 0 := xS_congr (by decide) _ _
@[sl_canon] theorem xB_lit0 (hh hs) :
    xM.slice (Rect.unit (s := S8192x4096) ![0, 0] S256x4096.size hh) hs = xB 0 := xB_congr (by decide) _ _
@[sl_canon] theorem xC_lit1 (hh) :
    (cc0_scoped3.slice (Rect.unit (s := S3) ![1] S1.size hh)).squeeze S_ squeezes_S1_S_ = xC 1 := xC_congr (by decide) _
@[sl_canon] theorem xS_lit1 (hh hs) :
    (xR.slice (Rect.unit (s := S3x256x4096) ![1, 0, 0] S1x256x4096.size hh) hs).squeeze S256x4096 squeezes_S1x256x4096_S256x4096 = xS 1 := xS_congr (by decide) _ _
@[sl_canon] theorem xB_lit1 (hh hs) :
    xM.slice (Rect.unit (s := S8192x4096) ![256, 0] S256x4096.size hh) hs = xB 1 := xB_congr (by decide) _ _
@[sl_canon] theorem c37 (hh) :
    (cc0_scoped7.slice (Rect.unit (s := S2) (k0_off37 (wPrev k0_t1_loop.trips)) S1.size hh)).squeeze S_ squeezes_S1_S_ = yC (Ring.sl 2 (k0_t1_loop.trips + 1)) := yC_congr off37_end _
@[sl_canon] theorem c39 (hh hs) :
    (yR.slice (Rect.unit (s := S2x256x4096) (k0_off39 (wPrev k0_t1_loop.trips)) S1x256x4096.size hh) hs).squeeze S256x4096 squeezes_S1x256x4096_S256x4096 = yS (Ring.sl 2 (k0_t1_loop.trips + 1)) := yS_congr off39_end _ _
@[sl_canon] theorem c38 (hh hs) :
    yM.slice (Rect.unit (s := S8192x4096) (k0_off38 (wGrid k0_t1_loop.trips)) S256x4096.size hh) hs = yB (Ring.bk 32 (k0_t1_loop.trips - 1)) := yB_congr off38_end _ _
@[sl_canon] theorem c40 (hh) :
    (cc0_scoped9.slice (Rect.unit (s := S2) (k0_off40 (wPrev k0_t1_loop.trips)) S1.size hh)).squeeze S_ squeezes_S1_S_ = hC (Ring.sl 2 (k0_t1_loop.trips + 1)) := hC_congr off40_end _
@[sl_canon] theorem c42 (hh hs) :
    (hR.slice (Rect.unit (s := S2x256x4096) (k0_off42 (wPrev k0_t1_loop.trips)) S1x256x4096.size hh) hs).squeeze S256x4096 squeezes_S1x256x4096_S256x4096 = hS (Ring.sl 2 (k0_t1_loop.trips + 1)) := hS_congr off42_end _ _
@[sl_canon] theorem c41 (hh hs) :
    hM.slice (Rect.unit (s := S8192x4096) (k0_off41 (wGrid k0_t1_loop.trips)) S256x4096.size hh) hs = hB (Ring.bk 32 (k0_t1_loop.trips - 1)) := hB_congr off41_end _ _

end Cert.Proof.Norm

end
-- ==== Proof.Pieces.lean ====
/- What the pipeline of `residual_norm` holds between trips: the blocks of its arrays, the slots of its rings and their
   copies in flight, and the contents the two results end at. Over any float values `F`. -/
module

public import proofs.«01_k».proof.Proof.Slices

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.SL.Sem

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem of_eq {P Q : sProp 𝕄} (e : P = Q) : P ⊢ Q := e ▸ .rfl

/-! ## The values -/

section Values
variable (c : Dev nD) (XM : Buf (Elt F) (mixM.view.loc (c : Thread nD τ))) (XX : Buf (Elt F) (xM.view.loc (c : Thread nD τ)))
  (G1 : Buf (Elt F) (g1V.view.loc (c : Thread nD τ))) (G2 : Buf (Elt F) (g2V.view.loc (c : Thread nD τ)))

/-- Block `b` of the mixed activations, of the residual stream; -/
def mixW (b : Fin 32) : S256x4096.Idx → Elt F .bf16 := ReadAs.same.apply ((mixB b).view.read (Elt F) XM)
def xW (b : Fin 32) : S256x4096.Idx → Elt F .f32 := ReadAs.same.apply ((xB b).view.read (Elt F) XX)
/-- a gain row; -/
def gW (g : Memref sig .tc .vmem S1x4096 .f32) (G : Buf (Elt F) (g.view.loc (c : Thread nD τ))) : Vec F S1x4096 .f32 :=
  g.view.readAt (Elt F) (Rect.unit (s := S1x4096) ![0, 0] S1x4096.size inb_S1x4096_S1x4096_0_0).toLoadRect G
/-- the block of the residual sum; -/
def yW (b : Fin 32) : S256x4096.Idx → Elt F .f32 :=
  k0_pay1 (shapeCast S1x256x4096 (xW c XX b) shapeCasts_S256x4096_S1x256x4096)
    (shapeCast S1x256x4096 (mixW c XM b) shapeCasts_S256x4096_S1x256x4096) (gW c g1V G1)
/-- the block of its normalization. -/
def hW (b : Fin 32) : S256x4096.Idx → Elt F .bf16 :=
  shapeCast S256x4096 (k0_pay3 (yW c XM XX G1 b) (gW c g2V G2)) shapeCasts_S1x256x4096_S256x4096

/-- Row `i` of an array of 8192 rows lies in block `i / 256`, at row `i % 256`. -/
def blkOf (i : S8192x4096.Idx) : Fin 32 := ⟨(i 0).val / 256, by have h : (i 0).val < 8192 := (i 0).isLt; omega⟩
def inBlk (i : S8192x4096.Idx) : S256x4096.Idx :=
  Fin.cons (⟨(i 0).val % 256, Nat.mod_lt _ (by decide)⟩ : Fin 256) (Fin.cons (⟨(i 1).val, (i 1).isLt⟩ : Fin 4096) finZeroElim)

/-- The two results, whole. -/
def yFin : S8192x4096.Idx → Elt F .f32 := fun i => yW c XM XX G1 (blkOf i) (inBlk i)
def hFin : S8192x4096.Idx → Elt F .bf16 := fun i => hW c XM XX G1 G2 (blkOf i) (inBlk i)

end Values

/-! ## A block of an array, a slot of a ring, a copy in flight -/

section Rings
variable (c : Dev nD) (XM : Buf (Elt F) (mixM.view.loc (c : Thread nD τ))) (XX : Buf (Elt F) (xM.view.loc (c : Thread nD τ)))

abbrev mixH (b : Fin 32) : sProp 𝕄 := (mixB b).view.loc (c : Thread nD τ) ↦[(mixB b).view.set]{fullShare} XM
abbrev xH (b : Fin 32) : sProp 𝕄 := (xB b).view.loc (c : Thread nD τ) ↦[(xB b).view.set]{fullShare} XX
abbrev yH (Y : Buf (Elt F) (yM.view.loc (c : Thread nD τ))) (b : Fin 32) : sProp 𝕄 := (yB b).view.loc (c : Thread nD τ) ↦[(yB b).view.set]{fullShare} Y
abbrev hH (H : Buf (Elt F) (hM.view.loc (c : Thread nD τ))) (b : Fin 32) : sProp 𝕄 := (hB b).view.loc (c : Thread nD τ) ↦[(hB b).view.set]{fullShare} H

abbrev mixSP (s : Fin 3) (f : Buf (Elt F) ((mixS s).view.loc (c : Thread nD τ))) : sProp 𝕄 := (mixS s).view.loc (c : Thread nD τ) ↦[(mixS s).view.set]{fullShare} f
abbrev xSP (s : Fin 3) (f : Buf (Elt F) ((xS s).view.loc (c : Thread nD τ))) : sProp 𝕄 := (xS s).view.loc (c : Thread nD τ) ↦[(xS s).view.set]{fullShare} f
abbrev ySP (s : Fin 2) (f : Buf (Elt F) ((yS s).view.loc (c : Thread nD τ))) : sProp 𝕄 := (yS s).view.loc (c : Thread nD τ) ↦[(yS s).view.set]{fullShare} f
abbrev hSP (s : Fin 2) (f : Buf (Elt F) ((hS s).view.loc (c : Thread nD τ))) : sProp 𝕄 := (hS s).view.loc (c : Thread nD τ) ↦[(hS s).view.set]{fullShare} f

abbrev mixCP (s : Fin 3) : sProp 𝕄 := semVal ((c : Thread nD τ), SemLoc.dma (mixC s).sem) 0
abbrev xCP (s : Fin 3) : sProp 𝕄 := semVal ((c : Thread nD τ), SemLoc.dma (xC s).sem) 0
abbrev yCP (s : Fin 2) : sProp 𝕄 := semVal ((c : Thread nD τ), SemLoc.dma (yC s).sem) 0
abbrev hCP (s : Fin 2) : sProp 𝕄 := semVal ((c : Thread nD τ), SemLoc.dma (hC s).sem) 0

/-- A slot free: its semaphore at zero, its elements at anything. -/
abbrev mixFree (s : Fin 3) : sProp 𝕄 := iprop(mixCP c s ∗ ∃ f, mixSP c s f)
abbrev xFree (s : Fin 3) : sProp 𝕄 := iprop(xCP c s ∗ ∃ f, xSP c s f)
abbrev yFree (s : Fin 2) : sProp 𝕄 := iprop(yCP c s ∗ ∃ f, ySP c s f)
abbrev hFree (s : Fin 2) : sProp 𝕄 := iprop(hCP c s ∗ ∃ f, hSP c s f)

/-- A slot being filled with block `b`, over contents `f`. -/
abbrev mixInFl (s : Fin 3) (b : Fin 32) (f : Buf (Elt F) ((mixS s).view.loc (c : Thread nD τ))) : sProp 𝕄 :=
  Transfers.Flight countersEmb (c : Thread nD τ) (SemLoc.dma (mixC s).sem) () 65536
    iprop(mixSP c s ((mixS s).view.writes (Elt F) f [⟨Rect.whole S256x4096, mixW c XM b⟩]) ∗ mixH c XM b)
abbrev xInFl (s : Fin 3) (b : Fin 32) (f : Buf (Elt F) ((xS s).view.loc (c : Thread nD τ))) : sProp 𝕄 :=
  Transfers.Flight countersEmb (c : Thread nD τ) (SemLoc.dma (xC s).sem) () 131072
    iprop(xSP c s ((xS s).view.writes (Elt F) f [⟨Rect.whole S256x4096, xW c XX b⟩]) ∗ xH c XX b)
/-- A slot being emptied into block `b`, which it leaves at `Y`'s contents. -/
abbrev yOutFl (Y : Buf (Elt F) (yM.view.loc (c : Thread nD τ))) (s : Fin 2) (b : Fin 32) (f : Buf (Elt F) ((yS s).view.loc (c : Thread nD τ))) : sProp 𝕄 :=
  Transfers.Flight countersEmb (c : Thread nD τ) (SemLoc.dma (yC s).sem) () 131072 iprop(yH c Y b ∗ ySP c s f)
abbrev hOutFl (H : Buf (Elt F) (hM.view.loc (c : Thread nD τ))) (s : Fin 2) (b : Fin 32) (f : Buf (Elt F) ((hS s).view.loc (c : Thread nD τ))) : sProp 𝕄 :=
  Transfers.Flight countersEmb (c : Thread nD τ) (SemLoc.dma (hC s).sem) () 65536 iprop(hH c H b ∗ hSP c s f)

/-- The slot of block `p`: being filled with it while there is such a block, else free. -/
abbrev mixRole (p : ℕ) : sProp 𝕄 := Ring.roleAt (NB := 32) (mixFree c (Ring.sl 3 p)) (fun b => iprop(∃ f, mixInFl c XM (Ring.sl 3 p) b f)) p
abbrev xRole (p : ℕ) : sProp 𝕄 := Ring.roleAt (NB := 32) (xFree c (Ring.sl 3 p)) (fun b => iprop(∃ f, xInFl c XX (Ring.sl 3 p) b f)) p
/-- The slot trip `p - 1` stored into, before trip `p`. -/
abbrev yRole (Y : Buf (Elt F) (yM.view.loc (c : Thread nD τ))) (p : ℕ) : sProp 𝕄 :=
  Ring.roleBAt (NB := 32) 1 (yFree c (Ring.sl 2 (p + 1))) (fun b => iprop(∃ f, yOutFl c Y (Ring.sl 2 (p + 1)) b f)) p
abbrev hRole (H : Buf (Elt F) (hM.view.loc (c : Thread nD τ))) (p : ℕ) : sProp 𝕄 :=
  Ring.roleBAt (NB := 32) 1 (hFree c (Ring.sl 2 (p + 1))) (fun b => iprop(∃ f, hOutFl c H (Ring.sl 2 (p + 1)) b f)) p

theorem mixRole_lt {p : ℕ} (h : p < 32) : mixRole c XM p = iprop(∃ f, mixInFl c XM (Ring.sl 3 p) (Ring.bk 32 p) f) := Ring.roleAt_of_lt _ _ p h
theorem mixRole_le {p : ℕ} (h : 32 ≤ p) : mixRole c XM p = mixFree c (Ring.sl 3 p) := Ring.roleAt_of_le _ _ p h
theorem xRole_lt {p : ℕ} (h : p < 32) : xRole c XX p = iprop(∃ f, xInFl c XX (Ring.sl 3 p) (Ring.bk 32 p) f) := Ring.roleAt_of_lt _ _ p h
theorem xRole_le {p : ℕ} (h : 32 ≤ p) : xRole c XX p = xFree c (Ring.sl 3 p) := Ring.roleAt_of_le _ _ p h
theorem yRole_pos (Y : Buf (Elt F) (yM.view.loc (c : Thread nD τ))) {p : ℕ} (h : 1 ≤ p) :
    yRole c Y p = iprop(∃ f, yOutFl c Y (Ring.sl 2 (p + 1)) (Ring.bk 32 (p - 1)) f) := Ring.roleBAt_of_le 1 _ _ p h
theorem yRole_zero (Y : Buf (Elt F) (yM.view.loc (c : Thread nD τ))) {p : ℕ} (h : p < 1) :
    yRole c Y p = yFree c (Ring.sl 2 (p + 1)) := Ring.roleBAt_of_lt 1 _ _ p h
theorem hRole_pos (H : Buf (Elt F) (hM.view.loc (c : Thread nD τ))) {p : ℕ} (h : 1 ≤ p) :
    hRole c H p = iprop(∃ f, hOutFl c H (Ring.sl 2 (p + 1)) (Ring.bk 32 (p - 1)) f) := Ring.roleBAt_of_le 1 _ _ p h
theorem hRole_zero (H : Buf (Elt F) (hM.view.loc (c : Thread nD τ))) {p : ℕ} (h : p < 1) :
    hRole c H p = hFree c (Ring.sl 2 (p + 1)) := Ring.roleBAt_of_lt 1 _ _ p h

end Rings

/-! ## A family of 32 blocks, one taken off or put back by a trip -/

section Families
variable {M : Type _} [URA M] (Φ : Fin 32 → sProp M)

theorem homes_take {k : ℕ} (h : k < 30) : bigSep (Ring.homeSet 2 k) Φ = iprop(Φ (Ring.bk 32 (k + 2)) ∗ bigSep ((Ring.homeSet 2 k).erase (Ring.bk 32 (k + 2))) Φ) := by
  conv_lhs => rw [Ring.homeSet_out 2 k (by omega), bigSep_insert (Ring.bkL_not_mem_erase 2 k)]
  rfl
theorem homes_put {k : ℕ} (h : k < 30) : bigSep (Ring.homeSet 2 (k + 1)) Φ = iprop(Φ (Ring.bk 32 k) ∗ bigSep ((Ring.homeSet 2 k).erase (Ring.bk 32 (k + 2))) Φ) := by
  conv_lhs => rw [Ring.homeSet_succ 2 k (by omega), bigSep_insert (Ring.bk_not_mem_erase 2 k (by omega) (by decide))]
  rfl
theorem homes_tail {k : ℕ} (h : 30 ≤ k) (hk : k < 32) : bigSep (Ring.homeSet 2 (k + 1)) Φ = iprop(Φ (Ring.bk 32 k) ∗ bigSep (Ring.homeSet 2 k) Φ) := by
  conv_lhs => rw [Ring.homeSet_succ_tail 2 k (by omega) hk, bigSep_insert (Ring.bk_not_mem_homeSet 2 k hk (by decide))]
  rfl
theorem ahead_take {k : ℕ} (hk : k < 32) : bigSep (Ring.aheadSet k) Φ = iprop(Φ (Ring.bk 32 k) ∗ bigSep (Ring.aheadSet (k + 1)) Φ) := by
  conv_lhs => rw [Ring.aheadSet_open k hk, bigSep_insert (Ring.bk_not_mem_aheadSet_succ k hk)]
  rfl
theorem behind_put {k : ℕ} (h1 : 1 ≤ k) (hk : k < 32) : bigSep (Ring.behindSet 1 (k + 1)) Φ = iprop(Φ (Ring.bk 32 (k - 1)) ∗ bigSep (Ring.behindSet 1 k) Φ) := by
  conv_lhs => rw [Ring.behindSet_close 1 k h1 hk, bigSep_insert (Ring.bk_not_mem_behindSet 1 k h1 hk)]
  rfl
theorem behind_boot {k : ℕ} (hk : k ≤ 1) : bigSep (Ring.behindSet (NB := 32) 1 k) Φ = iprop(emp) := by
  rw [Ring.behindSet_boot 1 k hk, bigSep_empty]; rfl

theorem behind_first {k : ℕ} (h : k = 0) : bigSep (Ring.behindSet (NB := 32) 1 k) Φ = bigSep (Ring.behindSet 1 (k + 1)) Φ := by
  rw [behind_boot Φ (show k ≤ 1 by omega), behind_boot Φ (show k + 1 ≤ 1 by omega)]

end Families

/-! ## The resources before trip `k` -/

section Res
variable (c : Dev nD) (XM : Buf (Elt F) (mixM.view.loc (c : Thread nD τ))) (XX : Buf (Elt F) (xM.view.loc (c : Thread nD τ)))
  (G1 : Buf (Elt F) (g1V.view.loc (c : Thread nD τ))) (G2 : Buf (Elt F) (g2V.view.loc (c : Thread nD τ)))
  (Y0 : Buf (Elt F) (yM.view.loc (c : Thread nD τ))) (H0 : Buf (Elt F) (hM.view.loc (c : Thread nD τ)))

abbrev g1P : sProp 𝕄 := g1V.view.loc (c : Thread nD τ) ↦[g1V.view.set]{fullShare} G1
abbrev g2P : sProp 𝕄 := g2V.view.loc (c : Thread nD τ) ↦[g2V.view.set]{fullShare} G2

/-- Before trip `k`: blocks `k` and `k + 1` of each input in flight, block `k - 1` of each result in flight, every other
    block at home — a result's at its first contents ahead of the trips, at its last behind them. -/
def resAt (k : ℕ) : sProp 𝕄 :=
  iprop((∃ W, owes (c : Thread nD τ) 0 W) ∗ g1P c G1 ∗ g2P c G2
    ∗ (bigSep (Ring.homeSet 2 k) (mixH c XM) ∗ mixRole c XM k ∗ mixRole c XM (k + 1) ∗ mixFree c (Ring.sl 3 (k + 2)))
    ∗ (bigSep (Ring.homeSet 2 k) (xH c XX) ∗ xRole c XX k ∗ xRole c XX (k + 1) ∗ xFree c (Ring.sl 3 (k + 2)))
    ∗ (bigSep (Ring.aheadSet k) (yH c Y0) ∗ bigSep (Ring.behindSet 1 k) (yH c (yFin c XM XX G1))
        ∗ yFree c (Ring.sl 2 k) ∗ yRole c (yFin c XM XX G1) k)
    ∗ (bigSep (Ring.aheadSet k) (hH c H0) ∗ bigSep (Ring.behindSet 1 k) (hH c (hFin c XM XX G1 G2))
        ∗ hFree c (Ring.sl 2 k) ∗ hRole c (hFin c XM XX G1 G2) k))

end Res

end Cert.Proof.Norm

end
-- ==== Proof.Landing.lean ====
/- What a load of a filled slot reads, what a stored slot is copied out as, and that a copied-out block is the result's. -/
module

public import proofs.«01_k».proof.Proof.Pieces
public import Idealize.ShloMosaic.Lib.Pipeline.Value

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.SL.Sem

variable {F : FTy → Type} [FloatOps F]
local notation "𝕄" => MT nD τ sig Unit (Elt F) ℕ (UU nD τ) ℕ

section General
variable {sg : RefSig} {κ : Kind} {sp : Space} {s s' : Shape} {e : EltTy} (v : View sg κ sp s e)

/-- A load of a rectangle after its elements, reshaped, were written whole; -/
theorem load_slot (r : Rect s) (h : s'.numel = r.shape.numel) (h' : s'.ShapeCasts r.shape) (f : v.ty.Contents (Elt F)) (P : s'.Idx → Elt F e) :
    v.readAt (Elt F) r.toLoadRect (((v.slice r).reshape s' h).writes (Elt F) f [⟨Rect.whole s', P⟩]) = shapeCast r.shape P h' := by
  funext x
  have e1 := congrFun (View.read_writes_whole (Val := Elt F) ((v.slice r).reshape s' h) f P) (Shape.reshapeEquiv h' x)
  refine Eq.trans ?_ e1
  show (v.slice r).read (Elt F) _ x = (v.slice r).read (Elt F) _ (Shape.reshapeEquiv h (Shape.reshapeEquiv h' x))
  rw [Shape.reshapeEquiv_reshapeEquiv, Shape.reshapeEquiv_self]
/-- the reshaped elements read after the rectangle was stored. -/
theorem stored_slot (r : Rect s) (h : s'.numel = r.shape.numel) (h' : r.shape.ShapeCasts s') (f : v.ty.Contents (Elt F)) (w : r.shape.Idx → Elt F e) :
    ((v.slice r).reshape s' h).read (Elt F) ((v.slice r).write (Elt F) f w Finset.univ) = shapeCast s' w h' := by
  funext x
  exact congrFun (View.read_write_univ (v := v.slice r) f w) (Shape.reshapeEquiv h x)
/-- Elements written whole with what contents `g` read are `g`'s. -/
theorem whole_is (f g : v.ty.Contents (Elt F)) (P : s.Idx → Elt F e) (hg : v.read (Elt F) g = P) :
    ∀ i ∈ v.set, v.writes (Elt F) f [⟨Rect.whole s, P⟩] i = g i := by
  intro i hi
  obtain ⟨j, -, rfl⟩ := Finset.mem_map.mp hi
  have h := congrFun ((View.read_writes_whole (Val := Elt F) v f P).trans hg.symm) j
  rw [View.read_apply, View.read_apply] at h
  exact cast_inj _ |>.mp h

end General

variable (c : Dev nD) (XM : Buf (Elt F) (mixM.view.loc (c : Thread nD τ))) (XX : Buf (Elt F) (xM.view.loc (c : Thread nD τ)))
  (G1 : Buf (Elt F) (g1V.view.loc (c : Thread nD τ))) (G2 : Buf (Elt F) (g2V.view.loc (c : Thread nD τ)))

/-- A load of a slot after a copy into it. -/
theorem mix_load {s : Fin 3} {off : Fin 3 → ℕ} (e : off = slotOff s) (inb) (P : S256x4096.Idx → Elt F .bf16)
    (f : Buf (Elt F) ((mixS s).view.loc (c : Thread nD τ))) :
    mixR.view.readAt (Elt F) (Rect.unit (s := S3x256x4096) off S1x256x4096.size inb).toLoadRect
      ((mixS s).view.writes (Elt F) f [⟨Rect.whole S256x4096, P⟩]) = shapeCast S1x256x4096 P shapeCasts_S256x4096_S1x256x4096 := by
  subst e
  exact load_slot mixR.view (Rect.unit (s := S3x256x4096) (slotOff s) S1x256x4096.size inb)
    squeezes_S1x256x4096_S256x4096.numel_eq shapeCasts_S256x4096_S1x256x4096 f P
theorem x_load {s : Fin 3} {off : Fin 3 → ℕ} (e : off = slotOff s) (inb) (P : S256x4096.Idx → Elt F .f32)
    (f : Buf (Elt F) ((xS s).view.loc (c : Thread nD τ))) :
    xR.view.readAt (Elt F) (Rect.unit (s := S3x256x4096) off S1x256x4096.size inb).toLoadRect
      ((xS s).view.writes (Elt F) f [⟨Rect.whole S256x4096, P⟩]) = shapeCast S1x256x4096 P shapeCasts_S256x4096_S1x256x4096 := by
  subst e
  exact load_slot xR.view (Rect.unit (s := S3x256x4096) (slotOff s) S1x256x4096.size inb)
    squeezes_S1x256x4096_S256x4096.numel_eq shapeCasts_S256x4096_S1x256x4096 f P

/-- A slot read after a store into it. -/
theorem y_stored {s : Fin 2} {off : Fin 3 → ℕ} (e : off = slotOff s) (inb) (w : S1x256x4096.Idx → Elt F .f32)
    (f : Buf (Elt F) ((yS s).view.loc (c : Thread nD τ))) :
    (yS s).view.read (Elt F) (View.write (Elt F) (yR.access (Rect.unit (s := S2x256x4096) off S1x256x4096.size inb)) f w Finset.univ)
      = shapeCast S256x4096 w shapeCasts_S1x256x4096_S256x4096 := by
  subst e
  exact stored_slot yR.view (Rect.unit (s := S2x256x4096) (slotOff s) S1x256x4096.size inb)
    squeezes_S1x256x4096_S256x4096.numel_eq shapeCasts_S1x256x4096_S256x4096 f w
theorem h_stored {s : Fin 2} {off : Fin 3 → ℕ} (e : off = slotOff s) (inb) (w : S1x256x4096.Idx → Elt F .bf16)
    (f : Buf (Elt F) ((hS s).view.loc (c : Thread nD τ))) :
    (hS s).view.read (Elt F) (View.write (Elt F) (hR.access (Rect.unit (s := S2x256x4096) off S1x256x4096.size inb)) f w Finset.univ)
      = shapeCast S256x4096 w shapeCasts_S1x256x4096_S256x4096 := by
  subst e
  exact stored_slot hR.view (Rect.unit (s := S2x256x4096) (slotOff s) S1x256x4096.size inb)
    squeezes_S1x256x4096_S256x4096.numel_eq shapeCasts_S1x256x4096_S256x4096 f w

/-! ## A block written whole is the result's -/

theorem blkOf_emb (b : Fin 32) (j : S256x4096.Idx) : blkOf ((yB b).view.emb j) = b := by
  apply Fin.ext
  have hj : (j 0).val < 256 := (j 0).isLt
  show (256 * b.val + 1 * (j 0).val) / 256 = b.val
  omega
theorem inBlk_emb (b : Fin 32) (j : S256x4096.Idx) : inBlk ((yB b).view.emb j) = j := by
  have hj : (j 0).val < 256 := (j 0).isLt
  funext a
  fin_cases a
  · apply Fin.ext
    show (256 * b.val + 1 * (j 0).val) % 256 = (j 0).val
    omega
  · apply Fin.ext
    show 0 + 1 * (j 1).val = (j 1).val
    omega

theorem yFin_read (b : Fin 32) : (yB b).view.read (Elt F) (yFin c XM XX G1) = yW c XM XX G1 b := by
  funext j
  have e : yFin c XM XX G1 ((yB b).view.emb j) = yW c XM XX G1 b j := by
    unfold yFin; rw [blkOf_emb, inBlk_emb]
  exact e
theorem hFin_read (b : Fin 32) : (hB b).view.read (Elt F) (hFin c XM XX G1 G2) = hW c XM XX G1 G2 b := by
  funext j
  have e : hFin c XM XX G1 G2 ((yB b).view.emb j) = hW c XM XX G1 G2 b j := by
    unfold hFin; rw [blkOf_emb, inBlk_emb]
  exact e

theorem y_landed (b : Fin 32) (Y0 : Buf (Elt F) (yM.view.loc (c : Thread nD τ))) :
    (yH c ((yB b).view.writes (Elt F) Y0 [⟨Rect.whole S256x4096, yW c XM XX G1 b⟩]) b : sProp 𝕄) = yH c (yFin c XM XX G1) b :=
  pointsTo_congr (whole_is (yB b).view Y0 (yFin c XM XX G1) _ (yFin_read c XM XX G1 b))
theorem h_landed (b : Fin 32) (H0 : Buf (Elt F) (hM.view.loc (c : Thread nD τ))) :
    (hH c ((hB b).view.writes (Elt F) H0 [⟨Rect.whole S256x4096, hW c XM XX G1 G2 b⟩]) b : sProp 𝕄) = hH c (hFin c XM XX G1 G2) b :=
  pointsTo_congr (whole_is (hB b).view H0 (hFin c XM XX G1 G2) _ (hFin_read c XM XX G1 G2 b))

/-! ## What a trip copies out -/

theorem y_out {s : Fin 2} {off : Fin 3 → ℕ} (e : off = slotOff s) (inb) (b : Fin 32) (a : Vec F S1x256x4096 .f32) (a' : Vec F S1x256x4096 .bf16)
    (f : Buf (Elt F) ((yS s).view.loc (c : Thread nD τ)))
    (ha : a = shapeCast S1x256x4096 (xW c XX b) shapeCasts_S256x4096_S1x256x4096)
    (ha' : a' = shapeCast S1x256x4096 (mixW c XM b) shapeCasts_S256x4096_S1x256x4096) :
    ReadAs.same.apply ((yS s).view.read (Elt F) (View.write (Elt F) (yR.access (Rect.unit (s := S2x256x4096) off S1x256x4096.size inb)) f
      (k0_pay2 a a' (gW c g1V G1)) Finset.univ)) = yW c XM XX G1 b := by
  subst ha; subst ha'
  refine Eq.trans (y_stored c e inb _ f) ?_
  exact shapeCast_shapeCast (yW c XM XX G1 b) shapeCasts_S256x4096_S1x256x4096 shapeCasts_S1x256x4096_S256x4096
theorem h_out {s : Fin 2} {off : Fin 3 → ℕ} (e : off = slotOff s) (inb) (b : Fin 32) (a : Vec F S1x256x4096 .f32) (a' : Vec F S1x256x4096 .bf16)
    (f : Buf (Elt F) ((hS s).view.loc (c : Thread nD τ)))
    (ha : a = shapeCast S1x256x4096 (xW c XX b) shapeCasts_S256x4096_S1x256x4096)
    (ha' : a' = shapeCast S1x256x4096 (mixW c XM b) shapeCasts_S256x4096_S1x256x4096) :
    ReadAs.same.apply ((hS s).view.read (Elt F) (View.write (Elt F) (hR.access (Rect.unit (s := S2x256x4096) off S1x256x4096.size inb)) f
      (k0_pay3 (k0_pay1 a a' (gW c g1V G1)) (gW c g2V G2)) Finset.univ)) = hW c XM XX G1 G2 b := by
  subst ha; subst ha'
  exact h_stored c e inb _ f

end Cert.Proof.Norm

end
-- ==== Proof.Trip.lean ====
/- One trip of the pipeline's loop. -/
module

public import proofs.«01_k».proof.Proof.Landing

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.SL.Sem

variable {F : FTy → Type} [FloatOps F]
local notation "𝕄" => MT nD τ sig Unit (Elt F) ℕ (UU nD τ) ℕ

variable (c : Dev nD) (XM : Buf (Elt F) (mixM.view.loc (c : Thread nD τ))) (XX : Buf (Elt F) (xM.view.loc (c : Thread nD τ)))
  (G1 : Buf (Elt F) (g1V.view.loc (c : Thread nD τ))) (G2 : Buf (Elt F) (g2V.view.loc (c : Thread nD τ)))
  (Y0 : Buf (Elt F) (yM.view.loc (c : Thread nD τ))) (H0 : Buf (Elt F) (hM.view.loc (c : Thread nD τ)))

abbrev tripG (k : Trip) : Prog (TpuEff nD τ sig (Elt F) Λ₀ .tc) Acc :=
  k0_t1_body (F := F) mixM (Memref.isWhole_whole _) xM (Memref.isWhole_whole _) g1M (Memref.isWhole_whole _) g2M (Memref.isWhole_whole _)
    yM (Memref.isWhole_whole _) hM (Memref.isWhole_whole _) mixR (Memref.isWhole_whole _) cc0_scoped1 xR (Memref.isWhole_whole _) cc0_scoped3
    g1V (Memref.isWhole_whole _) g2V (Memref.isWhole_whole _) yR (Memref.isWhole_whole _) cc0_scoped7 hR (Memref.isWhole_whole _) cc0_scoped9
    cc0_scoped10 cc0_scoped11 1#32 1#32 k (accAt k.val)

/-- A middle trip: every ring both fills and empties. -/
theorem trip_mid (k : Trip) (h1 : 1 ≤ k.val) (h30 : k.val < 30) :
    resAt c XM XX G1 G2 Y0 H0 k.val ⊢ wp Idealize.ShloMosaic.frame (wpE (defs₀ (F := F)) 𝒱₀ (c : Thread nD τ) none) Set.univ (tripG k)
      (fun acc => iprop(⌜acc = accAt (k.val + 1)⌝ ∗ resAt c XM XX G1 G2 Y0 H0 (k.val + 1))) := by
  have hk := trip_lt k
  have c3 := cond3_lt k h30
  have c4 := cond4_lt k h30
  have c5 := cond5_at k
  have c6 := cond6_at k
  have c11 := cond11_at k
  have c12 := cond12_at k
  have c15 := cond15_pos k h1
  have c16 := cond16_pos k h1
  have hw1 := chk1_at k
  have hw2 := chk2_at k
  have hw3 := chk3_at k
  have hw4 := chk4_at k
  have hw5 := chk5_at k
  unfold resAt
  rw [mixRole_lt c XM hk, xRole_lt c XX hk, yRole_pos c (yFin c XM XX G1) h1, hRole_pos c (hFin c XM XX G1 G2) h1,
    homes_take (mixH c XM) h30, homes_take (xH c XX) h30, ahead_take (yH c Y0) hk, ahead_take (hH c H0) hk]
  iintro ⟨⟨%W, HW⟩, HG1, HG2, ⟨⟨Hmi, Hmh⟩, ⟨%fm0, HmF⟩, Hm1, HmC, ⟨%fm2, HmS⟩⟩, ⟨⟨Hxi, Hxh⟩, ⟨%fx0, HxF⟩, Hx1, HxC, ⟨%fx2, HxS⟩⟩,
    ⟨⟨Hyi, Hya⟩, Hyb, ⟨HyC, ⟨%fy, HyS⟩⟩, ⟨%fyo, HyF⟩⟩, ⟨⟨Hhi, Hha⟩, Hhb, ⟨HhC, ⟨%fh, HhS⟩⟩, ⟨%fho, HhF⟩⟩⟩
  dsimp only [tripG]
  sl_unfold [k0_t1_body]
  sl_exec
  sl_step
  have e1 : trip_mid.sl.dma8 c XM XX G1 k hw2 hw3 hw4 fy = yW c XM XX G1 (Ring.bk 32 k.val) :=
    y_out c XM XX G1 (off23_at k) _ _ _ _ fy (x_load c (off21_at k) _ _ _) (mix_load c (off22_at k) _ _ _)
  have e2 : trip_mid.sl.dma8_1 c XM XX G1 G2 k hw2 hw3 hw5 fh = hW c XM XX G1 G2 (Ring.bk 32 k.val) :=
    h_out c XM XX G1 G2 (off24_at k) _ _ _ _ fh (x_load c (off21_at k) _ _ _) (mix_load c (off22_at k) _ _ _)
  have w0 : ∀ k : Trip, trip_mid.sl.v123_r0 k = wIss (k.val + 1) := by decide +kernel
  have w1 : ∀ k : Trip, trip_mid.sl.v231_r0 k = wCnt (k.val + 1) := by decide +kernel
  have w2 : ∀ k : Trip, trip_mid.sl.v277_r0 k = wOnce (k.val + 1) := by decide +kernel
  have w3 : ∀ k : Trip, trip_mid.sl.v258_r0 k = wPrev (k.val + 1) := by decide +kernel
  have w4 : ∀ k : Trip, trip_mid.sl.v102_r0 k = wGrid (k.val + 1) := by decide +kernel
  rw [w0 k, w1 k, w2 k, w3 k, w4 k]
  isplitr
  · ipureintro; rfl
  isplitl [HW]; · iexists _; iexact HW
  isplitl [HG1]; · iexact HG1
  isplitl [HG2]; · iexact HG2
  isplitl [HmF_src Hmh Hm1 HmC HmF HmF_dst]
  · irw [homes_put (mixH c XM) h30, show mixRole c XM (k.val + 1 + 1) = _ from mixRole_lt c XM (p := k.val + 2) (by omega),
      Ring.sl_succ_add 3 k.val 2 rfl]
    isplitl [HmF_src Hmh]
    · isplitl [HmF_src]; · iexact HmF_src
      iexact Hmh
    isplitl [Hm1]; · iexact Hm1
    isplitl [HmC]; · iexists fm2; iexact HmC
    isplitl [HmF]; · iexact HmF
    iexists _; iexact HmF_dst
  isplitl [HxF_src Hxh Hx1 HxC HxF HxF_dst]
  · irw [homes_put (xH c XX) h30, show xRole c XX (k.val + 1 + 1) = _ from xRole_lt c XX (p := k.val + 2) (by omega),
      Ring.sl_succ_add 3 k.val 2 rfl]
    isplitl [HxF_src Hxh]
    · isplitl [HxF_src]; · iexact HxF_src
      iexact Hxh
    isplitl [Hx1]; · iexact Hx1
    isplitl [HxC]; · iexists fx2; iexact HxC
    isplitl [HxF]; · iexact HxF
    iexists _; iexact HxF_dst
  isplitl [Hya Hyb HyF_dst HyF_src HyF HyC]
  · irw [behind_put (yH c (yFin c XM XX G1)) h1 hk, yRole_pos c (yFin c XM XX G1) (show 1 ≤ k.val + 1 by omega),
      Ring.sl_succ_add 2 k.val 1 rfl, show k.val + 1 - 1 = k.val from rfl]
    isplitl [Hya]; · iexact Hya
    isplitl [Hyb HyF_dst]
    · isplitl [HyF_dst]; · iexact HyF_dst
      iexact Hyb
    isplitl [HyF HyF_src]
    · isplitl [HyF]; · iexact HyF
      iexists _; iexact HyF_src
    iexists _
    unfold yOutFl
    irw [← y_landed c XM XX G1 (Ring.bk 32 k.val) Y0, ← e1]
    iexact HyC
  irw [behind_put (hH c (hFin c XM XX G1 G2)) h1 hk, hRole_pos c (hFin c XM XX G1 G2) (show 1 ≤ k.val + 1 by omega),
    Ring.sl_succ_add 2 k.val 1 rfl, show k.val + 1 - 1 = k.val from rfl]
  isplitl [Hha]; · iexact Hha
  isplitl [Hhb HhF_dst]
  · isplitl [HhF_dst]; · iexact HhF_dst
    iexact Hhb
  isplitl [HhF HhF_src]
  · isplitl [HhF]; · iexact HhF
    iexists _; iexact HhF_src
  iexists _
  unfold hOutFl
  irw [← h_landed c XM XX G1 G2 (Ring.bk 32 k.val) H0, ← e2]
  iexact HhC

/-- The first trip: nothing of the results to wait for. -/
theorem trip_first (k : Trip) (h0 : k.val = 0) :
    resAt c XM XX G1 G2 Y0 H0 k.val ⊢ wp Idealize.ShloMosaic.frame (wpE (defs₀ (F := F)) 𝒱₀ (c : Thread nD τ) none) Set.univ (tripG k)
      (fun acc => iprop(⌜acc = accAt (k.val + 1)⌝ ∗ resAt c XM XX G1 G2 Y0 H0 (k.val + 1))) := by
  have hk := trip_lt k
  have h30 : k.val < 30 := by omega
  have c3 := cond3_lt k h30
  have c4 := cond4_lt k h30
  have c5 := cond5_at k
  have c6 := cond6_at k
  have c11 := cond11_at k
  have c12 := cond12_at k
  have c15 := cond15_zero k h0
  have c16 := cond16_zero k h0
  have hw1 := chk1_at k
  have hw2 := chk2_at k
  have hw3 := chk3_at k
  have hw4 := chk4_at k
  have hw5 := chk5_at k
  unfold resAt
  rw [mixRole_lt c XM hk, xRole_lt c XX hk, yRole_zero c (yFin c XM XX G1) (show k.val < 1 by omega), hRole_zero c (hFin c XM XX G1 G2) (show k.val < 1 by omega),
    homes_take (mixH c XM) h30, homes_take (xH c XX) h30, ahead_take (yH c Y0) hk, ahead_take (hH c H0) hk]
  iintro ⟨⟨%W, HW⟩, HG1, HG2, ⟨⟨Hmi, Hmh⟩, ⟨%fm0, HmF⟩, Hm1, HmC, ⟨%fm2, HmS⟩⟩, ⟨⟨Hxi, Hxh⟩, ⟨%fx0, HxF⟩, Hx1, HxC, ⟨%fx2, HxS⟩⟩,
    ⟨⟨Hyi, Hya⟩, Hyb, ⟨HyC, ⟨%fy, HyS⟩⟩, HyF⟩, ⟨⟨Hhi, Hha⟩, Hhb, ⟨HhC, ⟨%fh, HhS⟩⟩, HhF⟩⟩
  dsimp only [tripG]
  sl_unfold [k0_t1_body]
  sl_exec
  sl_step
  have e1 : trip_first.sl.dma8 c XM XX G1 k hw2 hw3 hw4 fy = yW c XM XX G1 (Ring.bk 32 k.val) :=
    y_out c XM XX G1 (off23_at k) _ _ _ _ fy (x_load c (off21_at k) _ _ _) (mix_load c (off22_at k) _ _ _)
  have e2 : trip_first.sl.dma8_1 c XM XX G1 G2 k hw2 hw3 hw5 fh = hW c XM XX G1 G2 (Ring.bk 32 k.val) :=
    h_out c XM XX G1 G2 (off24_at k) _ _ _ _ fh (x_load c (off21_at k) _ _ _) (mix_load c (off22_at k) _ _ _)
  have w0 : ∀ k : Trip, trip_first.sl.v123_r0 k = wIss (k.val + 1) := by decide +kernel
  have w1 : ∀ k : Trip, trip_first.sl.v231_r0 k = wCnt (k.val + 1) := by decide +kernel
  have w2 : ∀ k : Trip, trip_first.sl.v277_r0 k = wOnce (k.val + 1) := by decide +kernel
  have w3 : ∀ k : Trip, trip_first.sl.v258_r0 k = wPrev (k.val + 1) := by decide +kernel
  have w4 : ∀ k : Trip, trip_first.sl.v102_r0 k = wGrid (k.val + 1) := by decide +kernel
  rw [w0 k, w1 k, w2 k, w3 k, w4 k]
  isplitr
  · ipureintro; rfl
  isplitl [HW]; · iexists _; iexact HW
  isplitl [HG1]; · iexact HG1
  isplitl [HG2]; · iexact HG2
  isplitl [HmF_src Hmh Hm1 HmC HmF HmF_dst]
  · irw [homes_put (mixH c XM) h30, show mixRole c XM (k.val + 1 + 1) = _ from mixRole_lt c XM (p := k.val + 2) (by omega),
      Ring.sl_succ_add 3 k.val 2 rfl]
    isplitl [HmF_src Hmh]
    · isplitl [HmF_src]; · iexact HmF_src
      iexact Hmh
    isplitl [Hm1]; · iexact Hm1
    isplitl [HmC]; · iexists fm2; iexact HmC
    isplitl [HmF]; · iexact HmF
    iexists _; iexact HmF_dst
  isplitl [HxF_src Hxh Hx1 HxC HxF HxF_dst]
  · irw [homes_put (xH c XX) h30, show xRole c XX (k.val + 1 + 1) = _ from xRole_lt c XX (p := k.val + 2) (by omega),
      Ring.sl_succ_add 3 k.val 2 rfl]
    isplitl [HxF_src Hxh]
    · isplitl [HxF_src]; · iexact HxF_src
      iexact Hxh
    isplitl [Hx1]; · iexact Hx1
    isplitl [HxC]; · iexists fx2; iexact HxC
    isplitl [HxF]; · iexact HxF
    iexists _; iexact HxF_dst
  isplitl [Hya Hyb HyF HyC]
  · irw [← behind_first (yH c (yFin c XM XX G1)) h0, yRole_pos c (yFin c XM XX G1) (show 1 ≤ k.val + 1 by omega),
      Ring.sl_succ_add 2 k.val 1 rfl, show k.val + 1 - 1 = k.val from rfl]
    isplitl [Hya]; · iexact Hya
    isplitl [Hyb]
    · iexact Hyb
    isplitl [HyF]
    · iexact HyF
    iexists _
    unfold yOutFl
    irw [← y_landed c XM XX G1 (Ring.bk 32 k.val) Y0, ← e1]
    iexact HyC
  irw [← behind_first (hH c (hFin c XM XX G1 G2)) h0, hRole_pos c (hFin c XM XX G1 G2) (show 1 ≤ k.val + 1 by omega),
    Ring.sl_succ_add 2 k.val 1 rfl, show k.val + 1 - 1 = k.val from rfl]
  isplitl [Hha]; · iexact Hha
  isplitl [Hhb]
  · iexact Hhb
  isplitl [HhF]
  · iexact HhF
  iexists _
  unfold hOutFl
  irw [← h_landed c XM XX G1 G2 (Ring.bk 32 k.val) H0, ← e2]
  iexact HhC

/-- The last two trips: nothing more of the inputs to fetch. -/
theorem trip_last (k : Trip) (h30 : ¬ k.val < 30) :
    resAt c XM XX G1 G2 Y0 H0 k.val ⊢ wp Idealize.ShloMosaic.frame (wpE (defs₀ (F := F)) 𝒱₀ (c : Thread nD τ) none) Set.univ (tripG k)
      (fun acc => iprop(⌜acc = accAt (k.val + 1)⌝ ∗ resAt c XM XX G1 G2 Y0 H0 (k.val + 1))) := by
  have hk := trip_lt k
  have h1 : 1 ≤ k.val := by omega
  have c3 := cond3_ge k h30
  have c4 := cond4_ge k h30
  have c5 := cond5_at k
  have c6 := cond6_at k
  have c11 := cond11_at k
  have c12 := cond12_at k
  have c15 := cond15_pos k h1
  have c16 := cond16_pos k h1
  have hw1 := chk1_at k
  have hw2 := chk2_at k
  have hw3 := chk3_at k
  have hw4 := chk4_at k
  have hw5 := chk5_at k
  unfold resAt
  rw [mixRole_lt c XM hk, xRole_lt c XX hk, yRole_pos c (yFin c XM XX G1) h1, hRole_pos c (hFin c XM XX G1 G2) h1,
    ahead_take (yH c Y0) hk, ahead_take (hH c H0) hk]
  iintro ⟨⟨%W, HW⟩, HG1, HG2, ⟨Hmh, ⟨%fm0, HmF⟩, Hm1, HmC⟩, ⟨Hxh, ⟨%fx0, HxF⟩, Hx1, HxC⟩,
    ⟨⟨Hyi, Hya⟩, Hyb, ⟨HyC, ⟨%fy, HyS⟩⟩, ⟨%fyo, HyF⟩⟩, ⟨⟨Hhi, Hha⟩, Hhb, ⟨HhC, ⟨%fh, HhS⟩⟩, ⟨%fho, HhF⟩⟩⟩
  dsimp only [tripG]
  sl_unfold [k0_t1_body]
  sl_exec
  sl_step
  have e1 : trip_last.sl.dma8 c XM XX G1 k hw2 hw3 hw4 fy = yW c XM XX G1 (Ring.bk 32 k.val) :=
    y_out c XM XX G1 (off23_at k) _ _ _ _ fy (x_load c (off21_at k) _ _ _) (mix_load c (off22_at k) _ _ _)
  have e2 : trip_last.sl.dma8_1 c XM XX G1 G2 k hw2 hw3 hw5 fh = hW c XM XX G1 G2 (Ring.bk 32 k.val) :=
    h_out c XM XX G1 G2 (off24_at k) _ _ _ _ fh (x_load c (off21_at k) _ _ _) (mix_load c (off22_at k) _ _ _)
  have w0 : ∀ k : Trip, trip_last.sl.v123_r0 k = wIss (k.val + 1) := by decide +kernel
  have w1 : ∀ k : Trip, trip_last.sl.v231_r0 k = wCnt (k.val + 1) := by decide +kernel
  have w2 : ∀ k : Trip, trip_last.sl.v277_r0 k = wOnce (k.val + 1) := by decide +kernel
  have w3 : ∀ k : Trip, trip_last.sl.v258_r0 k = wPrev (k.val + 1) := by decide +kernel
  have w4 : ∀ k : Trip, trip_last.sl.v102_r0 k = wGrid (k.val + 1) := by decide +kernel
  rw [w0 k, w1 k, w2 k, w3 k, w4 k]
  isplitr
  · ipureintro; rfl
  isplitl [HW]; · iexists _; iexact HW
  isplitl [HG1]; · iexact HG1
  isplitl [HG2]; · iexact HG2
  isplitl [HmF_src Hmh Hm1 HmC HmF HmF_dst]
  · irw [homes_tail (mixH c XM) (show 30 ≤ k.val by omega) hk, show mixRole c XM (k.val + 1 + 1) = _ from mixRole_le c XM (p := k.val + 2) (by omega),
      Ring.sl_succ_add 3 k.val 2 rfl]
    isplitl [HmF_src Hmh]
    · isplitl [HmF_src]; · iexact HmF_src
      iexact Hmh
    isplitl [Hm1]; · iexact Hm1
    isplitl [HmC]; · iexact HmC
    isplitl [HmF]; · iexact HmF
    iexists _; iexact HmF_dst
  isplitl [HxF_src Hxh Hx1 HxC HxF HxF_dst]
  · irw [homes_tail (xH c XX) (show 30 ≤ k.val by omega) hk, show xRole c XX (k.val + 1 + 1) = _ from xRole_le c XX (p := k.val + 2) (by omega),
      Ring.sl_succ_add 3 k.val 2 rfl]
    isplitl [HxF_src Hxh]
    · isplitl [HxF_src]; · iexact HxF_src
      iexact Hxh
    isplitl [Hx1]; · iexact Hx1
    isplitl [HxC]; · iexact HxC
    isplitl [HxF]; · iexact HxF
    iexists _; iexact HxF_dst
  isplitl [Hya Hyb HyF_dst HyF_src HyF HyC]
  · irw [behind_put (yH c (yFin c XM XX G1)) h1 hk, yRole_pos c (yFin c XM XX G1) (show 1 ≤ k.val + 1 by omega),
      Ring.sl_succ_add 2 k.val 1 rfl, show k.val + 1 - 1 = k.val from rfl]
    isplitl [Hya]; · iexact Hya
    isplitl [Hyb HyF_dst]
    · isplitl [HyF_dst]; · iexact HyF_dst
      iexact Hyb
    isplitl [HyF HyF_src]
    · isplitl [HyF]; · iexact HyF
      iexists _; iexact HyF_src
    iexists _
    unfold yOutFl
    irw [← y_landed c XM XX G1 (Ring.bk 32 k.val) Y0, ← e1]
    iexact HyC
  irw [behind_put (hH c (hFin c XM XX G1 G2)) h1 hk, hRole_pos c (hFin c XM XX G1 G2) (show 1 ≤ k.val + 1 by omega),
    Ring.sl_succ_add 2 k.val 1 rfl, show k.val + 1 - 1 = k.val from rfl]
  isplitl [Hha]; · iexact Hha
  isplitl [Hhb HhF_dst]
  · isplitl [HhF_dst]; · iexact HhF_dst
    iexact Hhb
  isplitl [HhF HhF_src]
  · isplitl [HhF]; · iexact HhF
    iexists _; iexact HhF_src
  iexists _
  unfold hOutFl
  irw [← h_landed c XM XX G1 G2 (Ring.bk 32 k.val) H0, ← e2]
  iexact HhC

theorem trip_all (k : Trip) :
    resAt c XM XX G1 G2 Y0 H0 k.val ⊢ wp Idealize.ShloMosaic.frame (wpE (defs₀ (F := F)) 𝒱₀ (c : Thread nD τ) none) Set.univ (tripG k)
      (fun acc => iprop(⌜acc = accAt (k.val + 1)⌝ ∗ resAt c XM XX G1 G2 Y0 H0 (k.val + 1))) := by
  by_cases h30 : k.val < 30
  · by_cases h0 : k.val = 0
    · exact trip_first c XM XX G1 G2 Y0 H0 k h0
    · exact trip_mid c XM XX G1 G2 Y0 H0 k (by omega) h30
  · exact trip_last c XM XX G1 G2 Y0 H0 k h30

/-- The loop's invariant: the carried words in closed form, the resources. -/
def pipeInv (k : ℕ) (acc : Acc) : sProp 𝕄 := iprop(⌜acc = accAt k⌝ ∗ resAt c XM XX G1 G2 Y0 H0 k)

end Cert.Proof.Norm

end
-- ==== Proof.Body.lean ====
/- The kernel's body: the two gains copied in, the two input rings primed, the loop, the two result rings drained. -/
module

public import proofs.«01_k».proof.Proof.Trip

@[expose] public section

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.SL.Sem

variable {F : FTy → Type} [FloatOps F]
local notation "𝕄" => MT nD τ sig Unit (Elt F) ℕ (UU nD τ) ℕ

variable (c : Dev nD) (XM : Buf (Elt F) (mixM.view.loc (c : Thread nD τ))) (XX : Buf (Elt F) (xM.view.loc (c : Thread nD τ)))
  (A1 : Buf (Elt F) (g1M.view.loc (c : Thread nD τ))) (A2 : Buf (Elt F) (g2M.view.loc (c : Thread nD τ)))
  (Y0 : Buf (Elt F) (yM.view.loc (c : Thread nD τ))) (H0 : Buf (Elt F) (hM.view.loc (c : Thread nD τ)))

abbrev bodyG : Prog (TpuEff nD τ sig (Elt F) Λ₀ .tc) PUnit :=
  cc0_residual_norm mixM (Memref.isWhole_whole _) xM (Memref.isWhole_whole _) g1M (Memref.isWhole_whole _) g2M (Memref.isWhole_whole _)
    yM (Memref.isWhole_whole _) hM (Memref.isWhole_whole _) mixR (Memref.isWhole_whole _) cc0_scoped1 xR (Memref.isWhole_whole _) cc0_scoped3
    g1V (Memref.isWhole_whole _) g2V (Memref.isWhole_whole _) yR (Memref.isWhole_whole _) cc0_scoped7 hR (Memref.isWhole_whole _) cc0_scoped9
    cc0_scoped10 cc0_scoped11

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)
theorem sl2_0 : Ring.sl 2 0 = 0 := Fin.ext (by rfl)
theorem sl2_1 : Ring.sl 2 (0 + 1) = 1 := Fin.ext (by rfl)
theorem bk32_0 : Ring.bk 32 0 = 0 := Fin.ext (by rfl)
theorem bk32_1 : Ring.bk 32 (0 + 1) = 1 := Fin.ext (by rfl)

theorem chk6_end : k0_chk6 (wPrev k0_t1_loop.trips) := by decide +kernel
theorem chk7_end : k0_chk7 (wGrid k0_t1_loop.trips) := by decide +kernel
theorem chk8_end : k0_chk8 (wPrev k0_t1_loop.trips) := by decide +kernel

abbrev PRE (W : Waits sig Unit) : sProp 𝕄 :=
  iprop(owes (c : Thread nD τ) 0 W
    ∗ (g1M.view.loc (c : Thread nD τ) ↦[g1M.view.set]{fullShare} A1) ∗ (g2M.view.loc (c : Thread nD τ) ↦[g2M.view.set]{fullShare} A2)
    ∗ (∃ f, g1P c f) ∗ (∃ f, g2P c f)
    ∗ semVal ((c : Thread nD τ), SemLoc.dma cc0_scoped10.sem) 0 ∗ semVal ((c : Thread nD τ), SemLoc.dma cc0_scoped11.sem) 0
    ∗ (mixH c XM 0 ∗ mixH c XM 1 ∗ bigSep (Ring.homeSet 2 0) (mixH c XM) ∗ mixFree c 0 ∗ mixFree c 1 ∗ mixFree c 2)
    ∗ (xH c XX 0 ∗ xH c XX 1 ∗ bigSep (Ring.homeSet 2 0) (xH c XX) ∗ xFree c 0 ∗ xFree c 1 ∗ xFree c 2)
    ∗ (bigSep (Ring.aheadSet 0) (yH c Y0) ∗ yFree c 0 ∗ yFree c 1)
    ∗ (bigSep (Ring.aheadSet 0) (hH c H0) ∗ hFree c 0 ∗ hFree c 1))

/-- A gain's buffer after its copy. -/
def gLand1 : Buf (Elt F) (g1V.view.loc (c : Thread nD τ)) :=
  g1V.view.writes (Elt F) g1V.view.junk [⟨Rect.whole S1x4096, ReadAs.same.apply (g1M.view.read (Elt F) A1)⟩]
def gLand2 : Buf (Elt F) (g2V.view.loc (c : Thread nD τ)) :=
  g2V.view.writes (Elt F) g2V.view.junk [⟨Rect.whole S1x4096, ReadAs.same.apply (g2M.view.read (Elt F) A2)⟩]

abbrev POST : sProp 𝕄 :=
  iprop((∃ W, owes (c : Thread nD τ) 0 W)
    ∗ (g1M.view.loc (c : Thread nD τ) ↦[g1M.view.set]{fullShare} A1) ∗ (g2M.view.loc (c : Thread nD τ) ↦[g2M.view.set]{fullShare} A2)
    ∗ (∃ f, g1P c f) ∗ (∃ f, g2P c f)
    ∗ semVal ((c : Thread nD τ), SemLoc.dma cc0_scoped10.sem) 0 ∗ semVal ((c : Thread nD τ), SemLoc.dma cc0_scoped11.sem) 0
    ∗ (bigSep Finset.univ (mixH c XM) ∗ mixFree c 0 ∗ mixFree c 1 ∗ mixFree c 2)
    ∗ (bigSep Finset.univ (xH c XX) ∗ xFree c 0 ∗ xFree c 1 ∗ xFree c 2)
    ∗ (bigSep Finset.univ (yH c (yFin c XM XX (gLand1 c A1))) ∗ yFree c 0 ∗ yFree c 1)
    ∗ (bigSep Finset.univ (hH c (hFin c XM XX (gLand1 c A1) (gLand2 c A2))) ∗ hFree c 0 ∗ hFree c 1))

theorem sl3_e0 : Ring.sl 3 k0_t1_loop.trips = 2 := by decide +kernel
theorem sl3_e1 : Ring.sl 3 (k0_t1_loop.trips + 1) = 0 := by decide +kernel
theorem sl3_e2 : Ring.sl 3 (k0_t1_loop.trips + 2) = 1 := by decide +kernel
theorem sl2_e0 : Ring.sl 2 k0_t1_loop.trips = 0 := by decide +kernel
theorem sl2_e1 : Ring.sl 2 (k0_t1_loop.trips + 1) = 1 := by decide +kernel
theorem bk32_e : Ring.bk 32 (k0_t1_loop.trips - 1) = 31 := by decide +kernel
theorem homes_e : Ring.homeSet (NB := 32) 2 k0_t1_loop.trips = Finset.univ := by decide +kernel
theorem behind_e : (Finset.univ : Finset (Fin 32)) = insert 31 (Ring.behindSet (NB := 32) 1 k0_t1_loop.trips) := by decide +kernel
theorem behind_n : (31 : Fin 32) ∉ Ring.behindSet (NB := 32) 1 k0_t1_loop.trips := by decide +kernel

theorem results_all {M : Type _} [URA M] (Φ : Fin 32 → sProp M) :
    bigSep Finset.univ Φ = iprop(Φ 31 ∗ bigSep (Ring.behindSet 1 k0_t1_loop.trips) Φ) := by
  conv_lhs => rw [behind_e, bigSep_insert behind_n]
  rfl

theorem off5_B (hh hs) : mixM.slice (Rect.unit (s := S8192x4096) k0_off5 S256x4096.size hh) hs = mixB 1 := mixB_congr (by decide +kernel) _ _
theorem off8_B (hh hs) : xM.slice (Rect.unit (s := S8192x4096) k0_off8 S256x4096.size hh) hs = xB 1 := xB_congr (by decide +kernel) _ _

attribute [local sl_canon] off5_B off8_B in
theorem bodyRun (W : Waits sig Unit) (Q : PUnit → sProp 𝕄) :
    iprop(PRE c XM XX A1 A2 Y0 H0 W ∗ (POST c XM XX A1 A2 -∗ Q ⟨⟩))
      ⊢ wp Idealize.ShloMosaic.frame (wpE (defs₀ (F := F)) 𝒱₀ (c : Thread nD τ) none) Set.univ bodyG Q := by
  iintro ⟨⟨HW, HA1, HA2, ⟨%p1, HG1⟩, ⟨%p2, HG2⟩, HC10, HC11,
    ⟨Hm0, Hm1, Hmh, ⟨HmC0, ⟨%fm0, HmS0⟩⟩, ⟨HmC1, ⟨%fm1, HmS1⟩⟩, HmF2⟩,
    ⟨Hx0, Hx1, Hxh, ⟨HxC0, ⟨%fx0, HxS0⟩⟩, ⟨HxC1, ⟨%fx1, HxS1⟩⟩, HxF2⟩,
    ⟨Hya, HyF0, HyF1⟩, ⟨Hha, HhF0, HhF1⟩⟩, Hk⟩
  sl_exec
  sl_for (pipeInv c XM XX (gLand1 c A1) (gLand2 c A2) Y0 H0) $$ [HW HG1 HG2 HmC0 HmC1 HmF2 Hmh HxC0 HxC1 HxF2 Hxh Hya HyF0 HyF1 Hha HhF0 HhF1]
  case region =>
    intro k acc
    unfold pipeInv
    iintro ⟨%e, H⟩
    subst e
    iapply (trip_all c XM XX (gLand1 c A1) (gLand2 c A2) Y0 H0 k)
    iexact H
  · unfold pipeInv resAt
    irw [mixRole_lt c XM (show 0 < 32 by decide), mixRole_lt c XM (show 0 + 1 < 32 by decide),
      xRole_lt c XX (show 0 < 32 by decide), xRole_lt c XX (show 0 + 1 < 32 by decide),
      yRole_zero c _ (show 0 < 1 by decide), hRole_zero c _ (show 0 < 1 by decide),
      behind_boot (yH c (yFin c XM XX (gLand1 c A1))) (show 0 ≤ 1 by decide),
      behind_boot (hH c (hFin c XM XX (gLand1 c A1) (gLand2 c A2))) (show 0 ≤ 1 by decide),
      sl3_0, sl3_1, sl3_2, sl2_0, sl2_1, bk32_0, bk32_1]
    isplitr; · ipureintro; rfl
    isplitl [HW]; · iexists _; iexact HW
    isplitl [HG1]; · iexact HG1
    isplitl [HG2]; · iexact HG2
    isplitl [HmC0 HmC1 HmF2 Hmh]
    · isplitl [Hmh]; · iexact Hmh
      isplitl [HmC0]; · iexists _; iexact HmC0
      isplitl [HmC1]; · iexists _; iexact HmC1
      iexact HmF2
    isplitl [HxC0 HxC1 HxF2 Hxh]
    · isplitl [Hxh]; · iexact Hxh
      isplitl [HxC0]; · iexists _; iexact HxC0
      isplitl [HxC1]; · iexists _; iexact HxC1
      iexact HxF2
    isplitl [Hya HyF0 HyF1]
    · isplitl [Hya]; · iexact Hya
      isplitr; · iempintro
      isplitl [HyF0]; · iexact HyF0
      iexact HyF1
    isplitl [Hha]; · iexact Hha
    isplitr; · iempintro
    isplitl [HhF0]; · iexact HhF0
    iexact HhF1
  unfold pipeInv resAt
  have h32 : 32 ≤ k0_t1_loop.trips := by rw [trips_eq]
  have h32' : 32 ≤ k0_t1_loop.trips + 1 := by rw [trips_eq]; decide
  have h1 : 1 ≤ k0_t1_loop.trips := by rw [trips_eq]; decide
  have hw6 := chk6_end
  have hw7 := chk7_end
  have hw8 := chk8_end
  irw [mixRole_le c XM h32, mixRole_le c XM h32', xRole_le c XX h32, xRole_le c XX h32', yRole_pos c _ h1, hRole_pos c _ h1, homes_e]
  iintro %acc ⟨%e, ⟨%W', HW⟩, HG1, HG2, ⟨Hmh, HmF0, HmF1, HmF2⟩, ⟨Hxh, HxF0, HxF1, HxF2⟩,
    ⟨-, Hyb, HyF0, ⟨%fy, HyC⟩⟩, ⟨-, Hhb, HhF0, ⟨%fh, HhC⟩⟩⟩
  subst e
  sl_exec
  sl_step
  iapply Hk
  isplitl [HW]; · iexists _; iexact HW
  isplitl [HA1]; · iexact HA1
  isplitl [HA2]; · iexact HA2
  isplitl [HG1]; · iexists _; iexact HG1
  isplitl [HG2]; · iexists _; iexact HG2
  isplitl [HC10]; · iexact HC10
  isplitl [HC11]; · iexact HC11
  isplitl [Hmh HmF0 HmF1 HmF2]
  · isplitl [Hmh]; · iexact Hmh
    isplitl [HmF1]; · iapply (of_eq (congrArg (fun s => mixFree (F := F) c s) sl3_e1)); iexact HmF1
    isplitl [HmF2]; · iapply (of_eq (congrArg (fun s => mixFree (F := F) c s) sl3_e2)); iexact HmF2
    iapply (of_eq (congrArg (fun s => mixFree (F := F) c s) sl3_e0)); iexact HmF0
  isplitl [Hxh HxF0 HxF1 HxF2]
  · isplitl [Hxh]; · iexact Hxh
    isplitl [HxF1]; · iapply (of_eq (congrArg (fun s => xFree (F := F) c s) sl3_e1)); iexact HxF1
    isplitl [HxF2]; · iapply (of_eq (congrArg (fun s => xFree (F := F) c s) sl3_e2)); iexact HxF2
    iapply (of_eq (congrArg (fun s => xFree (F := F) c s) sl3_e0)); iexact HxF0
  isplitl [Hyb HyF0 HyC_dst HyC_src HyC]
  · isplitl [Hyb HyC_dst]
    · irw [results_all (yH c (yFin c XM XX (gLand1 c A1)))]
      isplitl [HyC_dst]; · iapply (of_eq (congrArg (yH c (yFin c XM XX (gLand1 c A1))) bk32_e)); iexact HyC_dst
      iexact Hyb
    isplitl [HyF0]; · iapply (of_eq (congrArg (fun s => yFree (F := F) c s) sl2_e0)); iexact HyF0
    iapply (of_eq (congrArg (fun s => yFree (F := F) c s) sl2_e1))
    isplitl [HyC]; · iexact HyC
    iexists _; iexact HyC_src
  isplitl [Hhb HhC_dst]
  · irw [results_all (hH c (hFin c XM XX (gLand1 c A1) (gLand2 c A2)))]
    isplitl [HhC_dst]; · iapply (of_eq (congrArg (hH c (hFin c XM XX (gLand1 c A1) (gLand2 c A2))) bk32_e)); iexact HhC_dst
    iexact Hhb
  isplitl [HhF0]; · iapply (of_eq (congrArg (fun s => hFree (F := F) c s) sl2_e0)); iexact HhF0
  iapply (of_eq (congrArg (fun s => hFree (F := F) c s) sl2_e1))
  isplitl [HhC]; · iexact HhC
  iexists _; iexact HhC_src

end Cert.Proof.Norm

end
-- ==== Proof.Run.lean ====
/- The launch of `residual_norm`'s kernel: the arrays whole are their 32 row blocks, the rings whole are their slots; @main
   up to the call; the run of @main to the two results and the arguments as launched, at zero counters. Over any float
   values `F`. -/
module

public import proofs.«01_k».proof.Proof.Body
public import proofs.«01_k».proof.Proof.Gen.KernelIdeal.Frame

@[expose] public section

set_option maxRecDepth 16384

noncomputable section

namespace Cert.Proof.Norm

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The kernel's own semaphores -/

abbrev osem : Fin 12 → SemLoc sig :=
  ![.dma (mixC 0).sem, .dma (mixC 1).sem, .dma (mixC 2).sem, .dma (xC 0).sem, .dma (xC 1).sem, .dma (xC 2).sem,
    .dma (yC 0).sem, .dma (yC 1).sem, .dma (hC 0).sem, .dma (hC 1).sem, .dma cc0_scoped10.sem, .dma cc0_scoped11.sem]
theorem ownSemFacts : Pipeline.OwnSemFacts (cfgs 0).spec osem := by decide

/-! ## Element sets -/

abbrev RB (b : Fin 32) : Finset S8192x4096.Idx := (Rect.unit (s := S8192x4096) (rowOff b) S256x4096.size (rowOff_inb b)).set
abbrev R3 (s : Fin 3) : Finset S3x256x4096.Idx := (Rect.unit (s := S3x256x4096) (slotOff s) S1x256x4096.size (slot3_inb s)).set
abbrev R2 (s : Fin 2) : Finset S2x256x4096.Idx := (Rect.unit (s := S2x256x4096) (slotOff s) S1x256x4096.size (slot2_inb s)).set

theorem RB_disjoint : ∀ b b', b ≠ b' → Disjoint (RB b) (RB b') := by
  intro b b' hne; rw [Finset.disjoint_left]; intro y hy hy'
  have h1 : 256 * b.val ≤ (y 0).val ∧ (y 0).val < 256 * b.val + 256 := Rect.mem_set_unit.mp hy 0
  have h2 : 256 * b'.val ≤ (y 0).val ∧ (y 0).val < 256 * b'.val + 256 := Rect.mem_set_unit.mp hy' 0
  exact hne (Fin.ext (by omega))
theorem RB_cover : (Finset.univ : Finset (Fin 32)).biUnion RB = Finset.univ := by
  ext y; simp only [Finset.mem_biUnion, Finset.mem_univ, true_and, iff_true]
  refine ⟨blkOf y, Rect.mem_set_unit.mpr fun a => ?_⟩
  have h0 : (y 0).val < 8192 := (y 0).isLt
  have h1 : (y 1).val < 4096 := (y 1).isLt
  fin_cases a
  · show 256 * ((y 0).val / 256) ≤ (y 0).val ∧ (y 0).val < 256 * ((y 0).val / 256) + 256; omega
  · show 0 ≤ (y 1).val ∧ (y 1).val < 0 + 4096; omega
theorem R3_disjoint : ∀ s s', s ≠ s' → Disjoint (R3 s) (R3 s') := by
  intro s s' hne; rw [Finset.disjoint_left]; intro y hy hy'
  have h1 : s.val ≤ (y 0).val ∧ (y 0).val < s.val + 1 := Rect.mem_set_unit.mp hy 0
  have h2 : s'.val ≤ (y 0).val ∧ (y 0).val < s'.val + 1 := Rect.mem_set_unit.mp hy' 0
  exact hne (Fin.ext (by omega))
theorem R3_cover : (Finset.univ : Finset (Fin 3)).biUnion R3 = Finset.univ := by
  ext y; simp only [Finset.mem_biUnion, Finset.mem_univ, true_and, iff_true]
  have h0 : (y 0).val < 3 := (y 0).isLt
  have h1 : (y 1).val < 256 := (y 1).isLt
  have h2 : (y 2).val < 4096 := (y 2).isLt
  refine ⟨⟨(y 0).val, h0⟩, Rect.mem_set_unit.mpr fun a => ?_⟩
  fin_cases a
  · show (y 0).val ≤ (y 0).val ∧ (y 0).val < (y 0).val + 1; omega
  · show 0 ≤ (y 1).val ∧ (y 1).val < 0 + 256; omega
  · show 0 ≤ (y 2).val ∧ (y 2).val < 0 + 4096; omega
theorem R2_disjoint : ∀ s s', s ≠ s' → Disjoint (R2 s) (R2 s') := by
  intro s s' hne; rw [Finset.disjoint_left]; intro y hy hy'
  have h1 : s.val ≤ (y 0).val ∧ (y 0).val < s.val + 1 := Rect.mem_set_unit.mp hy 0
  have h2 : s'.val ≤ (y 0).val ∧ (y 0).val < s'.val + 1 := Rect.mem_set_unit.mp hy' 0
  exact hne (Fin.ext (by omega))
theorem R2_cover : (Finset.univ : Finset (Fin 2)).biUnion R2 = Finset.univ := by
  ext y; simp only [Finset.mem_biUnion, Finset.mem_univ, true_and, iff_true]
  have h0 : (y 0).val < 2 := (y 0).isLt
  have h1 : (y 1).val < 256 := (y 1).isLt
  have h2 : (y 2).val < 4096 := (y 2).isLt
  refine ⟨⟨(y 0).val, h0⟩, Rect.mem_set_unit.mpr fun a => ?_⟩
  fin_cases a
  · show (y 0).val ≤ (y 0).val ∧ (y 0).val < (y 0).val + 1; omega
  · show 0 ≤ (y 1).val ∧ (y 1).val < 0 + 256; omega
  · show 0 ≤ (y 2).val ∧ (y 2).val < 0 + 4096; omega

/-! ## An array whole is its row blocks -/

section Arrays
variable (c : Dev nD)

omit [FloatOps F] in
theorem mix_blocks (f : Buf (Elt F) (mixM.view.loc (c : Thread nD τ))) :
    (((c : Thread nD τ).loc main_arg0) ↦{fullShare} f : sProp 𝕄) = bigSep Finset.univ (mixH c f) := by
  rw [Ring.pointsTo_blocks (ℓ := (c : Thread nD τ).loc main_arg0) RB RB_disjoint RB_cover]
  exact bigSep_congr fun b _ => by rw [show RB b = (mixB b).view.set from (View.set_slice_whole _ _).symm]; rfl
omit [FloatOps F] in
theorem x_blocks (f : Buf (Elt F) (xM.view.loc (c : Thread nD τ))) :
    (((c : Thread nD τ).loc main_v0) ↦{fullShare} f : sProp 𝕄) = bigSep Finset.univ (xH c f) := by
  rw [Ring.pointsTo_blocks (ℓ := (c : Thread nD τ).loc main_v0) RB RB_disjoint RB_cover]
  exact bigSep_congr fun b _ => by rw [show RB b = (xB b).view.set from (View.set_slice_whole _ _).symm]; rfl
omit [FloatOps F] in
theorem y_blocks (f : Buf (Elt F) (yM.view.loc (c : Thread nD τ))) :
    (((c : Thread nD τ).loc main_v5_0) ↦{fullShare} f : sProp 𝕄) = bigSep Finset.univ (yH c f) := by
  rw [Ring.pointsTo_blocks (ℓ := (c : Thread nD τ).loc main_v5_0) RB RB_disjoint RB_cover]
  exact bigSep_congr fun b _ => by rw [show RB b = (yB b).view.set from (View.set_slice_whole _ _).symm]; rfl
omit [FloatOps F] in
theorem h_blocks (f : Buf (Elt F) (hM.view.loc (c : Thread nD τ))) :
    (((c : Thread nD τ).loc main_v5_1) ↦{fullShare} f : sProp 𝕄) = bigSep Finset.univ (hH c f) := by
  rw [Ring.pointsTo_blocks (ℓ := (c : Thread nD τ).loc main_v5_1) RB RB_disjoint RB_cover]
  exact bigSep_congr fun b _ => by rw [show RB b = (hB b).view.set from (View.set_slice_whole _ _).symm]; rfl

theorem homes_zero {M : Type _} [URA M] (Φ : Fin 32 → sProp M) :
    bigSep Finset.univ Φ = iprop(Φ 0 ∗ Φ 1 ∗ bigSep (Ring.homeSet 2 0) Φ) := by
  have e : (Finset.univ : Finset (Fin 32)) = insert 0 (insert 1 (Ring.homeSet (NB := 32) 2 0)) := by decide +kernel
  rw [e, bigSep_insert (by decide +kernel), bigSep_insert (by decide +kernel)]; rfl

/-! ## A ring whole is its slots -/

omit [FloatOps F] in
theorem mixSP_eq (s : Fin 3) (f : Buf (Elt F) ((c : Thread nD τ).loc cc0_scoped0)) :
    mixSP c s f = (((c : Thread nD τ).loc cc0_scoped0) ↦[R3 s]{fullShare} f : sProp 𝕄) :=
  congrArg (fun S => (_ ↦[S]{fullShare} f : sProp 𝕄)) ((View.set_reshape _ _).trans (View.set_slice_whole _ _))
theorem mix_split : iprop(∃ f : Buf (Elt F) ((c : Thread nD τ).loc cc0_scoped0), ((c : Thread nD τ).loc cc0_scoped0) ↦{fullShare} f)
    ⊢ (iprop((∃ f, mixSP c 0 f) ∗ (∃ f, mixSP c 1 f) ∗ (∃ f, mixSP c 2 f)) : sProp 𝕄) :=
  Ring.slots3_split (Ix := Unit) (Name := ℕ) (U := UU nD τ) (Lvl := ℕ) (q := fullShare) (ℓ := (c : Thread nD τ).loc cc0_scoped0) R3 R3_disjoint R3_cover (fun f => mixSP c 0 f) (fun f => mixSP c 1 f) (fun f => mixSP c 2 f) (mixSP_eq c 0) (mixSP_eq c 1) (mixSP_eq c 2)
theorem mix_join : iprop((∃ f, mixSP c 0 f) ∗ (∃ f, mixSP c 1 f) ∗ (∃ f, mixSP c 2 f))
    ⊢ (iprop(∃ f : Buf (Elt F) ((c : Thread nD τ).loc cc0_scoped0), ((c : Thread nD τ).loc cc0_scoped0) ↦{fullShare} f) : sProp 𝕄) :=
  Ring.slots3_join (Ix := Unit) (Name := ℕ) (U := UU nD τ) (Lvl := ℕ) (q := fullShare) (ℓ := (c : Thread nD τ).loc cc0_scoped0) R3 R3_disjoint R3_cover (fun f => mixSP c 0 f) (fun f => mixSP c 1 f) (fun f => mixSP c 2 f) (mixSP_eq c 0) (mixSP_eq c 1) (mixSP_eq c 2)
omit [FloatOps F] in
theorem xSP_eq (s : Fin 3) (f : Buf (Elt F) ((c : Thread nD τ).loc cc0_scoped2)) :
    xSP c s f = (((c : Thread nD τ).loc cc0_scoped2) ↦[R3 s]{fullShare} f : sProp 𝕄) :=
  congrArg (fun S => (_ ↦[S]{fullShare} f : sProp 𝕄)) ((View.set_reshape _ _).trans (View.set_slice_whole _ _))
theorem x_split : iprop(∃ f : Buf (Elt F) ((c : Thread nD τ).loc cc0_scoped2), ((c : Thread nD τ).loc cc0_scoped2) ↦{fullShare} f)
    ⊢ (iprop((∃ f, xSP c 0 f) ∗ (∃ f, xSP c 1 f) ∗ (∃ f, xSP c 2 f)) : sProp 𝕄) :=
  Ring.slots3_split (Ix := Unit) (Name := ℕ) (U := UU nD τ) (Lvl := ℕ) (q := fullShare) (ℓ := (c : Thread nD τ).loc cc0_scoped2) R3 R3_disjoint R3_cover (fun f => xSP c 0 f) (fun f => xSP c 1 f) (fun f => xSP c 2 f) (xSP_eq c 0) (xSP_eq c 1) (xSP_eq c 2)
theorem x_join : iprop((∃ f, xSP c 0 f) ∗ (∃ f, xSP c 1 f) ∗ (∃ f, xSP c 2 f))
    ⊢ (iprop(∃ f : Buf (Elt F) ((c : Thread nD τ).loc cc0_scoped2), ((c : Thread nD τ).loc cc0_scoped2) ↦{fullShare} f) : sProp 𝕄) :=
  Ring.slots3_join (Ix := Unit) (Name := ℕ) (U := UU nD τ) (Lvl := ℕ) (q := fullShare) (ℓ := (c : Thread nD τ).loc cc0_scoped2) R3 R3_disjoint R3_cover (fun f => xSP c 0 f) (fun f => xSP c 1 f) (fun f => xSP c 2 f) (xSP_eq c 0) (xSP_eq c 1) (xSP_eq c 2)
omit [FloatOps F] in
theorem ySP_eq (s : Fin 2) (f : Buf (Elt F) ((c : Thread nD τ).loc cc0_scoped6)) :
    ySP c s f = (((c : Thread nD τ).loc cc0_scoped6) ↦[R2 s]{fullShare} f : sProp 𝕄) :=
  congrArg (fun S => (_ ↦[S]{fullShare} f : sProp 𝕄)) ((View.set_reshape _ _).trans (View.set_slice_whole _ _))
theorem y_split : iprop(∃ f : Buf (Elt F) ((c : Thread nD τ).loc cc0_scoped6), ((c : Thread nD τ).loc cc0_scoped6) ↦{fullShare} f)
    ⊢ (iprop((∃ f, ySP c 0 f) ∗ (∃ f, ySP c 1 f)) : sProp 𝕄) :=
  Ring.slots2_split (Ix := Unit) (Name := ℕ) (U := UU nD τ) (Lvl := ℕ) (q := fullShare) (ℓ := (c : Thread nD τ).loc cc0_scoped6) R2 R2_disjoint R2_cover (fun f => ySP c 0 f) (fun f => ySP c 1 f) (ySP_eq c 0) (ySP_eq c 1)
theorem y_join : iprop((∃ f, ySP c 0 f) ∗ (∃ f, ySP c 1 f))
    ⊢ (iprop(∃ f : Buf (Elt F) ((c : Thread nD τ).loc cc0_scoped6), ((c : Thread nD τ).loc cc0_scoped6) ↦{fullShare} f) : sProp 𝕄) :=
  Ring.slots2_join (Ix := Unit) (Name := ℕ) (U := UU nD τ) (Lvl := ℕ) (q := fullShare) (ℓ := (c : Thread nD τ).loc cc0_scoped6) R2 R2_disjoint R2_cover (fun f => ySP c 0 f) (fun f => ySP c 1 f) (ySP_eq c 0) (ySP_eq c 1)
omit [FloatOps F] in
theorem hSP_eq (s : Fin 2) (f : Buf (Elt F) ((c : Thread nD τ).loc cc0_scoped8)) :
    hSP c s f = (((c : Thread nD τ).loc cc0_scoped8) ↦[R2 s]{fullShare} f : sProp 𝕄) :=
  congrArg (fun S => (_ ↦[S]{fullShare} f : sProp 𝕄)) ((View.set_reshape _ _).trans (View.set_slice_whole _ _))
theorem h_split : iprop(∃ f : Buf (Elt F) ((c : Thread nD τ).loc cc0_scoped8), ((c : Thread nD τ).loc cc0_scoped8) ↦{fullShare} f)
    ⊢ (iprop((∃ f, hSP c 0 f) ∗ (∃ f, hSP c 1 f)) : sProp 𝕄) :=
  Ring.slots2_split (Ix := Unit) (Name := ℕ) (U := UU nD τ) (Lvl := ℕ) (q := fullShare) (ℓ := (c : Thread nD τ).loc cc0_scoped8) R2 R2_disjoint R2_cover (fun f => hSP c 0 f) (fun f => hSP c 1 f) (hSP_eq c 0) (hSP_eq c 1)
theorem h_join : iprop((∃ f, hSP c 0 f) ∗ (∃ f, hSP c 1 f))
    ⊢ (iprop(∃ f : Buf (Elt F) ((c : Thread nD τ).loc cc0_scoped8), ((c : Thread nD τ).loc cc0_scoped8) ↦{fullShare} f) : sProp 𝕄) :=
  Ring.slots2_join (Ix := Unit) (Name := ℕ) (U := UU nD τ) (Lvl := ℕ) (q := fullShare) (ℓ := (c : Thread nD τ).loc cc0_scoped8) R2 R2_disjoint R2_cover (fun f => hSP c 0 f) (fun f => hSP c 1 f) (hSP_eq c 0) (hSP_eq c 1)

omit [FloatOps F] in
/-- The kernel's own cells at zero, one by one. -/
theorem ownSems0_eq : (Pipeline.ownSems0 (Ix := Unit) (Name := ℕ) (U := UU nD τ) (Lvl := ℕ) (Val := Elt F) (τ := τ) osem c : sProp 𝕄)
    = iprop(mixCP c 0 ∗ mixCP c 1 ∗ mixCP c 2 ∗ xCP c 0 ∗ xCP c 1 ∗ xCP c 2 ∗ yCP c 0 ∗ yCP c 1 ∗ hCP c 0 ∗ hCP c 1 ∗ semVal ((c : Thread nD τ), SemLoc.dma cc0_scoped10.sem) 0 ∗ semVal ((c : Thread nD τ), SemLoc.dma cc0_scoped11.sem) 0) := by
  unfold Pipeline.ownSems0
  exact bigSep_univ_eq_bigSepL [(0 : Fin 12), 1, 2, 3, 4, 5, 6, 7, 8, 9, 10, 11] (by decide) (by decide) _

omit [FloatOps F] in
theorem g1M_whole (f : Buf (Elt F) ((c : Thread nD τ).loc main_v2)) :
    ((g1M.view.loc (c : Thread nD τ)) ↦[g1M.view.set]{fullShare} f : sProp 𝕄) = (((c : Thread nD τ).loc main_v2) ↦{fullShare} f : sProp 𝕄) :=
  congrArg (fun S => (((c : Thread nD τ).loc main_v2) ↦[S]{fullShare} f : sProp 𝕄)) (View.set_whole _)
omit [FloatOps F] in
theorem g2M_whole (f : Buf (Elt F) ((c : Thread nD τ).loc main_v4)) :
    ((g2M.view.loc (c : Thread nD τ)) ↦[g2M.view.set]{fullShare} f : sProp 𝕄) = (((c : Thread nD τ).loc main_v4) ↦{fullShare} f : sProp 𝕄) :=
  congrArg (fun S => (((c : Thread nD τ).loc main_v4) ↦[S]{fullShare} f : sProp 𝕄)) (View.set_whole _)
omit [FloatOps F] in
theorem g1V_whole (f : Buf (Elt F) ((c : Thread nD τ).loc cc0_scoped4)) :
    ((g1V.view.loc (c : Thread nD τ)) ↦[g1V.view.set]{fullShare} f : sProp 𝕄) = (((c : Thread nD τ).loc cc0_scoped4) ↦{fullShare} f : sProp 𝕄) :=
  congrArg (fun S => (((c : Thread nD τ).loc cc0_scoped4) ↦[S]{fullShare} f : sProp 𝕄)) (View.set_whole _)
omit [FloatOps F] in
theorem g2V_whole (f : Buf (Elt F) ((c : Thread nD τ).loc cc0_scoped5)) :
    ((g2V.view.loc (c : Thread nD τ)) ↦[g2V.view.set]{fullShare} f : sProp 𝕄) = (((c : Thread nD τ).loc cc0_scoped5) ↦{fullShare} f : sProp 𝕄) :=
  congrArg (fun S => (((c : Thread nD τ).loc cc0_scoped5) ↦[S]{fullShare} f : sProp 𝕄)) (View.set_whole _)

end Arrays

/-! ## The pipeline's proof data -/

abbrev XM (c : Dev nD) : Buf (Elt F) (mixM.view.loc (c : Thread nD τ)) := V m c main_arg0
abbrev XX (c : Dev nD) : Buf (Elt F) (xM.view.loc (c : Thread nD τ)) := V m c main_v0
abbrev A1 (c : Dev nD) : Buf (Elt F) (g1M.view.loc (c : Thread nD τ)) := V m c main_v2
abbrev A2 (c : Dev nD) : Buf (Elt F) (g2M.view.loc (c : Thread nD τ)) := V m c main_v4
/-- The two results. -/
def yEnd (c : Dev nD) : Buf (Elt F) ((c : Thread nD τ).loc main_v5_0) := yFin c (XM m c) (XX m c) (gLand1 c (A1 m c))
def hEnd (c : Dev nD) : Buf (Elt F) ((c : Thread nD τ).loc main_v5_1) := hFin c (XM m c) (XX m c) (gLand1 c (A1 m c)) (gLand2 c (A2 m c))

/-- The four arrays read, the two written at `Y` and `H`. -/
def arrs (c : Dev nD) (Y : Buf (Elt F) ((c : Thread nD τ).loc main_v5_0)) (H : Buf (Elt F) ((c : Thread nD τ).loc main_v5_1)) : sProp 𝕄 :=
  iprop((((c : Thread nD τ).loc main_arg0) ↦{fullShare} XM m c) ∗ (((c : Thread nD τ).loc main_v0) ↦{fullShare} XX m c)
    ∗ (((c : Thread nD τ).loc main_v2) ↦{fullShare} A1 m c) ∗ (((c : Thread nD τ).loc main_v4) ↦{fullShare} A2 m c)
    ∗ (((c : Thread nD τ).loc main_v5_0) ↦{fullShare} Y) ∗ (((c : Thread nD τ).loc main_v5_1) ↦{fullShare} H))
/-- The six scoped buffers at anything. -/
def bufs (c : Dev nD) : sProp 𝕄 := Pipeline.scopedRest (Ix := Unit) (Name := ℕ) (U := UU nD τ) (Lvl := ℕ) (Val := Elt F) cfg0.spec c
/-- The region invariant: the arrays, the twelve cells at zero, the scoped buffers. -/
def Φ (c : Dev nD) (Y : Buf (Elt F) ((c : Thread nD τ).loc main_v5_0)) (H : Buf (Elt F) ((c : Thread nD τ).loc main_v5_1)) : sProp 𝕄 :=
  iprop(arrs m c Y H ∗ Pipeline.ownSems0 osem c ∗ bufs c)

def dats (_ : Fin 1) (c : Dev nD) : Dat τ (Elt F) Unit ℕ (UU nD τ) ℕ cfg0 c where
  A w := w.elim0
  after w t := w.elim0
  Φ t := if t.val = 0 then Φ m c (V m c main_v5_0) (V m c main_v5_1) else Φ m c (yEnd m c) (hEnd m c)
  q _ := fullShare
  owed _ := 0

theorem prog_eq (t : Fin cfg0.N) : (defs₀ (F := F)) .tc cfg0.body (cfg0.bodyArgs t (cfg0.slots t)) = bodyG := rfl

/-- The body from the region invariant to the region invariant. -/
theorem bodyΦ (c : Dev nD) (W : Waits sig Unit) (Q : PUnit → sProp 𝕄) :
    iprop((owes (c : Thread nD τ) 0 W ∗ Φ m c (V m c main_v5_0) (V m c main_v5_1))
        ∗ (iprop((∃ W', owes (c : Thread nD τ) 0 W') ∗ Φ m c (yEnd m c) (hEnd m c)) -∗ Q ⟨⟩))
      ⊢ wp Idealize.ShloMosaic.frame (wpE (defs₀ (F := F)) 𝒱₀ (c : Thread nD τ) none) Set.univ bodyG Q := by
  unfold Φ arrs bufs
  rw [ownSems0_eq, scopedRest0_eq]
  rw [mix_blocks, x_blocks, y_blocks, h_blocks, y_blocks, h_blocks, homes_zero (mixH c _), homes_zero (xH c _)]
  iintro ⟨⟨HW, ⟨⟨Hm0, Hm1, Hmh⟩, ⟨Hx0, Hx1, Hxh⟩, HA1, HA2, Hy, Hh⟩, ⟨Cm0, Cm1, Cm2, Cx0, Cx1, Cx2, Cy0, Cy1, Ch0, Ch1, C10, C11⟩,
    ⟨Bm, Bx, ⟨%f1, B1⟩, ⟨%f2, B2⟩, By, Bh⟩⟩, Hk⟩
  ihave Bm' := (mix_split c) $$ Bm
  icases Bm' with ⟨Bm0, Bm1, Bm2⟩
  ihave Bx' := (x_split c) $$ Bx
  icases Bx' with ⟨Bx0, Bx1, Bx2⟩
  ihave By' := (y_split c) $$ By
  icases By' with ⟨By0, By1⟩
  ihave Bh' := (h_split c) $$ Bh
  icases Bh' with ⟨Bh0, Bh1⟩
  iapply (bodyRun c (XM m c) (XX m c) (A1 m c) (A2 m c) (V m c main_v5_0) (V m c main_v5_1) W)
  isplitr [Hk]
  · isplitl [HW]; · iexact HW
    isplitl [HA1]; · iapply (of_eq (g1M_whole c _).symm); iexact HA1
    isplitl [HA2]; · iapply (of_eq (g2M_whole c _).symm); iexact HA2
    isplitl [B1]; · iexists f1; iapply (of_eq (g1V_whole c _).symm); iexact B1
    isplitl [B2]; · iexists f2; iapply (of_eq (g2V_whole c _).symm); iexact B2
    isplitl [C10]; · iexact C10
    isplitl [C11]; · iexact C11
    isplitl [Hm0 Hm1 Hmh Cm0 Cm1 Cm2 Bm0 Bm1 Bm2]
    · isplitl [Hm0]; · iexact Hm0
      isplitl [Hm1]; · iexact Hm1
      isplitl [Hmh]; · iexact Hmh
      isplitl [Cm0 Bm0]
      · isplitl [Cm0]; · iexact Cm0
        iexact Bm0
      isplitl [Cm1 Bm1]
      · isplitl [Cm1]; · iexact Cm1
        iexact Bm1
      isplitl [Cm2]; · iexact Cm2
      iexact Bm2
    isplitl [Hx0 Hx1 Hxh Cx0 Cx1 Cx2 Bx0 Bx1 Bx2]
    · isplitl [Hx0]; · iexact Hx0
      isplitl [Hx1]; · iexact Hx1
      isplitl [Hxh]; · iexact Hxh
      isplitl [Cx0 Bx0]
      · isplitl [Cx0]; · iexact Cx0
        iexact Bx0
      isplitl [Cx1 Bx1]
      · isplitl [Cx1]; · iexact Cx1
        iexact Bx1
      isplitl [Cx2]; · iexact Cx2
      iexact Bx2
    isplitl [Hy Cy0 Cy1 By0 By1]
    · isplitl [Hy]; · irw [Ring.aheadSet_zero]; iexact Hy
      isplitl [Cy0 By0]
      · isplitl [Cy0]; · iexact Cy0
        iexact By0
      isplitl [Cy1]; · iexact Cy1
      iexact By1
    isplitl [Hh]; · irw [Ring.aheadSet_zero]; iexact Hh
    isplitl [Ch0 Bh0]
    · isplitl [Ch0]; · iexact Ch0
      iexact Bh0
    isplitl [Ch1]; · iexact Ch1
    iexact Bh1
  iintro ⟨HW, HA1, HA2, ⟨%f1', B1⟩, ⟨%f2', B2⟩, C10, C11, ⟨Hm, ⟨Cm0, Bm0⟩, ⟨Cm1, Bm1⟩, ⟨Cm2, Bm2⟩⟩, ⟨Hx, ⟨Cx0, Bx0⟩, ⟨Cx1, Bx1⟩, ⟨Cx2, Bx2⟩⟩,
    ⟨Hy, ⟨Cy0, By0⟩, ⟨Cy1, By1⟩⟩, ⟨Hh, ⟨Ch0, Bh0⟩, ⟨Ch1, Bh1⟩⟩⟩
  iapply Hk
  isplitl [HW]; · iexact HW
  isplitl [Hm Hx HA1 HA2 Hy Hh]
  · isplitl [Hm]; · iapply (of_eq (homes_zero (mixH c (XM m c)))); iexact Hm
    isplitl [Hx]; · iapply (of_eq (homes_zero (xH c (XX m c)))); iexact Hx
    isplitl [HA1]; · iapply (of_eq (g1M_whole c _)); iexact HA1
    isplitl [HA2]; · iapply (of_eq (g2M_whole c _)); iexact HA2
    isplitl [Hy]; · iexact Hy
    iexact Hh
  isplitl [Cm0 Cm1 Cm2 Cx0 Cx1 Cx2 Cy0 Cy1 Ch0 Ch1 C10 C11]
  · isplitl [Cm0]; · iexact Cm0
    isplitl [Cm1]; · iexact Cm1
    isplitl [Cm2]; · iexact Cm2
    isplitl [Cx0]; · iexact Cx0
    isplitl [Cx1]; · iexact Cx1
    isplitl [Cx2]; · iexact Cx2
    isplitl [Cy0]; · iexact Cy0
    isplitl [Cy1]; · iexact Cy1
    isplitl [Ch0]; · iexact Ch0
    isplitl [Ch1]; · iexact Ch1
    isplitl [C10]; · iexact C10
    iexact C11
  isplitl [Bm0 Bm1 Bm2]
  · iapply (mix_join c)
    isplitl [Bm0]; · iexact Bm0
    isplitl [Bm1]; · iexact Bm1
    iexact Bm2
  isplitl [Bx0 Bx1 Bx2]
  · iapply (x_join c)
    isplitl [Bx0]; · iexact Bx0
    isplitl [Bx1]; · iexact Bx1
    iexact Bx2
  isplitl [B1]; · iexists _; iapply (of_eq (g1V_whole c _)); iexact B1
  isplitl [B2]; · iexists _; iapply (of_eq (g2V_whole c _)); iexact B2
  isplitl [By0 By1]
  · iapply (y_join c)
    isplitl [By0]; · iexact By0
    iexact By1
  iapply (h_join c)
  isplitl [Bh0]; · iexact Bh0
  iexact Bh1

theorem noWindows (Φ : Fin cfg0.W → sProp 𝕄) : bigSep Finset.univ Φ = iprop(emp) := by
  rw [show (Finset.univ : Finset (Fin cfg0.W)) = ∅ from rfl, bigSep_empty]; rfl

set_option backward.isDefEq.respectTransparency.types false in
theorem body_obligation (c : Dev nD) : BodyObligation (dats (F := F) m 0 c) (defs₀ (F := F)) 𝒱₀ () Set.univ := fun t => by
  obtain rfl := fin_N0 t
  rw [noWindows, noWindows]
  rw [show (dats m 0 c).Φ t0_0.castSucc = Φ m c (V m c main_v5_0) (V m c main_v5_1) from rfl,
    show (dats m 0 c).Φ t0_0.succ = Φ m c (yEnd m c) (hEnd m c) from rfl]
  unfold Dat.owesAt Pipeline.owesWithin
  rw [show (dats m 0 c).owed t0_0.castSucc = 0 from rfl, show (dats m 0 c).owed t0_0.succ = 0 from rfl]
  iintro ⟨HΦ, ⟨%W, -, HW⟩, -⟩
  sl_rw [prog_eq t0_0]
  iapply (bodyΦ m c W)
  isplitl [HΦ HW]
  · isplitl [HW]; · iexact HW
    iexact HΦ
  iintro ⟨⟨%W', HW⟩, HΦ⟩
  isplitl [HΦ]; · iexact HΦ
  isplitl [HW]
  · iexists W'; isplitr; · ipureintro; exact fun _ _ => Or.inl trivial
    iexact HW
  iempintro

/-! ## The run -/

def u₀ : UU nD τ := (initOf (Pipeline.cells cfgs Cert.KernelIdeal.Gen.cellOf_inj) (Pipeline.launchToks cfgs Cert.KernelIdeal.Gen.cellOf_inj), 1)

set_option maxHeartbeats 800000 in
theorem hmain : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The arguments no copy of the kernel reads. -/
def rest (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg3) ↦{fullShare} V m c main_arg3))

/-- What a final state has on core `c`: the results, the arguments as launched. -/
def QY (c : Dev nD) (s : MemSt nD τ sig (Elt F)) : Prop :=
  s.mem ((c : Thread nD τ).loc main_v5_0) = yEnd m c ∧ s.mem ((c : Thread nD τ).loc main_v5_1) = hEnd m c
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)

set_option backward.isDefEq.respectTransparency.types false in
/-- For any float values, from any memory with zero counters: every weakly fair execution of @main terminates, and every
    final state has the two results at `yEnd`, `hEnd`, the arguments unchanged, every semaphore counter at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain m)
    (hA := fun _ w => w.elim0)
    (X := fun c => iprop(arrs m c (V m c main_v5_0) (V m c main_v5_1) ∗ Pipeline.ownSems0 osem c))
    (Y := fun c => arrs m c (yEnd m c) (hEnd m c)) (Z := rest m)
    (hX := fun c => by
      rw [unscopedRest0_eq]
      unfold arrs rest
      iintro ⟨⟨H0, H1, H2, H3, Hv0, -, Hv2, -, Hv4, Hy, Hh⟩, HS, -, -, -⟩; imodintro
      isplitl [H0 Hv0 Hv2 Hv4 Hy Hh HS]
      · isplitr [HS]
        · isplitl [H0]; · iexact H0
          isplitl [Hv0]; · iexact Hv0
          isplitl [Hv2]; · iexact Hv2
          isplitl [Hv4]; · iexact Hv4
          isplitl [Hy]; · iexact Hy
          iexact Hh
        iexact HS
      isplitl [H1]; · iexact H1
      isplitl [H2]; · iexact H2
      iexact H3)
    (hin := fun c => by
      rw [show (dats m 0 c).Φ 0 = Φ m c (V m c main_v5_0) (V m c main_v5_1) from rfl]
      unfold Φ bufs
      iintro ⟨⟨H0, HS⟩, Hb⟩
      isplitl [H0]; · iexact H0
      isplitl [HS]; · iexact HS
      iexact Hb)
    (hout := fun c => by
      rw [show (dats m 0 c).Φ (Fin.last cfg0.N) = Φ m c (yEnd m c) (hEnd m c) from rfl]
      unfold Φ bufs
      iintro ⟨H0, HS, Hb⟩
      isplitl [H0]; · iexact H0
      isplitl [HS]; · iexact HS
      iexact Hb)
    (QY := QY m)
    (hY := fun c s' => by
      unfold arrs rest
      iintro ⟨⟨H0, -, -, -, Hy, Hh⟩, ⟨H1, H2, H3⟩, HSI⟩
      icombine HSI H0 gives %h0
      icombine HSI Hy gives %hy
      icombine HSI Hh gives %hh
      icombine HSI H1 gives %h1
      icombine HSI H2 gives %h2
      icombine HSI H3 gives %h3
      imodintro
      isplitr
      · ipureintro
        exact ⟨Buf.eq_of_forall_mem_univ hy, Buf.eq_of_forall_mem_univ hh, (Buf.eq_of_forall_mem_univ h0).trans (V_main_arg0 m c),
          (Buf.eq_of_forall_mem_univ h1).trans (V_main_arg1 m c), (Buf.eq_of_forall_mem_univ h2).trans (V_main_arg2 m c),
          (Buf.eq_of_forall_mem_univ h3).trans (V_main_arg3 m c)⟩
      iexact HSI)
    (hQ := fun _ hh hz => ⟨fun c => (hh c).2, hz⟩)

end Cert.Proof.Norm

end
-- ==== Proof.Value.lean ====
/- The value claim of `residual_norm`: at the ideal instance the two results the pipeline leaves are the reference's. -/
module

public import proofs.«01_k».proof.Proof.Run
public import proofs.«01_k».proof.Proof.Gen.ReferenceIdeal.Run
public import proofs.«01_k».proof.Proof.Gen.ReferenceIdeal.Read
public import Idealize.ShloMosaic.Lib.Pointwise
public import Idealize.ShloMosaic.Lib.Quiescent
public import proofs.«01_k».proof.Defs
public import proofs.«01_k».proof.Proof.Gen.Kernel

@[expose] public section

set_option maxRecDepth 16384

noncomputable section

namespace Cert.Proof.Norm

open Idealize.ShloMosaic Idealize.ShloMosaic.TcCoe Idealize.SL.Sem

/-- A row `z` over its root mean square, times a gain: entry `l`. -/
def normed (z g : Fin 4096 → EReal) (l : Fin 4096) : EReal :=
  z l * Ideal.rsqrt (Ideal.div (∑ k, z k * z k) (Ideal.ofBits .f32 0x45800000#32) + Ideal.ofBits .f32 0x358637BD#32) * g l

section Payloads
open Cert.KernelIdeal Cert.KernelIdeal.Gen

theorem pay1_at (x : S256x4096.Idx → Elt Ideal .f32) (z : S256x4096.Idx → Elt Ideal .bf16) (g : Vec Ideal S1x4096 .f32) (r : Fin 256) (l : Fin 4096) :
    k0_pay1 (shapeCast S1x256x4096 x shapeCasts_S256x4096_S1x256x4096) (shapeCast S1x256x4096 z shapeCasts_S256x4096_S1x256x4096) g (ix2 r l)
      = x (ix2 r l) + normed (fun k => z (ix2 r k)) (fun k => g (ix2 0 k)) l := by
  pointwise [k0_pay1, normed]

theorem pay3_at (y : FVec Ideal S256x4096 .f32) (g : Vec Ideal S1x4096 .f32) (r : Fin 256) (l : Fin 4096) :
    shapeCast S256x4096 (k0_pay3 y g) shapeCasts_S1x256x4096_S256x4096 (ix2 r l)
      = normed (fun k => y (ix2 r k)) (fun k => g (ix2 0 k)) l := by
  pointwise [k0_pay3, normed]

end Payloads

section Reference
open Cert.ReferenceIdeal Cert.ReferenceIdeal.Gen Cert.ReferenceIdeal.Read

theorem ref1_at (x0 : (⟨S8192x4096, .bf16⟩ : BufTy).Contents (Elt Ideal)) (x1 : (⟨S1x8192x4096, .f32⟩ : BufTy).Contents (Elt Ideal))
    (x2 : (⟨S1x4096, .f32⟩ : BufTy).Contents (Elt Ideal)) (r : Fin 8192) (l : Fin 4096) :
    val_main_v16 x0 x1 x2 (ix2 r l) = (x1 (ix3 0 r l) : EReal) + normed (fun k => x0 (ix2 r k)) (fun k => x2 (ix2 0 k)) l := by
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1, normed]

theorem ref2_at (x0 : (⟨S8192x4096, .bf16⟩ : BufTy).Contents (Elt Ideal)) (x1 : (⟨S1x8192x4096, .f32⟩ : BufTy).Contents (Elt Ideal))
    (x2 x3 : (⟨S1x4096, .f32⟩ : BufTy).Contents (Elt Ideal)) (r : Fin 8192) (l : Fin 4096) :
    val_main_v31 x0 x1 x2 x3 (ix2 r l) = normed (fun k => val_main_v16 x0 x1 x2 (ix2 r k)) (fun k => x3 (ix2 0 k)) l := by
  pointwise [val_main_v31, val_main_v30, val_main_v29, val_main_v28, val_main_v27, val_main_v26, val_main_v25, val_main_v24, val_main_v23,
    val_main_v22, val_main_v21, val_main_v20, val_main_v19, val_main_v18, val_main_v17, val_main_cst_2, val_main_cst_3, val_main_cst_4, normed]

end Reference

/-! ## The results the pipeline leaves -/

section Kernel
open Cert.KernelIdeal Cert.KernelIdeal.Gen

variable (m : (ℓ : Loc nD τ sig) → Buf (Elt Ideal) ℓ) (c : Dev nD)

theorem XX_eq : XX m c = shapeCast S8192x4096 (m ((c : Thread nD τ).loc main_arg1)) shapeCasts_S1x8192x4096_S8192x4096 := by
  unfold XX V hostOps0
  after_results <;> rfl
theorem A1_eq : A1 m c = shapeCast S1x4096 (shapeCast S4096 (m ((c : Thread nD τ).loc main_arg2)) shapeCasts_S1x4096_S4096) shapeCasts_S4096_S1x4096 := by
  unfold A1 V hostOps0
  after_results <;> rfl
theorem A2_eq : A2 m c = shapeCast S1x4096 (shapeCast S4096 (m ((c : Thread nD τ).loc main_arg3)) shapeCasts_S1x4096_S4096) shapeCasts_S4096_S1x4096 := by
  unfold A2 V hostOps0
  after_results <;> rfl

theorem unit3_at (x : S1x8192x4096.Idx → EReal) (r : Fin 8192) (l : Fin 4096) :
    shapeCast S8192x4096 x shapeCasts_S1x8192x4096_S8192x4096 (ix2 r l) = x (ix3 0 r l) := by pointwise
theorem unit2_at (x : S1x4096.Idx → EReal) :
    shapeCast S1x4096 (shapeCast S4096 x shapeCasts_S1x4096_S4096) shapeCasts_S4096_S1x4096 = x := by
  rw [shapeCast_shapeCast]

/-- The arguments, as arrays of extended reals. -/
def in0 : S8192x4096.Idx → EReal := m ((c : Thread nD τ).loc main_arg0)
def in1 : S1x8192x4096.Idx → EReal := m ((c : Thread nD τ).loc main_arg1)
def in2 : S1x4096.Idx → EReal := m ((c : Thread nD τ).loc main_arg2)
def in3 : S1x4096.Idx → EReal := m ((c : Thread nD τ).loc main_arg3)

theorem XM_in : XM m c = in0 m c := V_main_arg0 m c
theorem XX_at (r : Fin 8192) (l : Fin 4096) : XX m c (ix2 r l) = in1 m c (ix3 0 r l) :=
  (congrFun (XX_eq m c) _).trans (unit3_at (in1 m c) r l)
theorem A1_in : A1 m c = in2 m c := (A1_eq m c).trans (unit2_at (in2 m c))
theorem A2_in : A2 m c = in3 m c := (A2_eq m c).trans (unit2_at (in3 m c))

/-- Row `p` of block `b`. -/
def rowOfBlk (b : Fin 32) (p : Fin 256) : Fin 8192 := ⟨256 * b.val + p.val, by omega⟩

theorem mixW_at (M : Buf (Elt Ideal) (mixM.view.loc (c : Thread nD τ))) (b : Fin 32) (p : Fin 256) (l : Fin 4096) :
    mixW c M b (ix2 p l) = M (ix2 (rowOfBlk b p) l) := by
  refine congrArg M (funext fun a => Fin.ext ?_)
  match a with
  | ⟨0, _⟩ => show 256 * b.val + 1 * p.val = 256 * b.val + p.val; omega
  | ⟨1, _⟩ => show 0 + 1 * l.val = l.val; omega
theorem xW_at (X : Buf (Elt Ideal) (xM.view.loc (c : Thread nD τ))) (b : Fin 32) (p : Fin 256) (l : Fin 4096) :
    xW c X b (ix2 p l) = X (ix2 (rowOfBlk b p) l) := by
  refine congrArg X (funext fun a => Fin.ext ?_)
  match a with
  | ⟨0, _⟩ => show 256 * b.val + 1 * p.val = 256 * b.val + p.val; omega
  | ⟨1, _⟩ => show 0 + 1 * l.val = l.val; omega

/-- A gain row read back whole is the row copied in. -/
theorem row_load {sg : RefSig} {sp : Space} (v : View sg .tc sp S1x4096 .f32) (inb) (f : v.ty.Contents (Elt Ideal)) (P : S1x4096.Idx → Elt Ideal .f32) :
    v.readAt (Elt Ideal) (Rect.unit (s := S1x4096) ![0, 0] S1x4096.size inb).toLoadRect (v.writes (Elt Ideal) f [⟨Rect.whole S1x4096, P⟩]) = P := by
  funext i
  refine Eq.trans ?_ (congrFun (View.read_writes_whole (Val := Elt Ideal) v f P) i)
  generalize v.writes (Elt Ideal) f [⟨Rect.whole S1x4096, P⟩] = g
  refine congrArg (v.read (Elt Ideal) g) (funext fun a => Fin.ext ?_)
  match a with
  | ⟨0, _⟩ => show 0 + 1 * (i 0).val = (i 0).val; omega
  | ⟨1, _⟩ => show 0 + 1 * (i 1).val = (i 1).val; omega
theorem g1_in : gW c g1V (gLand1 c (A1 m c)) = in2 m c :=
  (row_load g1V.view _ _ _).trans ((show ReadAs.same.apply (g1M.view.read (Elt Ideal) (A1 m c)) = A1 m c from rfl).trans (A1_in m c))
theorem g2_in : gW c g2V (gLand2 c (A2 m c)) = in3 m c :=
  (row_load g2V.view _ _ _).trans ((show ReadAs.same.apply (g2M.view.read (Elt Ideal) (A2 m c)) = A2 m c from rfl).trans (A2_in m c))

/-- Entry `l` of row `r` of the residual sum. -/
def sumAt (r : Fin 8192) (l : Fin 4096) : EReal :=
  in1 m c (ix3 0 r l) + normed (fun k => in0 m c (ix2 r k)) (fun k => in2 m c (ix2 0 k)) l

theorem yW_at (b : Fin 32) (p : Fin 256) (l : Fin 4096) :
    yW c (XM m c) (XX m c) (gLand1 c (A1 m c)) b (ix2 p l) = sumAt m c (rowOfBlk b p) l := by
  unfold yW
  rw [pay1_at, g1_in, xW_at, XX_at, XM_in]
  exact congrArg (fun z => in1 m c (ix3 0 (rowOfBlk b p) l) + normed z (fun k => in2 m c (ix2 0 k)) l) (funext fun k => mixW_at c (in0 m c) b p k)

theorem hW_at (b : Fin 32) (p : Fin 256) (l : Fin 4096) :
    hW c (XM m c) (XX m c) (gLand1 c (A1 m c)) (gLand2 c (A2 m c)) b (ix2 p l)
      = normed (sumAt m c (rowOfBlk b p)) (fun k => in3 m c (ix2 0 k)) l := by
  unfold hW
  rw [pay3_at, g2_in]
  exact congrArg (fun z => normed z (fun k => in3 m c (ix2 0 k)) l) (funext fun k => yW_at m c b p k)

theorem inBlk_ix (r : Fin 8192) (l : Fin 4096) : inBlk (ix2 r l) = ix2 (⟨r.val % 256, Nat.mod_lt _ (by decide)⟩ : Fin 256) l := by
  funext a
  match a with
  | ⟨0, _⟩ => rfl
  | ⟨1, _⟩ => rfl
theorem rowOfBlk_ix (r : Fin 8192) (l : Fin 4096) : rowOfBlk (blkOf (ix2 r l)) (⟨r.val % 256, Nat.mod_lt _ (by decide)⟩ : Fin 256) = r := by
  apply Fin.ext
  show 256 * (r.val / 256) + r.val % 256 = r.val
  omega

open Cert.ReferenceIdeal.Read in
/-- The first result is the reference's; -/
theorem yEnd_eq : yEnd m c = val_main_v16 (F := Ideal) (in0 m c) (in1 m c) (in2 m c) := by
  funext i
  obtain ⟨r, l, rfl⟩ : ∃ (r : Fin 8192) (l : Fin 4096), i = ix2 r l := ⟨i 0, i 1, eq_ix2 i⟩
  refine Eq.trans ?_ (ref1_at _ _ _ r l).symm
  unfold yEnd yFin
  rw [inBlk_ix, yW_at, rowOfBlk_ix]
  rfl
open Cert.ReferenceIdeal.Read in
/-- the second too: a row of a block is a row of the array. -/
theorem hEnd_eq : hEnd m c = val_main_v31 (F := Ideal) (in0 m c) (in1 m c) (in2 m c) (in3 m c) := by
  funext i
  obtain ⟨r, l, rfl⟩ : ∃ (r : Fin 8192) (l : Fin 4096), i = ix2 r l := ⟨i 0, i 1, eq_ix2 i⟩
  refine Eq.trans ?_ (ref2_at _ _ _ _ r l).symm
  unfold hEnd hFin
  rw [inBlk_ix, hW_at, rowOfBlk_ix]
  exact congrArg (fun z => normed z (fun k => in3 m c (ix2 0 k)) l) (funext fun k => (ref1_at _ _ _ r k).symm)

end Kernel

/-! ## The claims -/

theorem frame_kernel : Cert.quiescent_Kernel := fun m ρ _ =>
  (θ_run Cert.KernelIdeal.defs _ _).mono (fun _ h => ⟨fun c => (h.1 c).2.2, h.2⟩) (run_main (F := Bits) m ρ)
theorem frame_ideal : Cert.quiescent_KernelIdeal := fun m ρ _ =>
  (θ_run Cert.KernelIdeal.defs _ _).mono (fun _ h => ⟨fun c => (h.1 c).2.2, h.2⟩) (run_main (F := Ideal) m ρ)
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)
theorem preserves : Cert.preserves_Kernel_KernelIdeal := trivial

theorem algebraic : Cert.algebraic_KernelIdeal_ReferenceIdeal := by
  intro m ρ m' ρ' _ hag
  refine ⟨fun c => yEnd m c, fun c => hEnd m c,
    (θ_run Cert.KernelIdeal.defs _ _).mono (fun _ h c => h.1 c) (run_main (F := Ideal) m ρ),
    (θ_run Cert.ReferenceIdeal.defs _ _).mono (fun r h c => ?_) (Cert.ReferenceIdeal.Value.run (F := Ideal) m' ρ')⟩
  obtain ⟨h0, h1, h2, h3⟩ := hag c
  obtain ⟨r1, r2, hrest⟩ := h c
  refine ⟨r1.trans ?_, r2.trans ?_, hrest⟩
  · rw [h0, h1, h2]
    exact (Cert.ReferenceIdeal.Read.val_main_v16_eq (F := Ideal) _ _ _).trans (yEnd_eq m c).symm
  · rw [h0, h1, h2, h3]
    exact (Cert.ReferenceIdeal.Read.val_main_v31_eq (F := Ideal) _ _ _ _).trans (hEnd_eq m c).symm

end Cert.Proof.Norm

end
-- ==== Proof.Sigmoid.lean ====
/- The logistic function as the kernels write it, over the extended reals. -/
module

public import Idealize.ShloMosaic.PureOps
public import Idealize.ShloMosaic.Lib.IdealHost

@[expose] public section

noncomputable section

namespace Cert.Proof.Sigmoid

open Idealize.ShloMosaic

/-- The pattern of one half. -/
theorem half_eq : Ideal.ofBits .f32 0x3F000000#32 = (((1 : ℝ) / 2 : ℝ) : EReal) := by
  simp [Ideal.ofBits, Ideal.ieee, -EReal.coe_mul]; norm_num

/-- On the reals `½ tanh (x/2) + ½ = 1 / (1 + e⁻ˣ)`. -/
theorem real_half_tanh (r : ℝ) : (1 / 2 : ℝ) * Real.tanh (1 / 2 * r) + 1 / 2 = (1 + Real.exp (-r))⁻¹ := by
  have hs : Real.exp (-r) = Real.exp (-(1 / 2 * r)) * Real.exp (-(1 / 2 * r)) := by rw [← Real.exp_add]; ring_nf
  have hm : Real.exp (1 / 2 * r) * Real.exp (-(1 / 2 * r)) = 1 := by rw [← Real.exp_add]; simp
  have ha := Real.exp_pos (1 / 2 * r)
  have hb := Real.exp_pos (-(1 / 2 * r))
  rw [Real.tanh_eq_sinh_div_cosh, Real.sinh_eq, Real.cosh_eq, hs]
  generalize Real.exp (1 / 2 * r) = a at *
  generalize Real.exp (-(1 / 2 * r)) = b at *
  have h1 : 0 < 1 + b * b := by positivity
  have h2 : 0 < a + b := by positivity
  field_simp
  nlinarith [hm]

/-- At every extended real the kernels' `½ tanh (x/2) + ½` is the logistic function. -/
theorem half_tanh (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_eq]
  show _ = Ideal.logistic x
  have hp : (0 : ℝ) < 1 / 2 := by norm_num
  induction x with
  | bot =>
    rw [EReal.coe_mul_bot_of_pos hp, Ideal.tanh_bot, Ideal.logistic_bot]
    rw [show (-1 : EReal) = ((-1 : ℝ) : EReal) by rw [EReal.coe_neg, EReal.coe_one], ← EReal.coe_mul, ← EReal.coe_add]; norm_num
  | top =>
    rw [EReal.coe_mul_top_of_pos hp, Ideal.tanh_top, Ideal.logistic_top]
    rw [show (1 : EReal) = ((1 : ℝ) : EReal) by norm_cast, ← EReal.coe_mul, ← EReal.coe_add]; norm_num
  | coe r =>
    rw [← EReal.coe_mul, Ideal.tanh_coe, Ideal.logistic_coe, ← EReal.coe_mul, ← EReal.coe_add, real_half_tanh]

end Cert.Proof.Sigmoid

end
-- ==== Proof.SwigluUp.lean ====
/- The claims of `swiglu_up`: a row tile against two column tiles, gated, and a slab of a weight rounded at every grid point. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Quiescent
public import Idealize.ShloMosaic.Lib.Claim
public import Idealize.ShloMosaic.Lib.Pointwise
public import Idealize.ShloMosaic.Lib.Pipeline.ValueKit
public import proofs.«01_k».proof.Proof.Sigmoid

@[expose] public section

set_option maxRecDepth 16384

noncomputable section

namespace Cert.Proof.SwigluUp

open Idealize.ShloMosaic Idealize.ShloMosaic.TcCoe Idealize.SL.Sem
open Idealize.ShloMosaic.Pipeline (Dat)

section Value
open Cert.Kernel2Ideal Cert.Kernel2Ideal.Gen

/-- The reference's first result: the gated product. -/
abbrev refUp (a0 : FVec Ideal S8192x4096 .bf16) (a1 : FVec Ideal S1x4096x11008 .f32) (a2 : FVec Ideal S1x4096x11008 .f32) : FVec Ideal S8192x11008 .bf16 :=
  truncf .bf16 (mulf (mulf (Host.dotGeneral Cert.Reference2Ideal.dot_S8192x4096_S4096x11008_S8192x11008_1_0_0_1_n_n none (extf .f32 a0 Cert.Reference2Ideal.Gen.bitsLt_bf16_f32) (shapeCast _ a1 Cert.Reference2Ideal.Gen.shapeCasts_S1x4096x11008_S4096x11008)) (Host.divf (broadcastInDim Cert.Reference2Ideal.S8192x11008 ![] Cert.Reference2Ideal.Gen.bcast_S_S8192x11008 (constant Cert.Reference2Ideal.S_ .f32 0x3F800000#32)) (addf (broadcastInDim Cert.Reference2Ideal.S8192x11008 ![] Cert.Reference2Ideal.Gen.bcast_S_S8192x11008 (constant Cert.Reference2Ideal.S_ .f32 0x3F800000#32)) (Host.exp (Host.negf (Host.dotGeneral Cert.Reference2Ideal.dot_S8192x4096_S4096x11008_S8192x11008_1_0_0_1_n_n none (extf .f32 a0 Cert.Reference2Ideal.Gen.bitsLt_bf16_f32) (shapeCast _ a1 Cert.Reference2Ideal.Gen.shapeCasts_S1x4096x11008_S4096x11008))))))) (Host.dotGeneral Cert.Reference2Ideal.dot_S8192x4096_S4096x11008_S8192x11008_1_0_0_1_n_n none (extf .f32 a0 Cert.Reference2Ideal.Gen.bitsLt_bf16_f32) (shapeCast _ a2 Cert.Reference2Ideal.Gen.shapeCasts_S1x4096x11008_S4096x11008))) Cert.Reference2Ideal.Gen.bitsLt_bf16_f32
/-- The reference's second result: the rounded weight. -/
abbrev refCast (a3 : FVec Ideal S1x11008x4096 .f32) : FVec Ideal S11008x4096 .bf16 :=
  truncf .bf16 (shapeCast _ a3 Cert.Reference2Ideal.Gen.shapeCasts_S1x11008x4096_S11008x4096) Cert.Reference2Ideal.Gen.bitsLt_bf16_f32
variable (m : (ℓ : Loc nD τ sig) → Buf (Elt Ideal) ℓ)

theorem idx : ∀ t : Fin cfg0.N, win0_0.index t = ![(grid0.coords t 0).val, 0] ∧ win0_1.index t = ![0, (grid0.coords t 1).val] ∧ win0_2.index t = ![0, (grid0.coords t 1).val] ∧ win0_3.index t = ![t.val, 0] ∧ win0_4.index t = ![(grid0.coords t 0).val, (grid0.coords t 1).val] ∧ win0_5.index t = ![t.val, 0] :=
  (by decide +kernel : ∀ t : Fin grid0.N, _)

theorem point4 (c : Dev nD) (t : Fin cfg0.N) (y) : k0_pay1 (iblk m c 0 t) (iblk m c 1 t) (iblk m c 2 t) y
    = refUp (m ((c : Thread nD τ).loc main_arg0)) (m ((c : Thread nD τ).loc main_arg1)) (m ((c : Thread nD τ).loc main_arg2)) (((cfg0.win 4).blk t).view.emb y) := by
  pointwise [k0_pay1, refUp]
  simp only [Sigmoid.half_tanh]
  blk_point [iblk, idx t]

theorem final4 (c : Dev nD) : (dats m 0 c).arrAt 4 cfg0.N
    = refUp (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c t y

theorem point5 (c : Dev nD) (t : Fin cfg0.N) (y) : k0_pay2 (iblk m c 3 t) y
    = refCast (m ((c : Thread nD τ).loc main_arg3)) (((cfg0.win 5).blk t).view.emb y) := by
  pointwise [k0_pay2, refCast]
  blk_point [iblk, idx t]

theorem final5 (c : Dev nD) : (dats m 0 c).arrAt 5 cfg0.N
    = refCast (m ((c : Thread nD τ).loc main_arg3)) := by
  refine (dats m 0 c).arrAt_eq_of_covers 5 _ (by decide +kernel) fun t _ y => ?_
  blk_simp
  rw [after0_5]; frame_out
  exact point5 m c t y

end Value

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)
theorem preserves : Cert.preserves_Kernel2_Kernel2Ideal := trivial

theorem algebraic : Cert.algebraic_Kernel2Ideal_Reference2Ideal := by
  intro m ρ m' ρ' _ hag
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N,
    (θ_run Cert.Kernel2Ideal.defs _ _).mono (fun _ h c => h c) (Cert.Kernel2Ideal.Value.run_blocks (F := Ideal) m ρ),
    (θ_run Cert.Reference2Ideal.defs _ _).mono (fun r h c => ?_) (Cert.Reference2Ideal.Value.run (F := Ideal) m' ρ')⟩
  obtain ⟨h0, h1, h2, h3⟩ := hag c
  obtain ⟨r0, r1, hrest⟩ := h c
  refine ⟨r0.trans ?_, r1.trans ?_, hrest⟩
  · rw [h0, h1, h2]
    exact (final4 m c).symm
  · rw [h3]
    exact (final5 m c).symm

end Cert.Proof.SwigluUp

end
-- ==== Proof.GatedMerge.lean ====
/- The claims of `gated_merge`: two branches raised, gated and added tile by tile, and a slab of a weight rounded at every grid point. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Quiescent
public import Idealize.ShloMosaic.Lib.Claim
public import Idealize.ShloMosaic.Lib.Pointwise
public import Idealize.ShloMosaic.Lib.Pipeline.ValueKit
public import proofs.«01_k».proof.Proof.Sigmoid

@[expose] public section

set_option maxRecDepth 16384

noncomputable section

namespace Cert.Proof.GatedMerge

open Idealize.ShloMosaic Idealize.ShloMosaic.TcCoe Idealize.SL.Sem
open Idealize.ShloMosaic.Pipeline (Dat)

section Value
open Cert.Kernel3Ideal Cert.Kernel3Ideal.Gen

/-- The reference's first result: the two branches, each through its gate, added. -/
abbrev refMerge (a0 : FVec Ideal S8192x2048 .bf16) (a1 : FVec Ideal S8192x2048 .bf16) (a2 : FVec Ideal S8192x4096 .bf16) (a3 : FVec Ideal S2048x4096 .bf16) (a4 : FVec Ideal S2048x4096 .bf16) (a5 : FVec Ideal S1x4096x2x4096 .f32) : FVec Ideal S8192x4096 .bf16 :=
  truncf .bf16 (addf (mulf (shapeCast _ (extractStridedSlice Cert.Reference3Ideal.S8192x1x4096 ![0, 0, 0] (Host.divf (broadcastInDim Cert.Reference3Ideal.S8192x2x4096 ![] Cert.Reference3Ideal.Gen.bcast_S_S8192x2x4096 (constant Cert.Reference3Ideal.S_ .f32 0x3F800000#32)) (addf (broadcastInDim Cert.Reference3Ideal.S8192x2x4096 ![] Cert.Reference3Ideal.Gen.bcast_S_S8192x2x4096 (constant Cert.Reference3Ideal.S_ .f32 0x3F800000#32)) (Host.exp (Host.negf (Host.dotGeneral Cert.Reference3Ideal.dot_S8192x4096_S4096x2x4096_S8192x2x4096_1_0_0_12_n_n none (extf .f32 a2 Cert.Reference3Ideal.Gen.bitsLt_bf16_f32) (shapeCast _ a5 Cert.Reference3Ideal.Gen.shapeCasts_S1x4096x2x4096_S4096x2x4096)))))) Cert.Reference3Ideal.Gen.slices_S8192x2x4096_S8192x1x4096_0_0_0) Cert.Reference3Ideal.Gen.shapeCasts_S8192x1x4096_S8192x4096) (Host.dotGeneral Cert.Reference3Ideal.dot_S8192x2048_S2048x4096_S8192x4096_1_0_0_1_n_n none (extf .f32 a0 Cert.Reference3Ideal.Gen.bitsLt_bf16_f32) (extf .f32 a3 Cert.Reference3Ideal.Gen.bitsLt_bf16_f32))) (mulf (shapeCast _ (extractStridedSlice Cert.Reference3Ideal.S8192x1x4096 ![0, 1, 0] (Host.divf (broadcastInDim Cert.Reference3Ideal.S8192x2x4096 ![] Cert.Reference3Ideal.Gen.bcast_S_S8192x2x4096 (constant Cert.Reference3Ideal.S_ .f32 0x3F800000#32)) (addf (broadcastInDim Cert.Reference3Ideal.S8192x2x4096 ![] Cert.Reference3Ideal.Gen.bcast_S_S8192x2x4096 (constant Cert.Reference3Ideal.S_ .f32 0x3F800000#32)) (Host.exp (Host.negf (Host.dotGeneral Cert.Reference3Ideal.dot_S8192x4096_S4096x2x4096_S8192x2x4096_1_0_0_12_n_n none (extf .f32 a2 Cert.Reference3Ideal.Gen.bitsLt_bf16_f32) (shapeCast _ a5 Cert.Reference3Ideal.Gen.shapeCasts_S1x4096x2x4096_S4096x2x4096)))))) Cert.Reference3Ideal.Gen.slices_S8192x2x4096_S8192x1x4096_0_1_0) Cert.Reference3Ideal.Gen.shapeCasts_S8192x1x4096_S8192x4096) (Host.dotGeneral Cert.Reference3Ideal.dot_S8192x2048_S2048x4096_S8192x4096_1_0_0_1_n_n none (extf .f32 a1 Cert.Reference3Ideal.Gen.bitsLt_bf16_f32) (extf .f32 a4 Cert.Reference3Ideal.Gen.bitsLt_bf16_f32)))) Cert.Reference3Ideal.Gen.bitsLt_bf16_f32
/-- The reference's second result: the rounded weight. -/
abbrev refCast (a6 : FVec Ideal S1x4096x4096 .f32) : FVec Ideal S4096x4096 .bf16 :=
  truncf .bf16 (shapeCast _ a6 Cert.Reference3Ideal.Gen.shapeCasts_S1x4096x4096_S4096x4096) Cert.Reference3Ideal.Gen.bitsLt_bf16_f32
variable (m : (ℓ : Loc nD τ sig) → Buf (Elt Ideal) ℓ)

theorem idx : ∀ t : Fin cfg0.N, win0_0.index t = ![(grid0.coords t 0).val, 0] ∧ win0_1.index t = ![(grid0.coords t 0).val, 0] ∧ win0_2.index t = ![(grid0.coords t 0).val, 0] ∧ win0_3.index t = ![0, (grid0.coords t 1).val] ∧ win0_4.index t = ![0, (grid0.coords t 1).val] ∧ win0_5.index t = ![0, (grid0.coords t 1).val] ∧ win0_6.index t = ![0, (grid0.coords t 1).val + 16] ∧ win0_7.index t = ![t.val, 0] ∧ win0_8.index t = ![(grid0.coords t 0).val, (grid0.coords t 1).val] ∧ win0_9.index t = ![t.val, 0] :=
  (by decide +kernel : ∀ t : Fin grid0.N, _)

theorem lt16 : ∀ t : Fin cfg0.N, (grid0.coords t 1).val < 16 := (by decide +kernel : ∀ t : Fin grid0.N, _)

theorem point8 (c : Dev nD) (t : Fin cfg0.N) (y) : k0_pay2 (iblk m c 2 t) (iblk m c 0 t) (iblk m c 3 t) (iblk m c 1 t) (iblk m c 4 t) (iblk m c 5 t) (iblk m c 6 t) y
    = refMerge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
  pointwise [k0_pay2, refMerge]
  simp only [Sigmoid.half_tanh]
  have h16 := lt16 t
  blk_point [iblk, idx t]

theorem final8 (c : Dev nD) : (dats m 0 c).arrAt 8 cfg0.N
    = refMerge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]; frame_out
  exact point8 m c t y

theorem point9 (c : Dev nD) (t : Fin cfg0.N) (y) : k0_pay1 (iblk m c 7 t) y
    = refCast (m ((c : Thread nD τ).loc main_arg6)) (((cfg0.win 9).blk t).view.emb y) := by
  pointwise [k0_pay1, refCast]
  blk_point [iblk, idx t]

theorem final9 (c : Dev nD) : (dats m 0 c).arrAt 9 cfg0.N
    = refCast (m ((c : Thread nD τ).loc main_arg6)) := by
  refine (dats m 0 c).arrAt_eq_of_covers 9 _ (by decide +kernel) fun t _ y => ?_
  blk_simp
  rw [after0_9]; frame_out
  exact point9 m c t y

end Value

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_reference : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)
theorem preserves : Cert.preserves_Kernel3_Kernel3Ideal := trivial

theorem algebraic : Cert.algebraic_Kernel3Ideal_Reference3Ideal := by
  intro m ρ m' ρ' _ hag
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N,
    (θ_run Cert.Kernel3Ideal.defs _ _).mono (fun _ h c => h c) (Cert.Kernel3Ideal.Value.run_blocks (F := Ideal) m ρ),
    (θ_run Cert.Reference3Ideal.defs _ _).mono (fun r h c => ?_) (Cert.Reference3Ideal.Value.run (F := Ideal) m' ρ')⟩
  obtain ⟨h0, h1, h2, h3, h4, h5, h6⟩ := hag c
  obtain ⟨r0, r1, hrest⟩ := h c
  refine ⟨r0.trans ?_, r1.trans ?_, hrest⟩
  · rw [h0, h1, h2, h3, h4, h5]
    exact (final8 m c).symm
  · rw [h6]
    exact (final9 m c).symm

end Cert.Proof.GatedMerge

end
-- ==== Proof.FfnDown.lean ====
/- The claims of `ffn_down`: a row tile against a column tile, and a slab of a weight rounded at every grid point. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent
public import Idealize.ShloMosaic.Lib.Claim
public import Idealize.ShloMosaic.Lib.Pointwise
public import Idealize.ShloMosaic.Lib.Pipeline.ValueKit

@[expose] public section

set_option maxRecDepth 16384

noncomputable section

namespace Cert.Proof.FfnDown

open Idealize.ShloMosaic Idealize.ShloMosaic.TcCoe Idealize.SL.Sem
open Idealize.ShloMosaic.Pipeline (Dat)

section Value
open Cert.Kernel4Ideal Cert.Kernel4Ideal.Gen

/-- The reference's first result: the product. -/
abbrev refDown (x : FVec Ideal S8192x11008 .bf16) (w : FVec Ideal S11008x4096 .bf16) : FVec Ideal S8192x4096 .bf16 :=
  truncf .bf16 (Host.dotGeneral Cert.Reference4Ideal.dot_S8192x11008_S11008x4096_S8192x4096_1_0_0_1_n_n none
    (extf .f32 x Cert.Reference4Ideal.Gen.bitsLt_bf16_f32) (extf .f32 w Cert.Reference4Ideal.Gen.bitsLt_bf16_f32)) Cert.Reference4Ideal.Gen.bitsLt_bf16_f32
/-- The reference's second result: the rounded weight. -/
abbrev refCast (w : FVec Ideal S1x4096x4096 .f32) : FVec Ideal S4096x4096 .bf16 :=
  truncf .bf16 (shapeCast _ w Cert.Reference4Ideal.Gen.shapeCasts_S1x4096x4096_S4096x4096) Cert.Reference4Ideal.Gen.bitsLt_bf16_f32

variable (m : (ℓ : Loc nD τ sig) → Buf (Elt Ideal) ℓ)

theorem idx : ∀ t : Fin cfg0.N, win0_0.index t = ![(grid0.coords t 0).val, 0] ∧ win0_1.index t = ![0, (grid0.coords t 1).val]
    ∧ win0_2.index t = ![t.val, 0] ∧ win0_3.index t = ![(grid0.coords t 0).val, (grid0.coords t 1).val] ∧ win0_4.index t = ![t.val, 0] :=
  (by decide +kernel : ∀ t : Fin grid0.N, _)

theorem point3 (c : Dev nD) (t : Fin cfg0.N) (y) : k0_pay1 (iblk m c 0 t) (iblk m c 1 t) y
    = refDown (m ((c : Thread nD τ).loc main_arg0)) (m ((c : Thread nD τ).loc main_arg1)) (((cfg0.win 3).blk t).view.emb y) := by
  pointwise [k0_pay1, refDown]
  blk_point [iblk, V, idx t]

theorem point4 (c : Dev nD) (t : Fin cfg0.N) (y) : k0_pay2 (iblk m c 2 t) y
    = refCast (m ((c : Thread nD τ).loc main_arg2)) (((cfg0.win 4).blk t).view.emb y) := by
  pointwise [k0_pay2, refCast]
  blk_point [iblk, idx t]

theorem final3 (c : Dev nD) : (dats m 0 c).arrAt 3 cfg0.N
    = refDown (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

theorem final4 (c : Dev nD) : (dats m 0 c).arrAt 4 cfg0.N = refCast (m ((c : Thread nD τ).loc main_arg2)) := by
  refine (dats m 0 c).arrAt_eq_of_covers 4 _ (by decide +kernel) fun t _ y => ?_
  blk_simp
  rw [after0_4]; frame_out
  exact point4 m c t y

end Value

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_reference : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)
theorem preserves : Cert.preserves_Kernel4_Kernel4Ideal := trivial

theorem algebraic : Cert.algebraic_Kernel4Ideal_Reference4Ideal := by
  intro m ρ m' ρ' _ hag
  refine ⟨fun c => (Cert.Kernel4Ideal.Gen.dats m 0 c).arrAt 3 Cert.Kernel4Ideal.cfg0.N, fun c => (Cert.Kernel4Ideal.Gen.dats m 0 c).arrAt 4 Cert.Kernel4Ideal.cfg0.N,
    (θ_run Cert.Kernel4Ideal.defs _ _).mono (fun _ h c => h c) (Cert.Kernel4Ideal.Value.run_blocks (F := Ideal) m ρ),
    (θ_run Cert.Reference4Ideal.defs _ _).mono (fun r h c => ?_) (Cert.Reference4Ideal.Value.run (F := Ideal) m' ρ')⟩
  obtain ⟨h0, h1, h2⟩ := hag c
  obtain ⟨r0, r1, hrest⟩ := h c
  refine ⟨r0.trans ?_, r1.trans ?_, hrest⟩
  · rw [h0, h1]
    exact (final3 m c).symm
  · rw [h2]
    exact (final4 m c).symm

end Cert.Proof.FfnDown

end
-- ==== Proof.PleGate.lean ====
/- The claims of `ple_gate`: the per-layer projection times its gate, tile by tile. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent
public import Idealize.ShloMosaic.Lib.Claim
public import Idealize.ShloMosaic.Lib.Pointwise
public import Idealize.ShloMosaic.Lib.Pipeline.ValueKit
public import proofs.«01_k».proof.Proof.Sigmoid

@[expose] public section

set_option maxRecDepth 16384

noncomputable section

namespace Cert.Proof.PleGate

open Idealize.ShloMosaic Idealize.ShloMosaic.TcCoe Idealize.SL.Sem
open Idealize.ShloMosaic.Pipeline (Dat)

section Value
open Cert.Kernel5Ideal Cert.Kernel5Ideal.Gen

/-- The reference's result: the projection times its gate. -/
abbrev refGate (a0 : FVec Ideal S8192x4096 .bf16) (a1 : FVec Ideal S1x1x8192x256 .f32) (a2 : FVec Ideal S4096x4096 .bf16) (a3 : FVec Ideal S1x256x4096 .f32) : FVec Ideal S8192x4096 .bf16 :=
  truncf .bf16 (mulf (shapeCast _ (Host.dotGeneral Cert.Reference5Ideal.dot_S1x8192x256_S256x4096_S1x8192x4096_2_0_01_1_n_n none (shapeCast _ a1 Cert.Reference5Ideal.Gen.shapeCasts_S1x1x8192x256_S1x8192x256) (shapeCast _ a3 Cert.Reference5Ideal.Gen.shapeCasts_S1x256x4096_S256x4096)) Cert.Reference5Ideal.Gen.shapeCasts_S1x8192x4096_S8192x4096) (Host.divf (broadcastInDim Cert.Reference5Ideal.S8192x4096 ![] Cert.Reference5Ideal.Gen.bcast_S_S8192x4096 (constant Cert.Reference5Ideal.S_ .f32 0x3F800000#32)) (addf (broadcastInDim Cert.Reference5Ideal.S8192x4096 ![] Cert.Reference5Ideal.Gen.bcast_S_S8192x4096 (constant Cert.Reference5Ideal.S_ .f32 0x3F800000#32)) (Host.exp (Host.negf (Host.dotGeneral Cert.Reference5Ideal.dot_S8192x4096_S4096x4096_S8192x4096_1_0_0_1_n_n none (extf .f32 a0 Cert.Reference5Ideal.Gen.bitsLt_bf16_f32) (extf .f32 a2 Cert.Reference5Ideal.Gen.bitsLt_bf16_f32))))))) Cert.Reference5Ideal.Gen.bitsLt_bf16_f32
variable (m : (ℓ : Loc nD τ sig) → Buf (Elt Ideal) ℓ)

theorem idx : ∀ t : Fin cfg0.N, win0_0.index t = ![(grid0.coords t 0).val, 0] ∧ win0_1.index t = ![(grid0.coords t 0).val, 0] ∧ win0_2.index t = ![0, (grid0.coords t 1).val] ∧ win0_3.index t = ![0, (grid0.coords t 1).val] ∧ win0_4.index t = ![(grid0.coords t 0).val, (grid0.coords t 1).val] :=
  (by decide +kernel : ∀ t : Fin grid0.N, _)

theorem point4 (c : Dev nD) (t : Fin cfg0.N) (y) : k0_pay1 (iblk m c 0 t) (iblk m c 2 t) (iblk m c 1 t) (iblk m c 3 t) y
    = refGate (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, refGate]
  simp only [Sigmoid.half_tanh]
  blk_point [iblk, idx t]

theorem final4 (c : Dev nD) : (dats m 0 c).arrAt 4 cfg0.N
    = refGate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c t y

end Value

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)
theorem preserves : Cert.preserves_Kernel5_Kernel5Ideal := trivial

theorem algebraic : Cert.algebraic_Kernel5Ideal_Reference5Ideal := by
  intro m ρ m' ρ' _ hag
  refine ⟨fun c => (Cert.Kernel5Ideal.Gen.dats m 0 c).arrAt 4 Cert.Kernel5Ideal.cfg0.N,
    (θ_run Cert.Kernel5Ideal.defs _ _).mono (fun _ h c => h c) (Cert.Kernel5Ideal.Value.run_blocks (F := Ideal) m ρ),
    (θ_run Cert.Reference5Ideal.defs _ _).mono (fun r h c => ?_) (Cert.Reference5Ideal.Value.run (F := Ideal) m' ρ')⟩
  obtain ⟨h0, h1, h2, h3⟩ := hag c
  obtain ⟨r0, hrest⟩ := h c
  refine ⟨r0.trans ?_, hrest⟩
  · rw [h0, h1, h2, h3]
    exact (final4 m c).symm

end Cert.Proof.PleGate

end
-- ==== Proof.OutProj.lean ====
/- The claims of `out_proj`: a row tile against a column tile, every product one block of the reference's. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Quiescent
public import Idealize.ShloMosaic.Lib.Pointwise
public import Idealize.ShloMosaic.Lib.Pipeline.ValueKit

@[expose] public section

set_option maxRecDepth 16384

noncomputable section

namespace Cert.Proof.OutProj

open Idealize.ShloMosaic Idealize.ShloMosaic.TcCoe Idealize.SL.Sem
open Idealize.ShloMosaic.Pipeline (Dat)

section Value
open Cert.Kernel6Ideal Cert.Kernel6Ideal.Gen

/-- The reference's result. -/
abbrev refOut (x : FVec Ideal S8192x4096 .bf16) (w : FVec Ideal S4096x4096 .bf16) : FVec Ideal S8192x4096 .bf16 :=
  truncf .bf16 (Host.dotGeneral Cert.Reference6Ideal.dot_S8192x4096_S4096x4096_S8192x4096_1_0_0_1_n_n none
    (extf .f32 x Cert.Reference6Ideal.Gen.bitsLt_bf16_f32) (extf .f32 w Cert.Reference6Ideal.Gen.bitsLt_bf16_f32)) Cert.Reference6Ideal.Gen.bitsLt_bf16_f32

variable (m : (ℓ : Loc nD τ sig) → Buf (Elt Ideal) ℓ)

theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

theorem point (c : Dev nD) (t : Fin cfg0.N) (y) : k0_pay1 (iblk m c 0 t) (iblk m c 1 t) y
    = refOut (m ((c : Thread nD τ).loc main_arg0)) (m ((c : Thread nD τ).loc main_arg1)) (((cfg0.win 2).blk t).view.emb y) := by
  pointwise [k0_pay1, refOut]
  blk_point [iblk, V, idx t]

theorem final (c : Dev nD) : (dats m 0 c).arrAt 2 cfg0.N
    = refOut (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Value

theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_reference : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)
theorem preserves : Cert.preserves_Kernel6_Kernel6Ideal := trivial

theorem algebraic : Cert.algebraic_Kernel6Ideal_Reference6Ideal := by
  intro m ρ m' ρ' _ hag
  refine ⟨fun c => (Cert.Kernel6Ideal.Gen.dats m 0 c).arrAt 2 Cert.Kernel6Ideal.cfg0.N,
    (θ_run Cert.Kernel6Ideal.defs _ _).mono (fun _ h c => h c) (Cert.Kernel6Ideal.Value.run_blocks (F := Ideal) m ρ),
    (θ_run Cert.Reference6Ideal.defs _ _).mono (fun r h c => ?_) (Cert.Reference6Ideal.Value.run (F := Ideal) m' ρ')⟩
  obtain ⟨h0, h1⟩ := hag c
  obtain ⟨r1, hrest⟩ := h c
  refine ⟨r1.trans ?_, hrest⟩
  rw [h0, h1]
  exact (final m c).symm

end Cert.Proof.OutProj

end
-- ==== Proof.InProj.lean ====
/- The claims of `in_proj`: a row tile against a tile of the weight's columns, and slabs of three weights rounded on the way, the last slab of each again and again once it is reached. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Quiescent
public import Idealize.ShloMosaic.Lib.Claim
public import Idealize.ShloMosaic.Lib.Pointwise
public import Idealize.ShloMosaic.Lib.Pipeline.ValueKit

@[expose] public section

set_option maxRecDepth 16384

noncomputable section

namespace Cert.Proof.InProj

open Idealize.ShloMosaic Idealize.ShloMosaic.TcCoe Idealize.SL.Sem
open Idealize.ShloMosaic.Pipeline (Dat)

section Value
open Cert.Kernel7Ideal Cert.Kernel7Ideal.Gen

/-- The reference's first result: the projection. -/
abbrev refZ (a0 : FVec Ideal S8192x4096 .bf16) (a1 : FVec Ideal S1x4096x3648 .f32) : FVec Ideal S8192x3584 .f32 :=
  Host.dotGeneral Cert.Reference7Ideal.dot_S8192x4096_S4096x3584_S8192x3584_1_0_0_1_n_n none (extf .f32 a0 Cert.Reference7Ideal.Gen.bitsLt_bf16_f32) (extractStridedSlice Cert.Reference7Ideal.S4096x3584 ![0, 0] (shapeCast _ a1 Cert.Reference7Ideal.Gen.shapeCasts_S1x4096x3648_S4096x3648) Cert.Reference7Ideal.Gen.slices_S4096x3648_S4096x3584_0_0)
/-- The reference's second result: a rounded weight. -/
abbrev refPool (a2 : FVec Ideal S1x2048x4096 .f32) : FVec Ideal S2048x4096 .bf16 :=
  truncf .bf16 (shapeCast _ a2 Cert.Reference7Ideal.Gen.shapeCasts_S1x2048x4096_S2048x4096) Cert.Reference7Ideal.Gen.bitsLt_bf16_f32
/-- The reference's third result: a rounded weight. -/
abbrev refMla (a3 : FVec Ideal S1x2048x4096 .f32) : FVec Ideal S2048x4096 .bf16 :=
  truncf .bf16 (shapeCast _ a3 Cert.Reference7Ideal.Gen.shapeCasts_S1x2048x4096_S2048x4096) Cert.Reference7Ideal.Gen.bitsLt_bf16_f32
/-- The reference's fourth result: a weight put head by head, rounded. -/
abbrev refQ (a4 : FVec Ideal S1x1024x16x192 .f32) : FVec Ideal S3072x1024 .bf16 :=
  truncf .bf16 (shapeCast _ (transpose Cert.Reference7Ideal.S16x192x1024 [1, 2, 0] (shapeCast _ a4 Cert.Reference7Ideal.Gen.shapeCasts_S1x1024x16x192_S1024x16x192) Cert.Reference7Ideal.Gen.transposes_S1024x16x192_S16x192x1024_1_2_0) Cert.Reference7Ideal.Gen.shapeCasts_S16x192x1024_S3072x1024) Cert.Reference7Ideal.Gen.bitsLt_bf16_f32
variable (m : (ℓ : Loc nD τ sig) → Buf (Elt Ideal) ℓ)

theorem idx : ∀ t : Fin cfg0.N, win0_0.index t = ![(grid0.coords t 0).val, 0] ∧ win0_1.index t = ![(grid0.coords t 1).val, 0] ∧ win0_2.index t = ![min t.val 31, 0] ∧ win0_3.index t = ![min t.val 31, 0] ∧ win0_4.index t = ![min t.val 47, 0] ∧ win0_5.index t = ![(grid0.coords t 0).val, (grid0.coords t 1).val] ∧ win0_6.index t = ![min t.val 31, 0] ∧ win0_7.index t = ![min t.val 31, 0] ∧ win0_8.index t = ![min t.val 47, 0] :=
  (by decide +kernel : ∀ t : Fin grid0.N, _)

/-- The weight's window, whose blocks all lie inside the array: entry `(r, k)` of its block. -/
theorem weight_at (c : Dev nD) (t : Fin cfg0.N) (r : Fin 512) (k : Fin 4096) (h : (grid0.coords t 1).val * 512 + r.val < 3648) :
    X0_1 m c t (ix2 r k) = m ((c : Thread nD τ).loc main_arg1) (ix3 0 k ⟨(grid0.coords t 1).val * 512 + r.val, h⟩) := by
  unfold X0_1 Pipeline.Window.fill
  rw [dif_pos (moved0_1 t _)]
  blk_point [iblk, idx t]

theorem q_weight (c : Dev nD) : V m c main_v4 = refQ (m ((c : Thread nD τ).loc main_arg4)) := by
  unfold V hostOps0
  after_results <;> rfl

theorem point5 (c : Dev nD) (t : Fin cfg0.N) (y) : k0_pay1 (iblk m c 0 t) (X0_1 m c t) y
    = refZ (m ((c : Thread nD τ).loc main_arg0)) (m ((c : Thread nD τ).loc main_arg1)) (((cfg0.win 5).blk t).view.emb y) := by
  pointwise [k0_pay1, refZ]
  blk_point [iblk, idx t]
  exact weight_at m c t _ _ _

theorem final5 (c : Dev nD) : (dats m 0 c).arrAt 5 cfg0.N
    = refZ (m ((c : Thread nD τ).loc main_arg0)) (m ((c : Thread nD τ).loc main_arg1)) := by
  refine (dats m 0 c).arrAt_eq_of_covers 5 _ (by decide +kernel) fun t _ y => ?_
  blk_simp
  rw [after0_5]; unfold outsAt0; frame_out
  exact point5 m c t y

theorem point6 (c : Dev nD) (t : Fin cfg0.N) (y) : k0_pay2 (iblk m c 2 t) y
    = refPool (m ((c : Thread nD τ).loc main_arg2)) (((cfg0.win 6).blk t).view.emb y) := by
  pointwise [k0_pay2, refPool]
  blk_point [iblk, idx t]

theorem final6 (c : Dev nD) : (dats m 0 c).arrAt 6 cfg0.N
    = refPool (m ((c : Thread nD τ).loc main_arg2)) := by
  refine (dats m 0 c).arrAt_eq_of_covers 6 _ (by decide +kernel) fun t _ y => ?_
  blk_simp
  rw [after0_6]; unfold outsAt0; frame_out
  exact point6 m c t y

theorem point7 (c : Dev nD) (t : Fin cfg0.N) (y) : k0_pay3 (iblk m c 3 t) y
    = refMla (m ((c : Thread nD τ).loc main_arg3)) (((cfg0.win 7).blk t).view.emb y) := by
  pointwise [k0_pay3, refMla]
  blk_point [iblk, idx t]

theorem final7 (c : Dev nD) : (dats m 0 c).arrAt 7 cfg0.N
    = refMla (m ((c : Thread nD τ).loc main_arg3)) := by
  refine (dats m 0 c).arrAt_eq_of_covers 7 _ (by decide +kernel) fun t _ y => ?_
  blk_simp
  rw [after0_7]; unfold outsAt0; frame_out
  exact point7 m c t y

theorem point8 (c : Dev nD) (t : Fin cfg0.N) (y) : k0_pay4 (iblk m c 4 t) y
    = refQ (m ((c : Thread nD τ).loc main_arg4)) (((cfg0.win 8).blk t).view.emb y) := by
  rw [← q_weight]
  pointwise [k0_pay4]
  blk_ext [iblk, idx t]

theorem final8 (c : Dev nD) : (dats m 0 c).arrAt 8 cfg0.N
    = refQ (m ((c : Thread nD τ).loc main_arg4)) := by
  refine (dats m 0 c).arrAt_eq_of_covers 8 _ (by decide +kernel) fun t _ y => ?_
  blk_simp
  rw [after0_8]; unfold outsAt0; frame_out
  exact point8 m c t y

end Value

theorem frame_kernel : Cert.quiescent_Kernel7 := fun m ρ _ => Cert.Kernel7.Gen.frame m ρ
theorem frame_ideal : Cert.quiescent_Kernel7Ideal := fun m ρ _ => Cert.Kernel7Ideal.Gen.frame m ρ
theorem frame_reference : Cert.quiescent_Reference7Ideal := fun m ρ _ =>
  (θ_run Cert.Reference7Ideal.defs _ _).mono (fun r h => ⟨fun c => (h c).2.2.2.2, Idealize.ShloMosaic.sem_eq_zero_of_no_sems (by decide) r.2⟩)
    (Cert.Reference7Ideal.Value.run (F := Ideal) m ρ)
theorem preserves : Cert.preserves_Kernel7_Kernel7Ideal := trivial

theorem algebraic : Cert.algebraic_Kernel7Ideal_Reference7Ideal := by
  intro m ρ m' ρ' _ hag
  refine ⟨fun c => (Cert.Kernel7Ideal.Gen.dats m 0 c).arrAt 5 Cert.Kernel7Ideal.cfg0.N, fun c => (Cert.Kernel7Ideal.Gen.dats m 0 c).arrAt 6 Cert.Kernel7Ideal.cfg0.N, fun c => (Cert.Kernel7Ideal.Gen.dats m 0 c).arrAt 7 Cert.Kernel7Ideal.cfg0.N, fun c => (Cert.Kernel7Ideal.Gen.dats m 0 c).arrAt 8 Cert.Kernel7Ideal.cfg0.N,
    (θ_run Cert.Kernel7Ideal.defs _ _).mono (fun _ h c => h c) (Cert.Kernel7Ideal.Value.run_blocks (F := Ideal) m ρ),
    (θ_run Cert.Reference7Ideal.defs _ _).mono (fun r h c => ?_) (Cert.Reference7Ideal.Value.run (F := Ideal) m' ρ')⟩
  obtain ⟨h0, h1, h2, h3, h4⟩ := hag c
  obtain ⟨r0, r1, r2, r3, hrest⟩ := h c
  refine ⟨r0.trans ?_, r1.trans ?_, r2.trans ?_, r3.trans ?_, hrest⟩
  · rw [h0, h1]
    exact (final5 m c).symm
  · rw [h2]
    exact (final6 m c).symm
  · rw [h3]
    exact (final7 m c).symm
  · rw [h4]
    exact (final8 m c).symm

end Cert.Proof.InProj

end
-- ==== Proof.FinalNames.lean ====
/- The names the proof of `residual_final`'s pipeline speaks in: the row blocks of the three arrays left in HBM, the
   slots of the three VMEM rings, the slots' DMA semaphores, and the words trip `k` of the loop carries; with the
   equations that say the kernel's computed slices are these. -/
module

public import proofs.«01_k».proof.Defs
public import proofs.«01_k».proof.Proof.Names
public import proofs.«01_k».proof.Proof.Gen.Kernel8Ideal.Launch
public import proofs.«01_k».proof.Proof.Gen.Kernel8Ideal.Skeleton
public import proofs.«01_k».proof.Proof.Gen.Kernel8Ideal.Loops
public import proofs.«01_k».proof.Proof.Gen.Kernel8Ideal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.Proof.Final

open Cert.Kernel8Ideal Cert.Kernel8Ideal.Gen
open Cert.Proof.Norm (wIss wCnt wPrev wGrid wOnce)
open Idealize.ShloMosaic
open Idealize.ShloMosaic.TcCoe Idealize.ShloMosaic.Tactic
open Idealize.SL Idealize.SL.Sem

/-! ## The memrefs of the body -/

abbrev mixM : Memref sig .tc .hbm S8192x4096 .bf16 := Memref.whole main_arg0
abbrev xM : Memref sig .tc .hbm S8192x4096 .f32 := Memref.whole main_v0
abbrev g1M : Memref sig .tc .hbm S1x4096 .f32 := Memref.whole main_v2
abbrev yM : Memref sig .tc .hbm S8192x4096 .f32 := Memref.whole main_v3
abbrev mixR : Memref sig .tc .vmem S3x256x4096 .bf16 := Memref.whole cc0_scoped0
abbrev xR : Memref sig .tc .vmem S3x256x4096 .f32 := Memref.whole cc0_scoped2
abbrev g1V : Memref sig .tc .vmem S1x4096 .f32 := Memref.whole cc0_scoped4
abbrev yR : Memref sig .tc .vmem S2x256x4096 .f32 := Memref.whole cc0_scoped5
/-! ## Row block `b` of an array, slot `s` of a ring, slot `s`'s semaphore -/

abbrev rowOff (b : Fin 32) : Fin 2 → Nat := ![256 * b.val, 0]
theorem rowOff_inb (b : Fin 32) : ∀ a, rowOff b a + S256x4096.size a ≤ S8192x4096.size a := by
  have := b.isLt; intro a; fin_cases a
  · show 256 * b.val + 256 ≤ 8192; omega
  · show 0 + 4096 ≤ 4096; omega
abbrev slotOff {n : Nat} (s : Fin n) : Fin 3 → Nat := ![s.val, 0, 0]
theorem slot3_inb (s : Fin 3) : ∀ a, slotOff s a + S1x256x4096.size a ≤ S3x256x4096.size a := by
  have := s.isLt; intro a; fin_cases a
  · show s.val + 1 ≤ 3; omega
  · show 0 + 256 ≤ 256; omega
  · show 0 + 4096 ≤ 4096; omega
theorem slot2_inb (s : Fin 2) : ∀ a, slotOff s a + S1x256x4096.size a ≤ S2x256x4096.size a := by
  have := s.isLt; intro a; fin_cases a
  · show s.val + 1 ≤ 2; omega
  · show 0 + 256 ≤ 256; omega
  · show 0 + 4096 ≤ 4096; omega
abbrev semOff {n : Nat} (s : Fin n) : Fin 1 → Nat := ![s.val]
theorem sem3_inb (s : Fin 3) : ∀ a, semOff s a + S1.size a ≤ S3.size a := by
  have := s.isLt; intro a; fin_cases a; show s.val + 1 ≤ 3; omega
theorem sem2_inb (s : Fin 2) : ∀ a, semOff s a + S1.size a ≤ S2.size a := by
  have := s.isLt; intro a; fin_cases a; show s.val + 1 ≤ 2; omega

instance (b : Fin 32) : ClosedOff (rowOff b) := ⟨rowOff b, rfl⟩
instance {n : Nat} (s : Fin n) : ClosedOff (slotOff s) := ⟨slotOff s, rfl⟩

/-- Row block `b` of each array in HBM. -/
def mixB (b : Fin 32) : Memref sig .tc .hbm S256x4096 .bf16 :=
  mixM.slice (Rect.unit (s := S8192x4096) (rowOff b) S256x4096.size (rowOff_inb b)) (fun _ => rfl)
def xB (b : Fin 32) : Memref sig .tc .hbm S256x4096 .f32 :=
  xM.slice (Rect.unit (s := S8192x4096) (rowOff b) S256x4096.size (rowOff_inb b)) (fun _ => rfl)
def yB (b : Fin 32) : Memref sig .tc .hbm S256x4096 .f32 :=
  yM.slice (Rect.unit (s := S8192x4096) (rowOff b) S256x4096.size (rowOff_inb b)) (fun _ => rfl)
/-- Slot `s` of each ring. -/
def mixS (s : Fin 3) : Memref sig .tc .vmem S256x4096 .bf16 :=
  (mixR.slice (Rect.unit (s := S3x256x4096) (slotOff s) S1x256x4096.size (slot3_inb s)) (fun _ => rfl)).squeeze S256x4096 squeezes_S1x256x4096_S256x4096
def xS (s : Fin 3) : Memref sig .tc .vmem S256x4096 .f32 :=
  (xR.slice (Rect.unit (s := S3x256x4096) (slotOff s) S1x256x4096.size (slot3_inb s)) (fun _ => rfl)).squeeze S256x4096 squeezes_S1x256x4096_S256x4096
def yS (s : Fin 2) : Memref sig .tc .vmem S256x4096 .f32 :=
  (yR.slice (Rect.unit (s := S2x256x4096) (slotOff s) S1x256x4096.size (slot2_inb s)) (fun _ => rfl)).squeeze S256x4096 squeezes_S1x256x4096_S256x4096
/-- Slot `s`'s DMA semaphore of each ring. -/
def mixC (s : Fin 3) : DmaSems sig S_ := (cc0_scoped1.slice (Rect.unit (s := S3) (semOff s) S1.size (sem3_inb s))).squeeze S_ squeezes_S1_S_
def xC (s : Fin 3) : DmaSems sig S_ := (cc0_scoped3.slice (Rect.unit (s := S3) (semOff s) S1.size (sem3_inb s))).squeeze S_ squeezes_S1_S_
def yC (s : Fin 2) : DmaSems sig S_ := (cc0_scoped6.slice (Rect.unit (s := S2) (semOff s) S1.size (sem2_inb s))).squeeze S_ squeezes_S1_S_
/-! ## The words before trip `k` -/

abbrev Acc : Type := BitVec 32 × BitVec 32 × BitVec 32 × BitVec 32 × BitVec 32 × BitVec 32 × BitVec 32 × BitVec 32
abbrev accAt (k : ℕ) : Acc :=
  (wIss k, wCnt k, wIss k, wCnt k, wOnce k, wCnt k, wPrev k, wGrid k)

abbrev Trip : Type := Fin k0_t1_loop.trips
theorem trips_eq : k0_t1_loop.trips = 32 := by decide +kernel
theorem trip_lt (k : Trip) : k.val < 32 := Nat.lt_of_lt_of_eq k.isLt trips_eq

/-! ### The body's side conditions hold of them -/

theorem chk1_at : ∀ k : Trip, k0_chk1 k (wIss k.val) (wCnt k.val) (wIss k.val) (wCnt k.val) (wCnt k.val) (wPrev k.val) (wGrid k.val) := by
  decide +kernel
theorem chk2_at : ∀ k : Trip, k0_chk2 (wCnt k.val) := by decide +kernel
theorem chk3_at : ∀ k : Trip, k0_chk3 (wCnt k.val) := by decide +kernel
theorem chk4_at : ∀ k : Trip, k0_chk4 (wCnt k.val) := by decide +kernel
/-! ### The branches taken -/

theorem cond3_lt : ∀ k : Trip, k.val < 30 → k0_cond3 k (wGrid k.val) = 1#1 := by decide +kernel
theorem cond3_ge : ∀ k : Trip, ¬ k.val < 30 → ¬ k0_cond3 k (wGrid k.val) = 1#1 := by decide +kernel
theorem cond4_lt : ∀ k : Trip, k.val < 30 → k0_cond4 k (wGrid k.val) = 1#1 := by decide +kernel
theorem cond4_ge : ∀ k : Trip, ¬ k.val < 30 → ¬ k0_cond4 k (wGrid k.val) = 1#1 := by decide +kernel
theorem cond5_at : ∀ k : Trip, k0_cond5 k (wGrid k.val) = 1#1 := by decide +kernel
theorem cond6_at : ∀ k : Trip, k0_cond6 k (wGrid k.val) = 1#1 := by decide +kernel
theorem cond10_at : ∀ k : Trip, k0_cond10 k (wGrid k.val) = 1#1 := by decide +kernel
theorem cond13_pos : ∀ k : Trip, 1 ≤ k.val → k0_cond13 k (wGrid k.val) = 1#1 := by decide +kernel
theorem cond13_zero : ∀ k : Trip, k.val = 0 → ¬ k0_cond13 k (wGrid k.val) = 1#1 := by decide +kernel
end Cert.Proof.Final

end
-- ==== Proof.FinalSlices.lean ====
/- The kernel's computed slices under their canonical names: each window's offset in closed form at trip `k`, at the
   prologue's literals and after the loop, and the equations the executor rewrites with. -/
module

public import proofs.«01_k».proof.Proof.FinalNames

@[expose] public section

noncomputable section

namespace Cert.Proof.Final

open Cert.Kernel8Ideal Cert.Kernel8Ideal.Gen
open Cert.Proof.Norm (wIss wCnt wPrev wGrid wOnce)
open Idealize.ShloMosaic
open Idealize.ShloMosaic.TcCoe Idealize.ShloMosaic.Tactic
open Idealize.SL Idealize.SL.Sem

/-! ## Slices at equal offsets are equal -/

theorem mixC_congr {off : Fin 1 → Nat} {s : Fin 3} (e : off = semOff s) (hh) :
    (cc0_scoped1.slice (Rect.unit (s := S3) off S1.size hh)).squeeze S_ squeezes_S1_S_ = mixC s :=
  congrArg (fun A : DmaSems sig S1 => A.squeeze S_ squeezes_S1_S_) (SemArray.slice_unit_congr _ e _ _)
theorem mixS_congr {off : Fin 3 → Nat} {s : Fin 3} (e : off = slotOff s) (hh hs) :
    (mixR.slice (Rect.unit (s := S3x256x4096) off S1x256x4096.size hh) hs).squeeze S256x4096 squeezes_S1x256x4096_S256x4096 = mixS s :=
  congrArg (fun M : Memref sig .tc .vmem S1x256x4096 .bf16 => M.squeeze S256x4096 squeezes_S1x256x4096_S256x4096) (Memref.slice_unit_congr _ e _ _ _ _)
theorem mixB_congr {off : Fin 2 → Nat} {b : Fin 32} (e : off = rowOff b) (hh hs) :
    mixM.slice (Rect.unit (s := S8192x4096) off S256x4096.size hh) hs = mixB b :=
  Memref.slice_unit_congr _ e _ _ _ (fun _ => rfl)
theorem xC_congr {off : Fin 1 → Nat} {s : Fin 3} (e : off = semOff s) (hh) :
    (cc0_scoped3.slice (Rect.unit (s := S3) off S1.size hh)).squeeze S_ squeezes_S1_S_ = xC s :=
  congrArg (fun A : DmaSems sig S1 => A.squeeze S_ squeezes_S1_S_) (SemArray.slice_unit_congr _ e _ _)
theorem xS_congr {off : Fin 3 → Nat} {s : Fin 3} (e : off = slotOff s) (hh hs) :
    (xR.slice (Rect.unit (s := S3x256x4096) off S1x256x4096.size hh) hs).squeeze S256x4096 squeezes_S1x256x4096_S256x4096 = xS s :=
  congrArg (fun M : Memref sig .tc .vmem S1x256x4096 .f32 => M.squeeze S256x4096 squeezes_S1x256x4096_S256x4096) (Memref.slice_unit_congr _ e _ _ _ _)
theorem xB_congr {off : Fin 2 → Nat} {b : Fin 32} (e : off = rowOff b) (hh hs) :
    xM.slice (Rect.unit (s := S8192x4096) off S256x4096.size hh) hs = xB b :=
  Memref.slice_unit_congr _ e _ _ _ (fun _ => rfl)
theorem yC_congr {off : Fin 1 → Nat} {s : Fin 2} (e : off = semOff s) (hh) :
    (cc0_scoped6.slice (Rect.unit (s := S2) off S1.size hh)).squeeze S_ squeezes_S1_S_ = yC s :=
  congrArg (fun A : DmaSems sig S1 => A.squeeze S_ squeezes_S1_S_) (SemArray.slice_unit_congr _ e _ _)
theorem yS_congr {off : Fin 3 → Nat} {s : Fin 2} (e : off = slotOff s) (hh hs) :
    (yR.slice (Rect.unit (s := S2x256x4096) off S1x256x4096.size hh) hs).squeeze S256x4096 squeezes_S1x256x4096_S256x4096 = yS s :=
  congrArg (fun M : Memref sig .tc .vmem S1x256x4096 .f32 => M.squeeze S256x4096 squeezes_S1x256x4096_S256x4096) (Memref.slice_unit_congr _ e _ _ _ _)
theorem yB_congr {off : Fin 2 → Nat} {b : Fin 32} (e : off = rowOff b) (hh hs) :
    yM.slice (Rect.unit (s := S8192x4096) off S256x4096.size hh) hs = yB b :=
  Memref.slice_unit_congr _ e _ _ _ (fun _ => rfl)
/-! ## The offsets in closed form -/

theorem off9_at : ∀ k : Trip, k.val < 30 → k0_off9 (wIss k.val) = semOff (Ring.sl 3 (k.val + 2)) := by decide +kernel
theorem off12_at : ∀ k : Trip, k.val < 30 → k0_off12 (wIss k.val) = semOff (Ring.sl 3 (k.val + 2)) := by decide +kernel
theorem off10_at : ∀ k : Trip, k.val < 30 → k0_off10 (wIss k.val) = slotOff (Ring.sl 3 (k.val + 2)) := by decide +kernel
theorem off13_at : ∀ k : Trip, k.val < 30 → k0_off13 (wIss k.val) = slotOff (Ring.sl 3 (k.val + 2)) := by decide +kernel
theorem off11_at : ∀ k : Trip, k.val < 30 → k0_off11 (wGrid k.val) = rowOff (Ring.bk 32 (k.val + 2)) := by decide +kernel
theorem off14_at : ∀ k : Trip, k.val < 30 → k0_off14 (wGrid k.val) = rowOff (Ring.bk 32 (k.val + 2)) := by decide +kernel
theorem off15_at : ∀ k : Trip, k0_off15 (wCnt k.val) = semOff (Ring.sl 3 k.val) := by decide +kernel
theorem off18_at : ∀ k : Trip, k0_off18 (wCnt k.val) = semOff (Ring.sl 3 k.val) := by decide +kernel
theorem off16_at : ∀ k : Trip, k0_off16 (wCnt k.val) = slotOff (Ring.sl 3 k.val) := by decide +kernel
theorem off19_at : ∀ k : Trip, k0_off19 (wCnt k.val) = slotOff (Ring.sl 3 k.val) := by decide +kernel
theorem off21_at : ∀ k : Trip, k0_off21 (wCnt k.val) = slotOff (Ring.sl 3 k.val) := by decide +kernel
theorem off22_at : ∀ k : Trip, k0_off22 (wCnt k.val) = slotOff (Ring.sl 3 k.val) := by decide +kernel
theorem off17_at : ∀ k : Trip, k0_off17 (wGrid k.val) = rowOff (Ring.bk 32 k.val) := by decide +kernel
theorem off20_at : ∀ k : Trip, k0_off20 (wGrid k.val) = rowOff (Ring.bk 32 k.val) := by decide +kernel
theorem off23_at : ∀ k : Trip, k0_off23 (wCnt k.val) = slotOff (Ring.sl 2 k.val) := by decide +kernel
theorem off26_at : ∀ k : Trip, k0_off26 (wCnt k.val) = slotOff (Ring.sl 2 k.val) := by decide +kernel
theorem off24_at : ∀ k : Trip, k0_off24 (wCnt k.val) = semOff (Ring.sl 2 k.val) := by decide +kernel
theorem off25_at : ∀ k : Trip, k0_off25 (wGrid k.val) = rowOff (Ring.bk 32 k.val) := by decide +kernel
theorem off27_at : ∀ k : Trip, 1 ≤ k.val → k0_off27 (wPrev k.val) = semOff (Ring.sl 2 (k.val + 1)) := by decide +kernel
theorem off29_at : ∀ k : Trip, 1 ≤ k.val → k0_off29 (wPrev k.val) = slotOff (Ring.sl 2 (k.val + 1)) := by decide +kernel
theorem off28_at : ∀ k : Trip, 1 ≤ k.val → k0_off28 (wGrid k.val) = rowOff (Ring.bk 32 (k.val - 1)) := by decide +kernel
theorem off30_end : k0_off30 (wPrev k0_t1_loop.trips) = semOff (Ring.sl 2 (k0_t1_loop.trips + 1)) := by decide +kernel
theorem off32_end : k0_off32 (wPrev k0_t1_loop.trips) = slotOff (Ring.sl 2 (k0_t1_loop.trips + 1)) := by decide +kernel
theorem off31_end : k0_off31 (wGrid k0_t1_loop.trips) = rowOff (Ring.bk 32 (k0_t1_loop.trips - 1)) := by decide +kernel
instance (k : Trip) : ClosedOff (k0_off21 (wCnt k.val)) := ⟨slotOff (Ring.sl 3 k.val), off21_at k⟩
instance (k : Trip) : ClosedOff (k0_off22 (wCnt k.val)) := ⟨slotOff (Ring.sl 3 k.val), off22_at k⟩
instance (k : Trip) : ClosedOff (k0_off23 (wCnt k.val)) := ⟨slotOff (Ring.sl 2 k.val), off23_at k⟩

/-! ## The slices of a trip -/

@[sl_canon] theorem c9 (k : Trip) (hk : k.val < 30) (hh) :
    (cc0_scoped1.slice (Rect.unit (s := S3) (k0_off9 (wIss k.val)) S1.size hh)).squeeze S_ squeezes_S1_S_ = mixC (Ring.sl 3 (k.val + 2)) := mixC_congr (off9_at k hk) _
@[sl_canon] theorem c10 (k : Trip) (hk : k.val < 30) (hh hs) :
    (mixR.slice (Rect.unit (s := S3x256x4096) (k0_off10 (wIss k.val)) S1x256x4096.size hh) hs).squeeze S256x4096 squeezes_S1x256x4096_S256x4096 = mixS (Ring.sl 3 (k.val + 2)) := mixS_congr (off10_at k hk) _ _
@[sl_canon] theorem c11 (k : Trip) (hk : k.val < 30) (hh hs) :
    mixM.slice (Rect.unit (s := S8192x4096) (k0_off11 (wGrid k.val)) S256x4096.size hh) hs = mixB (Ring.bk 32 (k.val + 2)) := mixB_congr (off11_at k hk) _ _
@[sl_canon] theorem c12 (k : Trip) (hk : k.val < 30) (hh) :
    (cc0_scoped3.slice (Rect.unit (s := S3) (k0_off12 (wIss k.val)) S1.size hh)).squeeze S_ squeezes_S1_S_ = xC (Ring.sl 3 (k.val + 2)) := xC_congr (off12_at k hk) _
@[sl_canon] theorem c13 (k : Trip) (hk : k.val < 30) (hh hs) :
    (xR.slice (Rect.unit (s := S3x256x4096) (k0_off13 (wIss k.val)) S1x256x4096.size hh) hs).squeeze S256x4096 squeezes_S1x256x4096_S256x4096 = xS (Ring.sl 3 (k.val + 2)) := xS_congr (off13_at k hk) _ _
@[sl_canon] theorem c14 (k : Trip) (hk : k.val < 30) (hh hs) :
    xM.slice (Rect.unit (s := S8192x4096) (k0_off14 (wGrid k.val)) S256x4096.size hh) hs = xB (Ring.bk 32 (k.val + 2)) := xB_congr (off14_at k hk) _ _
@[sl_canon] theorem c15 (k : Trip) (hh) :
    (cc0_scoped1.slice (Rect.unit (s := S3) (k0_off15 (wCnt k.val)) S1.size hh)).squeeze S_ squeezes_S1_S_ = mixC (Ring.sl 3 k.val) := mixC_congr (off15_at k) _
@[sl_canon] theorem c16 (k : Trip) (hh hs) :
    (mixR.slice (Rect.unit (s := S3x256x4096) (k0_off16 (wCnt k.val)) S1x256x4096.size hh) hs).squeeze S256x4096 squeezes_S1x256x4096_S256x4096 = mixS (Ring.sl 3 k.val) := mixS_congr (off16_at k) _ _
@[sl_canon] theorem c17 (k : Trip) (hh hs) :
    mixM.slice (Rect.unit (s := S8192x4096) (k0_off17 (wGrid k.val)) S256x4096.size hh) hs = mixB (Ring.bk 32 k.val) := mixB_congr (off17_at k) _ _
@[sl_canon] theorem c18 (k : Trip) (hh) :
    (cc0_scoped3.slice (Rect.unit (s := S3) (k0_off18 (wCnt k.val)) S1.size hh)).squeeze S_ squeezes_S1_S_ = xC (Ring.sl 3 k.val) := xC_congr (off18_at k) _
@[sl_canon] theorem c19 (k : Trip) (hh hs) :
    (xR.slice (Rect.unit (s := S3x256x4096) (k0_off19 (wCnt k.val)) S1x256x4096.size hh) hs).squeeze S256x4096 squeezes_S1x256x4096_S256x4096 = xS (Ring.sl 3 k.val) := xS_congr (off19_at k) _ _
@[sl_canon] theorem c20 (k : Trip) (hh hs) :
    xM.slice (Rect.unit (s := S8192x4096) (k0_off20 (wGrid k.val)) S256x4096.size hh) hs = xB (Ring.bk 32 k.val) := xB_congr (off20_at k) _ _
@[sl_canon] theorem c24 (k : Trip) (hh) :
    (cc0_scoped6.slice (Rect.unit (s := S2) (k0_off24 (wCnt k.val)) S1.size hh)).squeeze S_ squeezes_S1_S_ = yC (Ring.sl 2 k.val) := yC_congr (off24_at k) _
@[sl_canon] theorem c26 (k : Trip) (hh hs) :
    (yR.slice (Rect.unit (s := S2x256x4096) (k0_off26 (wCnt k.val)) S1x256x4096.size hh) hs).squeeze S256x4096 squeezes_S1x256x4096_S256x4096 = yS (Ring.sl 2 k.val) := yS_congr (off26_at k) _ _
@[sl_canon] theorem c25 (k : Trip) (hh hs) :
    yM.slice (Rect.unit (s := S8192x4096) (k0_off25 (wGrid k.val)) S256x4096.size hh) hs = yB (Ring.bk 32 k.val) := yB_congr (off25_at k) _ _
@[sl_canon] theorem c27 (k : Trip) (hk : 1 ≤ k.val) (hh) :
    (cc0_scoped6.slice (Rect.unit (s := S2) (k0_off27 (wPrev k.val)) S1.size hh)).squeeze S_ squeezes_S1_S_ = yC (Ring.sl 2 (k.val + 1)) := yC_congr (off27_at k hk) _
@[sl_canon] theorem c29 (k : Trip) (hk : 1 ≤ k.val) (hh hs) :
    (yR.slice (Rect.unit (s := S2x256x4096) (k0_off29 (wPrev k.val)) S1x256x4096.size hh) hs).squeeze S256x4096 squeezes_S1x256x4096_S256x4096 = yS (Ring.sl 2 (k.val + 1)) := yS_congr (off29_at k hk) _ _
@[sl_canon] theorem c28 (k : Trip) (hk : 1 ≤ k.val) (hh hs) :
    yM.slice (Rect.unit (s := S8192x4096) (k0_off28 (wGrid k.val)) S256x4096.size hh) hs = yB (Ring.bk 32 (k.val - 1)) := yB_congr (off28_at k hk) _ _
/-! ## The slices before and after the loop -/

@[sl_canon] theorem mixC_lit0 (hh) :
    (cc0_scoped1.slice (Rect.unit (s := S3) ![0] S1.size hh)).squeeze S_ squeezes_S1_S_ = mixC 0 := mixC_congr (by decide) _
@[sl_canon] theorem mixS_lit0 (hh hs) :
    (mixR.slice (Rect.unit (s := S3x256x4096) ![0, 0, 0] S1x256x4096.size hh) hs).squeeze S256x4096 squeezes_S1x256x4096_S256x4096 = mixS 0 := mixS_congr (by decide) _ _
@[sl_canon] theorem mixB_lit0 (hh hs) :
    mixM.slice (Rect.unit (s := S8192x4096) ![0, 0] S256x4096.size hh) hs = mixB 0 := mixB_congr (by decide) _ _
@[sl_canon] theorem mixC_lit1 (hh) :
    (cc0_scoped1.slice (Rect.unit (s := S3) ![1] S1.size hh)).squeeze S_ squeezes_S1_S_ = mixC 1 := mixC_congr (by decide) _
@[sl_canon] theorem mixS_lit1 (hh hs) :
    (mixR.slice (Rect.unit (s := S3x256x4096) ![1, 0, 0] S1x256x4096.size hh) hs).squeeze S256x4096 squeezes_S1x256x4096_S256x4096 = mixS 1 := mixS_congr (by decide) _ _
@[sl_canon] theorem mixB_lit1 (hh hs) :
    mixM.slice (Rect.unit (s := S8192x4096) ![256, 0] S256x4096.size hh) hs = mixB 1 := mixB_congr (by decide) _ _
@[sl_canon] theorem xC_lit0 (hh) :
    (cc0_scoped3.slice (Rect.unit (s := S3) ![0] S1.size hh)).squeeze S_ squeezes_S1_S_ = xC 0 := xC_congr (by decide) _
@[sl_canon] theorem xS_lit0 (hh hs) :
    (xR.slice (Rect.unit (s := S3x256x4096) ![0, 0, 0] S1x256x4096.size hh) hs).squeeze S256x4096 squeezes_S1x256x4096_S256x4096 = xS 0 := xS_congr (by decide) _ _
@[sl_canon] theorem xB_lit0 (hh hs) :
    xM.slice (Rect.unit (s := S8192x4096) ![0, 0] S256x4096.size hh) hs = xB 0 := xB_congr (by decide) _ _
@[sl_canon] theorem xC_lit1 (hh) :
    (cc0_scoped3.slice (Rect.unit (s := S3) ![1] S1.size hh)).squeeze S_ squeezes_S1_S_ = xC 1 := xC_congr (by decide) _
@[sl_canon] theorem xS_lit1 (hh hs) :
    (xR.slice (Rect.unit (s := S3x256x4096) ![1, 0, 0] S1x256x4096.size hh) hs).squeeze S256x4096 squeezes_S1x256x4096_S256x4096 = xS 1 := xS_congr (by decide) _ _
@[sl_canon] theorem xB_lit1 (hh hs) :
    xM.slice (Rect.unit (s := S8192x4096) ![256, 0] S256x4096.size hh) hs = xB 1 := xB_congr (by decide) _ _
@[sl_canon] theorem c30 (hh) :
    (cc0_scoped6.slice (Rect.unit (s := S2) (k0_off30 (wPrev k0_t1_loop.trips)) S1.size hh)).squeeze S_ squeezes_S1_S_ = yC (Ring.sl 2 (k0_t1_loop.trips + 1)) := yC_congr off30_end _
@[sl_canon] theorem c32 (hh hs) :
    (yR.slice (Rect.unit (s := S2x256x4096) (k0_off32 (wPrev k0_t1_loop.trips)) S1x256x4096.size hh) hs).squeeze S256x4096 squeezes_S1x256x4096_S256x4096 = yS (Ring.sl 2 (k0_t1_loop.trips + 1)) := yS_congr off32_end _ _
@[sl_canon] theorem c31 (hh hs) :
    yM.slice (Rect.unit (s := S8192x4096) (k0_off31 (wGrid k0_t1_loop.trips)) S256x4096.size hh) hs = yB (Ring.bk 32 (k0_t1_loop.trips - 1)) := yB_congr off31_end _ _
end Cert.Proof.Final

end
-- ==== Proof.FinalPieces.lean ====
/- What the pipeline of `residual_final` holds between trips: the blocks of its arrays, the slots of its rings and their
   copies in flight, and the contents the result ends at. Over any float values `F`. -/
module

public import proofs.«01_k».proof.Proof.FinalSlices
public import proofs.«01_k».proof.Proof.Landing

@[expose] public section

noncomputable section

namespace Cert.Proof.Final

open Cert.Kernel8Ideal Cert.Kernel8Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.SL.Sem

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## The values -/

section Values
variable (c : Dev nD) (XM : Buf (Elt F) (mixM.view.loc (c : Thread nD τ))) (XX : Buf (Elt F) (xM.view.loc (c : Thread nD τ)))
  (G1 : Buf (Elt F) (g1V.view.loc (c : Thread nD τ)))

/-- Block `b` of the mixed activations, of the residual stream; -/
def mixW (b : Fin 32) : S256x4096.Idx → Elt F .bf16 := ReadAs.same.apply ((mixB b).view.read (Elt F) XM)
def xW (b : Fin 32) : S256x4096.Idx → Elt F .f32 := ReadAs.same.apply ((xB b).view.read (Elt F) XX)
/-- a gain row; -/
def gW (g : Memref sig .tc .vmem S1x4096 .f32) (G : Buf (Elt F) (g.view.loc (c : Thread nD τ))) : Vec F S1x4096 .f32 :=
  g.view.readAt (Elt F) (Rect.unit (s := S1x4096) ![0, 0] S1x4096.size inb_S1x4096_S1x4096_0_0).toLoadRect G
/-- the block of the residual sum. -/
def yW (b : Fin 32) : S256x4096.Idx → Elt F .f32 :=
  shapeCast S256x4096 (k0_pay1 (shapeCast S1x256x4096 (xW c XX b) shapeCasts_S256x4096_S1x256x4096)
    (shapeCast S1x256x4096 (mixW c XM b) shapeCasts_S256x4096_S1x256x4096) (gW c g1V G1)) shapeCasts_S1x256x4096_S256x4096
/-- Row `i` of an array of 8192 rows lies in block `i / 256`, at row `i % 256`. -/
def blkOf (i : S8192x4096.Idx) : Fin 32 := ⟨(i 0).val / 256, by have h : (i 0).val < 8192 := (i 0).isLt; omega⟩
def inBlk (i : S8192x4096.Idx) : S256x4096.Idx :=
  Fin.cons (⟨(i 0).val % 256, Nat.mod_lt _ (by decide)⟩ : Fin 256) (Fin.cons (⟨(i 1).val, (i 1).isLt⟩ : Fin 4096) finZeroElim)

/-- The result, whole. -/
def yFin : S8192x4096.Idx → Elt F .f32 := fun i => yW c XM XX G1 (blkOf i) (inBlk i)
end Values

/-! ## A block of an array, a slot of a ring, a copy in flight -/

section Rings
variable (c : Dev nD) (XM : Buf (Elt F) (mixM.view.loc (c : Thread nD τ))) (XX : Buf (Elt F) (xM.view.loc (c : Thread nD τ)))

abbrev mixH (b : Fin 32) : sProp 𝕄 := (mixB b).view.loc (c : Thread nD τ) ↦[(mixB b).view.set]{fullShare} XM
abbrev xH (b : Fin 32) : sProp 𝕄 := (xB b).view.loc (c : Thread nD τ) ↦[(xB b).view.set]{fullShare} XX
abbrev yH (Y : Buf (Elt F) (yM.view.loc (c : Thread nD τ))) (b : Fin 32) : sProp 𝕄 := (yB b).view.loc (c : Thread nD τ) ↦[(yB b).view.set]{fullShare} Y
abbrev mixSP (s : Fin 3) (f : Buf (Elt F) ((mixS s).view.loc (c : Thread nD τ))) : sProp 𝕄 := (mixS s).view.loc (c : Thread nD τ) ↦[(mixS s).view.set]{fullShare} f
abbrev xSP (s : Fin 3) (f : Buf (Elt F) ((xS s).view.loc (c : Thread nD τ))) : sProp 𝕄 := (xS s).view.loc (c : Thread nD τ) ↦[(xS s).view.set]{fullShare} f
abbrev ySP (s : Fin 2) (f : Buf (Elt F) ((yS s).view.loc (c : Thread nD τ))) : sProp 𝕄 := (yS s).view.loc (c : Thread nD τ) ↦[(yS s).view.set]{fullShare} f
abbrev mixCP (s : Fin 3) : sProp 𝕄 := semVal ((c : Thread nD τ), SemLoc.dma (mixC s).sem) 0
abbrev xCP (s : Fin 3) : sProp 𝕄 := semVal ((c : Thread nD τ), SemLoc.dma (xC s).sem) 0
abbrev yCP (s : Fin 2) : sProp 𝕄 := semVal ((c : Thread nD τ), SemLoc.dma (yC s).sem) 0
/-- A slot free: its semaphore at zero, its elements at anything. -/
abbrev mixFree (s : Fin 3) : sProp 𝕄 := iprop(mixCP c s ∗ ∃ f, mixSP c s f)
abbrev xFree (s : Fin 3) : sProp 𝕄 := iprop(xCP c s ∗ ∃ f, xSP c s f)
abbrev yFree (s : Fin 2) : sProp 𝕄 := iprop(yCP c s ∗ ∃ f, ySP c s f)
/-- A slot being filled with block `b`, over contents `f`. -/
abbrev mixInFl (s : Fin 3) (b : Fin 32) (f : Buf (Elt F) ((mixS s).view.loc (c : Thread nD τ))) : sProp 𝕄 :=
  Transfers.Flight countersEmb (c : Thread nD τ) (SemLoc.dma (mixC s).sem) () 65536
    iprop(mixSP c s ((mixS s).view.writes (Elt F) f [⟨Rect.whole S256x4096, mixW c XM b⟩]) ∗ mixH c XM b)
abbrev xInFl (s : Fin 3) (b : Fin 32) (f : Buf (Elt F) ((xS s).view.loc (c : Thread nD τ))) : sProp 𝕄 :=
  Transfers.Flight countersEmb (c : Thread nD τ) (SemLoc.dma (xC s).sem) () 131072
    iprop(xSP c s ((xS s).view.writes (Elt F) f [⟨Rect.whole S256x4096, xW c XX b⟩]) ∗ xH c XX b)
/-- A slot being emptied into block `b`, which it leaves at `Y`'s contents. -/
abbrev yOutFl (Y : Buf (Elt F) (yM.view.loc (c : Thread nD τ))) (s : Fin 2) (b : Fin 32) (f : Buf (Elt F) ((yS s).view.loc (c : Thread nD τ))) : sProp 𝕄 :=
  Transfers.Flight countersEmb (c : Thread nD τ) (SemLoc.dma (yC s).sem) () 131072 iprop(yH c Y b ∗ ySP c s f)
/-- The slot of block `p`: being filled with it while there is such a block, else free. -/
abbrev mixRole (p : ℕ) : sProp 𝕄 := Ring.roleAt (NB := 32) (mixFree c (Ring.sl 3 p)) (fun b => iprop(∃ f, mixInFl c XM (Ring.sl 3 p) b f)) p
abbrev xRole (p : ℕ) : sProp 𝕄 := Ring.roleAt (NB := 32) (xFree c (Ring.sl 3 p)) (fun b => iprop(∃ f, xInFl c XX (Ring.sl 3 p) b f)) p
/-- The slot trip `p - 1` stored into, before trip `p`. -/
abbrev yRole (Y : Buf (Elt F) (yM.view.loc (c : Thread nD τ))) (p : ℕ) : sProp 𝕄 :=
  Ring.roleBAt (NB := 32) 1 (yFree c (Ring.sl 2 (p + 1))) (fun b => iprop(∃ f, yOutFl c Y (Ring.sl 2 (p + 1)) b f)) p
theorem mixRole_lt {p : ℕ} (h : p < 32) : mixRole c XM p = iprop(∃ f, mixInFl c XM (Ring.sl 3 p) (Ring.bk 32 p) f) := Ring.roleAt_of_lt _ _ p h
theorem mixRole_le {p : ℕ} (h : 32 ≤ p) : mixRole c XM p = mixFree c (Ring.sl 3 p) := Ring.roleAt_of_le _ _ p h
theorem xRole_lt {p : ℕ} (h : p < 32) : xRole c XX p = iprop(∃ f, xInFl c XX (Ring.sl 3 p) (Ring.bk 32 p) f) := Ring.roleAt_of_lt _ _ p h
theorem xRole_le {p : ℕ} (h : 32 ≤ p) : xRole c XX p = xFree c (Ring.sl 3 p) := Ring.roleAt_of_le _ _ p h
theorem yRole_pos (Y : Buf (Elt F) (yM.view.loc (c : Thread nD τ))) {p : ℕ} (h : 1 ≤ p) :
    yRole c Y p = iprop(∃ f, yOutFl c Y (Ring.sl 2 (p + 1)) (Ring.bk 32 (p - 1)) f) := Ring.roleBAt_of_le 1 _ _ p h
theorem yRole_zero (Y : Buf (Elt F) (yM.view.loc (c : Thread nD τ))) {p : ℕ} (h : p < 1) :
    yRole c Y p = yFree c (Ring.sl 2 (p + 1)) := Ring.roleBAt_of_lt 1 _ _ p h
end Rings

/-! ## The resources before trip `k` -/

section Res
variable (c : Dev nD) (XM : Buf (Elt F) (mixM.view.loc (c : Thread nD τ))) (XX : Buf (Elt F) (xM.view.loc (c : Thread nD τ)))
  (G1 : Buf (Elt F) (g1V.view.loc (c : Thread nD τ)))
  (Y0 : Buf (Elt F) (yM.view.loc (c : Thread nD τ)))

abbrev g1P : sProp 𝕄 := g1V.view.loc (c : Thread nD τ) ↦[g1V.view.set]{fullShare} G1
/-- Before trip `k`: blocks `k` and `k + 1` of each input in flight, block `k - 1` of the result in flight, every other
    block at home — the result's at its first contents ahead of the trips, at its last behind them. -/
def resAt (k : ℕ) : sProp 𝕄 :=
  iprop((∃ W, owes (c : Thread nD τ) 0 W) ∗ g1P c G1
    ∗ (bigSep (Ring.homeSet 2 k) (mixH c XM) ∗ mixRole c XM k ∗ mixRole c XM (k + 1) ∗ mixFree c (Ring.sl 3 (k + 2)))
    ∗ (bigSep (Ring.homeSet 2 k) (xH c XX) ∗ xRole c XX k ∗ xRole c XX (k + 1) ∗ xFree c (Ring.sl 3 (k + 2)))
    ∗ (bigSep (Ring.aheadSet k) (yH c Y0) ∗ bigSep (Ring.behindSet 1 k) (yH c (yFin c XM XX G1))
        ∗ yFree c (Ring.sl 2 k) ∗ yRole c (yFin c XM XX G1) k))

end Res

end Cert.Proof.Final

end
-- ==== Proof.FinalLanding.lean ====
/- What a load of a filled slot reads, what a stored slot is copied out as, and that a copied-out block is the result's. -/
module

public import proofs.«01_k».proof.Proof.FinalPieces
public import Idealize.ShloMosaic.Lib.Pipeline.Value

@[expose] public section

noncomputable section

namespace Cert.Proof.Final

open Cert.Kernel8Ideal Cert.Kernel8Ideal.Gen
open Cert.Proof.Norm (load_slot stored_slot whole_is)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.SL.Sem

variable {F : FTy → Type} [FloatOps F]
local notation "𝕄" => MT nD τ sig Unit (Elt F) ℕ (UU nD τ) ℕ

variable (c : Dev nD) (XM : Buf (Elt F) (mixM.view.loc (c : Thread nD τ))) (XX : Buf (Elt F) (xM.view.loc (c : Thread nD τ)))
  (G1 : Buf (Elt F) (g1V.view.loc (c : Thread nD τ)))

/-- A load of a slot after a copy into it. -/
theorem mix_load {s : Fin 3} {off : Fin 3 → ℕ} (e : off = slotOff s) (inb) (P : S256x4096.Idx → Elt F .bf16)
    (f : Buf (Elt F) ((mixS s).view.loc (c : Thread nD τ))) :
    mixR.view.readAt (Elt F) (Rect.unit (s := S3x256x4096) off S1x256x4096.size inb).toLoadRect
      ((mixS s).view.writes (Elt F) f [⟨Rect.whole S256x4096, P⟩]) = shapeCast S1x256x4096 P shapeCasts_S256x4096_S1x256x4096 := by
  subst e
  exact load_slot mixR.view (Rect.unit (s := S3x256x4096) (slotOff s) S1x256x4096.size inb)
    squeezes_S1x256x4096_S256x4096.numel_eq shapeCasts_S256x4096_S1x256x4096 f P
theorem x_load {s : Fin 3} {off : Fin 3 → ℕ} (e : off = slotOff s) (inb) (P : S256x4096.Idx → Elt F .f32)
    (f : Buf (Elt F) ((xS s).view.loc (c : Thread nD τ))) :
    xR.view.readAt (Elt F) (Rect.unit (s := S3x256x4096) off S1x256x4096.size inb).toLoadRect
      ((xS s).view.writes (Elt F) f [⟨Rect.whole S256x4096, P⟩]) = shapeCast S1x256x4096 P shapeCasts_S256x4096_S1x256x4096 := by
  subst e
  exact load_slot xR.view (Rect.unit (s := S3x256x4096) (slotOff s) S1x256x4096.size inb)
    squeezes_S1x256x4096_S256x4096.numel_eq shapeCasts_S256x4096_S1x256x4096 f P

/-- A slot read after a store into it. -/
theorem y_stored {s : Fin 2} {off : Fin 3 → ℕ} (e : off = slotOff s) (inb) (w : S1x256x4096.Idx → Elt F .f32)
    (f : Buf (Elt F) ((yS s).view.loc (c : Thread nD τ))) :
    (yS s).view.read (Elt F) (View.write (Elt F) (yR.access (Rect.unit (s := S2x256x4096) off S1x256x4096.size inb)) f w Finset.univ)
      = shapeCast S256x4096 w shapeCasts_S1x256x4096_S256x4096 := by
  subst e
  exact stored_slot yR.view (Rect.unit (s := S2x256x4096) (slotOff s) S1x256x4096.size inb)
    squeezes_S1x256x4096_S256x4096.numel_eq shapeCasts_S1x256x4096_S256x4096 f w
/-! ## A block written whole is the result's -/

theorem blkOf_emb (b : Fin 32) (j : S256x4096.Idx) : blkOf ((yB b).view.emb j) = b := by
  apply Fin.ext
  have hj : (j 0).val < 256 := (j 0).isLt
  show (256 * b.val + 1 * (j 0).val) / 256 = b.val
  omega
theorem inBlk_emb (b : Fin 32) (j : S256x4096.Idx) : inBlk ((yB b).view.emb j) = j := by
  have hj : (j 0).val < 256 := (j 0).isLt
  funext a
  fin_cases a
  · apply Fin.ext
    show (256 * b.val + 1 * (j 0).val) % 256 = (j 0).val
    omega
  · apply Fin.ext
    show 0 + 1 * (j 1).val = (j 1).val
    omega

theorem yFin_read (b : Fin 32) : (yB b).view.read (Elt F) (yFin c XM XX G1) = yW c XM XX G1 b := by
  funext j
  have e : yFin c XM XX G1 ((yB b).view.emb j) = yW c XM XX G1 b j := by
    unfold yFin; rw [blkOf_emb, inBlk_emb]
  exact e
theorem y_landed (b : Fin 32) (Y0 : Buf (Elt F) (yM.view.loc (c : Thread nD τ))) :
    (yH c ((yB b).view.writes (Elt F) Y0 [⟨Rect.whole S256x4096, yW c XM XX G1 b⟩]) b : sProp 𝕄) = yH c (yFin c XM XX G1) b :=
  pointsTo_congr (whole_is (yB b).view Y0 (yFin c XM XX G1) _ (yFin_read c XM XX G1 b))
/-! ## What a trip copies out -/

theorem y_out {s : Fin 2} {off : Fin 3 → ℕ} (e : off = slotOff s) (inb) (b : Fin 32) (a : Vec F S1x256x4096 .f32) (a' : Vec F S1x256x4096 .bf16)
    (f : Buf (Elt F) ((yS s).view.loc (c : Thread nD τ)))
    (ha : a = shapeCast S1x256x4096 (xW c XX b) shapeCasts_S256x4096_S1x256x4096)
    (ha' : a' = shapeCast S1x256x4096 (mixW c XM b) shapeCasts_S256x4096_S1x256x4096) :
    ReadAs.same.apply ((yS s).view.read (Elt F) (View.write (Elt F) (yR.access (Rect.unit (s := S2x256x4096) off S1x256x4096.size inb)) f
      (k0_pay1 a a' (gW c g1V G1)) Finset.univ)) = yW c XM XX G1 b := by
  subst ha; subst ha'
  exact y_stored c e inb _ f

end Cert.Proof.Final

end
-- ==== Proof.FinalTrip.lean ====
/- One trip of the pipeline's loop. -/
module

public import proofs.«01_k».proof.Proof.FinalLanding

@[expose] public section

noncomputable section

namespace Cert.Proof.Final

open Cert.Kernel8Ideal Cert.Kernel8Ideal.Gen
open Cert.Proof.Norm (wIss wCnt wPrev wGrid wOnce homes_take homes_put homes_tail ahead_take behind_put behind_first)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.SL.Sem

variable {F : FTy → Type} [FloatOps F]
local notation "𝕄" => MT nD τ sig Unit (Elt F) ℕ (UU nD τ) ℕ

variable (c : Dev nD) (XM : Buf (Elt F) (mixM.view.loc (c : Thread nD τ))) (XX : Buf (Elt F) (xM.view.loc (c : Thread nD τ)))
  (G1 : Buf (Elt F) (g1V.view.loc (c : Thread nD τ)))
  (Y0 : Buf (Elt F) (yM.view.loc (c : Thread nD τ)))

abbrev tripG (k : Trip) : Prog (TpuEff nD τ sig (Elt F) Λ₀ .tc) Acc :=
  k0_t1_body (F := F) mixM (Memref.isWhole_whole _) xM (Memref.isWhole_whole _) g1M (Memref.isWhole_whole _) yM (Memref.isWhole_whole _)
    mixR (Memref.isWhole_whole _) cc0_scoped1 xR (Memref.isWhole_whole _) cc0_scoped3 g1V (Memref.isWhole_whole _) yR (Memref.isWhole_whole _)
    cc0_scoped6 cc0_scoped7 1#32 1#32 0#32 3#32 k (accAt k.val)

/-- A middle trip: every ring both fills and empties. -/
theorem trip_mid (k : Trip) (h1 : 1 ≤ k.val) (h30 : k.val < 30) :
    resAt c XM XX G1 Y0 k.val ⊢ wp Idealize.ShloMosaic.frame (wpE (defs₀ (F := F)) 𝒱₀ (c : Thread nD τ) none) Set.univ (tripG k)
      (fun acc => iprop(⌜acc = accAt (k.val + 1)⌝ ∗ resAt c XM XX G1 Y0 (k.val + 1))) := by
  have hk := trip_lt k
  have c3 := cond3_lt k h30
  have c4 := cond4_lt k h30
  have c5 := cond5_at k
  have c6 := cond6_at k
  have c10 := cond10_at k
  have c13 := cond13_pos k h1
  have hw1 := chk1_at k
  have hw2 := chk2_at k
  have hw3 := chk3_at k
  have hw4 := chk4_at k
  unfold resAt
  rw [mixRole_lt c XM hk, xRole_lt c XX hk, yRole_pos c (yFin c XM XX G1) h1,
    homes_take (mixH c XM) h30, homes_take (xH c XX) h30, ahead_take (yH c Y0) hk]
  iintro ⟨⟨%W, HW⟩, HG1, ⟨⟨Hmi, Hmh⟩, ⟨%fm0, HmF⟩, Hm1, HmC, ⟨%fm2, HmS⟩⟩, ⟨⟨Hxi, Hxh⟩, ⟨%fx0, HxF⟩, Hx1, HxC, ⟨%fx2, HxS⟩⟩,
    ⟨⟨Hyi, Hya⟩, Hyb, ⟨HyC, ⟨%fy, HyS⟩⟩, ⟨%fyo, HyF⟩⟩⟩
  dsimp only [tripG]
  sl_unfold [k0_t1_body]
  sl_exec
  sl_step
  have e1 : trip_mid.sl.dma5 c XM XX G1 k hw2 hw3 hw4 fy = yW c XM XX G1 (Ring.bk 32 k.val) :=
    y_out c XM XX G1 (off23_at k) _ _ _ _ fy (x_load c (off21_at k) _ _ _) (mix_load c (off22_at k) _ _ _)
  have w0 : ∀ k : Trip, trip_mid.sl.v115_r0 k = wIss (k.val + 1) := by decide +kernel
  have w1 : ∀ k : Trip, trip_mid.sl.v193_r0 k = wCnt (k.val + 1) := by decide +kernel
  have w2 : ∀ k : Trip, trip_mid.sl.v224_r0 k = wOnce (k.val + 1) := by decide +kernel
  have w3 : ∀ k : Trip, trip_mid.sl.v213_r0 k = wPrev (k.val + 1) := by decide +kernel
  have w4 : ∀ k : Trip, trip_mid.sl.v94_r0 k = wGrid (k.val + 1) := by decide +kernel
  rw [w0 k, w1 k, w2 k, w3 k, w4 k]
  isplitr
  · ipureintro; rfl
  isplitl [HW]; · iexists _; iexact HW
  isplitl [HG1]; · iexact HG1
  isplitl [HmF_src Hmh Hm1 HmC HmF HmF_dst]
  · irw [homes_put (mixH c XM) h30, show mixRole c XM (k.val + 1 + 1) = _ from mixRole_lt c XM (p := k.val + 2) (by omega),
      Ring.sl_succ_add 3 k.val 2 rfl]
    isplitl [HmF_src Hmh]
    · isplitl [HmF_src]; · iexact HmF_src
      iexact Hmh
    isplitl [Hm1]; · iexact Hm1
    isplitl [HmC]; · iexists fm2; iexact HmC
    isplitl [HmF]; · iexact HmF
    iexists _; iexact HmF_dst
  isplitl [HxF_src Hxh Hx1 HxC HxF HxF_dst]
  · irw [homes_put (xH c XX) h30, show xRole c XX (k.val + 1 + 1) = _ from xRole_lt c XX (p := k.val + 2) (by omega),
      Ring.sl_succ_add 3 k.val 2 rfl]
    isplitl [HxF_src Hxh]
    · isplitl [HxF_src]; · iexact HxF_src
      iexact Hxh
    isplitl [Hx1]; · iexact Hx1
    isplitl [HxC]; · iexists fx2; iexact HxC
    isplitl [HxF]; · iexact HxF
    iexists _; iexact HxF_dst
  irw [behind_put (yH c (yFin c XM XX G1)) h1 hk, yRole_pos c (yFin c XM XX G1) (show 1 ≤ k.val + 1 by omega),
    Ring.sl_succ_add 2 k.val 1 rfl, show k.val + 1 - 1 = k.val from rfl]
  isplitl [Hya]; · iexact Hya
  isplitl [Hyb HyF_dst]
  · isplitl [HyF_dst]; · iexact HyF_dst
    iexact Hyb
  isplitl [HyF HyF_src]
  · isplitl [HyF]; · iexact HyF
    iexists _; iexact HyF_src
  iexists _
  unfold yOutFl
  irw [← y_landed c XM XX G1 (Ring.bk 32 k.val) Y0, ← e1]
  iexact HyC

/-- The first trip: nothing of the results to wait for. -/
theorem trip_first (k : Trip) (h0 : k.val = 0) :
    resAt c XM XX G1 Y0 k.val ⊢ wp Idealize.ShloMosaic.frame (wpE (defs₀ (F := F)) 𝒱₀ (c : Thread nD τ) none) Set.univ (tripG k)
      (fun acc => iprop(⌜acc = accAt (k.val + 1)⌝ ∗ resAt c XM XX G1 Y0 (k.val + 1))) := by
  have hk := trip_lt k
  have h30 : k.val < 30 := by omega
  have c3 := cond3_lt k h30
  have c4 := cond4_lt k h30
  have c5 := cond5_at k
  have c6 := cond6_at k
  have c10 := cond10_at k
  have c13 := cond13_zero k h0
  have hw1 := chk1_at k
  have hw2 := chk2_at k
  have hw3 := chk3_at k
  have hw4 := chk4_at k
  unfold resAt
  rw [mixRole_lt c XM hk, xRole_lt c XX hk, yRole_zero c (yFin c XM XX G1) (show k.val < 1 by omega),
    homes_take (mixH c XM) h30, homes_take (xH c XX) h30, ahead_take (yH c Y0) hk]
  iintro ⟨⟨%W, HW⟩, HG1, ⟨⟨Hmi, Hmh⟩, ⟨%fm0, HmF⟩, Hm1, HmC, ⟨%fm2, HmS⟩⟩, ⟨⟨Hxi, Hxh⟩, ⟨%fx0, HxF⟩, Hx1, HxC, ⟨%fx2, HxS⟩⟩,
    ⟨⟨Hyi, Hya⟩, Hyb, ⟨HyC, ⟨%fy, HyS⟩⟩, HyF⟩⟩
  dsimp only [tripG]
  sl_unfold [k0_t1_body]
  sl_exec
  sl_step
  have e1 : trip_first.sl.dma5 c XM XX G1 k hw2 hw3 hw4 fy = yW c XM XX G1 (Ring.bk 32 k.val) :=
    y_out c XM XX G1 (off23_at k) _ _ _ _ fy (x_load c (off21_at k) _ _ _) (mix_load c (off22_at k) _ _ _)
  have w0 : ∀ k : Trip, trip_first.sl.v115_r0 k = wIss (k.val + 1) := by decide +kernel
  have w1 : ∀ k : Trip, trip_first.sl.v193_r0 k = wCnt (k.val + 1) := by decide +kernel
  have w2 : ∀ k : Trip, trip_first.sl.v224_r0 k = wOnce (k.val + 1) := by decide +kernel
  have w3 : ∀ k : Trip, trip_first.sl.v213_r0 k = wPrev (k.val + 1) := by decide +kernel
  have w4 : ∀ k : Trip, trip_first.sl.v94_r0 k = wGrid (k.val + 1) := by decide +kernel
  rw [w0 k, w1 k, w2 k, w3 k, w4 k]
  isplitr
  · ipureintro; rfl
  isplitl [HW]; · iexists _; iexact HW
  isplitl [HG1]; · iexact HG1
  isplitl [HmF_src Hmh Hm1 HmC HmF HmF_dst]
  · irw [homes_put (mixH c XM) h30, show mixRole c XM (k.val + 1 + 1) = _ from mixRole_lt c XM (p := k.val + 2) (by omega),
      Ring.sl_succ_add 3 k.val 2 rfl]
    isplitl [HmF_src Hmh]
    · isplitl [HmF_src]; · iexact HmF_src
      iexact Hmh
    isplitl [Hm1]; · iexact Hm1
    isplitl [HmC]; · iexists fm2; iexact HmC
    isplitl [HmF]; · iexact HmF
    iexists _; iexact HmF_dst
  isplitl [HxF_src Hxh Hx1 HxC HxF HxF_dst]
  · irw [homes_put (xH c XX) h30, show xRole c XX (k.val + 1 + 1) = _ from xRole_lt c XX (p := k.val + 2) (by omega),
      Ring.sl_succ_add 3 k.val 2 rfl]
    isplitl [HxF_src Hxh]
    · isplitl [HxF_src]; · iexact HxF_src
      iexact Hxh
    isplitl [Hx1]; · iexact Hx1
    isplitl [HxC]; · iexists fx2; iexact HxC
    isplitl [HxF]; · iexact HxF
    iexists _; iexact HxF_dst
  irw [← behind_first (yH c (yFin c XM XX G1)) h0, yRole_pos c (yFin c XM XX G1) (show 1 ≤ k.val + 1 by omega),
    Ring.sl_succ_add 2 k.val 1 rfl, show k.val + 1 - 1 = k.val from rfl]
  isplitl [Hya]; · iexact Hya
  isplitl [Hyb]
  · iexact Hyb
  isplitl [HyF]
  · iexact HyF
  iexists _
  unfold yOutFl
  irw [← y_landed c XM XX G1 (Ring.bk 32 k.val) Y0, ← e1]
  iexact HyC

/-- The last two trips: nothing more of the inputs to fetch. -/
theorem trip_last (k : Trip) (h30 : ¬ k.val < 30) :
    resAt c XM XX G1 Y0 k.val ⊢ wp Idealize.ShloMosaic.frame (wpE (defs₀ (F := F)) 𝒱₀ (c : Thread nD τ) none) Set.univ (tripG k)
      (fun acc => iprop(⌜acc = accAt (k.val + 1)⌝ ∗ resAt c XM XX G1 Y0 (k.val + 1))) := by
  have hk := trip_lt k
  have h1 : 1 ≤ k.val := by omega
  have c3 := cond3_ge k h30
  have c4 := cond4_ge k h30
  have c5 := cond5_at k
  have c6 := cond6_at k
  have c10 := cond10_at k
  have c13 := cond13_pos k h1
  have hw1 := chk1_at k
  have hw2 := chk2_at k
  have hw3 := chk3_at k
  have hw4 := chk4_at k
  unfold resAt
  rw [mixRole_lt c XM hk, xRole_lt c XX hk, yRole_pos c (yFin c XM XX G1) h1,
    ahead_take (yH c Y0) hk]
  iintro ⟨⟨%W, HW⟩, HG1, ⟨Hmh, ⟨%fm0, HmF⟩, Hm1, HmC⟩, ⟨Hxh, ⟨%fx0, HxF⟩, Hx1, HxC⟩,
    ⟨⟨Hyi, Hya⟩, Hyb, ⟨HyC, ⟨%fy, HyS⟩⟩, ⟨%fyo, HyF⟩⟩⟩
  dsimp only [tripG]
  sl_unfold [k0_t1_body]
  sl_exec
  sl_step
  have e1 : trip_last.sl.dma5 c XM XX G1 k hw2 hw3 hw4 fy = yW c XM XX G1 (Ring.bk 32 k.val) :=
    y_out c XM XX G1 (off23_at k) _ _ _ _ fy (x_load c (off21_at k) _ _ _) (mix_load c (off22_at k) _ _ _)
  have w0 : ∀ k : Trip, trip_last.sl.v115_r0 k = wIss (k.val + 1) := by decide +kernel
  have w1 : ∀ k : Trip, trip_last.sl.v193_r0 k = wCnt (k.val + 1) := by decide +kernel
  have w2 : ∀ k : Trip, trip_last.sl.v224_r0 k = wOnce (k.val + 1) := by decide +kernel
  have w3 : ∀ k : Trip, trip_last.sl.v213_r0 k = wPrev (k.val + 1) := by decide +kernel
  have w4 : ∀ k : Trip, trip_last.sl.v94_r0 k = wGrid (k.val + 1) := by decide +kernel
  rw [w0 k, w1 k, w2 k, w3 k, w4 k]
  isplitr
  · ipureintro; rfl
  isplitl [HW]; · iexists _; iexact HW
  isplitl [HG1]; · iexact HG1
  isplitl [HmF_src Hmh Hm1 HmC HmF HmF_dst]
  · irw [homes_tail (mixH c XM) (show 30 ≤ k.val by omega) hk, show mixRole c XM (k.val + 1 + 1) = _ from mixRole_le c XM (p := k.val + 2) (by omega),
      Ring.sl_succ_add 3 k.val 2 rfl]
    isplitl [HmF_src Hmh]
    · isplitl [HmF_src]; · iexact HmF_src
      iexact Hmh
    isplitl [Hm1]; · iexact Hm1
    isplitl [HmC]; · iexact HmC
    isplitl [HmF]; · iexact HmF
    iexists _; iexact HmF_dst
  isplitl [HxF_src Hxh Hx1 HxC HxF HxF_dst]
  · irw [homes_tail (xH c XX) (show 30 ≤ k.val by omega) hk, show xRole c XX (k.val + 1 + 1) = _ from xRole_le c XX (p := k.val + 2) (by omega),
      Ring.sl_succ_add 3 k.val 2 rfl]
    isplitl [HxF_src Hxh]
    · isplitl [HxF_src]; · iexact HxF_src
      iexact Hxh
    isplitl [Hx1]; · iexact Hx1
    isplitl [HxC]; · iexact HxC
    isplitl [HxF]; · iexact HxF
    iexists _; iexact HxF_dst
  irw [behind_put (yH c (yFin c XM XX G1)) h1 hk, yRole_pos c (yFin c XM XX G1) (show 1 ≤ k.val + 1 by omega),
    Ring.sl_succ_add 2 k.val 1 rfl, show k.val + 1 - 1 = k.val from rfl]
  isplitl [Hya]; · iexact Hya
  isplitl [Hyb HyF_dst]
  · isplitl [HyF_dst]; · iexact HyF_dst
    iexact Hyb
  isplitl [HyF HyF_src]
  · isplitl [HyF]; · iexact HyF
    iexists _; iexact HyF_src
  iexists _
  unfold yOutFl
  irw [← y_landed c XM XX G1 (Ring.bk 32 k.val) Y0, ← e1]
  iexact HyC

theorem trip_all (k : Trip) :
    resAt c XM XX G1 Y0 k.val ⊢ wp Idealize.ShloMosaic.frame (wpE (defs₀ (F := F)) 𝒱₀ (c : Thread nD τ) none) Set.univ (tripG k)
      (fun acc => iprop(⌜acc = accAt (k.val + 1)⌝ ∗ resAt c XM XX G1 Y0 (k.val + 1))) := by
  by_cases h30 : k.val < 30
  · by_cases h0 : k.val = 0
    · exact trip_first c XM XX G1 Y0 k h0
    · exact trip_mid c XM XX G1 Y0 k (by omega) h30
  · exact trip_last c XM XX G1 Y0 k h30

/-- The loop's invariant: the carried words in closed form, the resources. -/
def pipeInv (k : ℕ) (acc : Acc) : sProp 𝕄 := iprop(⌜acc = accAt k⌝ ∗ resAt c XM XX G1 Y0 k)

end Cert.Proof.Final

end
-- ==== Proof.FinalBody.lean ====
/- The kernel's body: the gain copied in, the two input rings primed, the loop, the result ring drained. -/
module

public import proofs.«01_k».proof.Proof.FinalTrip
public import proofs.«01_k».proof.Proof.Body

@[expose] public section

noncomputable section

namespace Cert.Proof.Final

open Cert.Kernel8Ideal Cert.Kernel8Ideal.Gen
open Cert.Proof.Norm (wIss wCnt wPrev wGrid wOnce behind_boot results_all sl3_0 sl3_1 sl3_2 sl2_0 sl2_1 bk32_0 bk32_1)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.SL.Sem

variable {F : FTy → Type} [FloatOps F]
local notation "𝕄" => MT nD τ sig Unit (Elt F) ℕ (UU nD τ) ℕ

variable (c : Dev nD) (XM : Buf (Elt F) (mixM.view.loc (c : Thread nD τ))) (XX : Buf (Elt F) (xM.view.loc (c : Thread nD τ)))
  (A1 : Buf (Elt F) (g1M.view.loc (c : Thread nD τ)))
  (Y0 : Buf (Elt F) (yM.view.loc (c : Thread nD τ)))

theorem of_eq {P Q : sProp 𝕄} (e : P = Q) : P ⊢ Q := e ▸ .rfl

abbrev bodyG : Prog (TpuEff nD τ sig (Elt F) Λ₀ .tc) PUnit :=
  cc0_residual_final mixM (Memref.isWhole_whole _) xM (Memref.isWhole_whole _) g1M (Memref.isWhole_whole _) yM (Memref.isWhole_whole _)
    mixR (Memref.isWhole_whole _) cc0_scoped1 xR (Memref.isWhole_whole _) cc0_scoped3 g1V (Memref.isWhole_whole _) yR (Memref.isWhole_whole _)
    cc0_scoped6 cc0_scoped7

theorem chk5_end : k0_chk5 (wPrev k0_t1_loop.trips) := by decide +kernel
theorem chk6_end : k0_chk6 (wGrid k0_t1_loop.trips) := by decide +kernel

abbrev PRE (W : Waits sig Unit) : sProp 𝕄 :=
  iprop(owes (c : Thread nD τ) 0 W
    ∗ (g1M.view.loc (c : Thread nD τ) ↦[g1M.view.set]{fullShare} A1)
    ∗ (∃ f, g1P c f)
    ∗ semVal ((c : Thread nD τ), SemLoc.dma cc0_scoped7.sem) 0
    ∗ (mixH c XM 0 ∗ mixH c XM 1 ∗ bigSep (Ring.homeSet 2 0) (mixH c XM) ∗ mixFree c 0 ∗ mixFree c 1 ∗ mixFree c 2)
    ∗ (xH c XX 0 ∗ xH c XX 1 ∗ bigSep (Ring.homeSet 2 0) (xH c XX) ∗ xFree c 0 ∗ xFree c 1 ∗ xFree c 2)
    ∗ (bigSep (Ring.aheadSet 0) (yH c Y0) ∗ yFree c 0 ∗ yFree c 1))

/-- The gain's buffer after its copy. -/
def gLand1 : Buf (Elt F) (g1V.view.loc (c : Thread nD τ)) :=
  g1V.view.writes (Elt F) g1V.view.junk [⟨Rect.whole S1x4096, ReadAs.same.apply (g1M.view.read (Elt F) A1)⟩]
abbrev POST : sProp 𝕄 :=
  iprop((∃ W, owes (c : Thread nD τ) 0 W)
    ∗ (g1M.view.loc (c : Thread nD τ) ↦[g1M.view.set]{fullShare} A1)
    ∗ (∃ f, g1P c f)
    ∗ semVal ((c : Thread nD τ), SemLoc.dma cc0_scoped7.sem) 0
    ∗ (bigSep Finset.univ (mixH c XM) ∗ mixFree c 0 ∗ mixFree c 1 ∗ mixFree c 2)
    ∗ (bigSep Finset.univ (xH c XX) ∗ xFree c 0 ∗ xFree c 1 ∗ xFree c 2)
    ∗ (bigSep Finset.univ (yH c (yFin c XM XX (gLand1 c A1))) ∗ yFree c 0 ∗ yFree c 1))

theorem sl3_e0 : Ring.sl 3 k0_t1_loop.trips = 2 := by decide +kernel
theorem sl3_e1 : Ring.sl 3 (k0_t1_loop.trips + 1) = 0 := by decide +kernel
theorem sl3_e2 : Ring.sl 3 (k0_t1_loop.trips + 2) = 1 := by decide +kernel
theorem sl2_e0 : Ring.sl 2 k0_t1_loop.trips = 0 := by decide +kernel
theorem sl2_e1 : Ring.sl 2 (k0_t1_loop.trips + 1) = 1 := by decide +kernel
theorem bk32_e : Ring.bk 32 (k0_t1_loop.trips - 1) = 31 := by decide +kernel
theorem homes_e : Ring.homeSet (NB := 32) 2 k0_t1_loop.trips = Finset.univ := by decide +kernel
theorem behind_e : (Finset.univ : Finset (Fin 32)) = insert 31 (Ring.behindSet (NB := 32) 1 k0_t1_loop.trips) := by decide +kernel
theorem behind_n : (31 : Fin 32) ∉ Ring.behindSet (NB := 32) 1 k0_t1_loop.trips := by decide +kernel

theorem off5_B (hh hs) : mixM.slice (Rect.unit (s := S8192x4096) k0_off5 S256x4096.size hh) hs = mixB 1 := mixB_congr (by decide +kernel) _ _
theorem off8_B (hh hs) : xM.slice (Rect.unit (s := S8192x4096) k0_off8 S256x4096.size hh) hs = xB 1 := xB_congr (by decide +kernel) _ _

attribute [local sl_canon] off5_B off8_B in
theorem bodyRun (W : Waits sig Unit) (Q : PUnit → sProp 𝕄) :
    iprop(PRE c XM XX A1 Y0 W ∗ (POST c XM XX A1 -∗ Q ⟨⟩))
      ⊢ wp Idealize.ShloMosaic.frame (wpE (defs₀ (F := F)) 𝒱₀ (c : Thread nD τ) none) Set.univ bodyG Q := by
  iintro ⟨⟨HW, HA1, ⟨%p1, HG1⟩, HC,
    ⟨Hm0, Hm1, Hmh, ⟨HmC0, ⟨%fm0, HmS0⟩⟩, ⟨HmC1, ⟨%fm1, HmS1⟩⟩, HmF2⟩,
    ⟨Hx0, Hx1, Hxh, ⟨HxC0, ⟨%fx0, HxS0⟩⟩, ⟨HxC1, ⟨%fx1, HxS1⟩⟩, HxF2⟩,
    ⟨Hya, HyF0, HyF1⟩⟩, Hk⟩
  sl_exec
  sl_for (pipeInv c XM XX (gLand1 c A1) Y0) $$ [HW HG1 HmC0 HmC1 HmF2 Hmh HxC0 HxC1 HxF2 Hxh Hya HyF0 HyF1]
  case region =>
    intro k acc
    unfold pipeInv
    iintro ⟨%e, H⟩
    subst e
    iapply (trip_all c XM XX (gLand1 c A1) Y0 k)
    iexact H
  · unfold pipeInv resAt
    irw [mixRole_lt c XM (show 0 < 32 by decide), mixRole_lt c XM (show 0 + 1 < 32 by decide),
      xRole_lt c XX (show 0 < 32 by decide), xRole_lt c XX (show 0 + 1 < 32 by decide),
      yRole_zero c _ (show 0 < 1 by decide),
      behind_boot (yH c (yFin c XM XX (gLand1 c A1))) (show 0 ≤ 1 by decide),
      sl3_0, sl3_1, sl3_2, sl2_0, sl2_1, bk32_0, bk32_1]
    isplitr; · ipureintro; rfl
    isplitl [HW]; · iexists _; iexact HW
    isplitl [HG1]; · iexact HG1
    isplitl [HmC0 HmC1 HmF2 Hmh]
    · isplitl [Hmh]; · iexact Hmh
      isplitl [HmC0]; · iexists _; iexact HmC0
      isplitl [HmC1]; · iexists _; iexact HmC1
      iexact HmF2
    isplitl [HxC0 HxC1 HxF2 Hxh]
    · isplitl [Hxh]; · iexact Hxh
      isplitl [HxC0]; · iexists _; iexact HxC0
      isplitl [HxC1]; · iexists _; iexact HxC1
      iexact HxF2
    isplitl [Hya]; · iexact Hya
    isplitr; · iempintro
    isplitl [HyF0]; · iexact HyF0
    iexact HyF1
  unfold pipeInv resAt
  have h32 : 32 ≤ k0_t1_loop.trips := by rw [trips_eq]
  have h32' : 32 ≤ k0_t1_loop.trips + 1 := by rw [trips_eq]; decide
  have h1 : 1 ≤ k0_t1_loop.trips := by rw [trips_eq]; decide
  have hw5 := chk5_end
  have hw6 := chk6_end
  irw [mixRole_le c XM h32, mixRole_le c XM h32', xRole_le c XX h32, xRole_le c XX h32', yRole_pos c _ h1, homes_e]
  iintro %acc ⟨%e, ⟨%W', HW⟩, HG1, ⟨Hmh, HmF0, HmF1, HmF2⟩, ⟨Hxh, HxF0, HxF1, HxF2⟩,
    ⟨-, Hyb, HyF0, ⟨%fy, HyC⟩⟩⟩
  subst e
  sl_exec
  sl_step
  iapply Hk
  isplitl [HW]; · iexists _; iexact HW
  isplitl [HA1]; · iexact HA1
  isplitl [HG1]; · iexists _; iexact HG1
  isplitl [HC]; · iexact HC
  isplitl [Hmh HmF0 HmF1 HmF2]
  · isplitl [Hmh]; · iexact Hmh
    isplitl [HmF1]; · iapply (of_eq (congrArg (fun s => mixFree (F := F) c s) sl3_e1)); iexact HmF1
    isplitl [HmF2]; · iapply (of_eq (congrArg (fun s => mixFree (F := F) c s) sl3_e2)); iexact HmF2
    iapply (of_eq (congrArg (fun s => mixFree (F := F) c s) sl3_e0)); iexact HmF0
  isplitl [Hxh HxF0 HxF1 HxF2]
  · isplitl [Hxh]; · iexact Hxh
    isplitl [HxF1]; · iapply (of_eq (congrArg (fun s => xFree (F := F) c s) sl3_e1)); iexact HxF1
    isplitl [HxF2]; · iapply (of_eq (congrArg (fun s => xFree (F := F) c s) sl3_e2)); iexact HxF2
    iapply (of_eq (congrArg (fun s => xFree (F := F) c s) sl3_e0)); iexact HxF0
  isplitl [Hyb HyC_dst]
  · irw [results_all (yH c (yFin c XM XX (gLand1 c A1)))]
    isplitl [HyC_dst]; · iapply (of_eq (congrArg (yH c (yFin c XM XX (gLand1 c A1))) bk32_e)); iexact HyC_dst
    iexact Hyb
  isplitl [HyF0]; · iapply (of_eq (congrArg (fun s => yFree (F := F) c s) sl2_e0)); iexact HyF0
  iapply (of_eq (congrArg (fun s => yFree (F := F) c s) sl2_e1))
  isplitl [HyC]; · iexact HyC
  iexists _; iexact HyC_src

end Cert.Proof.Final

end
-- ==== Proof.FinalRun.lean ====
/- The launch of `residual_final`'s kernel: the arrays whole are their 32 row blocks, the rings whole are their slots; @main
   up to the call; the run of @main to the result and the arguments as launched, at zero counters. Over any float
   values `F`. -/
module

public import proofs.«01_k».proof.Proof.FinalBody
public import proofs.«01_k».proof.Proof.Run
public import proofs.«01_k».proof.Proof.Gen.Kernel8Ideal.Frame

@[expose] public section

set_option maxRecDepth 16384

noncomputable section

namespace Cert.Proof.Final

open Cert.Kernel8Ideal Cert.Kernel8Ideal.Gen
open Cert.Proof.Norm (RB R3 R2 RB_disjoint RB_cover R3_disjoint R3_cover R2_disjoint R2_cover homes_zero)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The kernel's own semaphores -/

abbrev osem : Fin 9 → SemLoc sig :=
  ![.dma (mixC 0).sem, .dma (mixC 1).sem, .dma (mixC 2).sem, .dma (xC 0).sem, .dma (xC 1).sem, .dma (xC 2).sem,
    .dma (yC 0).sem, .dma (yC 1).sem, .dma cc0_scoped7.sem]
theorem ownSemFacts : Pipeline.OwnSemFacts (cfgs 0).spec osem := by decide

/-! ## An array whole is its row blocks -/

section Arrays
variable (c : Dev nD)

omit [FloatOps F] in
theorem mix_blocks (f : Buf (Elt F) (mixM.view.loc (c : Thread nD τ))) :
    (((c : Thread nD τ).loc main_arg0) ↦{fullShare} f : sProp 𝕄) = bigSep Finset.univ (mixH c f) := by
  rw [Ring.pointsTo_blocks (ℓ := (c : Thread nD τ).loc main_arg0) RB RB_disjoint RB_cover]
  exact bigSep_congr fun b _ => by rw [show RB b = (mixB b).view.set from (View.set_slice_whole _ _).symm]; rfl
omit [FloatOps F] in
theorem x_blocks (f : Buf (Elt F) (xM.view.loc (c : Thread nD τ))) :
    (((c : Thread nD τ).loc main_v0) ↦{fullShare} f : sProp 𝕄) = bigSep Finset.univ (xH c f) := by
  rw [Ring.pointsTo_blocks (ℓ := (c : Thread nD τ).loc main_v0) RB RB_disjoint RB_cover]
  exact bigSep_congr fun b _ => by rw [show RB b = (xB b).view.set from (View.set_slice_whole _ _).symm]; rfl
omit [FloatOps F] in
theorem y_blocks (f : Buf (Elt F) (yM.view.loc (c : Thread nD τ))) :
    (((c : Thread nD τ).loc main_v3) ↦{fullShare} f : sProp 𝕄) = bigSep Finset.univ (yH c f) := by
  rw [Ring.pointsTo_blocks (ℓ := (c : Thread nD τ).loc main_v3) RB RB_disjoint RB_cover]
  exact bigSep_congr fun b _ => by rw [show RB b = (yB b).view.set from (View.set_slice_whole _ _).symm]; rfl
/-! ## A ring whole is its slots -/

omit [FloatOps F] in
theorem mixSP_eq (s : Fin 3) (f : Buf (Elt F) ((c : Thread nD τ).loc cc0_scoped0)) :
    mixSP c s f = (((c : Thread nD τ).loc cc0_scoped0) ↦[R3 s]{fullShare} f : sProp 𝕄) :=
  congrArg (fun S => (_ ↦[S]{fullShare} f : sProp 𝕄)) ((View.set_reshape _ _).trans (View.set_slice_whole _ _))
theorem mix_split : iprop(∃ f : Buf (Elt F) ((c : Thread nD τ).loc cc0_scoped0), ((c : Thread nD τ).loc cc0_scoped0) ↦{fullShare} f)
    ⊢ (iprop((∃ f, mixSP c 0 f) ∗ (∃ f, mixSP c 1 f) ∗ (∃ f, mixSP c 2 f)) : sProp 𝕄) :=
  Ring.slots3_split (Ix := Unit) (Name := ℕ) (U := UU nD τ) (Lvl := ℕ) (q := fullShare) (ℓ := (c : Thread nD τ).loc cc0_scoped0) R3 R3_disjoint R3_cover (fun f => mixSP c 0 f) (fun f => mixSP c 1 f) (fun f => mixSP c 2 f) (mixSP_eq c 0) (mixSP_eq c 1) (mixSP_eq c 2)
theorem mix_join : iprop((∃ f, mixSP c 0 f) ∗ (∃ f, mixSP c 1 f) ∗ (∃ f, mixSP c 2 f))
    ⊢ (iprop(∃ f : Buf (Elt F) ((c : Thread nD τ).loc cc0_scoped0), ((c : Thread nD τ).loc cc0_scoped0) ↦{fullShare} f) : sProp 𝕄) :=
  Ring.slots3_join (Ix := Unit) (Name := ℕ) (U := UU nD τ) (Lvl := ℕ) (q := fullShare) (ℓ := (c : Thread nD τ).loc cc0_scoped0) R3 R3_disjoint R3_cover (fun f => mixSP c 0 f) (fun f => mixSP c 1 f) (fun f => mixSP c 2 f) (mixSP_eq c 0) (mixSP_eq c 1) (mixSP_eq c 2)
omit [FloatOps F] in
theorem xSP_eq (s : Fin 3) (f : Buf (Elt F) ((c : Thread nD τ).loc cc0_scoped2)) :
    xSP c s f = (((c : Thread nD τ).loc cc0_scoped2) ↦[R3 s]{fullShare} f : sProp 𝕄) :=
  congrArg (fun S => (_ ↦[S]{fullShare} f : sProp 𝕄)) ((View.set_reshape _ _).trans (View.set_slice_whole _ _))
theorem x_split : iprop(∃ f : Buf (Elt F) ((c : Thread nD τ).loc cc0_scoped2), ((c : Thread nD τ).loc cc0_scoped2) ↦{fullShare} f)
    ⊢ (iprop((∃ f, xSP c 0 f) ∗ (∃ f, xSP c 1 f) ∗ (∃ f, xSP c 2 f)) : sProp 𝕄) :=
  Ring.slots3_split (Ix := Unit) (Name := ℕ) (U := UU nD τ) (Lvl := ℕ) (q := fullShare) (ℓ := (c : Thread nD τ).loc cc0_scoped2) R3 R3_disjoint R3_cover (fun f => xSP c 0 f) (fun f => xSP c 1 f) (fun f => xSP c 2 f) (xSP_eq c 0) (xSP_eq c 1) (xSP_eq c 2)
theorem x_join : iprop((∃ f, xSP c 0 f) ∗ (∃ f, xSP c 1 f) ∗ (∃ f, xSP c 2 f))
    ⊢ (iprop(∃ f : Buf (Elt F) ((c : Thread nD τ).loc cc0_scoped2), ((c : Thread nD τ).loc cc0_scoped2) ↦{fullShare} f) : sProp 𝕄) :=
  Ring.slots3_join (Ix := Unit) (Name := ℕ) (U := UU nD τ) (Lvl := ℕ) (q := fullShare) (ℓ := (c : Thread nD τ).loc cc0_scoped2) R3 R3_disjoint R3_cover (fun f => xSP c 0 f) (fun f => xSP c 1 f) (fun f => xSP c 2 f) (xSP_eq c 0) (xSP_eq c 1) (xSP_eq c 2)
omit [FloatOps F] in
theorem ySP_eq (s : Fin 2) (f : Buf (Elt F) ((c : Thread nD τ).loc cc0_scoped5)) :
    ySP c s f = (((c : Thread nD τ).loc cc0_scoped5) ↦[R2 s]{fullShare} f : sProp 𝕄) :=
  congrArg (fun S => (_ ↦[S]{fullShare} f : sProp 𝕄)) ((View.set_reshape _ _).trans (View.set_slice_whole _ _))
theorem y_split : iprop(∃ f : Buf (Elt F) ((c : Thread nD τ).loc cc0_scoped5), ((c : Thread nD τ).loc cc0_scoped5) ↦{fullShare} f)
    ⊢ (iprop((∃ f, ySP c 0 f) ∗ (∃ f, ySP c 1 f)) : sProp 𝕄) :=
  Ring.slots2_split (Ix := Unit) (Name := ℕ) (U := UU nD τ) (Lvl := ℕ) (q := fullShare) (ℓ := (c : Thread nD τ).loc cc0_scoped5) R2 R2_disjoint R2_cover (fun f => ySP c 0 f) (fun f => ySP c 1 f) (ySP_eq c 0) (ySP_eq c 1)
theorem y_join : iprop((∃ f, ySP c 0 f) ∗ (∃ f, ySP c 1 f))
    ⊢ (iprop(∃ f : Buf (Elt F) ((c : Thread nD τ).loc cc0_scoped5), ((c : Thread nD τ).loc cc0_scoped5) ↦{fullShare} f) : sProp 𝕄) :=
  Ring.slots2_join (Ix := Unit) (Name := ℕ) (U := UU nD τ) (Lvl := ℕ) (q := fullShare) (ℓ := (c : Thread nD τ).loc cc0_scoped5) R2 R2_disjoint R2_cover (fun f => ySP c 0 f) (fun f => ySP c 1 f) (ySP_eq c 0) (ySP_eq c 1)
omit [FloatOps F] in
/-- The kernel's own cells at zero, one by one. -/
theorem ownSems0_eq : (Pipeline.ownSems0 (Ix := Unit) (Name := ℕ) (U := UU nD τ) (Lvl := ℕ) (Val := Elt F) (τ := τ) osem c : sProp 𝕄)
    = iprop(mixCP c 0 ∗ mixCP c 1 ∗ mixCP c 2 ∗ xCP c 0 ∗ xCP c 1 ∗ xCP c 2 ∗ yCP c 0 ∗ yCP c 1 ∗ semVal ((c : Thread nD τ), SemLoc.dma cc0_scoped7.sem) 0) := by
  unfold Pipeline.ownSems0
  exact bigSep_univ_eq_bigSepL [(0 : Fin 9), 1, 2, 3, 4, 5, 6, 7, 8] (by decide) (by decide) _

omit [FloatOps F] in
theorem g1M_whole (f : Buf (Elt F) ((c : Thread nD τ).loc main_v2)) :
    ((g1M.view.loc (c : Thread nD τ)) ↦[g1M.view.set]{fullShare} f : sProp 𝕄) = (((c : Thread nD τ).loc main_v2) ↦{fullShare} f : sProp 𝕄) :=
  congrArg (fun S => (((c : Thread nD τ).loc main_v2) ↦[S]{fullShare} f : sProp 𝕄)) (View.set_whole _)
omit [FloatOps F] in
theorem g1V_whole (f : Buf (Elt F) ((c : Thread nD τ).loc cc0_scoped4)) :
    ((g1V.view.loc (c : Thread nD τ)) ↦[g1V.view.set]{fullShare} f : sProp 𝕄) = (((c : Thread nD τ).loc cc0_scoped4) ↦{fullShare} f : sProp 𝕄) :=
  congrArg (fun S => (((c : Thread nD τ).loc cc0_scoped4) ↦[S]{fullShare} f : sProp 𝕄)) (View.set_whole _)
end Arrays

/-! ## The pipeline's proof data -/

abbrev XM (c : Dev nD) : Buf (Elt F) (mixM.view.loc (c : Thread nD τ)) := V m c main_arg0
abbrev XX (c : Dev nD) : Buf (Elt F) (xM.view.loc (c : Thread nD τ)) := V m c main_v0
abbrev A1 (c : Dev nD) : Buf (Elt F) (g1M.view.loc (c : Thread nD τ)) := V m c main_v2
/-- The result. -/
def yEnd (c : Dev nD) : Buf (Elt F) ((c : Thread nD τ).loc main_v3) := yFin c (XM m c) (XX m c) (gLand1 c (A1 m c))
/-- The three arrays read, the one written at `Y`. -/
def arrs (c : Dev nD) (Y : Buf (Elt F) ((c : Thread nD τ).loc main_v3)) : sProp 𝕄 :=
  iprop((((c : Thread nD τ).loc main_arg0) ↦{fullShare} XM m c) ∗ (((c : Thread nD τ).loc main_v0) ↦{fullShare} XX m c)
    ∗ (((c : Thread nD τ).loc main_v2) ↦{fullShare} A1 m c)
    ∗ (((c : Thread nD τ).loc main_v3) ↦{fullShare} Y))
/-- The four scoped buffers at anything. -/
def bufs (c : Dev nD) : sProp 𝕄 := Pipeline.scopedRest (Ix := Unit) (Name := ℕ) (U := UU nD τ) (Lvl := ℕ) (Val := Elt F) cfg0.spec c
/-- The region invariant: the arrays, the nine cells at zero, the scoped buffers. -/
def Φ (c : Dev nD) (Y : Buf (Elt F) ((c : Thread nD τ).loc main_v3)) : sProp 𝕄 :=
  iprop(arrs m c Y ∗ Pipeline.ownSems0 osem c ∗ bufs c)

def dats (_ : Fin 1) (c : Dev nD) : Dat τ (Elt F) Unit ℕ (UU nD τ) ℕ cfg0 c where
  A w := w.elim0
  after w t := w.elim0
  Φ t := if t.val = 0 then Φ m c (V m c main_v3) else Φ m c (yEnd m c)
  q _ := fullShare
  owed _ := 0

theorem prog_eq (t : Fin cfg0.N) : (defs₀ (F := F)) .tc cfg0.body (cfg0.bodyArgs t (cfg0.slots t)) = bodyG := rfl

/-- The body from the region invariant to the region invariant. -/
theorem bodyΦ (c : Dev nD) (W : Waits sig Unit) (Q : PUnit → sProp 𝕄) :
    iprop((owes (c : Thread nD τ) 0 W ∗ Φ m c (V m c main_v3))
        ∗ (iprop((∃ W', owes (c : Thread nD τ) 0 W') ∗ Φ m c (yEnd m c)) -∗ Q ⟨⟩))
      ⊢ wp Idealize.ShloMosaic.frame (wpE (defs₀ (F := F)) 𝒱₀ (c : Thread nD τ) none) Set.univ bodyG Q := by
  unfold Φ arrs bufs
  rw [ownSems0_eq, scopedRest0_eq]
  rw [mix_blocks, x_blocks, y_blocks, y_blocks, homes_zero (mixH c _), homes_zero (xH c _)]
  iintro ⟨⟨HW, ⟨⟨Hm0, Hm1, Hmh⟩, ⟨Hx0, Hx1, Hxh⟩, HA1, Hy⟩, ⟨Cm0, Cm1, Cm2, Cx0, Cx1, Cx2, Cy0, Cy1, C⟩,
    ⟨Bm, Bx, ⟨%f1, B1⟩, By⟩⟩, Hk⟩
  ihave Bm' := (mix_split c) $$ Bm
  icases Bm' with ⟨Bm0, Bm1, Bm2⟩
  ihave Bx' := (x_split c) $$ Bx
  icases Bx' with ⟨Bx0, Bx1, Bx2⟩
  ihave By' := (y_split c) $$ By
  icases By' with ⟨By0, By1⟩
  iapply (bodyRun c (XM m c) (XX m c) (A1 m c) (V m c main_v3) W)
  isplitr [Hk]
  · isplitl [HW]; · iexact HW
    isplitl [HA1]; · iapply (of_eq (g1M_whole c _).symm); iexact HA1
    isplitl [B1]; · iexists f1; iapply (of_eq (g1V_whole c _).symm); iexact B1
    isplitl [C]; · iexact C
    isplitl [Hm0 Hm1 Hmh Cm0 Cm1 Cm2 Bm0 Bm1 Bm2]
    · isplitl [Hm0]; · iexact Hm0
      isplitl [Hm1]; · iexact Hm1
      isplitl [Hmh]; · iexact Hmh
      isplitl [Cm0 Bm0]
      · isplitl [Cm0]; · iexact Cm0
        iexact Bm0
      isplitl [Cm1 Bm1]
      · isplitl [Cm1]; · iexact Cm1
        iexact Bm1
      isplitl [Cm2]; · iexact Cm2
      iexact Bm2
    isplitl [Hx0 Hx1 Hxh Cx0 Cx1 Cx2 Bx0 Bx1 Bx2]
    · isplitl [Hx0]; · iexact Hx0
      isplitl [Hx1]; · iexact Hx1
      isplitl [Hxh]; · iexact Hxh
      isplitl [Cx0 Bx0]
      · isplitl [Cx0]; · iexact Cx0
        iexact Bx0
      isplitl [Cx1 Bx1]
      · isplitl [Cx1]; · iexact Cx1
        iexact Bx1
      isplitl [Cx2]; · iexact Cx2
      iexact Bx2
    isplitl [Hy]; · irw [Ring.aheadSet_zero]; iexact Hy
    isplitl [Cy0 By0]
    · isplitl [Cy0]; · iexact Cy0
      iexact By0
    isplitl [Cy1]; · iexact Cy1
    iexact By1
  iintro ⟨HW, HA1, ⟨%f1', B1⟩, C, ⟨Hm, ⟨Cm0, Bm0⟩, ⟨Cm1, Bm1⟩, ⟨Cm2, Bm2⟩⟩, ⟨Hx, ⟨Cx0, Bx0⟩, ⟨Cx1, Bx1⟩, ⟨Cx2, Bx2⟩⟩,
    ⟨Hy, ⟨Cy0, By0⟩, ⟨Cy1, By1⟩⟩⟩
  iapply Hk
  isplitl [HW]; · iexact HW
  isplitl [Hm Hx HA1 Hy]
  · isplitl [Hm]; · iapply (of_eq (homes_zero (mixH c (XM m c)))); iexact Hm
    isplitl [Hx]; · iapply (of_eq (homes_zero (xH c (XX m c)))); iexact Hx
    isplitl [HA1]; · iapply (of_eq (g1M_whole c _)); iexact HA1
    iexact Hy
  isplitl [Cm0 Cm1 Cm2 Cx0 Cx1 Cx2 Cy0 Cy1 C]
  · isplitl [Cm0]; · iexact Cm0
    isplitl [Cm1]; · iexact Cm1
    isplitl [Cm2]; · iexact Cm2
    isplitl [Cx0]; · iexact Cx0
    isplitl [Cx1]; · iexact Cx1
    isplitl [Cx2]; · iexact Cx2
    isplitl [Cy0]; · iexact Cy0
    isplitl [Cy1]; · iexact Cy1
    iexact C
  isplitl [Bm0 Bm1 Bm2]
  · iapply (mix_join c)
    isplitl [Bm0]; · iexact Bm0
    isplitl [Bm1]; · iexact Bm1
    iexact Bm2
  isplitl [Bx0 Bx1 Bx2]
  · iapply (x_join c)
    isplitl [Bx0]; · iexact Bx0
    isplitl [Bx1]; · iexact Bx1
    iexact Bx2
  isplitl [B1]; · iexists _; iapply (of_eq (g1V_whole c _)); iexact B1
  iapply (y_join c)
  isplitl [By0]; · iexact By0
  iexact By1

theorem noWindows (Φ : Fin cfg0.W → sProp 𝕄) : bigSep Finset.univ Φ = iprop(emp) := by
  rw [show (Finset.univ : Finset (Fin cfg0.W)) = ∅ from rfl, bigSep_empty]; rfl

set_option backward.isDefEq.respectTransparency.types false in
theorem body_obligation (c : Dev nD) : BodyObligation (dats (F := F) m 0 c) (defs₀ (F := F)) 𝒱₀ () Set.univ := fun t => by
  obtain rfl := fin_N0 t
  rw [noWindows, noWindows]
  rw [show (dats m 0 c).Φ t0_0.castSucc = Φ m c (V m c main_v3) from rfl,
    show (dats m 0 c).Φ t0_0.succ = Φ m c (yEnd m c) from rfl]
  unfold Dat.owesAt Pipeline.owesWithin
  rw [show (dats m 0 c).owed t0_0.castSucc = 0 from rfl, show (dats m 0 c).owed t0_0.succ = 0 from rfl]
  iintro ⟨HΦ, ⟨%W, -, HW⟩, -⟩
  sl_rw [prog_eq t0_0]
  iapply (bodyΦ m c W)
  isplitl [HΦ HW]
  · isplitl [HW]; · iexact HW
    iexact HΦ
  iintro ⟨⟨%W', HW⟩, HΦ⟩
  isplitl [HΦ]; · iexact HΦ
  isplitl [HW]
  · iexists W'; isplitr; · ipureintro; exact fun _ _ => Or.inl trivial
    iexact HW
  iempintro

/-! ## The run -/

def u₀ : UU nD τ := (initOf (Pipeline.cells cfgs Cert.Kernel8Ideal.Gen.cellOf_inj) (Pipeline.launchToks cfgs Cert.Kernel8Ideal.Gen.cellOf_inj), 1)

set_option maxHeartbeats 800000 in
theorem hmain : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The arguments no copy of the kernel reads. -/
def rest (c : Dev nD) : sProp 𝕄 :=
  iprop((((c : Thread nD τ).loc main_arg1) ↦{fullShare} V m c main_arg1) ∗ (((c : Thread nD τ).loc main_arg2) ↦{fullShare} V m c main_arg2))

/-- What a final state has on core `c`: the result, the arguments as launched. -/
def QY (c : Dev nD) (s : MemSt nD τ sig (Elt F)) : Prop :=
  s.mem ((c : Thread nD τ).loc main_v3) = yEnd m c
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)

set_option backward.isDefEq.respectTransparency.types false in
/-- For any float values, from any memory with zero counters: every weakly fair execution of @main terminates, and every
    final state has the result at `yEnd`, the arguments unchanged, every semaphore counter at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain m)
    (hA := fun _ w => w.elim0)
    (X := fun c => iprop(arrs m c (V m c main_v3) ∗ Pipeline.ownSems0 osem c))
    (Y := fun c => arrs m c (yEnd m c)) (Z := rest m)
    (hX := fun c => by
      rw [unscopedRest0_eq]
      unfold arrs rest
      iintro ⟨⟨H0, H1, H2, Hv0, -, Hv2, Hy⟩, HS, -, -, -⟩; imodintro
      isplitl [H0 Hv0 Hv2 Hy HS]
      · isplitr [HS]
        · isplitl [H0]; · iexact H0
          isplitl [Hv0]; · iexact Hv0
          isplitl [Hv2]; · iexact Hv2
          iexact Hy
        iexact HS
      isplitl [H1]; · iexact H1
      iexact H2)
    (hin := fun c => by
      rw [show (dats m 0 c).Φ 0 = Φ m c (V m c main_v3) from rfl]
      unfold Φ bufs
      iintro ⟨⟨H0, HS⟩, Hb⟩
      isplitl [H0]; · iexact H0
      isplitl [HS]; · iexact HS
      iexact Hb)
    (hout := fun c => by
      rw [show (dats m 0 c).Φ (Fin.last cfg0.N) = Φ m c (yEnd m c) from rfl]
      unfold Φ bufs
      iintro ⟨H0, HS, Hb⟩
      isplitl [H0]; · iexact H0
      isplitl [HS]; · iexact HS
      iexact Hb)
    (QY := QY m)
    (hY := fun c s' => by
      unfold arrs rest
      iintro ⟨⟨H0, -, -, Hy⟩, ⟨H1, H2⟩, HSI⟩
      icombine HSI H0 gives %h0
      icombine HSI Hy gives %hy
      icombine HSI H1 gives %h1
      icombine HSI H2 gives %h2
      imodintro
      isplitr
      · ipureintro
        exact ⟨Buf.eq_of_forall_mem_univ hy, (Buf.eq_of_forall_mem_univ h0).trans (V_main_arg0 m c),
          (Buf.eq_of_forall_mem_univ h1).trans (V_main_arg1 m c), (Buf.eq_of_forall_mem_univ h2).trans (V_main_arg2 m c)⟩
      iexact HSI)
    (hQ := fun _ hh hz => ⟨fun c => (hh c).2, hz⟩)

end Cert.Proof.Final

end
-- ==== Proof.FinalValue.lean ====
/- The value claim of `residual_final`: at the ideal instance the result the pipeline leaves is the reference's. -/
module

public import proofs.«01_k».proof.Proof.FinalRun
public import proofs.«01_k».proof.Proof.Value
public import proofs.«01_k».proof.Proof.Gen.Reference8Ideal.Run
public import proofs.«01_k».proof.Proof.Gen.Reference8Ideal.Read
public import Idealize.ShloMosaic.Lib.Pointwise
public import Idealize.ShloMosaic.Lib.Quiescent
public import proofs.«01_k».proof.Defs
public import proofs.«01_k».proof.Proof.Gen.Kernel8
public import proofs.«01_k».proof.Proof.Gen.Kernel8Ideal
public import proofs.«01_k».proof.Proof.Gen.Reference8Ideal

@[expose] public section

set_option maxRecDepth 16384

noncomputable section

namespace Cert.Proof.Final

open Idealize.ShloMosaic Idealize.ShloMosaic.TcCoe Idealize.SL.Sem
open Cert.Proof.Norm (normed)

section Payloads
open Cert.Kernel8Ideal Cert.Kernel8Ideal.Gen

theorem pay1_at (x : S256x4096.Idx → Elt Ideal .f32) (z : S256x4096.Idx → Elt Ideal .bf16) (g : Vec Ideal S1x4096 .f32) (r : Fin 256) (l : Fin 4096) :
    shapeCast S256x4096 (k0_pay1 (shapeCast S1x256x4096 x shapeCasts_S256x4096_S1x256x4096) (shapeCast S1x256x4096 z shapeCasts_S256x4096_S1x256x4096) g)
        shapeCasts_S1x256x4096_S256x4096 (ix2 r l)
      = x (ix2 r l) + normed (fun k => z (ix2 r k)) (fun k => g (ix2 0 k)) l := by
  pointwise [k0_pay1, normed]

end Payloads

section Reference
open Cert.Reference8Ideal Cert.Reference8Ideal.Gen Cert.Reference8Ideal.Read

theorem ref1_at (x0 : (⟨S8192x4096, .bf16⟩ : BufTy).Contents (Elt Ideal)) (x1 : (⟨S1x8192x4096, .f32⟩ : BufTy).Contents (Elt Ideal))
    (x2 : (⟨S1x4096, .f32⟩ : BufTy).Contents (Elt Ideal)) (r : Fin 8192) (l : Fin 4096) :
    val_main_v16 x0 x1 x2 (ix2 r l) = (x1 (ix3 0 r l) : EReal) + normed (fun k => x0 (ix2 r k)) (fun k => x2 (ix2 0 k)) l := by
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1, normed]

end Reference

/-! ## The result the pipeline leaves -/

section Kernel
open Cert.Kernel8Ideal Cert.Kernel8Ideal.Gen

variable (m : (ℓ : Loc nD τ sig) → Buf (Elt Ideal) ℓ) (c : Dev nD)

theorem XX_eq : XX m c = shapeCast S8192x4096 (m ((c : Thread nD τ).loc main_arg1)) shapeCasts_S1x8192x4096_S8192x4096 := by
  unfold XX V hostOps0
  after_results <;> rfl
theorem A1_eq : A1 m c = shapeCast S1x4096 (shapeCast S4096 (m ((c : Thread nD τ).loc main_arg2)) shapeCasts_S1x4096_S4096) shapeCasts_S4096_S1x4096 := by
  unfold A1 V hostOps0
  after_results <;> rfl
theorem unit3_at (x : S1x8192x4096.Idx → EReal) (r : Fin 8192) (l : Fin 4096) :
    shapeCast S8192x4096 x shapeCasts_S1x8192x4096_S8192x4096 (ix2 r l) = x (ix3 0 r l) := by pointwise
theorem unit2_at (x : S1x4096.Idx → EReal) :
    shapeCast S1x4096 (shapeCast S4096 x shapeCasts_S1x4096_S4096) shapeCasts_S4096_S1x4096 = x := by
  rw [shapeCast_shapeCast]

/-- The arguments, as arrays of extended reals. -/
def in0 : S8192x4096.Idx → EReal := m ((c : Thread nD τ).loc main_arg0)
def in1 : S1x8192x4096.Idx → EReal := m ((c : Thread nD τ).loc main_arg1)
def in2 : S1x4096.Idx → EReal := m ((c : Thread nD τ).loc main_arg2)
theorem XM_in : XM m c = in0 m c := V_main_arg0 m c
theorem XX_at (r : Fin 8192) (l : Fin 4096) : XX m c (ix2 r l) = in1 m c (ix3 0 r l) :=
  (congrFun (XX_eq m c) _).trans (unit3_at (in1 m c) r l)
theorem A1_in : A1 m c = in2 m c := (A1_eq m c).trans (unit2_at (in2 m c))
/-- Row `p` of block `b`. -/
def rowOfBlk (b : Fin 32) (p : Fin 256) : Fin 8192 := ⟨256 * b.val + p.val, by omega⟩

theorem mixW_at (M : Buf (Elt Ideal) (mixM.view.loc (c : Thread nD τ))) (b : Fin 32) (p : Fin 256) (l : Fin 4096) :
    mixW c M b (ix2 p l) = M (ix2 (rowOfBlk b p) l) := by
  refine congrArg M (funext fun a => Fin.ext ?_)
  match a with
  | ⟨0, _⟩ => show 256 * b.val + 1 * p.val = 256 * b.val + p.val; omega
  | ⟨1, _⟩ => show 0 + 1 * l.val = l.val; omega
theorem xW_at (X : Buf (Elt Ideal) (xM.view.loc (c : Thread nD τ))) (b : Fin 32) (p : Fin 256) (l : Fin 4096) :
    xW c X b (ix2 p l) = X (ix2 (rowOfBlk b p) l) := by
  refine congrArg X (funext fun a => Fin.ext ?_)
  match a with
  | ⟨0, _⟩ => show 256 * b.val + 1 * p.val = 256 * b.val + p.val; omega
  | ⟨1, _⟩ => show 0 + 1 * l.val = l.val; omega

theorem g1_in : gW c g1V (gLand1 c (A1 m c)) = in2 m c :=
  (Norm.row_load g1V.view _ _ _).trans ((show ReadAs.same.apply (g1M.view.read (Elt Ideal) (A1 m c)) = A1 m c from rfl).trans (A1_in m c))
/-- Entry `l` of row `r` of the residual sum. -/
def sumAt (r : Fin 8192) (l : Fin 4096) : EReal :=
  in1 m c (ix3 0 r l) + normed (fun k => in0 m c (ix2 r k)) (fun k => in2 m c (ix2 0 k)) l

theorem yW_at (b : Fin 32) (p : Fin 256) (l : Fin 4096) :
    yW c (XM m c) (XX m c) (gLand1 c (A1 m c)) b (ix2 p l) = sumAt m c (rowOfBlk b p) l := by
  unfold yW
  rw [pay1_at, g1_in, xW_at, XX_at, XM_in]
  exact congrArg (fun z => in1 m c (ix3 0 (rowOfBlk b p) l) + normed z (fun k => in2 m c (ix2 0 k)) l) (funext fun k => mixW_at c (in0 m c) b p k)

theorem inBlk_ix (r : Fin 8192) (l : Fin 4096) : inBlk (ix2 r l) = ix2 (⟨r.val % 256, Nat.mod_lt _ (by decide)⟩ : Fin 256) l := by
  funext a
  match a with
  | ⟨0, _⟩ => rfl
  | ⟨1, _⟩ => rfl
theorem rowOfBlk_ix (r : Fin 8192) (l : Fin 4096) : rowOfBlk (blkOf (ix2 r l)) (⟨r.val % 256, Nat.mod_lt _ (by decide)⟩ : Fin 256) = r := by
  apply Fin.ext
  show 256 * (r.val / 256) + r.val % 256 = r.val
  omega

open Cert.Reference8Ideal.Read in
/-- The result is the reference's. -/
theorem yEnd_eq : yEnd m c = val_main_v16 (F := Ideal) (in0 m c) (in1 m c) (in2 m c) := by
  funext i
  obtain ⟨r, l, rfl⟩ : ∃ (r : Fin 8192) (l : Fin 4096), i = ix2 r l := ⟨i 0, i 1, eq_ix2 i⟩
  refine Eq.trans ?_ (ref1_at _ _ _ r l).symm
  unfold yEnd yFin
  rw [inBlk_ix, yW_at, rowOfBlk_ix]
  rfl
end Kernel

/-! ## The claims -/

theorem frame_kernel : Cert.quiescent_Kernel8 := fun m ρ _ =>
  (θ_run Cert.Kernel8Ideal.defs _ _).mono (fun _ h => ⟨fun c => (h.1 c).2, h.2⟩) (run_main (F := Bits) m ρ)
theorem frame_ideal : Cert.quiescent_Kernel8Ideal := fun m ρ _ =>
  (θ_run Cert.Kernel8Ideal.defs _ _).mono (fun _ h => ⟨fun c => (h.1 c).2, h.2⟩) (run_main (F := Ideal) m ρ)
theorem frame_reference : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)
theorem preserves : Cert.preserves_Kernel8_Kernel8Ideal := trivial

theorem algebraic : Cert.algebraic_Kernel8Ideal_Reference8Ideal := by
  intro m ρ m' ρ' _ hag
  refine ⟨fun c => yEnd m c,
    (θ_run Cert.Kernel8Ideal.defs _ _).mono (fun _ h c => h.1 c) (run_main (F := Ideal) m ρ),
    (θ_run Cert.Reference8Ideal.defs _ _).mono (fun r h c => ?_) (Cert.Reference8Ideal.Value.run (F := Ideal) m' ρ')⟩
  obtain ⟨h0, h1, h2⟩ := hag c
  obtain ⟨r1, hrest⟩ := h c
  refine ⟨r1.trans ?_, hrest⟩
  rw [h0, h1, h2]
  exact (Cert.Reference8Ideal.Read.val_main_v16_eq (F := Ideal) _ _ _).trans (yEnd_eq m c).symm

end Cert.Proof.Final

end
-- ==== Proof.RmsnormCast.lean ====
/- The claims of `rmsnorm_cast`: a row block normalized whole, the gain broadcast along it. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Quiescent
public import Idealize.ShloMosaic.Lib.Pointwise
public import Idealize.ShloMosaic.Lib.Pipeline.ValueKit

@[expose] public section

set_option maxRecDepth 16384

noncomputable section

namespace Cert.Proof.RmsnormCast

open Idealize.ShloMosaic Idealize.ShloMosaic.TcCoe Idealize.SL.Sem
open Idealize.ShloMosaic.Pipeline (Dat)

section Value
open Cert.Kernel9Ideal Cert.Kernel9Ideal.Gen

/-- The reference's result. -/
abbrev refOut (x : FVec Ideal S1x8192x4096 .f32) (g : FVec Ideal S1x4096 .f32) : FVec Ideal S8192x4096 .bf16 :=
  truncf .bf16 (shapeCast Cert.Reference9Ideal.S8192x4096 (mulf (mulf x (broadcastInDim Cert.Reference9Ideal.S1x8192x4096 ![0, 1, 2] Cert.Reference9Ideal.Gen.bcast_S1x8192x1_S1x8192x4096_0_1_2 (Host.rsqrt (addf (Host.divf (broadcastInDim Cert.Reference9Ideal.S1x8192x1 ![0, 1] Cert.Reference9Ideal.Gen.bcast_S1x8192_S1x8192x1_0_1 (Host.reduceAdd (mulf x x) (constant Cert.Reference9Ideal.S_ .f32 0x00000000#32) Cert.Reference9Ideal.Gen.reducesTo_S1x8192x4096_S1x8192_d2 Cert.Reference9Ideal.Gen.h_S_)) (broadcastInDim Cert.Reference9Ideal.S1x8192x1 ![] Cert.Reference9Ideal.Gen.bcast_S_S1x8192x1 (constant Cert.Reference9Ideal.S_ .f32 0x45800000#32))) (broadcastInDim Cert.Reference9Ideal.S1x8192x1 ![] Cert.Reference9Ideal.Gen.bcast_S_S1x8192x1 (constant Cert.Reference9Ideal.S_ .f32 0x358637BD#32)))))) (broadcastInDim Cert.Reference9Ideal.S1x8192x4096 ![0, 1, 2] Cert.Reference9Ideal.Gen.bcast_S1x1x4096_S1x8192x4096_0_1_2 (broadcastInDim Cert.Reference9Ideal.S1x1x4096 ![2] Cert.Reference9Ideal.Gen.bcast_S4096_S1x1x4096_2 (shapeCast Cert.Reference9Ideal.S4096 g Cert.Reference9Ideal.Gen.shapeCasts_S1x4096_S4096)))) Cert.Reference9Ideal.Gen.shapeCasts_S1x8192x4096_S8192x4096) Cert.Reference9Ideal.Gen.bitsLt_bf16_f32

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem point (c : Dev nD) (t : Fin cfg0.N) (y) : k0_pay1 (iblk m c 0 t) (iblk m c 1 t) y
    = refOut (m ((c : Thread nD τ).loc main_arg0)) (m ((c : Thread nD τ).loc main_arg1)) (((cfg0.win 2).blk t).view.emb y) := by
  pointwise [k0_pay1, refOut]
  blk_point [iblk, V, idx t]

theorem final (c : Dev nD) : (dats m 0 c).arrAt 2 cfg0.N
    = refOut (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Value

theorem frame_kernel : Cert.quiescent_Kernel9 := fun m ρ _ => Cert.Kernel9.Gen.frame m ρ
theorem frame_ideal : Cert.quiescent_Kernel9Ideal := fun m ρ _ => Cert.Kernel9Ideal.Gen.frame m ρ
theorem frame_reference : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)
theorem preserves : Cert.preserves_Kernel9_Kernel9Ideal := trivial

theorem algebraic : Cert.algebraic_Kernel9Ideal_Reference9Ideal := by
  intro m ρ m' ρ' _ hag
  refine ⟨fun c => (Cert.Kernel9Ideal.Gen.dats m 0 c).arrAt 2 Cert.Kernel9Ideal.cfg0.N,
    (θ_run Cert.Kernel9Ideal.defs _ _).mono (fun _ h c => h c) (Cert.Kernel9Ideal.Value.run_blocks (F := Ideal) m ρ),
    (θ_run Cert.Reference9Ideal.defs _ _).mono (fun r h c => ?_) (Cert.Reference9Ideal.Value.run (F := Ideal) m' ρ')⟩
  obtain ⟨h0, h1⟩ := hag c
  obtain ⟨r1, hrest⟩ := h c
  refine ⟨r1.trans ?_, hrest⟩
  rw [h0, h1]
  exact (final m c).symm

end Cert.Proof.RmsnormCast

end
-- ==== Proof.KvProj.lean ====
/- The claims of `kv_proj`: keys, values and the turned key part of a token block. -/
module

public import proofs.«01_k».proof.Defs
public import proofs.«01_k».proof.Proof.Gen.Kernel10.Frame
public import proofs.«01_k».proof.Proof.Gen.Kernel10Ideal.Value
public import proofs.«01_k».proof.Proof.Gen.Reference10Ideal.Read
public import Idealize.ShloMosaic.Lib.Quiescent
public import Idealize.ShloMosaic.Lib.Pointwise
public import Idealize.ShloMosaic.Lib.KernelVsHost
public import Idealize.ShloMosaic.Lib.Routing.OpsSet
public import Idealize.ShloMosaic.Lib.Pipeline.ValueKit

@[expose] public section

set_option maxRecDepth 16384

noncomputable section

namespace Cert.Proof.KvProj

open Idealize.ShloMosaic Idealize.ShloMosaic.TcCoe Idealize.SL.Sem
open Idealize.ShloMosaic.Pipeline (Dat)

section Value
open Cert.Kernel10Ideal Cert.Kernel10Ideal.Gen Idealize.ShloMosaic.ValueKit
open Cert.Reference10Ideal.Read
theorem wk_at (A : FVec Ideal S1x512x16x256 .f32) (k : Fin 512) (n : Fin 2048) :
    shapeCast S512x2048 (extractStridedSlice S512x16x128 ![0, 0, 0] (truncf (F := Ideal) .bf16 (shapeCast S512x16x256 A shapeCasts_S1x512x16x256_S512x16x256) bitsLt_bf16_f32) slices_S512x16x256_S512x16x128_0_0_0) shapeCasts_S512x16x128_S512x2048 (ix2 k n)
      = A (ix4 (0 : Fin 1) k (⟨n.val / 128, by omega⟩ : Fin 16) (⟨n.val % 128, by omega⟩ : Fin 256)) := by
  pointwise []

theorem wv_at (A : FVec Ideal S1x512x16x256 .f32) (k : Fin 512) (a : Fin 16) (e : Fin 128) :
    shapeCast S2048x512 (transpose S16x128x512 [1, 2, 0] (extractStridedSlice S512x16x128 ![0, 0, 128] (truncf (F := Ideal) .bf16 (shapeCast S512x16x256 A shapeCasts_S1x512x16x256_S512x16x256) bitsLt_bf16_f32) slices_S512x16x256_S512x16x128_0_0_128) transposes_S512x16x128_S16x128x512_1_2_0) shapeCasts_S16x128x512_S2048x512 (ix2 (⟨a.val * 128 + e.val, by omega⟩ : Fin 2048) k)
      = A (ix4 (0 : Fin 1) k a (⟨128 + e.val, by omega⟩ : Fin 256)) := by
  pointwise []

theorem wr_at (A : FVec Ideal S1x4096x3648 .f32) (r : Fin 3648) (k : Fin 4096) :
    transpose S3648x4096 [1, 0] (shapeCast S4096x3648 A shapeCasts_S1x4096x3648_S4096x3648) transposes_S4096x3648_S3648x4096_1_0 (ix2 r k)
      = A (ix3 (0 : Fin 1) k r) := by
  pointwise []

theorem pos_at (A : FVec Ideal S1x8192 .f32) (j : Fin 8192) :
    shapeCast S8192x1 A shapeCasts_S1x8192_S8192x1 (ix2 j 0) = A (ix2 0 j) := by
  pointwise []

variable (m : (ℓ : Loc nD τ sig) → Buf (Elt Ideal) ℓ)

theorem idx : ∀ t : Fin cfg0.N, win0_0.index t = ![t.val, 6] ∧ win0_1.index t = ![t.val, 0] ∧ win0_2.index t = ![56, 0] ∧ win0_3.index t = ![0, 0]
    ∧ win0_4.index t = ![0, 0] ∧ win0_5.index t = ![0, 0] ∧ win0_6.index t = ![t.val, 0] ∧ win0_7.index t = ![0, 0]
    ∧ win0_8.index t = ![t.val, 0] ∧ win0_9.index t = ![0, t.val, 0, 0] ∧ win0_10.index t = ![t.val, 0] :=
  (by decide +kernel : ∀ t : Fin grid0.N, _)

theorem z_blk (c : Dev nD) (t : Fin cfg0.N) (j : Fin 512) (k : Fin 512) (h : 512 * t.val + j.val < 8192) (h' : 3072 + k.val < 3584) :
    iblk m c 0 t (ix2 j k) = m ((c : Thread nD τ).loc main_arg0) (ix2 ⟨512 * t.val + j.val, h⟩ ⟨3072 + k.val, h'⟩) := by
  blk_point [iblk, V, idx t]

theorem gain_blk (c : Dev nD) (t : Fin cfg0.N) (k : Fin 512) : iblk m c 3 t (ix2 0 k) = m ((c : Thread nD τ).loc main_arg3) (ix2 0 k) := by
  have e : V m c main_v31 = shapeCast S1x512 (shapeCast S512 (m ((c : Thread nD τ).loc main_arg3)) shapeCasts_S1x512_S512) shapeCasts_S512_S1x512 := by
    unfold V hostOps0
    after_results <;> rfl
  have e' : iblk m c 3 t (ix2 0 k) = V m c main_v31 (ix2 0 k) := by
    blk_point [iblk, idx t]
  rw [e', e]
  pointwise []

theorem wk_blk (c : Dev nD) (t : Fin cfg0.N) (k : Fin 512) (n : Fin 2048) :
    iblk m c 4 t (ix2 k n) = m ((c : Thread nD τ).loc main_arg4) (ix4 (0 : Fin 1) k (⟨n.val / 128, by omega⟩ : Fin 16) (⟨n.val % 128, by omega⟩ : Fin 256)) := by
  have e : V m c main_v26 = shapeCast S512x2048 (extractStridedSlice S512x16x128 ![0, 0, 0] (truncf (F := Ideal) .bf16 (shapeCast S512x16x256 (m ((c : Thread nD τ).loc main_arg4)) shapeCasts_S1x512x16x256_S512x16x256) bitsLt_bf16_f32) slices_S512x16x256_S512x16x128_0_0_0) shapeCasts_S512x16x128_S512x2048 := by
    unfold V hostOps0
    after_results <;> rfl
  have e' : iblk m c 4 t (ix2 k n) = V m c main_v26 (ix2 k n) := by
    blk_point [iblk, idx t]
  rw [e', e]
  exact wk_at _ k n

theorem wv_blk (c : Dev nD) (t : Fin cfg0.N) (k : Fin 512) (a : Fin 16) (e : Fin 128) :
    iblk m c 5 t (ix2 (⟨a.val * 128 + e.val, by omega⟩ : Fin 2048) k) = m ((c : Thread nD τ).loc main_arg4) (ix4 (0 : Fin 1) k a (⟨128 + e.val, by omega⟩ : Fin 256)) := by
  have ev : V m c main_v29 = shapeCast S2048x512 (transpose S16x128x512 [1, 2, 0] (extractStridedSlice S512x16x128 ![0, 0, 128] (truncf (F := Ideal) .bf16 (shapeCast S512x16x256 (m ((c : Thread nD τ).loc main_arg4)) shapeCasts_S1x512x16x256_S512x16x256) bitsLt_bf16_f32) slices_S512x16x256_S512x16x128_0_0_128) transposes_S512x16x128_S16x128x512_1_2_0) shapeCasts_S16x128x512_S2048x512 := by
    unfold V hostOps0
    after_results <;> rfl
  have e' : iblk m c 5 t (ix2 (⟨a.val * 128 + e.val, by omega⟩ : Fin 2048) k) = V m c main_v29 (ix2 (⟨a.val * 128 + e.val, by omega⟩ : Fin 2048) k) := by
    blk_point [iblk, idx t]
  rw [e', ev]
  exact wv_at _ k a e

theorem h_blk (c : Dev nD) (t : Fin cfg0.N) (j : Fin 512) (k : Fin 4096) (h : 512 * t.val + j.val < 8192) :
    iblk m c 1 t (ix2 j k) = m ((c : Thread nD τ).loc main_arg1) (ix2 ⟨512 * t.val + j.val, h⟩ k) := by
  blk_point [iblk, V, idx t]

theorem wr_blk (c : Dev nD) (t : Fin cfg0.N) (r : Fin 64) (k : Fin 4096) :
    iblk m c 2 t (ix2 r k) = m ((c : Thread nD τ).loc main_arg2) (ix3 (0 : Fin 1) k (⟨3584 + r.val, by omega⟩ : Fin 3648)) := by
  have e : V m c main_v22 = transpose S3648x4096 [1, 0] (shapeCast S4096x3648 (m ((c : Thread nD τ).loc main_arg2)) shapeCasts_S1x4096x3648_S4096x3648) transposes_S4096x3648_S3648x4096_1_0 := by
    unfold V hostOps0
    after_results <;> rfl
  have e' : iblk m c 2 t (ix2 r k) = V m c main_v22 (ix2 (⟨3584 + r.val, by omega⟩ : Fin 3648) k) := by
    blk_point [iblk, idx t]
  rw [e', e]
  exact wr_at _ _ k

theorem pos_blk (c : Dev nD) (t : Fin cfg0.N) (j : Fin 512) (h : 512 * t.val + j.val < 8192) :
    iblk m c 6 t (ix2 j 0) = sitofp (F := Ideal) .f32 (m ((c : Thread nD τ).loc main_arg5)) (ix2 0 ⟨512 * t.val + j.val, h⟩) := by
  have e : V m c main_v20 = shapeCast S8192x1 (sitofp (F := Ideal) .f32 (m ((c : Thread nD τ).loc main_arg5))) shapeCasts_S1x8192_S8192x1 := by
    unfold V hostOps0
    after_results <;> rfl
  have e' : iblk m c 6 t (ix2 j 0) = V m c main_v20 (ix2 ⟨512 * t.val + j.val, h⟩ 0) := by
    blk_point [iblk, idx t]
  rw [e', e]
  exact pos_at _ _

/-- The table's two starts. -/
abbrev start (k : BitVec 32) : IVec S2 32 :=
  concatenate S2 0 [⟨S1, broadcastInDim S1 ![] bcast_S_S1 (constantI S_ 32 0#32)⟩, ⟨S1, broadcastInDim S1 ![] bcast_S_S1 (constantI S_ 32 k)⟩] concatenates_S1_S1_S2_d0

theorem table (c : Dev nD) : V m c main_v18
    = Host.scatter scatter_S1x128_S2_S32_0_0_01_0 (fun _ b => b)
        (Host.scatter scatter_S1x128_S2_S32_0_0_01_0 (fun _ b => b) (broadcastInDim S1x128 ![] bcast_S_S1x128 (constant (F := Ideal) S_ .f32 0x00000000#32)) (start 0#32) (val_main_v10 (F := Ideal)))
        (start 32#32) (val_main_v10 (F := Ideal)) := by
  unfold V hostOps0
  after_results <;> rfl

theorem lands0 : ∀ k : Fin 32, scatter_S1x128_S2_S32_0_0_01_0.resultIdx? (ix1 k) (start 0#32) = some (ix2 0 ⟨k.val, by omega⟩) := by decide +kernel
theorem lands1 : ∀ k : Fin 32, scatter_S1x128_S2_S32_0_0_01_0.resultIdx? (ix1 k) (start 32#32) = some (ix2 0 ⟨32 + k.val, by omega⟩) := by decide +kernel

theorem hit0 (k : S32.Idx) (i : ℕ) (hi : i < 128) (h : scatter_S1x128_S2_S32_0_0_01_0.resultIdx? k (start 0#32) = some (ix2 0 ⟨i, hi⟩)) : (k 0).val = i := by
  have h' := (lands0 (k 0)).symm.trans ((congrArg (fun z => scatter_S1x128_S2_S32_0_0_01_0.resultIdx? z (start 0#32)) (ix1_eta k)).trans h)
  exact congrArg (fun z : S1x128.Idx => (z 1).val) (Option.some.inj h')

theorem hit1 (k : S32.Idx) (i : ℕ) (hi : i < 128) (h : scatter_S1x128_S2_S32_0_0_01_0.resultIdx? k (start 32#32) = some (ix2 0 ⟨i, hi⟩)) : 32 + (k 0).val = i := by
  have h' := (lands1 (k 0)).symm.trans ((congrArg (fun z => scatter_S1x128_S2_S32_0_0_01_0.resultIdx? z (start 32#32)) (ix1_eta k)).trans h)
  exact congrArg (fun z : S1x128.Idx => (z 1).val) (Option.some.inj h')

theorem freq_at (c : Dev nD) (i : ℕ) (hi : i < 64) :
    V m c main_v18 (ix2 0 ⟨i, by omega⟩) = val_main_v10 (F := Ideal) (ix1 ⟨i % 32, by omega⟩) := by
  rw [table]
  generalize val_main_v10 (F := Ideal) = f
  have hf : ∀ k : S32.Idx, (k 0).val = i % 32 → f k = f (ix1 ⟨i % 32, by omega⟩) := fun k h =>
    (congrArg f (ix1_eta k).symm).trans (congrArg (fun z : Fin 32 => f (ix1 z)) (Fin.ext h))
  by_cases c0 : i < 32
  · rw [Routing.scatter_set_miss _ _ _ _ _ (fun k h => ?_)]
    · refine Routing.scatter_set_hit _ _ _ _ _ _ (fun k h => hf k ?_) (ix1 ⟨i, c0⟩) (lands0 ⟨i, c0⟩)
      have := hit0 k i _ h
      omega
    · have := hit1 k i _ h
      omega
  · refine Routing.scatter_set_hit _ _ _ _ _ _ (fun k h => hf k ?_) (ix1 ⟨i - 32, by omega⟩) ((lands1 ⟨i - 32, by omega⟩).trans ?_)
    · have := hit1 k i _ h
      have : (k 0).val < 32 := (k 0).isLt
      omega
    · exact congrArg (fun z => some (ix2 0 z)) (Fin.ext (show 32 + (i - 32) = i by omega))

theorem freq_blk (c : Dev nD) (t : Fin cfg0.N) (i : ℕ) (hi : i < 64) :
    iblk m c 7 t (ix2 0 ⟨i, by omega⟩) = val_main_v10 (F := Ideal) (ix1 ⟨i % 32, by omega⟩) := by
  rw [← freq_at m c i hi]
  blk_point [iblk, idx t]

theorem lat_blk (c : Dev nD) (t : Fin cfg0.N) (j : Fin 512) (k : Fin 512) (h : 512 * t.val + j.val < 8192) :
    k0_pay2 (iblk m c 0 t) (iblk m c 3 t) (ix2 j k)
      = val_main_v33 (F := Ideal) (m ((c : Thread nD τ).loc main_arg0)) (m ((c : Thread nD τ).loc main_arg3)) (ix2 ⟨512 * t.val + j.val, h⟩ k) := by
  have hg := gain_blk m c t
  have hz := fun k h' => z_blk m c t j k h h'
  generalize iblk m c 0 t = X at hz ⊢
  generalize iblk m c 3 t = g at hg ⊢
  have hz' := fun k => hz k (by have := k.isLt; omega)
  pointwise [k0_pay2]
  simp only [hz', hg]
  pointwise [val_main_v33, val_main_v32, val_main_v31, val_main_v30, val_main_v29, val_main_v28, val_main_v27, val_main_v26, val_main_v25, val_main_v24, val_main_v23, val_main_v22, val_main_v21, val_main_v20, val_main_v19, val_main_cst_3, val_main_cst_4, val_main_cst_5]

theorem kv_at (x0 : FVec Ideal S8192x3584 .f32) (x3 : FVec Ideal S1x512 .f32) (x4 : FVec Ideal S1x512x16x256 .f32) (tok : Fin 8192) (a : Fin 16) (e : Fin 256) :
    val_main_v35 (F := Ideal) x0 x3 x4 (ix3 tok a e) = ∑ k : Fin 512, val_main_v33 (F := Ideal) x0 x3 (ix2 tok k) * x4 (ix4 (0 : Fin 1) k a e) := by
  unfold val_main_v35 val_main_v34
  generalize val_main_v33 (F := Ideal) x0 x3 = L
  pointwise []

theorem k_at (x0 : FVec Ideal S8192x3584 .f32) (x3 : FVec Ideal S1x512 .f32) (x4 : FVec Ideal S1x512x16x256 .f32) (tok : Fin 8192) (n : Fin 2048) :
    val_main_v56 (F := Ideal) x0 x3 x4 (ix2 tok n) = val_main_v35 (F := Ideal) x0 x3 x4 (ix3 tok (⟨n.val / 128, by omega⟩ : Fin 16) (⟨n.val % 128, by omega⟩ : Fin 256)) := by
  unfold val_main_v56 val_main_v55 val_main_v36
  generalize val_main_v35 (F := Ideal) x0 x3 x4 = D
  pointwise []

theorem v_at (x0 : FVec Ideal S8192x3584 .f32) (x3 : FVec Ideal S1x512 .f32) (x4 : FVec Ideal S1x512x16x256 .f32) (a i : Fin 16) (e : Fin 128) (j : Fin 512) :
    val_main_v57 (F := Ideal) x0 x3 x4 (ix4 a i e j) = val_main_v35 (F := Ideal) x0 x3 x4 (ix3 (⟨512 * i.val + j.val, by omega⟩ : Fin 8192) a (⟨128 + e.val, by omega⟩ : Fin 256)) := by
  unfold val_main_v57 val_main_v52 val_main_v51 val_main_v37
  generalize val_main_v35 (F := Ideal) x0 x3 x4 = D
  pointwise []
  exact congrArg (fun z => D (ix3 z a _)) (Fin.ext (show i.val * 512 + j.val = 512 * i.val + j.val by omega))

theorem keys (c : Dev nD) (t : Fin cfg0.N) (j : Fin 512) (n : Fin 2048) (h : 512 * t.val + j.val < 8192) :
    k0_pay3 (iblk m c 0 t) (iblk m c 3 t) (iblk m c 4 t) (ix2 j n)
      = val_main_v56 (F := Ideal) (m ((c : Thread nD τ).loc main_arg0)) (m ((c : Thread nD τ).loc main_arg3)) (m ((c : Thread nD τ).loc main_arg4)) (ix2 ⟨512 * t.val + j.val, h⟩ n) := by
  have hl := fun k => lat_blk m c t j k h
  have hw := fun k => wk_blk m c t k n
  rw [k_at, kv_at]
  unfold k0_pay3
  generalize k0_pay2 (iblk m c 0 t) (iblk m c 3 t) = L at hl ⊢
  generalize iblk m c 4 t = W at hw ⊢
  pointwise []
  simp only [hl, hw]

theorem vals (c : Dev nD) (t : Fin cfg0.N) (a : Fin 16) (e : Fin 128) (j : Fin 512) (ht : t.val < 16) :
    k0_pay4 (iblk m c 0 t) (iblk m c 3 t) (iblk m c 5 t) (ix4 a (0 : Fin 1) e j)
      = val_main_v57 (F := Ideal) (m ((c : Thread nD τ).loc main_arg0)) (m ((c : Thread nD τ).loc main_arg3)) (m ((c : Thread nD τ).loc main_arg4)) (ix4 a (⟨t.val, ht⟩ : Fin 16) e j) := by
  have hl := fun k => lat_blk m c t j k (by omega)
  have hw := fun k => wv_blk m c t k a e
  rw [v_at, kv_at]
  unfold k0_pay4
  generalize k0_pay2 (iblk m c 0 t) (iblk m c 3 t) = L at hl ⊢
  generalize iblk m c 5 t = W at hw ⊢
  pointwise []
  simp only [hl, hw]
  exact Finset.sum_congr rfl fun k _ => mul_comm _ _

open Cert.Reference10Ideal (S8192x64 S8192x32)

/-- A row's entry, by its number. -/
def at64 (X : FVec Ideal S8192x64 .f32) (tok : Fin 8192) (n : ℕ) : EReal := if h : n < 64 then X (ix2 tok ⟨n, h⟩) else 0
def at32 (C : FVec Ideal S8192x32 .f32) (tok : Fin 8192) (n : ℕ) : EReal := if h : n < 32 then C (ix2 tok ⟨n, h⟩) else 0

theorem at_eq (X : FVec Ideal S8192x64 .f32) (tok : Fin 8192) (k n : ℕ) (hk : k < 64) (h : k = n) : X (ix2 tok ⟨k, hk⟩) = at64 X tok n := by
  subst h; unfold at64; rw [dif_pos hk]

theorem at_eq' (C : FVec Ideal S8192x32 .f32) (tok : Fin 8192) (k n : ℕ) (hk : k < 32) (h : k = n) : C (ix2 tok ⟨k, hk⟩) = at32 C tok n := by
  subst h; unfold at32; rw [dif_pos hk]

/-- Lane `l` of the key part, turned by the position's angle, or padding. -/
def rot (X : FVec Ideal S8192x64 .f32) (C S : FVec Ideal S8192x32 .f32) (tok : Fin 8192) (l : ℕ) : EReal :=
  if l < 32 then at64 X tok l * at32 C tok (l % 32) - at64 X tok (l + 32) * at32 S tok (l % 32)
  else if l < 64 then at64 X tok (l - 32) * at32 S tok (l % 32) + at64 X tok l * at32 C tok (l % 32)
  else 0

theorem dite_both {p : Prop} [Decidable p] {α : Type} (f : p → α) (g : ¬p → α) (z : α) (h : ∀ c, f c = z) (h' : ∀ c, g c = z) : dite p f g = z := by
  by_cases c : p
  · rw [dif_pos c, h]
  · rw [dif_neg c, h']

theorem ref_rot (x1 : FVec Ideal S8192x4096 .bf16) (x2 : FVec Ideal S1x4096x3648 .f32) (x5 : IVec S1x8192 32) (tok : Fin 8192) (l : Fin 128)
    (X : FVec Ideal S8192x64 .f32) (C S : FVec Ideal S8192x32 .f32)
    (hX : val_main_v41 (F := Ideal) x1 x2 = X) (hC : val_main_v17 (F := Ideal) x5 = C) (hS : val_main_v18 (F := Ideal) x5 = S) :
    val_main_v58 (F := Ideal) x1 x2 x5 (ix2 tok l) = rot X C S tok l.val := by
  unfold val_main_v58 val_main_v54 val_main_v53 val_main_cst_6 val_main_v50 val_main_v49 val_main_v48 val_main_v47 val_main_v46 val_main_v45 val_main_v44 val_main_v43 val_main_v42
  rw [hX, hC, hS]
  pointwise []
  refine dite_both _ _ _ (fun c2 => dite_both _ _ _ (fun c3 => ?_) (fun c3 => ?_)) (fun c2 => ?_)
  · exact (congrArg₂ (· - ·) (congrArg₂ (· * ·) (at_eq X tok _ l.val _ (by omega)) (at_eq' C tok _ (l.val % 32) _ (by omega)))
      (congrArg₂ (· * ·) (at_eq X tok _ (l.val + 32) _ (by omega)) (at_eq' S tok _ (l.val % 32) _ (by omega)))).trans
      (by unfold rot; rw [if_pos (by omega)])
  · exact (congrArg₂ (· + ·) (congrArg₂ (· * ·) (at_eq X tok _ (l.val - 32) _ (by omega)) (at_eq' S tok _ (l.val % 32) _ (by omega)))
      (congrArg₂ (· * ·) (at_eq X tok _ l.val _ (by omega)) (at_eq' C tok _ (l.val % 32) _ (by omega)))).trans
      (by unfold rot; rw [if_neg (by omega), if_pos (by omega)])
  · unfold rot; rw [if_neg (by omega), if_neg (by omega)]

theorem lt32 : ∀ l : Fin 128, IntOp.cmpi .slt (BitVec.ofNat 32 l.val) 32#32 = if l.val < 32 then 1#1 else 0#1 := by decide +kernel
theorem lt64 : ∀ l : Fin 128, IntOp.cmpi .slt (BitVec.ofNat 32 l.val) 64#32 = if l.val < 64 then 1#1 else 0#1 := by decide +kernel

theorem select_one (a b : EReal) : Scalar.select (1#1) a b = a := rfl
theorem select_zero (a b : EReal) : Scalar.select (0#1) a b = b := rfl

theorem kro_loc (W : FVec Ideal S128x4096 .bf16) (H : FVec Ideal S512x4096 .bf16) (P : FVec Ideal S512x1 .f32) (Fq : FVec Ideal S1x128 .f32) (j : Fin 512) (l : Fin 128)
    (tok : Fin 8192) (X : FVec Ideal S8192x64 .f32) (C S : FVec Ideal S8192x32 .f32)
    (hD : ∀ e : Fin 128, matmul dot_S512x4096_S128x4096_S512x128_1_1_0_0_n_n none H W (constant (F := Ideal) S512x128 .f32 0x00000000#32) (ix2 j e) = at64 X tok e.val)
    (hC : ∀ e : Fin 128, e.val < 64 → Ideal.cos (P (ix2 j 0) * Fq (ix2 0 e)) = at32 C tok (e.val % 32))
    (hS : ∀ e : Fin 128, e.val < 64 → Ideal.sin (P (ix2 j 0) * Fq (ix2 0 e)) = at32 S tok (e.val % 32)) :
    k0_pay1 W H P Fq (ix2 j l) = rot X C S tok l.val := by
  unfold k0_pay1
  generalize matmul dot_S512x4096_S128x4096_S512x128_1_1_0_0_n_n none H W (constant (F := Ideal) S512x128 .f32 0x00000000#32) = D at hD ⊢
  pointwise []
  rw [hD, hD, hD, lt32, lt64]
  unfold rot
  have r1 : l.val < 32 → at64 X tok ((l.val + 128 - 96) % 128) = at64 X tok (l.val + 32) := fun _ => congrArg (at64 X tok) (by omega)
  have r2 : 32 ≤ l.val → l.val < 64 → at64 X tok ((l.val + 128 - 32) % 128) = at64 X tok (l.val - 32) := fun _ _ => congrArg (at64 X tok) (by omega)
  by_cases c1 : l.val < 32
  · rw [if_pos c1, if_pos c1, hC l (by omega), hS l (by omega), select_one]
    refine (congrArg₂ (· + ·) rfl (congrArg₂ (· * ·) (congrArg (0 - ·) (r1 c1)) rfl)).trans ?_
    show _ + (0 - at64 X tok (l.val + 32)) * _ = _
    rw [zero_sub, EReal.neg_mul, ← sub_eq_add_neg]
  by_cases c2 : l.val < 64
  · rw [if_neg c1, if_pos c2, if_neg c1, if_pos c2, hC l c2, hS l c2, select_zero, select_one]
    exact (congrArg₂ (· + ·) rfl (congrArg₂ (· * ·) (r2 (by omega) c2) rfl)).trans (add_comm _ _)
  · rw [if_neg c1, if_neg c2, if_neg c1, if_neg c2, select_zero, select_zero, show at64 X tok l.val = 0 from dif_neg c2, zero_mul, zero_add]
    exact zero_mul _

theorem kr_at (x1 : FVec Ideal S8192x4096 .bf16) (x2 : FVec Ideal S1x4096x3648 .f32) (tok : Fin 8192) (e : Fin 64) :
    val_main_v41 (F := Ideal) x1 x2 (ix2 tok e) = ∑ k : Fin 4096, x1 (ix2 tok k) * x2 (ix3 (0 : Fin 1) k (⟨3584 + e.val, by omega⟩ : Fin 3648)) := by
  unfold val_main_v41 val_main_v40 val_main_v39 val_main_v38
  pointwise []

theorem kr_blk (c : Dev nD) (t : Fin cfg0.N) (j : Fin 512) (e : Fin 128) (h : 512 * t.val + j.val < 8192) :
    matmul (φ₁ := .bf16) dot_S512x4096_S128x4096_S512x128_1_1_0_0_n_n none (iblk m c 1 t) (k0_pay5 (iblk m c 2 t)) (constant (F := Ideal) S512x128 .f32 0x00000000#32) (ix2 j e)
      = at64 (val_main_v41 (F := Ideal) (m ((c : Thread nD τ).loc main_arg1)) (m ((c : Thread nD τ).loc main_arg2))) ⟨512 * t.val + j.val, h⟩ e.val := by
  have hh := fun k => h_blk m c t j k h
  have hw := fun r k => wr_blk m c t r k
  unfold at64
  simp only [kr_at]
  generalize iblk m c 1 t = H at hh ⊢
  generalize iblk m c 2 t = W at hw ⊢
  by_cases c1 : e.val < 64
  · rw [dif_pos c1]
    have hp : ∀ k : Fin 4096, k0_pay5 W (ix2 e k) = W (ix2 ⟨e.val, c1⟩ k) := fun k => by
      pointwise [k0_pay5]
      exact dif_pos c1
    generalize k0_pay5 W = V at hp ⊢
    pointwise []
    simp only [hp, hh, hw]
  · rw [dif_neg c1]
    have hp : ∀ k : Fin 4096, k0_pay5 W (ix2 e k) = 0 := fun k => by
      pointwise [k0_pay5]
      exact dif_neg c1
    generalize k0_pay5 W = V at hp ⊢
    pointwise []
    simp only [hp, mul_zero, Finset.sum_const_zero]

theorem ang_at (x5 : IVec S1x8192 32) (tok : Fin 8192) (i : Fin 32) :
    val_main_v16 (F := Ideal) x5 (ix2 tok i) = sitofp (F := Ideal) .f32 x5 (ix2 0 tok) * val_main_v10 (F := Ideal) (ix1 i) := by
  unfold val_main_v16 val_main_v15 val_main_v14 val_main_v13 val_main_v12 val_main_v11 val_main_v0
  generalize val_main_v10 (F := Ideal) = f
  pointwise []

theorem ang_blk (c : Dev nD) (t : Fin cfg0.N) (j : Fin 512) (e : Fin 128) (he : e.val < 64) (h : 512 * t.val + j.val < 8192) :
    HMul.hMul (α := EReal) (β := EReal) (γ := EReal) (iblk m c 6 t (ix2 j 0)) (iblk m c 7 t (ix2 0 e))
      = val_main_v16 (F := Ideal) (m ((c : Thread nD τ).loc main_arg5)) (ix2 ⟨512 * t.val + j.val, h⟩ ⟨e.val % 32, by omega⟩) := by
  rw [ang_at]
  exact congrArg₂ (· * ·) (pos_blk m c t j h) (freq_blk m c t e.val he)

theorem turned (c : Dev nD) (t : Fin cfg0.N) (j : Fin 512) (l : Fin 128) (h : 512 * t.val + j.val < 8192) :
    k0_pay1 (k0_pay5 (iblk m c 2 t)) (iblk m c 1 t) (iblk m c 6 t) (iblk m c 7 t) (ix2 j l)
      = val_main_v58 (F := Ideal) (m ((c : Thread nD τ).loc main_arg1)) (m ((c : Thread nD τ).loc main_arg2)) (m ((c : Thread nD τ).loc main_arg5)) (ix2 ⟨512 * t.val + j.val, h⟩ l) := by
  rw [ref_rot _ _ _ _ _ _ _ _ rfl rfl rfl]
  refine kro_loc _ _ _ _ j l _ _ _ _ (fun e => kr_blk m c t j e h) (fun e he => ?_) (fun e he => ?_)
  · exact (congrArg Ideal.cos (ang_blk m c t j e he h)).trans <| at_eq' (val_main_v17 (F := Ideal) (m ((c : Thread nD τ).loc main_arg5))) _ _ _ (by omega) rfl
  · exact (congrArg Ideal.sin (ang_blk m c t j e he h)).trans <| at_eq' (val_main_v18 (F := Ideal) (m ((c : Thread nD τ).loc main_arg5))) _ _ _ (by omega) rfl

theorem final8 (c : Dev nD) : (dats m 0 c).arrAt 8 cfg0.N
    = val_main_v56 (F := Ideal) (m ((c : Thread nD τ).loc main_arg0)) (m ((c : Thread nD τ).loc main_arg3)) (m ((c : Thread nD τ).loc main_arg4)) := by
  refine (dats m 0 c).arrAt_eq_of_covers 8 _ (by decide +kernel) fun t _ y => ?_
  blk_simp
  rw [after0_8]; frame_out
  have hN : cfg0.N = 16 := by decide +kernel
  have tl : t.val < cfg0.N := t.isLt
  rw [hN] at tl
  have y0 : (y 0).val < 512 := (y 0).isLt
  have he : ((cfg0.win 8).blk t).view.emb y = ix2 (⟨512 * t.val + (y 0).val, by omega⟩ : Fin 8192) (y 1) := by
    blk_ext [idx t]
  rw [he]
  exact (congrArg (k0_pay3 (iblk m c 0 t) (iblk m c 3 t) (iblk m c 4 t)) (ix2_eta y).symm).trans (keys m c t (y 0) (y 1) (by omega))

theorem final9 (c : Dev nD) : (dats m 0 c).arrAt 9 cfg0.N
    = val_main_v57 (F := Ideal) (m ((c : Thread nD τ).loc main_arg0)) (m ((c : Thread nD τ).loc main_arg3)) (m ((c : Thread nD τ).loc main_arg4)) := by
  refine (dats m 0 c).arrAt_eq_of_covers 9 _ (by decide +kernel) fun t _ y => ?_
  blk_simp
  rw [after0_9]; frame_out
  have hN : cfg0.N = 16 := by decide +kernel
  have tl : t.val < cfg0.N := t.isLt
  rw [hN] at tl
  have he : ((cfg0.win 9).blk t).view.emb y = ix4 (y 0) (⟨t.val, by omega⟩ : Fin 16) (y 2) (y 3) := by
    blk_ext [idx t]
  rw [he]
  have e1 : y = ix4 (y 0) (0 : Fin 1) (y 2) (y 3) := by
    funext a
    match a with
    | ⟨0, _⟩ => rfl
    | ⟨1, _⟩ => exact Fin.ext (by have : (y 1).val < 1 := (y 1).isLt; show (y 1).val = 0; omega)
    | ⟨2, _⟩ => rfl
    | ⟨3, _⟩ => rfl
  exact (congrArg (k0_pay4 (iblk m c 0 t) (iblk m c 3 t) (iblk m c 5 t)) e1).trans (vals m c t (y 0) (y 2) (y 3) (by omega))

theorem final10 (c : Dev nD) : (dats m 0 c).arrAt 10 cfg0.N
    = val_main_v58 (F := Ideal) (m ((c : Thread nD τ).loc main_arg1)) (m ((c : Thread nD τ).loc main_arg2)) (m ((c : Thread nD τ).loc main_arg5)) := by
  refine (dats m 0 c).arrAt_eq_of_covers 10 _ (by decide +kernel) fun t _ y => ?_
  blk_simp
  rw [after0_10]; frame_out
  have hN : cfg0.N = 16 := by decide +kernel
  have tl : t.val < cfg0.N := t.isLt
  rw [hN] at tl
  have y0 : (y 0).val < 512 := (y 0).isLt
  have he : ((cfg0.win 10).blk t).view.emb y = ix2 (⟨512 * t.val + (y 0).val, by omega⟩ : Fin 8192) (y 1) := by
    blk_ext [idx t]
  rw [he]
  exact (congrArg (k0_pay1 (k0_pay5 (iblk m c 2 t)) (iblk m c 1 t) (iblk m c 6 t) (iblk m c 7 t)) (ix2_eta y).symm).trans (turned m c t (y 0) (y 1) (by omega))

end Value

theorem frame_kernel : Cert.quiescent_Kernel10 := fun m ρ _ => Cert.Kernel10.Gen.frame m ρ
theorem frame_ideal : Cert.quiescent_Kernel10Ideal := fun m ρ _ => Cert.Kernel10Ideal.Gen.frame m ρ
theorem frame_reference : Cert.quiescent_Reference10Ideal := fun m ρ _ =>
  (θ_run Cert.Reference10Ideal.defs _ _).mono (fun r h => ⟨fun c => (h c).2.2.2, Idealize.ShloMosaic.sem_eq_zero_of_no_sems (by decide) r.2⟩)
    (Cert.Reference10Ideal.Value.run (F := Ideal) m ρ)
theorem preserves : Cert.preserves_Kernel10_Kernel10Ideal := trivial

theorem algebraic : Cert.algebraic_Kernel10Ideal_Reference10Ideal := by
  intro m ρ m' ρ' _ hag
  refine ⟨fun c => (Cert.Kernel10Ideal.Gen.dats m 0 c).arrAt 8 Cert.Kernel10Ideal.cfg0.N, fun c => (Cert.Kernel10Ideal.Gen.dats m 0 c).arrAt 9 Cert.Kernel10Ideal.cfg0.N,
    fun c => (Cert.Kernel10Ideal.Gen.dats m 0 c).arrAt 10 Cert.Kernel10Ideal.cfg0.N,
    (θ_run Cert.Kernel10Ideal.defs _ _).mono (fun _ h c => h c) (Cert.Kernel10Ideal.Value.run_blocks (F := Ideal) m ρ),
    (θ_run Cert.Reference10Ideal.defs _ _).mono (fun r h c => ?_) (Cert.Reference10Ideal.Value.run (F := Ideal) m' ρ')⟩
  obtain ⟨h0, h1, h2, h3, h4, h5⟩ := hag c
  obtain ⟨r0, r1, r2, hrest⟩ := h c
  refine ⟨r0.trans ?_, r1.trans ?_, r2.trans ?_, hrest⟩
  · rw [Cert.Reference10Ideal.Read.val_main_v56_eq, h0, h3, h4]
    exact (final8 m c).symm
  · rw [Cert.Reference10Ideal.Read.val_main_v57_eq, h0, h3, h4]
    exact (final9 m c).symm
  · rw [Cert.Reference10Ideal.Read.val_main_v58_eq, h1, h2, h5]
    exact (final10 m c).symm

end Cert.Proof.KvProj

end
-- ==== Proof.QProj.lean ====
/- What a point of `q_proj` stores: thirty-two pieces, one function of the point's product and angles. -/
module

public import proofs.«01_k».proof.Defs
public import proofs.«01_k».proof.Proof.Gen.Kernel11.Frame
public import proofs.«01_k».proof.Proof.Gen.Kernel11Ideal.Value
public import proofs.«01_k».proof.Proof.Gen.Reference11Ideal.Read
public import Idealize.ShloMosaic.Lib.Quiescent
public import Idealize.ShloMosaic.Lib.Pointwise
public import Idealize.ShloMosaic.Lib.Pipeline.ValueKit

@[expose] public section

set_option maxRecDepth 16384

noncomputable section

namespace Cert.Proof.QProj

open Idealize.ShloMosaic Idealize.ShloMosaic.TcCoe Idealize.SL.Sem
open Idealize.ShloMosaic.Pipeline (Dat)
open Cert.Kernel11Ideal Cert.Kernel11Ideal.Gen Idealize.ShloMosaic.ValueKit
variable (m : (ℓ : Loc nD τ sig) → Buf (Elt Ideal) ℓ)

/-- What a point stores, from its product `d` (a row per head and entry) and its cosines and sines. -/
def loc (d : FVec Ideal S1536x512 .f32) (cs sn : FVec Ideal S32x512 .f32) : S8x1x256x512.Idx → EReal := fun y =>
  if (y 2).val < 128 then d (ix2 ⟨(192 * (y 0).val + (y 2).val) % 1536, Nat.mod_lt _ (by decide)⟩ (y 3))
  else if (y 2).val < 160 then
    d (ix2 ⟨(192 * (y 0).val + (y 2).val) % 1536, Nat.mod_lt _ (by decide)⟩ (y 3)) * cs (ix2 ⟨(y 2).val % 32, Nat.mod_lt _ (by decide)⟩ (y 3))
      - d (ix2 ⟨(192 * (y 0).val + (y 2).val + 32) % 1536, Nat.mod_lt _ (by decide)⟩ (y 3)) * sn (ix2 ⟨(y 2).val % 32, Nat.mod_lt _ (by decide)⟩ (y 3))
  else if (y 2).val < 192 then
    d (ix2 ⟨(192 * (y 0).val + (y 2).val - 32) % 1536, Nat.mod_lt _ (by decide)⟩ (y 3)) * sn (ix2 ⟨(y 2).val % 32, Nat.mod_lt _ (by decide)⟩ (y 3))
      + d (ix2 ⟨(192 * (y 0).val + (y 2).val) % 1536, Nat.mod_lt _ (by decide)⟩ (y 3)) * cs (ix2 ⟨(y 2).val % 32, Nat.mod_lt _ (by decide)⟩ (y 3))
  else 0

/-- A point's stores, the last first. -/
abbrev stores (v3 : FVec Ideal S1536x1024 .bf16) (v4 : FVec Ideal S512x1024 .bf16) (v6 v7 : FVec Ideal S32x512 .f32) :
    List (View.Piece (Elt Ideal) S8x1x256x512 .bf16) :=
  [⟨Rect.unit ![7, 0, 192, 0] ![1, 1, 64, 512] inb_S8x1x256x512_S1x1x64x512_7_0_192_0, k0_pay4 (F := Ideal)⟩,
   ⟨Rect.unit ![7, 0, 160, 0] ![1, 1, 32, 512] inb_S8x1x256x512_S1x1x32x512_7_0_160_0, k0_pay3 (F := Ideal) v6 v7 (k0_pay64 (F := Ideal) (k0_pay9 (F := Ideal) v3 v4)) (k0_pay65 (F := Ideal) (k0_pay9 (F := Ideal) v3 v4))⟩,
   ⟨Rect.unit ![7, 0, 128, 0] ![1, 1, 32, 512] inb_S8x1x256x512_S1x1x32x512_7_0_128_0, k0_pay2 (F := Ideal) v6 v7 (k0_pay64 (F := Ideal) (k0_pay9 (F := Ideal) v3 v4)) (k0_pay65 (F := Ideal) (k0_pay9 (F := Ideal) v3 v4))⟩,
   ⟨Rect.unit ![7, 0, 0, 0] ![1, 1, 128, 512] inb_S8x1x256x512_S1x1x128x512_7_0_0_0, k0_pay1 (F := Ideal) (k0_pay66 (F := Ideal) (k0_pay9 (F := Ideal) v3 v4))⟩,
   ⟨Rect.unit ![6, 0, 192, 0] ![1, 1, 64, 512] inb_S8x1x256x512_S1x1x64x512_6_0_192_0, k0_pay62 (F := Ideal)⟩,
   ⟨Rect.unit ![6, 0, 160, 0] ![1, 1, 32, 512] inb_S8x1x256x512_S1x1x32x512_6_0_160_0, k0_pay61 (F := Ideal) (k0_pay9 (F := Ideal) v3 v4) v6 v7⟩,
   ⟨Rect.unit ![6, 0, 128, 0] ![1, 1, 32, 512] inb_S8x1x256x512_S1x1x32x512_6_0_128_0, k0_pay60 (F := Ideal) (k0_pay9 (F := Ideal) v3 v4) v6 v7⟩,
   ⟨Rect.unit ![6, 0, 0, 0] ![1, 1, 128, 512] inb_S8x1x256x512_S1x1x128x512_6_0_0_0, k0_pay59 (F := Ideal) (k0_pay9 (F := Ideal) v3 v4)⟩,
   ⟨Rect.unit ![5, 0, 192, 0] ![1, 1, 64, 512] inb_S8x1x256x512_S1x1x64x512_5_0_192_0, k0_pay55 (F := Ideal) (k0_pay54 (F := Ideal))⟩,
   ⟨Rect.unit ![5, 0, 160, 0] ![1, 1, 32, 512] inb_S8x1x256x512_S1x1x32x512_5_0_160_0, k0_pay53 (F := Ideal) (k0_pay9 (F := Ideal) v3 v4) v6 v7⟩,
   ⟨Rect.unit ![5, 0, 128, 0] ![1, 1, 32, 512] inb_S8x1x256x512_S1x1x32x512_5_0_128_0, k0_pay52 (F := Ideal) (k0_pay9 (F := Ideal) v3 v4) v6 v7⟩,
   ⟨Rect.unit ![5, 0, 0, 0] ![1, 1, 128, 512] inb_S8x1x256x512_S1x1x128x512_5_0_0_0, k0_pay51 (F := Ideal) (k0_pay9 (F := Ideal) v3 v4)⟩,
   ⟨Rect.unit ![4, 0, 192, 0] ![1, 1, 64, 512] inb_S8x1x256x512_S1x1x64x512_4_0_192_0, k0_pay47 (F := Ideal)⟩,
   ⟨Rect.unit ![4, 0, 160, 0] ![1, 1, 32, 512] inb_S8x1x256x512_S1x1x32x512_4_0_160_0, k0_pay46 (F := Ideal) (k0_pay45 (F := Ideal) (k0_pay9 (F := Ideal) v3 v4) v6 v7)⟩,
   ⟨Rect.unit ![4, 0, 128, 0] ![1, 1, 32, 512] inb_S8x1x256x512_S1x1x32x512_4_0_128_0, k0_pay44 (F := Ideal) (k0_pay9 (F := Ideal) v3 v4) v6 v7⟩,
   ⟨Rect.unit ![4, 0, 0, 0] ![1, 1, 128, 512] inb_S8x1x256x512_S1x1x128x512_4_0_0_0, k0_pay43 (F := Ideal) (k0_pay9 (F := Ideal) v3 v4)⟩,
   ⟨Rect.unit ![3, 0, 192, 0] ![1, 1, 64, 512] inb_S8x1x256x512_S1x1x64x512_3_0_192_0, k0_pay39 (F := Ideal)⟩,
   ⟨Rect.unit ![3, 0, 160, 0] ![1, 1, 32, 512] inb_S8x1x256x512_S1x1x32x512_3_0_160_0, k0_pay38 (F := Ideal) v6 v7 (k0_pay33 (F := Ideal) (k0_pay9 (F := Ideal) v3 v4)) (k0_pay34 (F := Ideal) (k0_pay9 (F := Ideal) v3 v4))⟩,
   ⟨Rect.unit ![3, 0, 128, 0] ![1, 1, 32, 512] inb_S8x1x256x512_S1x1x32x512_3_0_128_0, k0_pay37 (F := Ideal) (k0_pay36 (F := Ideal) (k0_pay9 (F := Ideal) v3 v4) v6 v7)⟩,
   ⟨Rect.unit ![3, 0, 0, 0] ![1, 1, 128, 512] inb_S8x1x256x512_S1x1x128x512_3_0_0_0, k0_pay35 (F := Ideal) (k0_pay9 (F := Ideal) v3 v4)⟩,
   ⟨Rect.unit ![2, 0, 192, 0] ![1, 1, 64, 512] inb_S8x1x256x512_S1x1x64x512_2_0_192_0, k0_pay31 (F := Ideal)⟩,
   ⟨Rect.unit ![2, 0, 160, 0] ![1, 1, 32, 512] inb_S8x1x256x512_S1x1x32x512_2_0_160_0, k0_pay30 (F := Ideal) v6 v7 (k0_pay25 (F := Ideal) (k0_pay9 (F := Ideal) v3 v4)) (k0_pay26 (F := Ideal) (k0_pay9 (F := Ideal) v3 v4))⟩,
   ⟨Rect.unit ![2, 0, 128, 0] ![1, 1, 32, 512] inb_S8x1x256x512_S1x1x32x512_2_0_128_0, k0_pay29 (F := Ideal) v6 v7 (k0_pay25 (F := Ideal) (k0_pay9 (F := Ideal) v3 v4)) (k0_pay26 (F := Ideal) (k0_pay9 (F := Ideal) v3 v4))⟩,
   ⟨Rect.unit ![2, 0, 0, 0] ![1, 1, 128, 512] inb_S8x1x256x512_S1x1x128x512_2_0_0_0, k0_pay28 (F := Ideal) (k0_pay27 (F := Ideal) (k0_pay9 (F := Ideal) v3 v4))⟩,
   ⟨Rect.unit ![1, 0, 192, 0] ![1, 1, 64, 512] inb_S8x1x256x512_S1x1x64x512_1_0_192_0, k0_pay23 (F := Ideal)⟩,
   ⟨Rect.unit ![1, 0, 160, 0] ![1, 1, 32, 512] inb_S8x1x256x512_S1x1x32x512_1_0_160_0, k0_pay22 (F := Ideal) (k0_pay9 (F := Ideal) v3 v4) v6 v7⟩,
   ⟨Rect.unit ![1, 0, 128, 0] ![1, 1, 32, 512] inb_S8x1x256x512_S1x1x32x512_1_0_128_0, k0_pay21 (F := Ideal) (k0_pay9 (F := Ideal) v3 v4) v6 v7⟩,
   ⟨Rect.unit ![1, 0, 0, 0] ![1, 1, 128, 512] inb_S8x1x256x512_S1x1x128x512_1_0_0_0, k0_pay20 (F := Ideal) (k0_pay9 (F := Ideal) v3 v4)⟩,
   ⟨Rect.unit ![0, 0, 192, 0] ![1, 1, 64, 512] inb_S8x1x256x512_S1x1x64x512_0_0_192_0, k0_pay16 (F := Ideal) (Scalar.ofBits .bf16 0x0000#16)⟩,
   ⟨Rect.unit ![0, 0, 160, 0] ![1, 1, 32, 512] inb_S8x1x256x512_S1x1x32x512_0_0_160_0, k0_pay15 (F := Ideal) v3 v4 v6 v7⟩,
   ⟨Rect.unit ![0, 0, 128, 0] ![1, 1, 32, 512] inb_S8x1x256x512_S1x1x32x512_0_0_128_0, k0_pay14 (F := Ideal) v3 v4 v6 v7⟩,
   ⟨Rect.unit ![0, 0, 0, 0] ![1, 1, 128, 512] inb_S8x1x256x512_S1x1x128x512_0_0_0_0, k0_pay13 (F := Ideal) v3 v4⟩]

theorem piece_lo (d : FVec Ideal S1536x512 .f32) (cs sn : FVec Ideal S32x512 .f32) (h : ℕ)
    (inb : ∀ a : Fin 4, (![h, 0, 0, 0] : Fin 4 → ℕ) a + (![1, 1, 128, 512] : Fin 4 → ℕ) a ≤ S8x1x256x512.size a)
    (x : (Rect.unit (s := S8x1x256x512) ![h, 0, 0, 0] ![1, 1, 128, 512] inb).shape.Idx) (k : Fin 1536) (j : Fin 512) (hk : k.val = 192 * h + 0 + (x 2).val) (hj : j.val = (x 3).val) :
    d (ix2 k j) = loc d cs sn ((Rect.unit (s := S8x1x256x512) ![h, 0, 0, 0] ![1, 1, 128, 512] inb).emb x) := by
  have e0 : ((Rect.unit (s := S8x1x256x512) ![h, 0, 0, 0] ![1, 1, 128, 512] inb).emb x 0).val = h + (x 0).val := rect_emb_unit_val _ _ _ _ 0
  have e2 : ((Rect.unit (s := S8x1x256x512) ![h, 0, 0, 0] ![1, 1, 128, 512] inb).emb x 2).val = 0 + (x 2).val := rect_emb_unit_val _ _ _ _ 2
  have e3 : ((Rect.unit (s := S8x1x256x512) ![h, 0, 0, 0] ![1, 1, 128, 512] inb).emb x 3).val = 0 + (x 3).val := rect_emb_unit_val _ _ _ _ 3
  have b0 : (x 0).val < 1 := (x 0).isLt
  have b2 : (x 2).val < 128 := (x 2).isLt
  have := k.isLt
  unfold loc
  rw [if_pos (by omega)]
  refine congrArg d (congrArg₂ ix2 (Fin.ext ?_) (Fin.ext ?_))
  · show k.val = _ % 1536; omega
  · omega

theorem piece_mid (d : FVec Ideal S1536x512 .f32) (cs sn : FVec Ideal S32x512 .f32) (h : ℕ)
    (inb : ∀ a : Fin 4, (![h, 0, 128, 0] : Fin 4 → ℕ) a + (![1, 1, 32, 512] : Fin 4 → ℕ) a ≤ S8x1x256x512.size a)
    (x : (Rect.unit (s := S8x1x256x512) ![h, 0, 128, 0] ![1, 1, 32, 512] inb).shape.Idx) (k k' : Fin 1536) (i : Fin 32) (j : Fin 512) (hk : k.val = 192 * h + 128 + (x 2).val) (hk' : k'.val = 192 * h + 160 + (x 2).val)
    (hi : i.val = (x 2).val) (hj : j.val = (x 3).val) :
    d (ix2 k j) * cs (ix2 i j) - d (ix2 k' j) * sn (ix2 i j) = loc d cs sn ((Rect.unit (s := S8x1x256x512) ![h, 0, 128, 0] ![1, 1, 32, 512] inb).emb x) := by
  have e0 : ((Rect.unit (s := S8x1x256x512) ![h, 0, 128, 0] ![1, 1, 32, 512] inb).emb x 0).val = h + (x 0).val := rect_emb_unit_val _ _ _ _ 0
  have e2 : ((Rect.unit (s := S8x1x256x512) ![h, 0, 128, 0] ![1, 1, 32, 512] inb).emb x 2).val = 128 + (x 2).val := rect_emb_unit_val _ _ _ _ 2
  have e3 : ((Rect.unit (s := S8x1x256x512) ![h, 0, 128, 0] ![1, 1, 32, 512] inb).emb x 3).val = 0 + (x 3).val := rect_emb_unit_val _ _ _ _ 3
  have b0 : (x 0).val < 1 := (x 0).isLt
  have b2 : (x 2).val < 32 := (x 2).isLt
  have := k.isLt
  have := k'.isLt
  unfold loc
  rw [if_neg (by omega), if_pos (by omega)]
  congr 2
  · refine congrArg d (congrArg₂ ix2 (Fin.ext ?_) (Fin.ext ?_))
    · show k.val = _ % 1536; omega
    · omega
  · refine congrArg cs (congrArg₂ ix2 (Fin.ext ?_) (Fin.ext ?_))
    · show i.val = _ % 32; omega
    · omega
  · refine congrArg d (congrArg₂ ix2 (Fin.ext ?_) (Fin.ext ?_))
    · show k'.val = _ % 1536; omega
    · omega
  · refine congrArg sn (congrArg₂ ix2 (Fin.ext ?_) (Fin.ext ?_))
    · show i.val = _ % 32; omega
    · omega

theorem piece_hi (d : FVec Ideal S1536x512 .f32) (cs sn : FVec Ideal S32x512 .f32) (h : ℕ)
    (inb : ∀ a : Fin 4, (![h, 0, 160, 0] : Fin 4 → ℕ) a + (![1, 1, 32, 512] : Fin 4 → ℕ) a ≤ S8x1x256x512.size a)
    (x : (Rect.unit (s := S8x1x256x512) ![h, 0, 160, 0] ![1, 1, 32, 512] inb).shape.Idx) (k k' : Fin 1536) (i : Fin 32) (j : Fin 512) (hk : k.val = 192 * h + 128 + (x 2).val) (hk' : k'.val = 192 * h + 160 + (x 2).val)
    (hi : i.val = (x 2).val) (hj : j.val = (x 3).val) :
    d (ix2 k j) * sn (ix2 i j) + d (ix2 k' j) * cs (ix2 i j) = loc d cs sn ((Rect.unit (s := S8x1x256x512) ![h, 0, 160, 0] ![1, 1, 32, 512] inb).emb x) := by
  have e0 : ((Rect.unit (s := S8x1x256x512) ![h, 0, 160, 0] ![1, 1, 32, 512] inb).emb x 0).val = h + (x 0).val := rect_emb_unit_val _ _ _ _ 0
  have e2 : ((Rect.unit (s := S8x1x256x512) ![h, 0, 160, 0] ![1, 1, 32, 512] inb).emb x 2).val = 160 + (x 2).val := rect_emb_unit_val _ _ _ _ 2
  have e3 : ((Rect.unit (s := S8x1x256x512) ![h, 0, 160, 0] ![1, 1, 32, 512] inb).emb x 3).val = 0 + (x 3).val := rect_emb_unit_val _ _ _ _ 3
  have b0 : (x 0).val < 1 := (x 0).isLt
  have b2 : (x 2).val < 32 := (x 2).isLt
  have := k.isLt
  have := k'.isLt
  unfold loc
  rw [if_neg (by omega), if_neg (by omega), if_pos (by omega)]
  congr 2
  · refine congrArg d (congrArg₂ ix2 (Fin.ext ?_) (Fin.ext ?_))
    · show k.val = _ % 1536; omega
    · omega
  · refine congrArg sn (congrArg₂ ix2 (Fin.ext ?_) (Fin.ext ?_))
    · show i.val = _ % 32; omega
    · omega
  · refine congrArg d (congrArg₂ ix2 (Fin.ext ?_) (Fin.ext ?_))
    · show k'.val = _ % 1536; omega
    · omega
  · refine congrArg cs (congrArg₂ ix2 (Fin.ext ?_) (Fin.ext ?_))
    · show i.val = _ % 32; omega
    · omega

theorem piece_zero (d : FVec Ideal S1536x512 .f32) (cs sn : FVec Ideal S32x512 .f32) (h : ℕ)
    (inb : ∀ a : Fin 4, (![h, 0, 192, 0] : Fin 4 → ℕ) a + (![1, 1, 64, 512] : Fin 4 → ℕ) a ≤ S8x1x256x512.size a)
    (x : (Rect.unit (s := S8x1x256x512) ![h, 0, 192, 0] ![1, 1, 64, 512] inb).shape.Idx)  :
    (0 : EReal) = loc d cs sn ((Rect.unit (s := S8x1x256x512) ![h, 0, 192, 0] ![1, 1, 64, 512] inb).emb x) := by
  have e0 : ((Rect.unit (s := S8x1x256x512) ![h, 0, 192, 0] ![1, 1, 64, 512] inb).emb x 0).val = h + (x 0).val := rect_emb_unit_val _ _ _ _ 0
  have e2 : ((Rect.unit (s := S8x1x256x512) ![h, 0, 192, 0] ![1, 1, 64, 512] inb).emb x 2).val = 192 + (x 2).val := rect_emb_unit_val _ _ _ _ 2
  have e3 : ((Rect.unit (s := S8x1x256x512) ![h, 0, 192, 0] ![1, 1, 64, 512] inb).emb x 3).val = 0 + (x 3).val := rect_emb_unit_val _ _ _ _ 3
  have b0 : (x 0).val < 1 := (x 0).isLt
  have b2 : (x 2).val < 64 := (x 2).isLt
  unfold loc
  rw [if_neg (by omega), if_neg (by omega), if_neg (by omega)]

theorem stores_loc (v3 : FVec Ideal S1536x1024 .bf16) (v4 : FVec Ideal S512x1024 .bf16) (v6 v7 : FVec Ideal S32x512 .f32) :
    ∀ p ∈ stores v3 v4 v6 v7, ∀ x : p.1.shape.Idx, p.2 x = loc (k0_pay9 (F := Ideal) v3 v4) v6 v7 (p.1.emb x) := by
  unfold stores k0_pay13 k0_pay14 k0_pay15 k0_pay11 k0_pay12 k0_pay10
  generalize k0_pay9 (F := Ideal) v3 v4 = d
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_zero d v6 v7 7 _ x
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_hi d v6 v7 7 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_mid d v6 v7 7 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_lo d v6 v7 7 _ x _ _ (by dsimp only <;> omega) rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_zero d v6 v7 6 _ x
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_hi d v6 v7 6 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_mid d v6 v7 6 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_lo d v6 v7 6 _ x _ _ (by dsimp only <;> omega) rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_zero d v6 v7 5 _ x
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_hi d v6 v7 5 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_mid d v6 v7 5 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_lo d v6 v7 5 _ x _ _ (by dsimp only <;> omega) rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_zero d v6 v7 4 _ x
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_hi d v6 v7 4 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_mid d v6 v7 4 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_lo d v6 v7 4 _ x _ _ (by dsimp only <;> omega) rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_zero d v6 v7 3 _ x
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_hi d v6 v7 3 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_mid d v6 v7 3 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_lo d v6 v7 3 _ x _ _ (by dsimp only <;> omega) rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_zero d v6 v7 2 _ x
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_hi d v6 v7 2 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_mid d v6 v7 2 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_lo d v6 v7 2 _ x _ _ (by dsimp only <;> omega) rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_zero d v6 v7 1 _ x
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_hi d v6 v7 1 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_mid d v6 v7 1 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_lo d v6 v7 1 _ x _ _ (by dsimp only <;> omega) rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_zero d v6 v7 0 _ x
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_hi d v6 v7 0 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_mid d v6 v7 0 _ x _ _ _ _ (by dsimp only <;> omega) (by dsimp only <;> omega) rfl rfl
  · intro x; pointwise [k0_pay1, k0_pay2, k0_pay3, k0_pay4, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]; exact piece_lo d v6 v7 0 _ x _ _ (by dsimp only <;> omega) rfl

end Cert.Proof.QProj
-- ==== Proof.QProjValue.lean ====
/- The claims of `q_proj`: a point's product is the reference's scaled, its rotation the reference's. -/
module

public import proofs.«01_k».proof.Proof.QProj

@[expose] public section

set_option maxRecDepth 16384

noncomputable section

namespace Cert.Proof.QProj

open Idealize.ShloMosaic Idealize.ShloMosaic.TcCoe Idealize.SL.Sem
open Idealize.ShloMosaic.Pipeline (Dat)

section Value
open Cert.Kernel11Ideal Cert.Kernel11Ideal.Gen Idealize.ShloMosaic.ValueKit
open Cert.Reference11Ideal.Read
variable (m : (ℓ : Loc nD τ sig) → Buf (Elt Ideal) ℓ)

theorem canon_stores (v3 : FVec Ideal S1536x1024 .bf16) (v4 : FVec Ideal S512x1024 .bf16) (v6 v7 : FVec Ideal S32x512 .f32) (y : S8x1x256x512.Idx) :
    View.canon (stores v3 v4 v6 v7) y = loc (k0_pay9 (F := Ideal) v3 v4) v6 v7 y :=
  View.canon_apply_of_pieces (loc (k0_pay9 (F := Ideal) v3 v4) v6 v7) _ (stores_loc v3 v4 v6 v7) y
    (View.cover_of_tiledBy (stores v3 v4 v6 v7) ![1, 1, 32, 512] (by sl_kernel_rfl) y)

theorem idx : ∀ t : Fin cfg0.N, win0_0.index t = ![t.val / 2, 2] ∧ win0_1.index t = ![0, 0] ∧ win0_2.index t = ![t.val % 2, 0]
    ∧ win0_3.index t = ![0, t.val / 2] ∧ win0_4.index t = ![0, 0] ∧ win0_5.index t = ![t.val % 2, t.val / 2, 0, 0] :=
  (by decide +kernel : ∀ t : Fin grid0.N, _)

theorem out_A (c : Dev nD) (t : Fin cfg0.N) (h0 : t.val % 2 = 0) (y) : (outsAt0 m c t.val t.isLt).1 y
    = loc (k0_pay9 (F := Ideal) (iblk m c 2 t) (k0_pay5 (X0_0 m c t) (iblk m c 1 t))) (k0_pay7 (iblk m c 4 t) (iblk m c 3 t)) (k0_pay8 (iblk m c 4 t) (iblk m c 3 t)) y := by
  rw [outsAt0_A m c t h0]; frame_out
  exact canon_stores _ _ _ _ y

theorem scr0_A (c : Dev nD) (t : Fin cfg0.N) (h0 : t.val % 2 = 0) : (outsAt0 m c t.val t.isLt).2.1 = k0_pay5 (X0_0 m c t) (iblk m c 1 t) := by
  rw [outsAt0_A m c t h0]; dsimp only; frame_out

theorem scr1_A (c : Dev nD) (t : Fin cfg0.N) (h0 : t.val % 2 = 0) : (outsAt0 m c t.val t.isLt).2.2.1 = k0_pay7 (iblk m c 4 t) (iblk m c 3 t) := by
  rw [outsAt0_A m c t h0]; dsimp only; frame_out

theorem scr2_A (c : Dev nD) (t : Fin cfg0.N) (h0 : t.val % 2 = 0) : (outsAt0 m c t.val t.isLt).2.2.2 = k0_pay8 (iblk m c 4 t) (iblk m c 3 t) := by
  rw [outsAt0_A m c t h0]; dsimp only; frame_out

theorem out_B (c : Dev nD) (t : Fin cfg0.N) (h0 : ¬t.val % 2 = 0) (hp : t.val - 1 < cfg0.N) (y) : (outsAt0 m c t.val t.isLt).1 y
    = loc (k0_pay9 (F := Ideal) (iblk m c 2 t) (outsAt0 m c (t.val - 1) hp).2.1) (outsAt0 m c (t.val - 1) hp).2.2.1 (outsAt0 m c (t.val - 1) hp).2.2.2 y := by
  rw [outsAt0_B m c t h0]; frame_out
  generalize outsAt0 m c (t.val - 1) hp = o
  refine (canon_stores _ _ _ _ y).trans ?_
  rw [(Memref.isWhole_whole cc0_scratch0).read_unread o.2.1, (Memref.isWhole_whole cc0_scratch1).read_unread o.2.2.1,
    (Memref.isWhole_whole cc0_scratch2).read_unread o.2.2.2]

theorem z_blk (c : Dev nD) (t : Fin cfg0.N) (j : Fin 512) (k : Fin 1024) (h : 512 * (t.val / 2) + j.val < 8192) (h' : 2048 + k.val < 3584) :
    X0_0 m c t (ix2 j k) = m ((c : Thread nD τ).loc main_arg0) (ix2 ⟨512 * (t.val / 2) + j.val, h⟩ ⟨2048 + k.val, h'⟩) := by
  unfold X0_0 Pipeline.Window.fill
  rw [dif_pos (moved0_0 t _)]
  blk_point [iblk, V, idx t]

theorem gain_blk (c : Dev nD) (t : Fin cfg0.N) (k : Fin 1024) : iblk m c 1 t (ix2 0 k) = m ((c : Thread nD τ).loc main_arg1) (ix2 0 k) := by
  have e : V m c main_v11 = shapeCast S1x1024 (shapeCast S1024 (m ((c : Thread nD τ).loc main_arg1)) shapeCasts_S1x1024_S1024) shapeCasts_S1024_S1x1024 := by
    unfold V hostOps0
    after_results <;> rfl
  have e' : iblk m c 1 t (ix2 0 k) = V m c main_v11 (ix2 0 k) := by
    blk_point [iblk, idx t]
  rw [e', e]
  pointwise []

theorem pos_blk (c : Dev nD) (t : Fin cfg0.N) (j : Fin 512) (h : 512 * (t.val / 2) + j.val < 8192) :
    iblk m c 3 t (ix2 0 j) = sitofp (F := Ideal) .f32 (m ((c : Thread nD τ).loc main_arg3)) (ix2 0 ⟨512 * (t.val / 2) + j.val, h⟩) := by
  have e : V m c main_v12 = sitofp (F := Ideal) .f32 (m ((c : Thread nD τ).loc main_arg3)) := by
    unfold V hostOps0
    after_results <;> rfl
  have e' : iblk m c 3 t (ix2 0 j) = V m c main_v12 (ix2 0 ⟨512 * (t.val / 2) + j.val, h⟩) := by
    blk_point [iblk, idx t]
  rw [e', e]

theorem freq_blk (c : Dev nD) (t : Fin cfg0.N) (i : Fin 32) :
    iblk m c 4 t (ix2 i 0) = val_main_v10 (F := Ideal) (ix1 i) := by
  have e : V m c main_v13 = shapeCast S32x1 (val_main_v10 (F := Ideal)) shapeCasts_S32_S32x1 := by
    unfold V hostOps0
    after_results <;> rfl
  have e' : iblk m c 4 t (ix2 i 0) = V m c main_v13 (ix2 i 0) := by
    blk_point [iblk, idx t]
  rw [e', e]
  pointwise []

theorem w_blk (c : Dev nD) (t : Fin cfg0.N) (e : Fin 1536) (k : Fin 1024) (h : 1536 * (t.val % 2) + e.val < 3072) :
    iblk m c 2 t (ix2 e k) = m ((c : Thread nD τ).loc main_arg2) (ix2 ⟨1536 * (t.val % 2) + e.val, h⟩ k) := by
  blk_point [iblk, V, idx t]

theorem lat_blk (c : Dev nD) (t : Fin cfg0.N) (j : Fin 512) (k : Fin 1024) (h : 512 * (t.val / 2) + j.val < 8192) :
    k0_pay5 (X0_0 m c t) (iblk m c 1 t) (ix2 j k)
      = val_main_v33 (F := Ideal) (m ((c : Thread nD τ).loc main_arg0)) (m ((c : Thread nD τ).loc main_arg1)) (ix2 ⟨512 * (t.val / 2) + j.val, h⟩ k)
        * Ideal.ofBits .f32 0x3DD53B95#32 := by
  have hg := gain_blk m c t
  have hz := fun k h' => z_blk m c t j k h h'
  generalize X0_0 m c t = X at hz ⊢
  generalize iblk m c 1 t = g at hg ⊢
  have hz' := fun k => hz k (by have := k.isLt; omega)
  pointwise [k0_pay5]
  simp only [hz', hg]
  pointwise [val_main_v33, val_main_v32, val_main_v31, val_main_v30, val_main_v29, val_main_v28, val_main_v27, val_main_v26, val_main_v25, val_main_v24, val_main_v23, val_main_v22, val_main_v21, val_main_v20, val_main_v19, val_main_cst_3, val_main_cst_4, val_main_cst_5]

theorem cos_blk (c : Dev nD) (t : Fin cfg0.N) (i : Fin 32) (j : Fin 512) (h : 512 * (t.val / 2) + j.val < 8192) :
    k0_pay7 (iblk m c 4 t) (iblk m c 3 t) (ix2 i j) = val_main_v17 (F := Ideal) (m ((c : Thread nD τ).loc main_arg3)) (ix2 ⟨512 * (t.val / 2) + j.val, h⟩ i) := by
  have hp := pos_blk m c t j h
  have hf := freq_blk m c t i
  generalize iblk m c 3 t = p at hp ⊢
  generalize iblk m c 4 t = f at hf ⊢
  pointwise [k0_pay7, k0_pay6]
  rw [hp, hf, mul_comm]
  pointwise [val_main_v17, val_main_v16, val_main_v15, val_main_v14, val_main_v13, val_main_v12, val_main_v11, val_main_v0]

theorem sin_blk (c : Dev nD) (t : Fin cfg0.N) (i : Fin 32) (j : Fin 512) (h : 512 * (t.val / 2) + j.val < 8192) :
    k0_pay8 (iblk m c 4 t) (iblk m c 3 t) (ix2 i j) = val_main_v18 (F := Ideal) (m ((c : Thread nD τ).loc main_arg3)) (ix2 ⟨512 * (t.val / 2) + j.val, h⟩ i) := by
  have hp := pos_blk m c t j h
  have hf := freq_blk m c t i
  generalize iblk m c 3 t = p at hp ⊢
  generalize iblk m c 4 t = f at hf ⊢
  pointwise [k0_pay8, k0_pay6]
  rw [hp, hf, mul_comm]
  pointwise [val_main_v18, val_main_v16, val_main_v15, val_main_v14, val_main_v13, val_main_v12, val_main_v11, val_main_v0]

theorem scale_eq : ∃ s : ℝ, 0 ≤ s ∧ Ideal.ofBits .f32 0x3DD53B95#32 = (s : EReal) := by
  refine ⟨_, ?_, by simp [Ideal.ofBits, Ideal.ieee, -EReal.coe_mul]; rfl⟩
  positivity

theorem scale_nonneg : 0 ≤ Ideal.ofBits .f32 0x3DD53B95#32 := by
  obtain ⟨s, h, e⟩ := scale_eq
  rw [e]; exact EReal.coe_nonneg.mpr h

theorem scale_ne_top : Ideal.ofBits .f32 0x3DD53B95#32 ≠ ⊤ := by
  obtain ⟨s, h, e⟩ := scale_eq
  rw [e]; exact EReal.coe_ne_top s

/-- A product by a finite nonnegative constant leaves a sum. -/
theorem sum_scale {n : ℕ} (f g : Fin n → EReal) (s : EReal) (h0 : 0 ≤ s) (h1 : s ≠ ⊤) :
    ∑ k, f k * (g k * s) = (∑ k, g k * f k) * s := by
  have h : ∀ S : Finset (Fin n), ∑ k ∈ S, f k * (g k * s) = (∑ k ∈ S, g k * f k) * s := fun S => by
    induction S using Finset.induction_on with
    | empty => simp
    | insert a S ha ih =>
      rw [Finset.sum_insert ha, Finset.sum_insert ha, ih, EReal.right_distrib_of_nonneg_of_ne_top h0 h1, mul_comm (g a) (f a), mul_assoc]
  exact h Finset.univ

theorem dot_blk (c : Dev nD) (t t' : Fin cfg0.N) (ht : t'.val / 2 = t.val / 2) (e : Fin 1536) (j : Fin 512)
    (h : 512 * (t.val / 2) + j.val < 8192) (h' : 1536 * (t.val % 2) + e.val < 3072) :
    k0_pay9 (iblk m c 2 t) (k0_pay5 (X0_0 m c t') (iblk m c 1 t')) (ix2 e j)
      = val_main_v35 (F := Ideal) (m ((c : Thread nD τ).loc main_arg0)) (m ((c : Thread nD τ).loc main_arg1)) (m ((c : Thread nD τ).loc main_arg2))
          (ix2 ⟨512 * (t.val / 2) + j.val, h⟩ ⟨1536 * (t.val % 2) + e.val, h'⟩) * Ideal.ofBits .f32 0x3DD53B95#32 := by
  have hl := fun k => lat_blk m c t' j k (by omega)
  have hw := fun k => w_blk m c t e k h'
  generalize k0_pay5 (X0_0 m c t') (iblk m c 1 t') = L at hl ⊢
  generalize iblk m c 2 t = W at hw ⊢
  rw [val_main_v35_apply]
  pointwise [k0_pay9]
  simp only [hl, hw]
  refine (sum_scale _ _ _ scale_nonneg scale_ne_top).trans ?_
  congr 1
  refine Finset.sum_congr rfl fun k _ => ?_
  rw [val_main_v34_apply]
  have e1 : lidx_main_v35 (ix2 ⟨512 * (t.val / 2) + j.val, h⟩ ⟨1536 * (t.val % 2) + e.val, h'⟩) k = ix2 ⟨512 * (t'.val / 2) + j.val, by omega⟩ k := by
    funext a
    match a with
    | ⟨0, _⟩ => exact Fin.ext (show 512 * (t.val / 2) + j.val = 512 * (t'.val / 2) + j.val by omega)
    | ⟨1, _⟩ => rfl
  have e2 : ridx_main_v35 (ix2 ⟨512 * (t.val / 2) + j.val, h⟩ ⟨1536 * (t.val % 2) + e.val, h'⟩) k = ix2 ⟨1536 * (t.val % 2) + e.val, h'⟩ k := by
    funext a
    match a with
    | ⟨0, _⟩ => rfl
    | ⟨1, _⟩ => rfl
  rw [e1, e2]
  rfl

open Cert.Reference11Ideal (S8192x3072 S8192x32)

/-- A row's entry, by its number. -/
def at3072 (D : FVec Ideal S8192x3072 .f32) (tok : Fin 8192) (n : ℕ) : EReal := if h : n < 3072 then D (ix2 tok ⟨n, h⟩) else 0
def at32 (C : FVec Ideal S8192x32 .f32) (tok : Fin 8192) (n : ℕ) : EReal := if h : n < 32 then C (ix2 tok ⟨n, h⟩) else 0

theorem at_eq (D : FVec Ideal S8192x3072 .f32) (tok : Fin 8192) (k n : ℕ) (hk : k < 3072) (h : k = n) : D (ix2 tok ⟨k, hk⟩) = at3072 D tok n := by
  subst h; unfold at3072; rw [dif_pos hk]

theorem at_eq' (C : FVec Ideal S8192x32 .f32) (tok : Fin 8192) (k n : ℕ) (hk : k < 32) (h : k = n) : C (ix2 tok ⟨k, hk⟩) = at32 C tok n := by
  subst h; unfold at32; rw [dif_pos hk]

/-- Entry `r` of a head whose row starts at `b`: as it is, turned by the position's angle, or padding. -/
def rot (D : FVec Ideal S8192x3072 .f32) (C S : FVec Ideal S8192x32 .f32) (b : ℕ) (tok : Fin 8192) (r : ℕ) : EReal :=
  if r < 128 then at3072 D tok (b + r)
  else if r < 160 then at3072 D tok (b + r) * at32 C tok (r % 32) - at3072 D tok (b + r + 32) * at32 S tok (r % 32)
  else if r < 192 then at3072 D tok (b + r - 32) * at32 S tok (r % 32) + at3072 D tok (b + r) * at32 C tok (r % 32)
  else 0

theorem dite_both {p : Prop} [Decidable p] {α : Type} (f : p → α) (g : ¬p → α) (z : α) (h : ∀ c, f c = z) (h' : ∀ c, g c = z) : dite p f g = z := by
  by_cases c : p
  · rw [dif_pos c, h]
  · rw [dif_neg c, h']

section Ref
variable (x0 : FVec Ideal S8192x3584 .f32) (x1 : FVec Ideal S1x1024 .f32) (x2 : FVec Ideal S3072x1024 .bf16) (x3 : IVec S1x8192 32)

theorem ref_out (a i : Fin 16) (r : Fin 256) (j : Fin 512) :
    val_main_v60 (F := Ideal) x0 x1 x2 x3 (ix4 a i r j) = val_main_v57 (F := Ideal) x0 x1 x2 x3 (ix3 ⟨512 * i.val + j.val, by omega⟩ a r) := by
  pointwise [val_main_v60, val_main_v59, val_main_v58]
  congr 2
  exact Fin.ext (show i.val * 512 + j.val = 512 * i.val + j.val by omega)

theorem rot_scale (a b p q s : EReal) (h0 : 0 ≤ s) (h1 : s ≠ ⊤) : a * s * p + b * s * q = (a * p + b * q) * s := by
  rw [EReal.right_distrib_of_nonneg_of_ne_top h0 h1, mul_right_comm a s p, mul_right_comm b s q]

theorem rot_scale_sub (a b p q s : EReal) (h0 : 0 ≤ s) (h1 : s ≠ ⊤) : a * s * p - b * s * q = (a * p - b * q) * s := by
  rw [sub_eq_add_neg, sub_eq_add_neg, EReal.right_distrib_of_nonneg_of_ne_top h0 h1, EReal.neg_mul, mul_right_comm a s p, mul_right_comm b s q]

theorem ref_rot (tok : Fin 8192) (a : Fin 16) (r : Fin 256) (D : FVec Ideal S8192x3072 .f32) (C S : FVec Ideal S8192x32 .f32)
    (hD : val_main_v35 (F := Ideal) x0 x1 x2 = D) (hC : val_main_v17 (F := Ideal) x3 = C) (hS : val_main_v18 (F := Ideal) x3 = S) :
    val_main_v57 (F := Ideal) x0 x1 x2 x3 (ix3 tok a r) = rot D C S (192 * a.val) tok r.val * Ideal.ofBits .f32 0x3DD53B95#32 := by
  unfold val_main_v57 val_main_v56 val_main_cst_7 val_main_v55 val_main_v54 val_main_cst_6 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36
  rw [hD, hC, hS]
  pointwise []
  refine congrArg (· * Ideal.ofBits .f32 0x3DD53B95#32) ?_
  refine dite_both _ _ _ (fun c1 => ?_) (fun c1 => dite_both _ _ _ (fun c2 => dite_both _ _ _ (fun c3 => ?_) (fun c3 => ?_)) (fun c2 => ?_))
  · exact (at_eq D tok _ (192 * a.val + r.val) _ (by omega)).trans (by unfold rot; rw [if_pos c1])
  · exact (congrArg₂ (· - ·) (congrArg₂ (· * ·) (at_eq D tok _ (192 * a.val + r.val) _ (by omega)) (at_eq' C tok _ (r.val % 32) _ (by omega)))
      (congrArg₂ (· * ·) (at_eq D tok _ (192 * a.val + r.val + 32) _ (by omega)) (at_eq' S tok _ (r.val % 32) _ (by omega)))).trans
      (by unfold rot; rw [if_neg c1, if_pos (by omega)])
  · exact (congrArg₂ (· + ·) (congrArg₂ (· * ·) (at_eq D tok _ (192 * a.val + r.val - 32) _ (by omega)) (at_eq' S tok _ (r.val % 32) _ (by omega)))
      (congrArg₂ (· * ·) (at_eq D tok _ (192 * a.val + r.val) _ (by omega)) (at_eq' C tok _ (r.val % 32) _ (by omega)))).trans
      (by unfold rot; rw [if_neg c1, if_neg (by omega), if_pos (by omega)])
  · unfold rot; rw [if_neg c1, if_neg (by omega), if_neg (by omega)]

end Ref

theorem loc_rot (d : FVec Ideal S1536x512 .f32) (cs sn : FVec Ideal S32x512 .f32) (y : S8x1x256x512.Idx) (tok : Fin 8192) (hb : ℕ) (hb2 : hb < 2)
    (D : FVec Ideal S8192x3072 .f32) (C S : FVec Ideal S8192x32 .f32) (s : EReal) (h0 : 0 ≤ s) (h1 : s ≠ ⊤)
    (hd : ∀ (e : Fin 1536) (h : 1536 * hb + e.val < 3072), d (ix2 e (y 3)) = D (ix2 tok ⟨1536 * hb + e.val, h⟩) * s)
    (hc : ∀ i : Fin 32, cs (ix2 i (y 3)) = C (ix2 tok i))
    (hs : ∀ i : Fin 32, sn (ix2 i (y 3)) = S (ix2 tok i)) :
    loc d cs sn y = rot D C S (192 * (8 * hb + (y 0).val)) tok (y 2).val * s := by
  have y0 : (y 0).val < 8 := (y 0).isLt
  have y2 : (y 2).val < 256 := (y 2).isLt
  have hd' : ∀ (e n : ℕ) (he : e < 1536), 1536 * hb + e = n → d (ix2 ⟨e, he⟩ (y 3)) = at3072 D tok n * s :=
    fun e n he h => by
      subst h
      rw [hd ⟨e, he⟩ (by dsimp only; omega), at_eq D tok _ (1536 * hb + e) _ rfl]
  have hc' : ∀ (i : ℕ) (hi : i < 32), cs (ix2 ⟨i, hi⟩ (y 3)) = at32 C tok i := fun i hi => by
    rw [hc ⟨i, hi⟩, at_eq' C tok _ i _ rfl]
  have hs' : ∀ (i : ℕ) (hi : i < 32), sn (ix2 ⟨i, hi⟩ (y 3)) = at32 S tok i := fun i hi => by
    rw [hs ⟨i, hi⟩, at_eq' S tok _ i _ rfl]
  unfold loc rot
  by_cases c1 : (y 2).val < 128
  · rw [if_pos c1, if_pos c1]
    exact hd' _ (192 * (8 * hb + (y 0).val) + (y 2).val) _ (by omega)
  by_cases c2 : (y 2).val < 160
  · rw [if_neg c1, if_pos c2, if_neg c1, if_pos c2, ← rot_scale_sub _ _ _ _ _ h0 h1,
      hd' _ (192 * (8 * hb + (y 0).val) + (y 2).val) _ (by omega), hd' _ (192 * (8 * hb + (y 0).val) + (y 2).val + 32) _ (by omega), hc', hs']
  by_cases c3 : (y 2).val < 192
  · rw [if_neg c1, if_neg c2, if_pos c3, if_neg c1, if_neg c2, if_pos c3, ← rot_scale _ _ _ _ _ h0 h1,
      hd' _ (192 * (8 * hb + (y 0).val) + (y 2).val - 32) _ (by omega), hd' _ (192 * (8 * hb + (y 0).val) + (y 2).val) _ (by omega), hc', hs']
  · rw [if_neg c1, if_neg c2, if_neg c3, if_neg c1, if_neg c2, if_neg c3, zero_mul]

theorem point (c : Dev nD) (t t' : Fin cfg0.N) (ht : t'.val / 2 = t.val / 2) (y : S8x1x256x512.Idx) :
    loc (k0_pay9 (F := Ideal) (iblk m c 2 t) (k0_pay5 (X0_0 m c t') (iblk m c 1 t'))) (k0_pay7 (iblk m c 4 t') (iblk m c 3 t')) (k0_pay8 (iblk m c 4 t') (iblk m c 3 t')) y
      = val_main_v60 (F := Ideal) (m ((c : Thread nD τ).loc main_arg0)) (m ((c : Thread nD τ).loc main_arg1)) (m ((c : Thread nD τ).loc main_arg2)) (m ((c : Thread nD τ).loc main_arg3))
          (((cfg0.win 5).blk t).view.emb y) := by
  have hN : cfg0.N = 32 := by decide +kernel
  have tl := t.isLt
  have y0 : (y 0).val < 8 := (y 0).isLt
  have y1 : (y 1).val < 1 := (y 1).isLt
  have y2 : (y 2).val < 256 := (y 2).isLt
  have y3 : (y 3).val < 512 := (y 3).isLt
  have he : ((cfg0.win 5).blk t).view.emb y = ix4 (⟨8 * (t.val % 2) + (y 0).val, by omega⟩ : Fin 16) (⟨t.val / 2, by omega⟩ : Fin 16) (⟨(y 2).val, y2⟩ : Fin 256) (⟨(y 3).val, y3⟩ : Fin 512) := by
    blk_ext [idx t]
  rw [he, ref_out]
  rw [ref_rot _ _ _ _ _ _ _ _ _ _ rfl rfl rfl]
  refine loc_rot _ _ _ y _ (t.val % 2) (by omega) _ _ _ _ scale_nonneg scale_ne_top (fun e h => ?_) (fun i => ?_) (fun i => ?_)
  · exact dot_blk m c t t' ht e (y 3) _ h
  · rw [cos_blk m c t' i (y 3) (by omega)]
    simp only [ht]
  · rw [sin_blk m c t' i (y 3) (by omega)]
    simp only [ht]

theorem final (c : Dev nD) : (dats m 0 c).arrAt 5 cfg0.N
    = val_main_v60 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h0 : t.val % 2 = 0
  · refine (out_A m c t h0 y).trans ?_
    exact point m c t t rfl y
  · have hp : t.val - 1 < cfg0.N := Nat.lt_of_le_of_lt (Nat.sub_le _ _) t.isLt
    have hq : (⟨t.val - 1, hp⟩ : Fin cfg0.N).val % 2 = 0 := by dsimp only; omega
    refine (out_B m c t h0 hp y).trans ?_
    rw [scr0_A m c ⟨t.val - 1, hp⟩ hq, scr1_A m c ⟨t.val - 1, hp⟩ hq, scr2_A m c ⟨t.val - 1, hp⟩ hq]
    exact point m c t ⟨t.val - 1, hp⟩ (by dsimp only; omega) y

end Value

theorem frame_kernel : Cert.quiescent_Kernel11 := fun m ρ _ => Cert.Kernel11.Gen.frame m ρ
theorem frame_ideal : Cert.quiescent_Kernel11Ideal := fun m ρ _ => Cert.Kernel11Ideal.Gen.frame m ρ
theorem frame_reference : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)
theorem preserves : Cert.preserves_Kernel11_Kernel11Ideal := trivial

theorem algebraic : Cert.algebraic_Kernel11Ideal_Reference11Ideal := by
  intro m ρ m' ρ' _ hag
  refine ⟨fun c => (Cert.Kernel11Ideal.Gen.dats m 0 c).arrAt 5 Cert.Kernel11Ideal.cfg0.N,
    (θ_run Cert.Kernel11Ideal.defs _ _).mono (fun _ h c => h c) (Cert.Kernel11Ideal.Value.run_blocks (F := Ideal) m ρ),
    (θ_run Cert.Reference11Ideal.defs _ _).mono (fun r h c => ?_) (Cert.Reference11Ideal.Value.run (F := Ideal) m' ρ')⟩
  obtain ⟨h0, h1, h2, h3⟩ := hag c
  obtain ⟨r1, hrest⟩ := h c
  refine ⟨r1.trans ?_, hrest⟩
  rw [Cert.Reference11Ideal.Read.val_main_v60_eq, h0, h1, h2, h3]
  exact (final m c).symm

end Cert.Proof.QProj

end
-- ==== Proof.PoolSums.lean ====
/- Running sums read at an index, and differences of running sums of finite numbers as sums by doubling. -/
module

public import proofs.«01_k».proof.Defs
public import proofs.«01_k».proof.Proof.Gen.Reference12Ideal.Run
public import proofs.«01_k».proof.Proof.Gen.Reference12Ideal.Read
public import Idealize.ShloMosaic.Lib.Pointwise
public import Idealize.ShloMosaic.Lib.ValueIdx
public import Idealize.ShloMosaic.Lib.Routing.OpsOne
public import Mathlib.Algebra.BigOperators.Intervals

@[expose] public section

set_option maxRecDepth 16384

noncomputable section

namespace Cert.Proof.PoolSums

open Idealize.ShloMosaic

theorem foldl_add {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

theorem sum_window (f : ℕ → EReal) (R j : ℕ) (h : j ≤ R) :
    ∑ w ∈ Finset.range (R + 1), (if R ≤ j + w then f (j + w - R) else 0) = ∑ i ∈ Finset.range (j + 1), f i := by
  obtain ⟨k, rfl⟩ : ∃ k, R = k + j := ⟨R - j, by omega⟩
  rw [Nat.add_assoc, Finset.sum_range_add, Finset.sum_eq_zero (fun x hx => if_neg (by have := Finset.mem_range.1 hx; omega)), zero_add]
  refine Finset.sum_congr rfl fun x _ => ?_
  rw [if_pos (by omega)]
  congr 1; omega

/-- `cumsum(axis=0)` of an `[R, G, D]` array: where entry `(i, g, d)` holds `f i`, entry `(j, g, d)` of the result holds `f 0 + … + f j`. -/
theorem cumsum3 {u : Shape} {R Rm1 G D : ℕ} (hR : Rm1 + 1 = R) (x : (⟨3, ![R, G, D]⟩ : Shape).Idx → EReal) (f : ℕ → EReal)
    (init : u.Idx → EReal) (hinit : ∀ i, init i = 0)
    (h : (⟨3, ![R, G, D]⟩ : Shape).ReduceWindows (![R, 1, 1] : Fin 3 → ℕ) ![1, 1, 1] ![Rm1, 0, 0] ![0, 0, 0] ⟨3, ![R, G, D]⟩)
    (hu : 0 < u.numel) (j : Fin R) (g : Fin G) (d : Fin D) (hx : ∀ i : Fin R, x (ix3 i g d) = f i.val) :
    Host.reduceWindow (· + ·) ![R, 1, 1] ![1, 1, 1] ![Rm1, 0, 0] ![0, 0, 0] x init h hu (ix3 j g d)
      = ∑ i ∈ Finset.range (j.val + 1), f i := by
  subst hR
  have hj := j.isLt
  have key : ∀ w : (⟨3, ![Rm1 + 1, 1, 1]⟩ : Shape).Idx,
      (if hin : ∀ a : Fin 3, (![Rm1, 0, 0] : Fin 3 → ℕ) a ≤ (ix3 j g d (a.cast h.1.symm)).val * (![1, 1, 1] : Fin 3 → ℕ) a + (w a).val ∧
          (ix3 j g d (a.cast h.1.symm)).val * (![1, 1, 1] : Fin 3 → ℕ) a + (w a).val - (![Rm1, 0, 0] : Fin 3 → ℕ) a < (⟨3, ![Rm1 + 1, G, D]⟩ : Shape).size a
        then x (fun a => ⟨(ix3 j g d (a.cast h.1.symm)).val * (![1, 1, 1] : Fin 3 → ℕ) a + (w a).val - (![Rm1, 0, 0] : Fin 3 → ℕ) a, (hin a).2⟩)
        else (0 : EReal))
      = if Rm1 ≤ j.val + (w 0).val then f (j.val + (w 0).val - Rm1) else 0 := by
    intro w
    have w0 : (w 0).val < Rm1 + 1 := (w 0).isLt
    have w1 : (w 1).val < 1 := (w 1).isLt
    have w2 : (w 2).val < 1 := (w 2).isLt
    by_cases hc : Rm1 ≤ j.val + (w 0).val
    · rw [if_pos hc]
      have hin : ∀ a : Fin 3, (![Rm1, 0, 0] : Fin 3 → ℕ) a ≤ (ix3 j g d (a.cast h.1.symm)).val * (![1, 1, 1] : Fin 3 → ℕ) a + (w a).val ∧
          (ix3 j g d (a.cast h.1.symm)).val * (![1, 1, 1] : Fin 3 → ℕ) a + (w a).val - (![Rm1, 0, 0] : Fin 3 → ℕ) a < (⟨3, ![Rm1 + 1, G, D]⟩ : Shape).size a := by
        intro a
        match a with
        | ⟨0, _⟩ => show Rm1 ≤ j.val * 1 + (w 0).val ∧ j.val * 1 + (w 0).val - Rm1 < Rm1 + 1; omega
        | ⟨1, _⟩ => show 0 ≤ g.val * 1 + (w 1).val ∧ g.val * 1 + (w 1).val - 0 < G; omega
        | ⟨2, _⟩ => show 0 ≤ d.val * 1 + (w 2).val ∧ d.val * 1 + (w 2).val - 0 < D; omega
      rw [dif_pos hin]
      refine Eq.trans ?_ (hx ⟨j.val + (w 0).val - Rm1, by omega⟩)
      congr 1
      funext a
      refine Fin.ext ?_
      match a with
      | ⟨0, _⟩ => show j.val * 1 + (w 0).val - Rm1 = j.val + (w 0).val - Rm1; omega
      | ⟨1, _⟩ => show g.val * 1 + (w 1).val - 0 = g.val; omega
      | ⟨2, _⟩ => show d.val * 1 + (w 2).val - 0 = d.val; omega
    · rw [if_neg hc, dif_neg]
      intro hin
      have := (hin 0).1
      have : Rm1 ≤ j.val * 1 + (w 0).val := this
      omega
  have hi : init (Shape.Idx.first hu) = (0 : EReal) := hinit _
  unfold Host.reduceWindow
  simp only [hi]
  refine (foldl_add _ (fun n => _) (0 : EReal)).trans ?_
  rw [zero_add]
  refine (congrArg List.sum (List.map_congr_left fun n _ => key ((⟨3, ![Rm1 + 1, 1, 1]⟩ : Shape).rowMajor.symm n))).trans ?_
  rw [← Fin.sum_univ_def]
  refine ((⟨3, ![Rm1 + 1, 1, 1]⟩ : Shape).rowMajor.symm.sum_comp (fun w => if Rm1 ≤ j.val + (w 0).val then f (j.val + (w 0).val - Rm1) else 0)).trans ?_
  rw [← sum_window f Rm1 j.val (by omega)]
  rw [← Fin.sum_univ_eq_sum_range (fun w => if Rm1 ≤ j.val + w then f (j.val + w - Rm1) else 0)]
  refine Finset.sum_bij (fun w _ => (w 0 : Fin (Rm1 + 1))) (fun _ _ => Finset.mem_univ _) (fun a _ b _ hab => ?_) (fun b _ => ⟨ix3 b 0 0, Finset.mem_univ _, rfl⟩) (fun _ _ => rfl)
  funext k
  match k with
  | ⟨0, _⟩ => exact hab
  | ⟨1, _⟩ => exact Subsingleton.elim (α := Fin 1) _ _
  | ⟨2, _⟩ => exact Subsingleton.elim (α := Fin 1) _ _

end Cert.Proof.PoolSums

namespace Cert.Proof.PoolMixer

open Idealize.ShloMosaic

/-- The rows with 24 zero rows before them. -/
def zz (z : ℕ → ℕ → EReal) (n j : ℕ) : EReal := if n < 24 then 0 else z (n - 24) j

/-- Sums of `2 ^ k` rows by doubling. -/
def W (z : ℕ → ℕ → EReal) : ℕ → ℕ → ℕ → EReal
  | 0, n, j => zz z n j
  | k + 1, n, j => W z k n j + W z k (n - 2 ^ k) j

/-- The running sum before row `n`. -/
abbrev S (z : ℕ → ℕ → EReal) (n j : ℕ) : EReal := ∑ i ∈ Finset.range n, z i j

theorem W_eq (zr : ℕ → ℕ → ℝ) (k : ℕ) : ∀ n j, W (fun n j => (zr n j : EReal)) k n j
    = (((∑ i ∈ Finset.range (n + 1 - 24), zr i j) - ∑ i ∈ Finset.range (n - 2 ^ k + 1 - 24), zr i j : ℝ) : EReal) := by
  induction k with
  | zero =>
    intro n j
    show zz _ n j = _
    unfold zz
    by_cases h : n < 24
    · rw [if_pos h, show n + 1 - 24 = 0 by omega, show n - 2 ^ 0 + 1 - 24 = 0 by omega]; simp
    · rw [if_neg h, show n + 1 - 24 = (n - 24) + 1 by omega, show n - 2 ^ 0 + 1 - 24 = n - 24 by omega, Finset.sum_range_succ, add_sub_cancel_left]
  | succ k ih =>
    intro n j
    show W _ k n j + W _ k (n - 2 ^ k) j = _
    rw [ih, ih, ← EReal.coe_add, show n - 2 ^ k - 2 ^ k = n - 2 ^ (k + 1) by rw [pow_succ]; omega, sub_add_sub_cancel]

theorem S_coe (zr : ℕ → ℕ → ℝ) (n j : ℕ) : S (fun n j => (zr n j : EReal)) n j = ((∑ i ∈ Finset.range n, zr i j : ℝ) : EReal) := by
  induction n with
  | zero => show S _ 0 j = _; unfold S; simp
  | succ n ih => rw [Finset.sum_range_succ, EReal.coe_add, ← ih]; exact Finset.sum_range_succ _ _

/-- The doubling sum of `2 ^ k` finite rows that ends at row `c` is the difference of two running sums. -/
theorem W_window (zr : ℕ → ℕ → ℝ) (k c j : ℕ) (hk : 2 ^ k ≤ 16) : W (fun n j => (zr n j : EReal)) k (24 + c) j
    = S (fun n j => (zr n j : EReal)) (c + 1) j - S (fun n j => (zr n j : EReal)) (c + 1 - 2 ^ k) j := by
  rw [W_eq, S_coe, S_coe, ← EReal.coe_sub, show 24 + c + 1 - 24 = c + 1 by omega, show 24 + c - 2 ^ k + 1 - 24 = c + 1 - 2 ^ k by omega]

/-- The number of rows of the window of `w` rows that ends at row `c`, as a float. -/
def cnt (c w : ℕ) : EReal := (((BitVec.ofNat 32 (min (c + 1) w)).toInt : ℝ) : EReal)

/-- The mean over the window of `w` rows that ends at row `c`, less row `c`. -/
def mean (z : ℕ → ℕ → EReal) (w c j : ℕ) : EReal := Ideal.div (S z (c + 1) j - S z (c + 1 - w) j) (cnt c w) - z c j

theorem cnt_eq (c w : ℕ) (hw : w ≤ 16) : cnt c w = ((min (c + 1) w : ℕ) : ℝ) := by
  unfold cnt
  rw [StableHlo.Predicate.toInt_ofNat_small _ (by omega)]
  simp

/-- The product with the reciprocal of the count is the quotient. -/
theorem mul_recip (a : EReal) (c w : ℕ) (h0 : 0 < w) (hw : w ≤ 16) : a * Ideal.div 1 (cnt c w) = Ideal.div a (cnt c w) := by
  rw [cnt_eq c w hw]
  unfold Ideal.div
  have hne : (((min (c + 1) w : ℕ) : ℝ) : EReal) ≠ 0 := by
    rw [EReal.coe_ne_zero]
    exact Nat.cast_ne_zero.2 (by omega)
  rw [if_neg hne, if_neg hne, one_mul]

end Cert.Proof.PoolMixer
end
-- ==== Proof.PoolA.lean ====
/- The scratch levels of `pool_mixer`: each adds rows of the one before, so that level `l` holds sums of `2 ^ l` rows. -/
module

public import proofs.«01_k».proof.Defs
public import proofs.«01_k».proof.Proof.Gen.Kernel12.Frame
public import proofs.«01_k».proof.Proof.Gen.Kernel12Ideal.Value
public import proofs.«01_k».proof.Proof.PoolSums
public import Idealize.ShloMosaic.Lib.Quiescent
public import Idealize.ShloMosaic.Lib.Pointwise
public import Idealize.ShloMosaic.Lib.Pipeline.ValueKit

@[expose] public section

set_option maxRecDepth 16384

noncomputable section

namespace Cert.Proof.PoolMixer

open Idealize.ShloMosaic Idealize.ShloMosaic.TcCoe Idealize.SL.Sem
open Idealize.ShloMosaic.Pipeline (Dat)

section Value
open Cert.Kernel12Ideal Cert.Kernel12Ideal.Gen

variable (m : (ℓ : Loc nD τ sig) → Buf (Elt Ideal) ℓ)

variable {z : ℕ → ℕ → EReal}

theorem canon_hit {s : Shape} {e : EltTy} (off sz : Fin s.rank → ℕ) (inb : ∀ a, off a + sz a ≤ s.size a)
    (w : (Rect.unit off sz inb).shape.Idx → Elt Ideal e) (L : List (View.Piece (Elt Ideal) s e)) (y : s.Idx) (x : (Rect.unit off sz inb).shape.Idx)
    (h : ∀ a, (y a).val = off a + (x a).val) : View.canon (⟨Rect.unit off sz inb, w⟩ :: L) y = w x := by
  have e : y = (Rect.unit off sz inb).emb x := funext fun a => Fin.ext (by rw [h a, Rect.emb_apply]; simp [Rect.unit])
  rw [e]; exact View.canon_cons_emb _ _ _ _

theorem canon_miss {s : Shape} {e : EltTy} (off sz : Fin s.rank → ℕ) (inb : ∀ a, off a + sz a ≤ s.size a)
    (w : (Rect.unit off sz inb).shape.Idx → Elt Ideal e) (L : List (View.Piece (Elt Ideal) s e))
    (y : s.Idx) (a) (h : (y a).val < off a ∨ off a + sz a ≤ (y a).val) : View.canon (⟨Rect.unit off sz inb, w⟩ :: L) y = View.canon L y := by
  refine View.canon_cons_of_not_mem _ _ fun hm => ?_
  obtain ⟨x, hx⟩ := LoadRect.exists_idx_of_mem _ hm
  have hl : (x a).val < sz a := (x a).isLt
  have e : (y a).val = off a + (x a).val := by rw [← hx]; simp [Rect.unit]
  omega

theorem readAt_whole {s : Shape} {e : EltTy} {sp} {arg : Memref sig .tc sp s e} (h : arg.IsWhole) (x : s.Idx → Elt Ideal e) (off sz : Fin s.rank → ℕ)
    (inb : ∀ a, off a + sz a ≤ s.size a) (j) (y : s.Idx) (hy : ∀ a, (y a).val = off a + (j a).val) :
    View.readAt (Elt Ideal) arg.view (Rect.unit off sz inb).toLoadRect (h.unread x) j = x y := by
  rw [View.readAt_apply, h.read_unread]
  exact congrArg x (funext fun a => Fin.ext (by rw [hy a]; simp [Rect.unit]))

theorem readCov_at {s : Shape} {e : EltTy} {sp} (v : View sig .tc sp s e) (L : List (View.Piece (Elt Ideal) s e)) (off sz : Fin s.rank → ℕ)
    (inb : ∀ a, off a + sz a ≤ s.size a) (j) (y : s.Idx) (hy : ∀ a, (y a).val = off a + (j a).val) :
    v.readCov L (Rect.unit off sz inb).toLoadRect j = View.canon L y := by
  rw [View.readCov_eq_canon']
  exact congrArg (View.canon L) (funext fun a => Fin.ext (by rw [hy a]; simp [Rect.unit]))

section Levels
variable (c : Dev nD) (i : grid0.Coords) (arg1 : Memref sig .tc .vmem S16x2048 .f32) (harg1 : arg1.IsWhole) (arg2 : Memref sig .tc .vmem S512x2048 .f32) (harg2 : arg2.IsWhole)
  (arg6 arg7 arg8 : Memref sig .tc .vmem S536x2048 .f32)
  (x0 : Vec Ideal S16x2048 .f32) (x1 : Vec Ideal S512x2048 .f32) (b : ℕ)
  (h0 : ∀ y, k0_pay5 i x0 y = zz z (b + (8 + (y 0).val)) (y 1).val) (h1 : ∀ y, x1 y = zz z (b + (24 + (y 0).val)) (y 1).val)

include h0 h1 in
theorem level0 (y : S536x2048.Idx) (hy : 8 ≤ (y 0).val) :
    View.canon (kernelRun0_A.sl.HS0_3 c i arg1 harg1 arg2 harg2 x0 x1) y = W z 0 (b + (y 0).val) (y 1).val := by
  have hy0 : (y 0).val < 536 := (y 0).isLt
  have hy1 : (y 1).val < 2048 := (y 1).isLt
  unfold kernelRun0_A.sl.HS0_3
  have e1 : View.readAt (Elt Ideal) arg2.view (Rect.unit ![0, 0] S512x2048.size inb_S512x2048_S512x2048_0_0).toLoadRect (harg2.unread x1) = x1 :=
    funext fun j => readAt_whole harg2 x1 _ _ _ j j (Fin.forall_fin_two.2 ⟨(Nat.zero_add _).symm, (Nat.zero_add _).symm⟩)
  have e0 : View.readAt (Elt Ideal) arg1.view (Rect.unit ![0, 0] S16x2048.size inb_S16x2048_S16x2048_0_0).toLoadRect (harg1.unread x0) = x0 :=
    funext fun j => readAt_whole harg1 x0 _ _ _ j j (Fin.forall_fin_two.2 ⟨(Nat.zero_add _).symm, (Nat.zero_add _).symm⟩)
  by_cases hc : 24 ≤ (y 0).val
  · refine (canon_hit _ _ _ _ _ y (ix2 ⟨(y 0).val - 24, by omega⟩ ⟨(y 1).val, hy1⟩ : S512x2048.Idx) (Fin.forall_fin_two.2 ⟨?_, ?_⟩)).trans ?_
    · show (y 0).val = 24 + ((y 0).val - 24); omega
    · show (y 1).val = 0 + (y 1).val; omega
    rw [e1]
    pointwise [k0_pay6]
    rw [h1]
    show zz z (b + (24 + ((y 0).val - 24))) (y 1).val = zz z (b + (y 0).val) (y 1).val
    rw [show 24 + ((y 0).val - 24) = (y 0).val by omega]
  · rw [canon_miss _ _ _ _ _ y 0 (.inl (by show (y 0).val < 24; omega))]
    refine (canon_hit _ _ _ _ _ y (ix2 ⟨(y 0).val - 8, by omega⟩ ⟨(y 1).val, hy1⟩ : S16x2048.Idx) (Fin.forall_fin_two.2 ⟨?_, ?_⟩)).trans ?_
    · show (y 0).val = 8 + ((y 0).val - 8); omega
    · show (y 1).val = 0 + (y 1).val; omega
    rw [e0]
    refine (h0 _).trans ?_
    show zz z (b + (8 + ((y 0).val - 8))) (y 1).val = zz z (b + (y 0).val) (y 1).val
    rw [show 8 + ((y 0).val - 8) = (y 0).val by omega]

include h0 h1 in
theorem level1 (y : S536x2048.Idx) (hy : 9 ≤ (y 0).val) (hj : 512 ≤ (y 1).val) :
    View.canon (kernelRun0_A.sl.HS1_2 c i arg1 harg1 arg2 harg2 arg6 x0 x1) y = W z 1 (b + (y 0).val) (y 1).val := by
  have hy0 : (y 0).val < 536 := (y 0).isLt
  have hy1 : (y 1).val < 2048 := (y 1).isLt
  unfold kernelRun0_A.sl.HS1_2
  refine (canon_hit _ _ _ _ _ y (ix2 ⟨(y 0).val - 8, by omega⟩ ⟨(y 1).val - 512, by omega⟩ : S528x1536.Idx) (Fin.forall_fin_two.2 ⟨?_, ?_⟩)).trans ?_
  · show (y 0).val = 8 + ((y 0).val - 8); omega
  · show (y 1).val = 512 + ((y 1).val - 512); omega
  pointwise [k0_pay9]
  unfold kernelRun0_A.sl.v51 kernelRun0_A.sl.v52
  rw [readCov_at _ _ _ _ _ _ y (Fin.forall_fin_two.2 ⟨by show (y 0).val = 8 + ((y 0).val - 8); omega, by show (y 1).val = 512 + ((y 1).val - 512); omega⟩),
    readCov_at _ _ _ _ _ _ (ix2 ⟨(y 0).val - 1, by omega⟩ ⟨(y 1).val, hy1⟩ : S536x2048.Idx) (Fin.forall_fin_two.2 ⟨by show (y 0).val - 1 = 7 + ((y 0).val - 8); omega, by show (y 1).val = 512 + ((y 1).val - 512); omega⟩),
    level0 c i arg1 harg1 arg2 harg2 x0 x1 b h0 h1 y (by omega), level0 c i arg1 harg1 arg2 harg2 x0 x1 b h0 h1 _ (by show 8 ≤ (y 0).val - 1; omega)]
  show W z 0 (b + (y 0).val) (y 1).val + W z 0 (b + ((y 0).val - 1)) (y 1).val = W z 0 (b + (y 0).val) (y 1).val + W z 0 (b + (y 0).val - 2 ^ 0) (y 1).val
  rw [show b + ((y 0).val - 1) = b + (y 0).val - 2 ^ 0 by omega]

include h0 h1 in
theorem level2 (y : S536x2048.Idx) (hy : 11 ≤ (y 0).val) (hj : 1024 ≤ (y 1).val) :
    View.canon (kernelRun0_A.sl.HS2_2 c i arg1 harg1 arg2 harg2 arg6 arg7 x0 x1) y = W z 2 (b + (y 0).val) (y 1).val := by
  have hy0 : (y 0).val < 536 := (y 0).isLt
  have hy1 : (y 1).val < 2048 := (y 1).isLt
  unfold kernelRun0_A.sl.HS2_2
  refine (canon_hit _ _ _ _ _ y (ix2 ⟨(y 0).val - 8, by omega⟩ ⟨(y 1).val - 1024, by omega⟩ : S528x1024.Idx) (Fin.forall_fin_two.2 ⟨?_, ?_⟩)).trans ?_
  · show (y 0).val = 8 + ((y 0).val - 8); omega
  · show (y 1).val = 1024 + ((y 1).val - 1024); omega
  pointwise [k0_pay13]
  unfold kernelRun0_A.sl.v81 kernelRun0_A.sl.v82
  rw [readCov_at _ _ _ _ _ _ y (Fin.forall_fin_two.2 ⟨by show (y 0).val = 8 + ((y 0).val - 8); omega, by show (y 1).val = 1024 + ((y 1).val - 1024); omega⟩),
    readCov_at _ _ _ _ _ _ (ix2 ⟨(y 0).val - 2, by omega⟩ ⟨(y 1).val, hy1⟩ : S536x2048.Idx) (Fin.forall_fin_two.2 ⟨by show (y 0).val - 2 = 6 + ((y 0).val - 8); omega, by show (y 1).val = 1024 + ((y 1).val - 1024); omega⟩),
    level1 c i arg1 harg1 arg2 harg2 arg6 x0 x1 b h0 h1 y (by omega) (by omega), level1 c i arg1 harg1 arg2 harg2 arg6 x0 x1 b h0 h1 _ (by show 9 ≤ (y 0).val - 2; omega) (by show 512 ≤ (y 1).val; omega)]
  show W z 1 (b + (y 0).val) (y 1).val + W z 1 (b + ((y 0).val - 2)) (y 1).val = W z 1 (b + (y 0).val) (y 1).val + W z 1 (b + (y 0).val - 2 ^ 1) (y 1).val
  rw [show b + ((y 0).val - 2) = b + (y 0).val - 2 ^ 1 by omega]

include h0 h1 in
theorem level3 (y : S536x2048.Idx) (hy : 15 ≤ (y 0).val) (hj : 1536 ≤ (y 1).val) :
    View.canon (kernelRun0_A.sl.HS1_3 c i arg1 harg1 arg2 harg2 arg6 arg7 arg8 x0 x1) y = W z 3 (b + (y 0).val) (y 1).val := by
  have hy0 : (y 0).val < 536 := (y 0).isLt
  have hy1 : (y 1).val < 2048 := (y 1).isLt
  unfold kernelRun0_A.sl.HS1_3
  refine (canon_hit _ _ _ _ _ y (ix2 ⟨(y 0).val - 8, by omega⟩ ⟨(y 1).val - 1536, by omega⟩ : S528x512.Idx) (Fin.forall_fin_two.2 ⟨?_, ?_⟩)).trans ?_
  · show (y 0).val = 8 + ((y 0).val - 8); omega
  · show (y 1).val = 1536 + ((y 1).val - 1536); omega
  pointwise [k0_pay17]
  unfold kernelRun0_A.sl.v111 kernelRun0_A.sl.v112
  rw [readCov_at _ _ _ _ _ _ y (Fin.forall_fin_two.2 ⟨by show (y 0).val = 8 + ((y 0).val - 8); omega, by show (y 1).val = 1536 + ((y 1).val - 1536); omega⟩),
    readCov_at _ _ _ _ _ _ (ix2 ⟨(y 0).val - 4, by omega⟩ ⟨(y 1).val, hy1⟩ : S536x2048.Idx) (Fin.forall_fin_two.2 ⟨by show (y 0).val - 4 = 4 + ((y 0).val - 8); omega, by show (y 1).val = 1536 + ((y 1).val - 1536); omega⟩),
    level2 c i arg1 harg1 arg2 harg2 arg6 arg7 x0 x1 b h0 h1 y (by omega) (by omega), level2 c i arg1 harg1 arg2 harg2 arg6 arg7 x0 x1 b h0 h1 _ (by show 11 ≤ (y 0).val - 4; omega) (by show 1024 ≤ (y 1).val; omega)]
  show W z 2 (b + (y 0).val) (y 1).val + W z 2 (b + ((y 0).val - 4)) (y 1).val = W z 2 (b + (y 0).val) (y 1).val + W z 2 (b + (y 0).val - 2 ^ 2) (y 1).val
  rw [show b + ((y 0).val - 4) = b + (y 0).val - 2 ^ 2 by omega]

end Levels
end Value
end Cert.Proof.PoolMixer
end
-- ==== Proof.PoolWords.lean ====
/- The rows of a trailing window and how many they are, as 32-bit words. -/
module

public import Idealize.ShloMosaic.PureOps
public import Idealize.ShloMosaic.Lib.Routing.OpsOne

@[expose] public section

namespace Cert.Proof.PoolWords

open Idealize.ShloMosaic

theorem add_word (a b : ℕ) : IntOp.addi (BitVec.ofNat 32 a) (BitVec.ofNat 32 b) = BitVec.ofNat 32 (a + b) :=
  (BitVec.ofNat_add a b).symm

theorem sub_word (a b : ℕ) (h : b ≤ a) (ha : a < 4294967296) : IntOp.subi (BitVec.ofNat 32 a) (BitVec.ofNat 32 b) = BitVec.ofNat 32 (a - b) := by
  apply BitVec.eq_of_toNat_eq
  unfold IntOp.subi
  simp only [BitVec.toNat_sub, BitVec.toNat_ofNat]
  omega

theorem slt_word (a b : ℕ) (ha : a < 9000) (hb : b < 9000) : BitVec.slt (BitVec.ofNat 32 a) (BitVec.ofNat 32 b) = decide (a < b) := by
  unfold BitVec.slt
  rw [StableHlo.Predicate.toInt_ofNat_small _ (by omega), StableHlo.Predicate.toInt_ofNat_small _ (by omega)]
  simp

/-- The first row of the window of `w` rows that ends at row `c`. -/
theorem start_word (c w : ℕ) (hc : c < 8192) (hw : w ≤ 16) :
    IntOp.maxsi (IntOp.subi (IntOp.addi (BitVec.ofNat 32 c) 1#32) (BitVec.ofNat 32 w)) 0#32 = BitVec.ofNat 32 (c + 1 - w) := by
  rw [add_word]
  by_cases h : w ≤ c + 1
  · rw [sub_word _ _ h (by omega)]
    unfold IntOp.maxsi
    rw [slt_word 0 _ (by omega) (by omega)]
    by_cases h0 : 0 < c + 1 - w
    · rw [if_pos (by simpa using h0)]
    · rw [if_neg (by simpa using h0)]
      congr 1; omega
  · have hn : BitVec.slt 0#32 (IntOp.subi (BitVec.ofNat 32 (c + 1)) (BitVec.ofNat 32 w)) = false := by
      unfold IntOp.subi
      simp only [BitVec.slt, BitVec.toInt_eq_toNat_cond, BitVec.toNat_sub, BitVec.toNat_ofNat, decide_eq_false_iff_not]
      split <;> split <;> omega
    unfold IntOp.maxsi
    rw [hn, if_neg (by decide)]
    congr 1; omega

theorem select_word (n : ℕ) (hn : n < 8193) (y : BitVec 32) :
    Scalar.select (IntOp.cmpi .slt (BitVec.ofNat 32 n) 0#32) y (BitVec.ofNat 32 n) = BitVec.ofNat 32 n := by
  have h : BitVec.slt (BitVec.ofNat 32 n) 0#32 = false := by
    simp only [BitVec.slt, BitVec.toInt_eq_toNat_cond, BitVec.toNat_ofNat, decide_eq_false_iff_not]
    split <;> omega
  unfold Scalar.select IntOp.cmpi
  simp [h]

/-- The number of rows of that window. -/
theorem count_word (c w : ℕ) (hc : c < 8192) (hw : w ≤ 16) :
    IntOp.subi (IntOp.addi (BitVec.ofNat 32 c) 1#32) (BitVec.ofNat 32 (c + 1 - w)) = BitVec.ofNat 32 (min (c + 1) w) := by
  rw [add_word, sub_word _ _ (by omega) (by omega)]
  congr 1; omega

theorem min_word (c w : ℕ) (hc : c < 8193) (hw : w ≤ 16) :
    IntOp.minsi (BitVec.ofNat 32 c) (BitVec.ofNat 32 w) = BitVec.ofNat 32 (min c w) := by
  unfold IntOp.minsi
  rw [slt_word _ _ (by omega) (by omega)]
  by_cases h0 : c < w
  · rw [if_pos (by simpa using h0)]
    congr 1; omega
  · rw [if_neg (by simpa using h0)]
    congr 1; omega

end Cert.Proof.PoolWords
-- ==== Proof.PoolRef.lean ====
/- The pooling reference at an index. -/
module

public import proofs.«01_k».proof.Proof.PoolSums
public import proofs.«01_k».proof.Proof.PoolWords
public import Idealize.ShloMosaic.Lib.KernelVsHost

@[expose] public section

set_option maxRecDepth 16384

noncomputable section

namespace Cert.Proof.PoolMixer

open Idealize.ShloMosaic
open Cert.Reference12Ideal Cert.Reference12Ideal.Gen Cert.Reference12Ideal.Read

section Ref

abbrev Z (a0 : S8192x3584.Idx → EReal) : ℕ → ℕ → EReal := fun n j => if h : n < 8192 ∧ j < 3584 then a0 (ix2 ⟨n, h.1⟩ ⟨j, h.2⟩) else 0

variable (a0 : S8192x3584.Idx → EReal)

theorem gather3 (x : S8193x4x512.Idx → EReal) (idx : IVec S8192x2 32) (c : Fin 8192) (y : Fin 512) (b : ℕ) (hb : b < 8193) (g : Fin 4)
    (h0 : idx (ix2 c (0 : Fin 2)) = BitVec.ofNat 32 b) (h1 : idx (ix2 c (1 : Fin 2)) = BitVec.ofNat 32 g.val) :
    Host.gather gather_S8193x4x512_S8192x2_S8192x512_1_01_n_n_01_1_11512 x idx (ix2 c y) = x (ix3 ⟨b, hb⟩ g y) := by
  have hg := g.isLt
  unfold Host.gather
  refine congrArg x (funext fun a => Fin.ext ?_)
  match a with
  | ⟨0, _⟩ =>
    show GatherDims.start gather_S8193x4x512_S8192x2_S8192x512_1_01_n_n_01_1_11512 (ix2 c y) idx 0 + GatherDims.batchCoord gather_S8193x4x512_S8192x2_S8192x512_1_01_n_n_01_1_11512 (ix2 c y) 0 + GatherDims.offCoord gather_S8193x4x512_S8192x2_S8192x512_1_01_n_n_01_1_11512 (ix2 c y) 0 = b
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S8193x4x512_S8192x2_S8192x512_1_01_n_n_01_1_11512.startIndexMap by decide)]
    have hsi : gather_S8193x4x512_S8192x2_S8192x512_1_01_n_n_01_1_11512.siIdx (ix2 c y) ⟨List.idxOf (0 : Fin 3) gather_S8193x4x512_S8192x2_S8192x512_1_01_n_n_01_1_11512.startIndexMap, List.idxOf_lt_length_iff.2 (by decide)⟩ = ix2 c (0 : Fin 2) := by
      funext b; refine Fin.ext ?_
      match b with
      | ⟨0, _⟩ => rfl
      | ⟨1, _⟩ => rfl
    rw [hsi, h0, StableHlo.Predicate.toInt_ofNat_small _ (by omega)]
    show min ((b : Int)).toNat (8193 - 1) = b
    omega
  | ⟨1, _⟩ =>
    show GatherDims.start gather_S8193x4x512_S8192x2_S8192x512_1_01_n_n_01_1_11512 (ix2 c y) idx 1 + GatherDims.batchCoord gather_S8193x4x512_S8192x2_S8192x512_1_01_n_n_01_1_11512 (ix2 c y) 1 + GatherDims.offCoord gather_S8193x4x512_S8192x2_S8192x512_1_01_n_n_01_1_11512 (ix2 c y) 1 = g.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S8193x4x512_S8192x2_S8192x512_1_01_n_n_01_1_11512.startIndexMap by decide)]
    have hsi : gather_S8193x4x512_S8192x2_S8192x512_1_01_n_n_01_1_11512.siIdx (ix2 c y) ⟨List.idxOf (1 : Fin 3) gather_S8193x4x512_S8192x2_S8192x512_1_01_n_n_01_1_11512.startIndexMap, List.idxOf_lt_length_iff.2 (by decide)⟩ = ix2 c (1 : Fin 2) := by
      funext b; refine Fin.ext ?_
      match b with
      | ⟨0, _⟩ => rfl
      | ⟨1, _⟩ => rfl
    rw [hsi, h1, StableHlo.Predicate.toInt_ofNat_small _ (by omega)]
    show min ((g.val : Int)).toNat (4 - 1) = g.val
    omega
  | ⟨2, _⟩ =>
    show GatherDims.start gather_S8193x4x512_S8192x2_S8192x512_1_01_n_n_01_1_11512 (ix2 c y) idx 2 + GatherDims.batchCoord gather_S8193x4x512_S8192x2_S8192x512_1_01_n_n_01_1_11512 (ix2 c y) 2 + GatherDims.offCoord gather_S8193x4x512_S8192x2_S8192x512_1_01_n_n_01_1_11512 (ix2 c y) 2 = y.val
    rw [GatherDims.batchCoord_eq_zero _ _ _ List.not_mem_nil]
    unfold GatherDims.start GatherDims.offCoord
    rw [dif_neg (show (2 : Fin 3) ∉ gather_S8193x4x512_S8192x2_S8192x512_1_01_n_n_01_1_11512.startIndexMap by decide), dif_pos ((GatherDims.mem_sKept _ _).mpr (by decide))]
    show 0 + 0 + y.val = y.val
    omega

theorem v1_at (n : Fin 8192) (g : Fin 4) (d : Fin 512) : val_main_v1 (F := Ideal) a0 (ix3 n g d) = Z a0 n.val (g.val * 512 + d.val) := by
  have hg := g.isLt
  have hd := d.isLt
  have hn := n.isLt
  rw [val_main_v1_apply, val_main_v0_apply]
  unfold Z
  rw [dif_pos ⟨hn, by omega⟩]
  congr 1
  funext a
  refine Fin.ext ?_
  match a with
  | ⟨0, _⟩ => show ((n.val * 4 + g.val) * 512 + d.val) / 2048 = n.val; omega
  | ⟨1, _⟩ => show ((n.val * 4 + g.val) * 512 + d.val) % 2048 = g.val * 512 + d.val; omega

theorem windowAdd_at (x : S8192x4x512.Idx → EReal) (init : S_.Idx → EReal) (hi : ∀ i, init i = 0) (f : ℕ → EReal)
    (n : Fin 8192) (g : Fin 4) (d : Fin 512) (hx : ∀ i : Fin 8192, x (ix3 i g d) = f i.val) :
    Host.reduceWindowAdd (F := Ideal) (φ := .f32) ![8192, 1, 1] ![1, 1, 1] ![8191, 0, 0] ![0, 0, 0] x init reduceWindows_S8192x4x512_S8192x4x512_w8192s1p8191_0_w1s1p0_0_w1s1p0_0 h_S_ (ix3 n g d)
      = ∑ i ∈ Finset.range (n.val + 1), f i := by
  unfold Host.reduceWindowAdd
  rw [hi, Ideal.hostReduceWindowAdd_def]
  unfold Ideal.hostReduceWindowAdd
  refine Eq.trans ?_ (PoolSums.cumsum3 (R := 8192) (Rm1 := 8191) (G := 4) (D := 512) (by norm_num) x f (fun _ : (⟨0, ![]⟩ : Shape).Idx => 0) (fun _ => rfl) reduceWindows_S8192x4x512_S8192x4x512_w8192s1p8191_0_w1s1p0_0_w1s1p0_0 (by decide) n g d hx)
  with_reducible_and_instances rfl

theorem v2_at (n : Fin 8192) (g : Fin 4) (d : Fin 512) :
    val_main_v2 (F := Ideal) a0 (ix3 n g d) = ∑ i ∈ Finset.range (n.val + 1), Z a0 i (g.val * 512 + d.val) := by
  unfold val_main_v2
  exact windowAdd_at _ _ (fun i => by pointwise [val_main_call0_call0_v0, val_main_call0_call0_cst]) (fun i => Z a0 i (g.val * 512 + d.val)) n g d (fun i => v1_at a0 i g d)

theorem v3_at (n : ℕ) (hn : n < 8193) (g : Fin 4) (d : Fin 512) :
    val_main_v3 (F := Ideal) a0 (ix3 ⟨n, hn⟩ g d) = ∑ i ∈ Finset.range n, Z a0 i (g.val * 512 + d.val) := by
  unfold val_main_v3
  match n, hn with
  | 0, hn =>
    rw [pad_apply_of_not_inside _ _ _ _ _ _ _ _ (0 : Fin 3) (by
      rintro ⟨h, _⟩
      have h : 1 ≤ 0 := h
      omega), Finset.sum_range_zero]
    pointwise [val_main_call1_v0, val_main_c]
    show (((0#32 : BitVec 32).toInt : ℝ) : EReal) = 0
    simp
  | n + 1, hn =>
    rw [pad_apply_of_inside _ _ _ _ _ _ _ _ (ix3 (⟨n, by omega⟩ : Fin 8192) g d) (by
      intro a
      match a with
      | ⟨0, _⟩ => show n + 1 = 1 + n * (0 + 1); omega
      | ⟨1, _⟩ => show g.val = 0 + g.val * (0 + 1); omega
      | ⟨2, _⟩ => show d.val = 0 + d.val * (0 + 1); omega)]
    exact v2_at a0 _ g d

theorem start_0 (c : Fin 8192) : val_main_v10 (F := Ideal) (ix1 c) = BitVec.ofNat 32 (c.val + 1 - 2) := by
  pointwise [val_main_v10, val_main_v8, val_main_v6, val_main_v5, val_main_v7, val_main_v9, val_main_v4, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  exact PoolWords.start_word c.val 2 c.isLt (by omega)

theorem index_0 (c : Fin 8192) : val_main_v22 (F := Ideal) (ix1 c) = BitVec.ofNat 32 (c.val + 1 - 2) := by
  have hc := c.isLt
  have h := PoolWords.select_word (c.val + 1 - 2) (by omega)
  rw [val_main_v22_apply, val_main_v19_apply, val_main_v21_apply, start_0]
  pointwise [val_main_v18, val_main_v20, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  exact h _

theorem count_0 (c : Fin 8192) : val_main_v14 (F := Ideal) (ix1 c) = cnt c.val 2 := by
  rw [val_main_v14_apply, val_main_v13_apply, start_0]
  pointwise [val_main_v12, val_main_v11, val_main_v4, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  rw [PoolWords.count_word c.val 2 c.isLt (by omega)]
  rfl

theorem pair_0_0 (c : Fin 8192) : val_main_v27 (F := Ideal) (ix2 c (0 : Fin 2)) = BitVec.ofNat 32 (c.val + 1 - 2) := by
  pointwise [val_main_v27, val_main_v25]
  exact index_0 c

theorem pair_0_1 (c : Fin 8192) : val_main_v27 (F := Ideal) (ix2 c (1 : Fin 2)) = BitVec.ofNat 32 0 := by
  pointwise [val_main_v27, val_main_v26]
  rw [val_main_v24_apply]
  pointwise [val_main_v23, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]

theorem ref_0 (c : Fin 8192) (d : Fin 512) : val_main_v34 (F := Ideal) a0 (ix2 c d) = mean (Z a0) 2 c.val (0 * 512 + d.val) := by
  have hc := c.isLt
  have hd := d.isLt
  have h28 : val_main_v28 (F := Ideal) a0 (ix2 c d) = S (Z a0) (c.val + 1 - 2) (0 * 512 + d.val) :=
    (gather3 _ _ c d (c.val + 1 - 2) (by omega) (⟨0, by omega⟩ : Fin 4) (pair_0_0 c) (pair_0_1 c)).trans
      (v3_at a0 _ _ (⟨0, by omega⟩ : Fin 4) d)
  have h17 : val_main_v17 (F := Ideal) a0 (ix2 c d) = S (Z a0) (c.val + 1) (0 * 512 + d.val) := by
    rw [val_main_v17_apply, val_main_v16_apply]
    refine Eq.trans (congrArg (val_main_v3 (F := Ideal) a0) (funext fun a => ?_)) (v3_at a0 (c.val + 1) (by omega) (⟨0, by omega⟩ : Fin 4) d)
    refine Fin.ext ?_
    match a with
    | ⟨0, _⟩ => show 1 + (c.val * 512 + d.val) / 512 = c.val + 1; omega
    | ⟨1, _⟩ => rfl
    | ⟨2, _⟩ => show (c.val * 512 + d.val) % 512 = d.val; omega
  have h33 : val_main_v33 (F := Ideal) a0 (ix2 c d) = Z a0 c.val (0 * 512 + d.val) := by
    rw [val_main_v33_apply, val_main_v32_apply]
    refine Eq.trans (congrArg (val_main_v1 (F := Ideal) a0) (funext fun a => ?_)) (v1_at a0 c (⟨0, by omega⟩ : Fin 4) d)
    refine Fin.ext ?_
    match a with
    | ⟨0, _⟩ => show (c.val * 512 + d.val) / 512 = c.val; omega
    | ⟨1, _⟩ => rfl
    | ⟨2, _⟩ => show (c.val * 512 + d.val) % 512 = d.val; omega
  have h30 : val_main_v30 (F := Ideal) (ix2 c d) = cnt c.val 2 := by
    rw [← count_0 c]
    pointwise [val_main_v30, val_main_v15]
  rw [val_main_v34_apply, val_main_v31_apply, val_main_v29_apply, h17, h28, h30, h33]
  rfl

theorem start_1 (c : Fin 8192) : val_main_v40 (F := Ideal) (ix1 c) = BitVec.ofNat 32 (c.val + 1 - 4) := by
  pointwise [val_main_v40, val_main_v38, val_main_v36, val_main_v35, val_main_v37, val_main_v39, val_main_v4, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  exact PoolWords.start_word c.val 4 c.isLt (by omega)

theorem index_1 (c : Fin 8192) : val_main_v52 (F := Ideal) (ix1 c) = BitVec.ofNat 32 (c.val + 1 - 4) := by
  have hc := c.isLt
  have h := PoolWords.select_word (c.val + 1 - 4) (by omega)
  rw [val_main_v52_apply, val_main_v49_apply, val_main_v51_apply, start_1]
  pointwise [val_main_v48, val_main_v50, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  exact h _

theorem count_1 (c : Fin 8192) : val_main_v44 (F := Ideal) (ix1 c) = cnt c.val 4 := by
  rw [val_main_v44_apply, val_main_v43_apply, start_1]
  pointwise [val_main_v42, val_main_v41, val_main_v4, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  rw [PoolWords.count_word c.val 4 c.isLt (by omega)]
  rfl

theorem pair_1_0 (c : Fin 8192) : val_main_v57 (F := Ideal) (ix2 c (0 : Fin 2)) = BitVec.ofNat 32 (c.val + 1 - 4) := by
  pointwise [val_main_v57, val_main_v55]
  exact index_1 c

theorem pair_1_1 (c : Fin 8192) : val_main_v57 (F := Ideal) (ix2 c (1 : Fin 2)) = BitVec.ofNat 32 1 := by
  pointwise [val_main_v57, val_main_v56]
  rw [val_main_v54_apply]
  pointwise [val_main_v53, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]

theorem ref_1 (c : Fin 8192) (d : Fin 512) : val_main_v64 (F := Ideal) a0 (ix2 c d) = mean (Z a0) 4 c.val (1 * 512 + d.val) := by
  have hc := c.isLt
  have hd := d.isLt
  have h28 : val_main_v58 (F := Ideal) a0 (ix2 c d) = S (Z a0) (c.val + 1 - 4) (1 * 512 + d.val) :=
    (gather3 _ _ c d (c.val + 1 - 4) (by omega) (⟨1, by omega⟩ : Fin 4) (pair_1_0 c) (pair_1_1 c)).trans
      (v3_at a0 _ _ (⟨1, by omega⟩ : Fin 4) d)
  have h17 : val_main_v47 (F := Ideal) a0 (ix2 c d) = S (Z a0) (c.val + 1) (1 * 512 + d.val) := by
    rw [val_main_v47_apply, val_main_v46_apply]
    refine Eq.trans (congrArg (val_main_v3 (F := Ideal) a0) (funext fun a => ?_)) (v3_at a0 (c.val + 1) (by omega) (⟨1, by omega⟩ : Fin 4) d)
    refine Fin.ext ?_
    match a with
    | ⟨0, _⟩ => show 1 + (c.val * 512 + d.val) / 512 = c.val + 1; omega
    | ⟨1, _⟩ => rfl
    | ⟨2, _⟩ => show (c.val * 512 + d.val) % 512 = d.val; omega
  have h33 : val_main_v63 (F := Ideal) a0 (ix2 c d) = Z a0 c.val (1 * 512 + d.val) := by
    rw [val_main_v63_apply, val_main_v62_apply]
    refine Eq.trans (congrArg (val_main_v1 (F := Ideal) a0) (funext fun a => ?_)) (v1_at a0 c (⟨1, by omega⟩ : Fin 4) d)
    refine Fin.ext ?_
    match a with
    | ⟨0, _⟩ => show (c.val * 512 + d.val) / 512 = c.val; omega
    | ⟨1, _⟩ => rfl
    | ⟨2, _⟩ => show (c.val * 512 + d.val) % 512 = d.val; omega
  have h30 : val_main_v60 (F := Ideal) (ix2 c d) = cnt c.val 4 := by
    rw [← count_1 c]
    pointwise [val_main_v60, val_main_v45]
  rw [val_main_v64_apply, val_main_v61_apply, val_main_v59_apply, h17, h28, h30, h33]
  rfl

theorem start_2 (c : Fin 8192) : val_main_v70 (F := Ideal) (ix1 c) = BitVec.ofNat 32 (c.val + 1 - 8) := by
  pointwise [val_main_v70, val_main_v68, val_main_v66, val_main_v65, val_main_v67, val_main_v69, val_main_v4, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  exact PoolWords.start_word c.val 8 c.isLt (by omega)

theorem index_2 (c : Fin 8192) : val_main_v82 (F := Ideal) (ix1 c) = BitVec.ofNat 32 (c.val + 1 - 8) := by
  have hc := c.isLt
  have h := PoolWords.select_word (c.val + 1 - 8) (by omega)
  rw [val_main_v82_apply, val_main_v79_apply, val_main_v81_apply, start_2]
  pointwise [val_main_v78, val_main_v80, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  exact h _

theorem count_2 (c : Fin 8192) : val_main_v74 (F := Ideal) (ix1 c) = cnt c.val 8 := by
  rw [val_main_v74_apply, val_main_v73_apply, start_2]
  pointwise [val_main_v72, val_main_v71, val_main_v4, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  rw [PoolWords.count_word c.val 8 c.isLt (by omega)]
  rfl

theorem pair_2_0 (c : Fin 8192) : val_main_v87 (F := Ideal) (ix2 c (0 : Fin 2)) = BitVec.ofNat 32 (c.val + 1 - 8) := by
  pointwise [val_main_v87, val_main_v85]
  exact index_2 c

theorem pair_2_1 (c : Fin 8192) : val_main_v87 (F := Ideal) (ix2 c (1 : Fin 2)) = BitVec.ofNat 32 2 := by
  pointwise [val_main_v87, val_main_v86]
  rw [val_main_v84_apply]
  pointwise [val_main_v83, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]

theorem ref_2 (c : Fin 8192) (d : Fin 512) : val_main_v94 (F := Ideal) a0 (ix2 c d) = mean (Z a0) 8 c.val (2 * 512 + d.val) := by
  have hc := c.isLt
  have hd := d.isLt
  have h28 : val_main_v88 (F := Ideal) a0 (ix2 c d) = S (Z a0) (c.val + 1 - 8) (2 * 512 + d.val) :=
    (gather3 _ _ c d (c.val + 1 - 8) (by omega) (⟨2, by omega⟩ : Fin 4) (pair_2_0 c) (pair_2_1 c)).trans
      (v3_at a0 _ _ (⟨2, by omega⟩ : Fin 4) d)
  have h17 : val_main_v77 (F := Ideal) a0 (ix2 c d) = S (Z a0) (c.val + 1) (2 * 512 + d.val) := by
    rw [val_main_v77_apply, val_main_v76_apply]
    refine Eq.trans (congrArg (val_main_v3 (F := Ideal) a0) (funext fun a => ?_)) (v3_at a0 (c.val + 1) (by omega) (⟨2, by omega⟩ : Fin 4) d)
    refine Fin.ext ?_
    match a with
    | ⟨0, _⟩ => show 1 + (c.val * 512 + d.val) / 512 = c.val + 1; omega
    | ⟨1, _⟩ => rfl
    | ⟨2, _⟩ => show (c.val * 512 + d.val) % 512 = d.val; omega
  have h33 : val_main_v93 (F := Ideal) a0 (ix2 c d) = Z a0 c.val (2 * 512 + d.val) := by
    rw [val_main_v93_apply, val_main_v92_apply]
    refine Eq.trans (congrArg (val_main_v1 (F := Ideal) a0) (funext fun a => ?_)) (v1_at a0 c (⟨2, by omega⟩ : Fin 4) d)
    refine Fin.ext ?_
    match a with
    | ⟨0, _⟩ => show (c.val * 512 + d.val) / 512 = c.val; omega
    | ⟨1, _⟩ => rfl
    | ⟨2, _⟩ => show (c.val * 512 + d.val) % 512 = d.val; omega
  have h30 : val_main_v90 (F := Ideal) (ix2 c d) = cnt c.val 8 := by
    rw [← count_2 c]
    pointwise [val_main_v90, val_main_v75]
  rw [val_main_v94_apply, val_main_v91_apply, val_main_v89_apply, h17, h28, h30, h33]
  rfl

theorem start_3 (c : Fin 8192) : val_main_v100 (F := Ideal) (ix1 c) = BitVec.ofNat 32 (c.val + 1 - 16) := by
  pointwise [val_main_v100, val_main_v98, val_main_v96, val_main_v95, val_main_v97, val_main_v99, val_main_v4, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  exact PoolWords.start_word c.val 16 c.isLt (by omega)

theorem index_3 (c : Fin 8192) : val_main_v112 (F := Ideal) (ix1 c) = BitVec.ofNat 32 (c.val + 1 - 16) := by
  have hc := c.isLt
  have h := PoolWords.select_word (c.val + 1 - 16) (by omega)
  rw [val_main_v112_apply, val_main_v109_apply, val_main_v111_apply, start_3]
  pointwise [val_main_v108, val_main_v110, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  exact h _

theorem count_3 (c : Fin 8192) : val_main_v104 (F := Ideal) (ix1 c) = cnt c.val 16 := by
  rw [val_main_v104_apply, val_main_v103_apply, start_3]
  pointwise [val_main_v102, val_main_v101, val_main_v4, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]
  rw [PoolWords.count_word c.val 16 c.isLt (by omega)]
  rfl

theorem pair_3_0 (c : Fin 8192) : val_main_v117 (F := Ideal) (ix2 c (0 : Fin 2)) = BitVec.ofNat 32 (c.val + 1 - 16) := by
  pointwise [val_main_v117, val_main_v115]
  exact index_3 c

theorem pair_3_1 (c : Fin 8192) : val_main_v117 (F := Ideal) (ix2 c (1 : Fin 2)) = BitVec.ofNat 32 3 := by
  pointwise [val_main_v117, val_main_v116]
  rw [val_main_v114_apply]
  pointwise [val_main_v113, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14, val_main_c_15, val_main_c_16, val_main_c_17, val_main_c_18, val_main_c_19, val_main_c_20, val_main_c_21, val_main_c_22, val_main_c_23, val_main_c_24, val_main_c_25, val_main_c_26, val_main_c_27]

theorem ref_3 (c : Fin 8192) (d : Fin 512) : val_main_v124 (F := Ideal) a0 (ix2 c d) = mean (Z a0) 16 c.val (3 * 512 + d.val) := by
  have hc := c.isLt
  have hd := d.isLt
  have h28 : val_main_v118 (F := Ideal) a0 (ix2 c d) = S (Z a0) (c.val + 1 - 16) (3 * 512 + d.val) :=
    (gather3 _ _ c d (c.val + 1 - 16) (by omega) (⟨3, by omega⟩ : Fin 4) (pair_3_0 c) (pair_3_1 c)).trans
      (v3_at a0 _ _ (⟨3, by omega⟩ : Fin 4) d)
  have h17 : val_main_v107 (F := Ideal) a0 (ix2 c d) = S (Z a0) (c.val + 1) (3 * 512 + d.val) := by
    rw [val_main_v107_apply, val_main_v106_apply]
    refine Eq.trans (congrArg (val_main_v3 (F := Ideal) a0) (funext fun a => ?_)) (v3_at a0 (c.val + 1) (by omega) (⟨3, by omega⟩ : Fin 4) d)
    refine Fin.ext ?_
    match a with
    | ⟨0, _⟩ => show 1 + (c.val * 512 + d.val) / 512 = c.val + 1; omega
    | ⟨1, _⟩ => rfl
    | ⟨2, _⟩ => show (c.val * 512 + d.val) % 512 = d.val; omega
  have h33 : val_main_v123 (F := Ideal) a0 (ix2 c d) = Z a0 c.val (3 * 512 + d.val) := by
    rw [val_main_v123_apply, val_main_v122_apply]
    refine Eq.trans (congrArg (val_main_v1 (F := Ideal) a0) (funext fun a => ?_)) (v1_at a0 c (⟨3, by omega⟩ : Fin 4) d)
    refine Fin.ext ?_
    match a with
    | ⟨0, _⟩ => show (c.val * 512 + d.val) / 512 = c.val; omega
    | ⟨1, _⟩ => rfl
    | ⟨2, _⟩ => show (c.val * 512 + d.val) % 512 = d.val; omega
  have h30 : val_main_v120 (F := Ideal) (ix2 c d) = cnt c.val 16 := by
    rw [← count_3 c]
    pointwise [val_main_v120, val_main_v105]
  rw [val_main_v124_apply, val_main_v121_apply, val_main_v119_apply, h17, h28, h30, h33]
  rfl

theorem v129_at (c : Fin 8192) (g : Fin 4) (d : Fin 512) :
    val_main_v129 (F := Ideal) a0 (ix3 c g d) = mean (Z a0) (2 ^ (g.val + 1)) c.val (g.val * 512 + d.val) := by
  match g with
  | ⟨0, _⟩ =>
    refine Eq.trans ?_ (ref_0 a0 c d)
    pointwise [val_main_v129, val_main_v125]
  | ⟨1, _⟩ =>
    refine Eq.trans ?_ (ref_1 a0 c d)
    pointwise [val_main_v129, val_main_v126]
  | ⟨2, _⟩ =>
    refine Eq.trans ?_ (ref_2 a0 c d)
    pointwise [val_main_v129, val_main_v127]
  | ⟨3, _⟩ =>
    refine Eq.trans ?_ (ref_3 a0 c d)
    pointwise [val_main_v129, val_main_v128]

theorem ref_at (a1 : S1x4x512x512.Idx → EReal) (a2 : S1x2048.Idx → EReal) (c : Fin 8192) (g : Fin 4) (o : Fin 512) :
    val_main_v138 (F := Ideal) a0 a1 a2 (ix2 c (⟨g.val * 512 + o.val, by have := g.isLt; have := o.isLt; omega⟩ : Fin 2048))
      = (∑ k : Fin 512, a1 (ix4 (0 : Fin 1) g k o) * mean (Z a0) (2 ^ (g.val + 1)) c.val (g.val * 512 + k.val))
        * a2 (ix2 (0 : Fin 1) (⟨g.val * 512 + o.val, by have := g.isLt; have := o.isLt; omega⟩ : Fin 2048)) := by
  have hg := g.isLt
  have ho := o.isLt
  have h := v129_at a0 c g
  simp only [← h]
  pointwise [val_main_v138, val_main_v137, val_main_v136, val_main_v135, val_main_v134, val_main_v133, val_main_v132, val_main_v131, val_main_v130]

end Ref
end Cert.Proof.PoolMixer
end
-- ==== Proof.PoolMixer.lean ====
/- The claims of `pool_mixer`: the window sums by doubling of the kernel's scratch levels, against differences of the reference's
   running sums. -/
module

public import proofs.«01_k».proof.Proof.PoolA
public import proofs.«01_k».proof.Proof.PoolRef

@[expose] public section

set_option maxRecDepth 16384

noncomputable section

namespace Cert.Proof.PoolMixer

open Idealize.ShloMosaic Idealize.ShloMosaic.TcCoe Idealize.SL.Sem
open Idealize.ShloMosaic.Pipeline (Dat)

section Value
open Cert.Kernel12Ideal Cert.Kernel12Ideal.Gen

variable (m : (ℓ : Loc nD τ sig) → Buf (Elt Ideal) ℓ)

/-- One group's tile: the window sums `s` over the counts, less the rows `v`, against a weight block, scaled. -/
abbrev tile (i w : ℕ) (v s : Fin 512 → Fin 512 → EReal) (x2 : S1x512x512.Idx → EReal) (x3 : S1x512.Idx → EReal) (r o : Fin 512) : EReal :=
  (∑ k : Fin 512, (s r k * Ideal.div 1 (cnt (i * 512 + r.val) w) - v r k) * x2 (ix3 (0 : Fin 1) k o)) * x3 (ix2 (0 : Fin 1) o)

theorem count_tile (i : grid0.Coords) (r : Fin 512) (w : ℕ) (hw : w ≤ 16) :
    FloatOps.sitofp (F := Ideal) .f32 (IntOp.minsi (IntOp.addi (k0_pay7 i (ix2 r (0 : Fin 1))) 1#32) (BitVec.ofNat 32 w)) = cnt ((i 0).val * 512 + r.val) w := by
  have hi : (i 0).val < 16 := (i 0).isLt
  have hr := r.isLt
  have e : k0_pay7 i (ix2 r (0 : Fin 1)) = BitVec.ofNat 32 ((i 0).val * 512 + r.val) := by
    pointwise [k0_pay7]
    apply BitVec.eq_of_toNat_eq
    simp only [IntOp.addi, IntOp.muli, Scalar.muli, BitVec.toNat_add, BitVec.toNat_mul, BitVec.toNat_ofNat]
    omega
  rw [e, PoolWords.add_word, PoolWords.min_word _ _ (by omega) hw]
  rfl

theorem tile_0 (i : grid0.Coords) (v a b : Vec Ideal S512x512 .f32) (x2 : Vec Ideal S1x512x512 .bf16) (x3 : Vec Ideal S1x512 .f32) (r o : Fin 512) :
    k0_pay8 (k0_pay7 i) v a b x2 x3 (ix2 r o) = tile (i 0).val 2 (fun r k => v (ix2 r k)) (fun r k => (a (ix2 r k) : EReal) + b (ix2 r k)) x2 x3 r o := by
  have h := count_tile i r 2 (by omega)
  unfold tile
  rw [← h]
  pointwise [k0_pay8]

theorem tile_1 (i : grid0.Coords) (v a b : Vec Ideal S512x512 .f32) (x2 : Vec Ideal S1x512x512 .bf16) (x3 : Vec Ideal S1x512 .f32) (r o : Fin 512) :
    k0_pay12 (k0_pay7 i) v (k0_pay10 a b) k0_pay11 x2 x3 (ix2 r o) = tile (i 0).val 4 (fun r k => v (ix2 r k)) (fun r k => (a (ix2 r k) : EReal) + b (ix2 r k)) x2 x3 r o := by
  have h := count_tile i r 4 (by omega)
  unfold tile
  rw [← h]
  pointwise [k0_pay12, k0_pay10, k0_pay11]

theorem tile_2 (i : grid0.Coords) (v a b : Vec Ideal S512x512 .f32) (x2 : Vec Ideal S1x512x512 .bf16) (x3 : Vec Ideal S1x512 .f32) (r o : Fin 512) :
    k0_pay16 v (k0_pay14 a b) (k0_pay15 (k0_pay7 i)) x2 x3 (ix2 r o) = tile (i 0).val 8 (fun r k => v (ix2 r k)) (fun r k => (a (ix2 r k) : EReal) + b (ix2 r k)) x2 x3 r o := by
  have h := count_tile i r 8 (by omega)
  unfold tile
  rw [← h]
  pointwise [k0_pay16, k0_pay14, k0_pay15]

theorem tile_3 (i : grid0.Coords) (v a b : Vec Ideal S512x512 .f32) (x2 : Vec Ideal S1x512x512 .bf16) (x3 : Vec Ideal S1x512 .f32) (r o : Fin 512) :
    k0_pay1 v (k0_pay18 (k0_pay7 i) a b) x2 x3 (ix2 r o) = tile (i 0).val 16 (fun r k => v (ix2 r k)) (fun r k => (a (ix2 r k) : EReal) + b (ix2 r k)) x2 x3 r o := by
  have h := count_tile i r 16 (by omega)
  unfold tile
  rw [← h]
  pointwise [k0_pay1, k0_pay18]

theorem tile_mean (zr : ℕ → ℕ → ℝ) (i w k : ℕ) (hk : w = 2 ^ k) (hw : w ≤ 16) (q : ℕ) (v s : Fin 512 → Fin 512 → EReal) (x2 : S1x512x512.Idx → EReal) (x3 : S1x512.Idx → EReal) (r o : Fin 512)
    (hs : ∀ j : Fin 512, s r j = W (fun n j => (zr n j : EReal)) k (i * 512 + (24 + r.val)) (q + j.val))
    (hv : ∀ j : Fin 512, v r j = zz (fun n j => (zr n j : EReal)) (i * 512 + (24 + r.val)) (q + j.val)) :
    tile i w v s x2 x3 r o = (∑ j : Fin 512, x2 (ix3 (0 : Fin 1) j o) * mean (fun n j => (zr n j : EReal)) w (i * 512 + r.val) (q + j.val)) * x3 (ix2 (0 : Fin 1) o) := by
  subst hk
  unfold tile
  congr 1
  refine Finset.sum_congr rfl fun j _ => ?_
  rw [hs, hv, show i * 512 + (24 + r.val) = 24 + (i * 512 + r.val) by omega, W_window zr k _ _ hw, mul_recip _ _ _ (by positivity) hw, mul_comm]
  unfold mean zz
  rw [if_neg (by omega), show 24 + (i * 512 + r.val) - 24 = i * 512 + r.val by omega]

section Out
variable (c : Dev nD) (i : grid0.Coords) (arg1 : Memref sig .tc .vmem S16x2048 .f32) (harg1 : arg1.IsWhole) (arg2 : Memref sig .tc .vmem S512x2048 .f32) (harg2 : arg2.IsWhole)
  (arg3 : Memref sig .tc .vmem S4x512x512 .bf16) (harg3 : arg3.IsWhole) (arg4 : Memref sig .tc .vmem S1x2048 .f32) (harg4 : arg4.IsWhole) (arg5 : Memref sig .tc .vmem S512x2048 .bf16) (harg5 : arg5.IsWhole)
  (arg6 : Memref sig .tc .vmem S536x2048 .f32) (harg6 : arg6.IsWhole) (arg7 : Memref sig .tc .vmem S536x2048 .f32) (harg7 : arg7.IsWhole) (arg8 : Memref sig .tc .vmem S536x2048 .f32) (harg8 : arg8.IsWhole)
  (x0 : Vec Ideal S16x2048 .f32) (x1 : Vec Ideal S512x2048 .f32) (x2 : Vec Ideal S4x512x512 .bf16) (x3 : Vec Ideal S1x2048 .f32)
  (zr : ℕ → ℕ → ℝ)
  (h0 : ∀ y, k0_pay5 i x0 y = zz (fun n j => (zr n j : EReal)) ((i 0).val * 512 + (8 + (y 0).val)) (y 1).val)
  (h1 : ∀ y, x1 y = zz (fun n j => (zr n j : EReal)) ((i 0).val * 512 + (24 + (y 0).val)) (y 1).val)

include h0 h1 in
theorem out_0 (r o : Fin 512) (ho : 0 + o.val < 2048) :
    out0_A_4 c i arg1 harg1 arg2 harg2 arg3 harg3 arg4 harg4 arg5 harg5 arg6 harg6 arg7 harg7 arg8 harg8 x0 x1 x2 x3 (ix2 r (⟨0 + o.val, ho⟩ : Fin 2048))
      = (∑ j : Fin 512, (x2 (ix3 (⟨0, by omega⟩ : Fin 4) j o) : EReal) * mean (fun n j => (zr n j : EReal)) 2 ((i 0).val * 512 + r.val) (0 + j.val))
        * x3 (ix2 (0 : Fin 1) (⟨0 + o.val, ho⟩ : Fin 2048)) := by
  have hr := r.isLt
  unfold out0_A_4
  rw [View.read_writes_junk_eq_canon]
  unfold kernelRun0_A
  dsimp only
  refine (canon_miss _ _ _ _ _ _ (1 : Fin 2) (Or.inl ?_)).trans ?_
  · show 0 + o.val < 1536; omega
  refine (canon_miss _ _ _ _ _ _ (1 : Fin 2) (Or.inl ?_)).trans ?_
  · show 0 + o.val < 1024; omega
  refine (canon_miss _ _ _ _ _ _ (1 : Fin 2) (Or.inl ?_)).trans ?_
  · show 0 + o.val < 512; omega
  refine (canon_hit _ _ _ _ _ _ (ix2 r o : S512x512.Idx) (Fin.forall_fin_two.2 ⟨?_, ?_⟩)).trans ?_
  · show r.val = 0 + r.val; omega
  · show 0 + o.val = 0 + o.val; rfl
  refine (tile_0 i _ _ _ _ _ r o).trans ?_
  refine (tile_mean zr _ 2 1 rfl (by omega) 0 _ _ _ _ r o (fun j => ?_) (fun j => ?_)).trans ?_
  · have hj := j.isLt
    refine congrArg₂ (· + ·) ?_ ?_
    · unfold kernelRun0_A.sl.v28
      refine (readCov_at _ _ _ _ _ _ (ix2 (⟨24 + r.val, by omega⟩ : Fin 536) (⟨0 + j.val, by omega⟩ : Fin 2048) : S536x2048.Idx) (Fin.forall_fin_two.2 ⟨rfl, rfl⟩)).trans ?_
      refine (level0 c i arg1 harg1 arg2 harg2  x0 x1 _ h0 h1 _ (show 8 ≤ 24 + r.val by omega)).trans (congrArg (fun n => W _ 0 n _) ?_)
      show (i 0).val * 512 + (24 + r.val) = (i 0).val * 512 + (24 + r.val); rfl
    · unfold kernelRun0_A.sl.v29
      refine (readCov_at _ _ _ _ _ _ (ix2 (⟨23 + r.val, by omega⟩ : Fin 536) (⟨0 + j.val, by omega⟩ : Fin 2048) : S536x2048.Idx) (Fin.forall_fin_two.2 ⟨rfl, rfl⟩)).trans ?_
      refine (level0 c i arg1 harg1 arg2 harg2  x0 x1 _ h0 h1 _ (show 8 ≤ 23 + r.val by omega)).trans (congrArg (fun n => W _ 0 n _) ?_)
      show (i 0).val * 512 + (23 + r.val) = (i 0).val * 512 + (24 + r.val) - 2 ^ 0; omega
  · have hj := j.isLt
    unfold kernelRun0_A.sl.r
    exact (readAt_whole harg2 x1 _ _ _ _ (ix2 r (⟨0 + j.val, by omega⟩ : Fin 2048) : S512x2048.Idx) (Fin.forall_fin_two.2 ⟨(Nat.zero_add _).symm, rfl⟩)).trans (h1 _)
  · refine congrArg₂ (· * ·) (Finset.sum_congr rfl fun j _ => congrArg (· * _) ?_) ?_
    · refine readAt_whole harg3 x2 _ _ _ _ (ix3 (⟨0, by omega⟩ : Fin 4) j o : S4x512x512.Idx) fun a => ?_
      match a with
      | ⟨0, _⟩ => rfl
      | ⟨1, _⟩ => show j.val = 0 + j.val; omega
      | ⟨2, _⟩ => show o.val = 0 + o.val; omega
    · exact readAt_whole harg4 x3 _ _ _ _ (ix2 (0 : Fin 1) (⟨0 + o.val, ho⟩ : Fin 2048) : S1x2048.Idx) (Fin.forall_fin_two.2 ⟨rfl, rfl⟩)

include h0 h1 in
theorem out_1 (r o : Fin 512) (ho : 512 + o.val < 2048) :
    out0_A_4 c i arg1 harg1 arg2 harg2 arg3 harg3 arg4 harg4 arg5 harg5 arg6 harg6 arg7 harg7 arg8 harg8 x0 x1 x2 x3 (ix2 r (⟨512 + o.val, ho⟩ : Fin 2048))
      = (∑ j : Fin 512, (x2 (ix3 (⟨1, by omega⟩ : Fin 4) j o) : EReal) * mean (fun n j => (zr n j : EReal)) 4 ((i 0).val * 512 + r.val) (512 + j.val))
        * x3 (ix2 (0 : Fin 1) (⟨512 + o.val, ho⟩ : Fin 2048)) := by
  have hr := r.isLt
  unfold out0_A_4
  rw [View.read_writes_junk_eq_canon]
  unfold kernelRun0_A
  dsimp only
  refine (canon_miss _ _ _ _ _ _ (1 : Fin 2) (Or.inl ?_)).trans ?_
  · show 512 + o.val < 1536; omega
  refine (canon_miss _ _ _ _ _ _ (1 : Fin 2) (Or.inl ?_)).trans ?_
  · show 512 + o.val < 1024; omega
  refine (canon_hit _ _ _ _ _ _ (ix2 r o : S512x512.Idx) (Fin.forall_fin_two.2 ⟨?_, ?_⟩)).trans ?_
  · show r.val = 0 + r.val; omega
  · show 512 + o.val = 512 + o.val; rfl
  unfold kernelRun0_A.sl.r_2
  refine (tile_1 i _ _ _ _ _ r o).trans ?_
  refine (tile_mean zr _ 4 2 rfl (by omega) 512 _ _ _ _ r o (fun j => ?_) (fun j => ?_)).trans ?_
  · have hj := j.isLt
    refine congrArg₂ (· + ·) ?_ ?_
    · unfold kernelRun0_A.sl.v58
      refine (readCov_at _ _ _ _ _ _ (ix2 (⟨24 + r.val, by omega⟩ : Fin 536) (⟨512 + j.val, by omega⟩ : Fin 2048) : S536x2048.Idx) (Fin.forall_fin_two.2 ⟨rfl, rfl⟩)).trans ?_
      refine (level1 c i arg1 harg1 arg2 harg2 arg6 x0 x1 _ h0 h1 _ (show 9 ≤ 24 + r.val by omega) (show 512 ≤ 512 + j.val by omega)).trans (congrArg (fun n => W _ 1 n _) ?_)
      show (i 0).val * 512 + (24 + r.val) = (i 0).val * 512 + (24 + r.val); rfl
    · unfold kernelRun0_A.sl.v59
      refine (readCov_at _ _ _ _ _ _ (ix2 (⟨22 + r.val, by omega⟩ : Fin 536) (⟨512 + j.val, by omega⟩ : Fin 2048) : S536x2048.Idx) (Fin.forall_fin_two.2 ⟨rfl, rfl⟩)).trans ?_
      refine (level1 c i arg1 harg1 arg2 harg2 arg6 x0 x1 _ h0 h1 _ (show 9 ≤ 22 + r.val by omega) (show 512 ≤ 512 + j.val by omega)).trans (congrArg (fun n => W _ 1 n _) ?_)
      show (i 0).val * 512 + (22 + r.val) = (i 0).val * 512 + (24 + r.val) - 2 ^ 1; omega
  · have hj := j.isLt
    unfold kernelRun0_A.sl.r_1
    exact (readAt_whole harg2 x1 _ _ _ _ (ix2 r (⟨512 + j.val, by omega⟩ : Fin 2048) : S512x2048.Idx) (Fin.forall_fin_two.2 ⟨(Nat.zero_add _).symm, rfl⟩)).trans (h1 _)
  · refine congrArg₂ (· * ·) (Finset.sum_congr rfl fun j _ => congrArg (· * _) ?_) ?_
    · refine readAt_whole harg3 x2 _ _ _ _ (ix3 (⟨1, by omega⟩ : Fin 4) j o : S4x512x512.Idx) fun a => ?_
      match a with
      | ⟨0, _⟩ => rfl
      | ⟨1, _⟩ => show j.val = 0 + j.val; omega
      | ⟨2, _⟩ => show o.val = 0 + o.val; omega
    · exact readAt_whole harg4 x3 _ _ _ _ (ix2 (0 : Fin 1) (⟨512 + o.val, ho⟩ : Fin 2048) : S1x2048.Idx) (Fin.forall_fin_two.2 ⟨rfl, rfl⟩)

include h0 h1 in
theorem out_2 (r o : Fin 512) (ho : 1024 + o.val < 2048) :
    out0_A_4 c i arg1 harg1 arg2 harg2 arg3 harg3 arg4 harg4 arg5 harg5 arg6 harg6 arg7 harg7 arg8 harg8 x0 x1 x2 x3 (ix2 r (⟨1024 + o.val, ho⟩ : Fin 2048))
      = (∑ j : Fin 512, (x2 (ix3 (⟨2, by omega⟩ : Fin 4) j o) : EReal) * mean (fun n j => (zr n j : EReal)) 8 ((i 0).val * 512 + r.val) (1024 + j.val))
        * x3 (ix2 (0 : Fin 1) (⟨1024 + o.val, ho⟩ : Fin 2048)) := by
  have hr := r.isLt
  unfold out0_A_4
  rw [View.read_writes_junk_eq_canon]
  unfold kernelRun0_A
  dsimp only
  refine (canon_miss _ _ _ _ _ _ (1 : Fin 2) (Or.inl ?_)).trans ?_
  · show 1024 + o.val < 1536; omega
  refine (canon_hit _ _ _ _ _ _ (ix2 r o : S512x512.Idx) (Fin.forall_fin_two.2 ⟨?_, ?_⟩)).trans ?_
  · show r.val = 0 + r.val; omega
  · show 1024 + o.val = 1024 + o.val; rfl
  unfold kernelRun0_A.sl.r_4 kernelRun0_A.sl.r_5
  refine (tile_2 i _ _ _ _ _ r o).trans ?_
  refine (tile_mean zr _ 8 3 rfl (by omega) 1024 _ _ _ _ r o (fun j => ?_) (fun j => ?_)).trans ?_
  · have hj := j.isLt
    refine congrArg₂ (· + ·) ?_ ?_
    · unfold kernelRun0_A.sl.v88
      refine (readCov_at _ _ _ _ _ _ (ix2 (⟨24 + r.val, by omega⟩ : Fin 536) (⟨1024 + j.val, by omega⟩ : Fin 2048) : S536x2048.Idx) (Fin.forall_fin_two.2 ⟨rfl, rfl⟩)).trans ?_
      refine (level2 c i arg1 harg1 arg2 harg2 arg6 arg7 x0 x1 _ h0 h1 _ (show 11 ≤ 24 + r.val by omega) (show 1024 ≤ 1024 + j.val by omega)).trans (congrArg (fun n => W _ 2 n _) ?_)
      show (i 0).val * 512 + (24 + r.val) = (i 0).val * 512 + (24 + r.val); rfl
    · unfold kernelRun0_A.sl.v89
      refine (readCov_at _ _ _ _ _ _ (ix2 (⟨20 + r.val, by omega⟩ : Fin 536) (⟨1024 + j.val, by omega⟩ : Fin 2048) : S536x2048.Idx) (Fin.forall_fin_two.2 ⟨rfl, rfl⟩)).trans ?_
      refine (level2 c i arg1 harg1 arg2 harg2 arg6 arg7 x0 x1 _ h0 h1 _ (show 11 ≤ 20 + r.val by omega) (show 1024 ≤ 1024 + j.val by omega)).trans (congrArg (fun n => W _ 2 n _) ?_)
      show (i 0).val * 512 + (20 + r.val) = (i 0).val * 512 + (24 + r.val) - 2 ^ 2; omega
  · have hj := j.isLt
    unfold kernelRun0_A.sl.r_3
    exact (readAt_whole harg2 x1 _ _ _ _ (ix2 r (⟨1024 + j.val, by omega⟩ : Fin 2048) : S512x2048.Idx) (Fin.forall_fin_two.2 ⟨(Nat.zero_add _).symm, rfl⟩)).trans (h1 _)
  · refine congrArg₂ (· * ·) (Finset.sum_congr rfl fun j _ => congrArg (· * _) ?_) ?_
    · refine readAt_whole harg3 x2 _ _ _ _ (ix3 (⟨2, by omega⟩ : Fin 4) j o : S4x512x512.Idx) fun a => ?_
      match a with
      | ⟨0, _⟩ => rfl
      | ⟨1, _⟩ => show j.val = 0 + j.val; omega
      | ⟨2, _⟩ => show o.val = 0 + o.val; omega
    · exact readAt_whole harg4 x3 _ _ _ _ (ix2 (0 : Fin 1) (⟨1024 + o.val, ho⟩ : Fin 2048) : S1x2048.Idx) (Fin.forall_fin_two.2 ⟨rfl, rfl⟩)

include h0 h1 in
theorem out_3 (r o : Fin 512) (ho : 1536 + o.val < 2048) :
    out0_A_4 c i arg1 harg1 arg2 harg2 arg3 harg3 arg4 harg4 arg5 harg5 arg6 harg6 arg7 harg7 arg8 harg8 x0 x1 x2 x3 (ix2 r (⟨1536 + o.val, ho⟩ : Fin 2048))
      = (∑ j : Fin 512, (x2 (ix3 (⟨3, by omega⟩ : Fin 4) j o) : EReal) * mean (fun n j => (zr n j : EReal)) 16 ((i 0).val * 512 + r.val) (1536 + j.val))
        * x3 (ix2 (0 : Fin 1) (⟨1536 + o.val, ho⟩ : Fin 2048)) := by
  have hr := r.isLt
  unfold out0_A_4
  rw [View.read_writes_junk_eq_canon]
  unfold kernelRun0_A
  dsimp only
  refine (canon_hit _ _ _ _ _ _ (ix2 r o : S512x512.Idx) (Fin.forall_fin_two.2 ⟨?_, ?_⟩)).trans ?_
  · show r.val = 0 + r.val; omega
  · show 1536 + o.val = 1536 + o.val; rfl
  unfold kernelRun0_A.sl.r_7
  refine (tile_3 i _ _ _ _ _ r o).trans ?_
  refine (tile_mean zr _ 16 4 rfl (by omega) 1536 _ _ _ _ r o (fun j => ?_) (fun j => ?_)).trans ?_
  · have hj := j.isLt
    refine congrArg₂ (· + ·) ?_ ?_
    · unfold kernelRun0_A.sl.v118
      refine (readCov_at _ _ _ _ _ _ (ix2 (⟨24 + r.val, by omega⟩ : Fin 536) (⟨1536 + j.val, by omega⟩ : Fin 2048) : S536x2048.Idx) (Fin.forall_fin_two.2 ⟨rfl, rfl⟩)).trans ?_
      refine (level3 c i arg1 harg1 arg2 harg2 arg6 arg7 arg8 x0 x1 _ h0 h1 _ (show 15 ≤ 24 + r.val by omega) (show 1536 ≤ 1536 + j.val by omega)).trans (congrArg (fun n => W _ 3 n _) ?_)
      show (i 0).val * 512 + (24 + r.val) = (i 0).val * 512 + (24 + r.val); rfl
    · unfold kernelRun0_A.sl.v119
      refine (readCov_at _ _ _ _ _ _ (ix2 (⟨16 + r.val, by omega⟩ : Fin 536) (⟨1536 + j.val, by omega⟩ : Fin 2048) : S536x2048.Idx) (Fin.forall_fin_two.2 ⟨rfl, rfl⟩)).trans ?_
      refine (level3 c i arg1 harg1 arg2 harg2 arg6 arg7 arg8 x0 x1 _ h0 h1 _ (show 15 ≤ 16 + r.val by omega) (show 1536 ≤ 1536 + j.val by omega)).trans (congrArg (fun n => W _ 3 n _) ?_)
      show (i 0).val * 512 + (16 + r.val) = (i 0).val * 512 + (24 + r.val) - 2 ^ 3; omega
  · have hj := j.isLt
    unfold kernelRun0_A.sl.r_6
    exact (readAt_whole harg2 x1 _ _ _ _ (ix2 r (⟨1536 + j.val, by omega⟩ : Fin 2048) : S512x2048.Idx) (Fin.forall_fin_two.2 ⟨(Nat.zero_add _).symm, rfl⟩)).trans (h1 _)
  · refine congrArg₂ (· * ·) (Finset.sum_congr rfl fun j _ => congrArg (· * _) ?_) ?_
    · refine readAt_whole harg3 x2 _ _ _ _ (ix3 (⟨3, by omega⟩ : Fin 4) j o : S4x512x512.Idx) fun a => ?_
      match a with
      | ⟨0, _⟩ => rfl
      | ⟨1, _⟩ => show j.val = 0 + j.val; omega
      | ⟨2, _⟩ => show o.val = 0 + o.val; omega
    · exact readAt_whole harg4 x3 _ _ _ _ (ix2 (0 : Fin 1) (⟨1536 + o.val, ho⟩ : Fin 2048) : S1x2048.Idx) (Fin.forall_fin_two.2 ⟨rfl, rfl⟩)

include h0 h1 in
theorem out_all (r o : Fin 512) (g : Fin 4) (q w : ℕ) (hq : q = g.val * 512) (hw : w = 2 ^ (g.val + 1)) (ho : q + o.val < 2048) :
    out0_A_4 c i arg1 harg1 arg2 harg2 arg3 harg3 arg4 harg4 arg5 harg5 arg6 harg6 arg7 harg7 arg8 harg8 x0 x1 x2 x3 (ix2 r (⟨q + o.val, ho⟩ : Fin 2048))
      = (∑ j : Fin 512, (x2 (ix3 g j o) : EReal) * mean (fun n j => (zr n j : EReal)) w ((i 0).val * 512 + r.val) (q + j.val))
        * x3 (ix2 (0 : Fin 1) (⟨q + o.val, ho⟩ : Fin 2048)) := by
  have hc : g = 0 ∨ g = 1 ∨ g = 2 ∨ g = 3 := by omega
  rcases hc with hc | hc | hc | hc
  · have h1' : q = 0 := by rw [hq, hc]; rfl
    have h2' : w = 2 := by rw [hw, hc]; rfl
    subst h1' h2' hc
    exact out_0 c i arg1 harg1 arg2 harg2 arg3 harg3 arg4 harg4 arg5 harg5 arg6 harg6 arg7 harg7 arg8 harg8 x0 x1 x2 x3 zr h0 h1 r o ho
  · have h1' : q = 512 := by rw [hq, hc]; rfl
    have h2' : w = 4 := by rw [hw, hc]; rfl
    subst h1' h2' hc
    exact out_1 c i arg1 harg1 arg2 harg2 arg3 harg3 arg4 harg4 arg5 harg5 arg6 harg6 arg7 harg7 arg8 harg8 x0 x1 x2 x3 zr h0 h1 r o ho
  · have h1' : q = 1024 := by rw [hq, hc]; rfl
    have h2' : w = 8 := by rw [hw, hc]; rfl
    subst h1' h2' hc
    exact out_2 c i arg1 harg1 arg2 harg2 arg3 harg3 arg4 harg4 arg5 harg5 arg6 harg6 arg7 harg7 arg8 harg8 x0 x1 x2 x3 zr h0 h1 r o ho
  · have h1' : q = 1536 := by rw [hq, hc]; rfl
    have h2' : w = 16 := by rw [hw, hc]; rfl
    subst h1' h2' hc
    exact out_3 c i arg1 harg1 arg2 harg2 arg3 harg3 arg4 harg4 arg5 harg5 arg6 harg6 arg7 harg7 arg8 harg8 x0 x1 x2 x3 zr h0 h1 r o ho

end Out

theorem idx : ∀ t : Fin cfg0.N, win0_0.index t = ![t.val * 32 - 1, 0] ∧ win0_1.index t = ![t.val, 0] ∧ win0_2.index t = ![0, 0, 0]
    ∧ win0_3.index t = ![0, 0] ∧ win0_4.index t = ![t.val, 0] ∧ (grid0.coords t 0).val = t.val :=
  (by decide +kernel : ∀ t : Fin grid0.N, _)

theorem grid_lt (t : Fin cfg0.N) : t.val < 16 := by
  have h : t.val < grid0.N := t.isLt
  have e : grid0.N = 16 := by decide +kernel
  omega

theorem halo_blk (c : Dev nD) (t : Fin cfg0.N) (r : Fin 16) (j : Fin 2048) (h : 16 * (t.val * 32 - 1) + r.val < 8192) (h' : j.val < 3584) :
    X0_0 m c t (ix2 r j) = m ((c : Thread nD τ).loc main_arg0) (ix2 ⟨16 * (t.val * 32 - 1) + r.val, h⟩ ⟨j.val, h'⟩) := by
  unfold X0_0 Pipeline.Window.fill
  rw [dif_pos (moved0_0 t _)]
  blk_point [iblk, V, idx t]

theorem rows_blk (c : Dev nD) (t : Fin cfg0.N) (r : Fin 512) (j : Fin 2048) (h : 512 * t.val + r.val < 8192) (h' : j.val < 3584) :
    X0_1 m c t (ix2 r j) = m ((c : Thread nD τ).loc main_arg0) (ix2 ⟨512 * t.val + r.val, h⟩ ⟨j.val, h'⟩) := by
  unfold X0_1 Pipeline.Window.fill
  rw [dif_pos (moved0_1 t _)]
  blk_point [iblk, V, idx t]

theorem weight_at (x : Vec Ideal S1x4x512x512 .f32) (g : Fin 4) (k o : Fin 512) :
    truncf (F := Ideal) .bf16 (shapeCast S4x512x512 x shapeCasts_S1x4x512x512_S4x512x512) bitsLt_bf16_f32 (ix3 g k o) = x (ix4 (0 : Fin 1) g k o) := by
  refine Eq.trans (Cert.Reference12Ideal.Read.val_main_v130_apply (F := Ideal) x (ix3 g k o)) (congrArg x (funext fun a => Fin.ext ?_))
  have hk := k.isLt
  have ho := o.isLt
  have hg := g.isLt
  match a with
  | ⟨0, _⟩ => rfl
  | ⟨1, _⟩ => show ((g.val * 512 + k.val) * 512 + o.val) / 262144 % 4 = g.val; omega
  | ⟨2, _⟩ => show ((g.val * 512 + k.val) * 512 + o.val) / 512 % 512 = k.val; omega
  | ⟨3, _⟩ => show ((g.val * 512 + k.val) * 512 + o.val) % 512 = o.val; omega

theorem weight_blk (c : Dev nD) (t : Fin cfg0.N) (g : Fin 4) (k o : Fin 512) :
    iblk m c 2 t (ix3 g k o) = m ((c : Thread nD τ).loc main_arg1) (ix4 (0 : Fin 1) g k o) := by
  have e : V m c main_v1 = truncf (F := Ideal) .bf16 (shapeCast S4x512x512 (m ((c : Thread nD τ).loc main_arg1)) shapeCasts_S1x4x512x512_S4x512x512) bitsLt_bf16_f32 := by
    unfold V hostOps0
    after_results <;> rfl
  have e' : iblk m c 2 t (ix3 g k o) = V m c main_v1 (ix3 g k o) := by
    blk_point [iblk, idx t]
  rw [e', e]
  exact weight_at _ g k o

theorem scale_blk (c : Dev nD) (t : Fin cfg0.N) (j : Fin 2048) :
    iblk m c 3 t (ix2 (0 : Fin 1) j) = m ((c : Thread nD τ).loc main_arg2) (ix2 (0 : Fin 1) j) := by
  have e : V m c main_v3 = shapeCast S1x2048 (shapeCast S2048 (m ((c : Thread nD τ).loc main_arg2)) shapeCasts_S1x2048_S2048) shapeCasts_S2048_S1x2048 := by
    unfold V hostOps0
    after_results <;> rfl
  have e' : iblk m c 3 t (ix2 (0 : Fin 1) j) = V m c main_v3 (ix2 (0 : Fin 1) j) := by
    blk_point [iblk, idx t]
  rw [e', e]
  generalize m ((c : Thread nD τ).loc main_arg2) = x
  pointwise []

theorem first_word : ∀ i : Fin 16, Scalar.cmpi .sgt (BitVec.ofNat 32 i.val) 0#32 = if 0 < i.val then 1#1 else 0#1 := by decide

theorem pay5_at (i : grid0.Coords) (x0 : Vec Ideal S16x2048 .f32) (y : S16x2048.Idx) : k0_pay5 i x0 y = if 0 < (i 0).val then (x0 y : EReal) else 0 := by
  have h := first_word (i 0)
  unfold k0_pay5
  dsimp only
  rw [h]
  by_cases hi : 0 < (i 0).val
  · rw [if_pos hi, if_pos hi]
    rw [eq_ix2 y]
    pointwise [Scalar.select]
    exact congrFun (if_pos rfl) y
  · rw [if_neg hi, if_neg hi]
    rw [eq_ix2 y]
    pointwise [Scalar.select]
    exact congrFun (if_neg (by decide)) y

/-- The pool columns of `a0` are finite. -/
abbrev Finite (a0 : S8192x3584.Idx → EReal) : Prop := ∀ (n : Fin 8192) (j : ℕ) (h : j < 2048), a0 (ix2 n (⟨j, by omega⟩ : Fin 3584)) ≠ ⊤ ∧ a0 (ix2 n (⟨j, by omega⟩ : Fin 3584)) ≠ ⊥

abbrev zr (a0 : S8192x3584.Idx → EReal) : ℕ → ℕ → ℝ := fun n j => (Z a0 n j).toReal

theorem zr_eq (a0 : S8192x3584.Idx → EReal) (hf : Finite a0) (n j : ℕ) (hj : j < 2048) : ((zr a0 n j : ℝ) : EReal) = Z a0 n j := by
  unfold zr Z
  by_cases hn : n < 8192
  · rw [dif_pos ⟨hn, by omega⟩]
    exact EReal.coe_toReal (hf ⟨n, hn⟩ j hj).1 (hf ⟨n, hn⟩ j hj).2
  · rw [dif_neg (fun h => hn h.1)]
    simp

theorem mean_congr (z z' : ℕ → ℕ → EReal) (w c j : ℕ) (h : ∀ n, z n j = z' n j) : mean z w c j = mean z' w c j := by
  unfold mean S
  simp only [h]

theorem point (c : Dev nD) (t : Fin cfg0.N) (hf : Finite (m ((c : Thread nD τ).loc main_arg0))) (r : Fin 512) (g : Fin 4) (o : Fin 512)
    (hx : g.val * 512 + o.val < 2048) (hn : 512 * t.val + r.val < 8192) :
    outsAt0 m c t (ix2 r (⟨g.val * 512 + o.val, hx⟩ : Fin 2048))
      = Cert.Reference12Ideal.Read.val_main_v138 (F := Ideal) (m ((c : Thread nD τ).loc main_arg0)) (m ((c : Thread nD τ).loc main_arg1)) (m ((c : Thread nD τ).loc main_arg2))
        (ix2 (⟨512 * t.val + r.val, hn⟩ : Fin 8192) (⟨g.val * 512 + o.val, hx⟩ : Fin 2048)) := by
  have ht := grid_lt t
  have hi : (grid0.coords t 0).val = t.val := (idx t).2.2.2.2.2
  have h0 : ∀ y, k0_pay5 (grid0.coords t) (X0_0 m c t) y = zz (fun n j => (zr (m ((c : Thread nD τ).loc main_arg0)) n j : EReal)) ((grid0.coords t 0).val * 512 + (8 + (y 0).val)) (y 1).val := by
    intro y
    have y0 : (y 0).val < 16 := (y 0).isLt
    have y1 : (y 1).val < 2048 := (y 1).isLt
    rw [pay5_at, hi]
    unfold zz
    by_cases h : 0 < t.val
    · rw [if_pos h, if_neg (by omega)]
      refine Eq.trans ?_ (zr_eq _ hf _ _ y1).symm
      unfold Z
      rw [dif_pos ⟨by omega, by omega⟩]
      refine Eq.trans (congrArg (X0_0 m c t) (eq_ix2 y)) ((halo_blk m c t (y 0) (y 1) (by omega) (by omega)).trans ?_)
      refine congrArg (m ((c : Thread nD τ).loc main_arg0)) (congrArg₂ ix2 (Fin.ext ?_) rfl)
      show 16 * (t.val * 32 - 1) + (y 0).val = t.val * 512 + (8 + (y 0).val) - 24
      omega
    · rw [if_neg h, if_pos (by omega)]
  have h1 : ∀ y, X0_1 m c t y = zz (fun n j => (zr (m ((c : Thread nD τ).loc main_arg0)) n j : EReal)) ((grid0.coords t 0).val * 512 + (24 + (y 0).val)) (y 1).val := by
    intro y
    have y0 : (y 0).val < 512 := (y 0).isLt
    have y1 : (y 1).val < 2048 := (y 1).isLt
    rw [hi]
    unfold zz
    rw [if_neg (by omega)]
    refine Eq.trans ?_ (zr_eq _ hf _ _ y1).symm
    unfold Z
    rw [dif_pos ⟨by omega, by omega⟩]
    refine Eq.trans (congrArg (X0_1 m c t) (eq_ix2 y)) ((rows_blk m c t (y 0) (y 1) (by omega) (by omega)).trans ?_)
    refine congrArg (m ((c : Thread nD τ).loc main_arg0)) (congrArg₂ ix2 (Fin.ext ?_) rfl)
    show 512 * t.val + (y 0).val = t.val * 512 + (24 + (y 0).val) - 24
    omega
  rw [ref_at]
  have fin : ∀ (g : Fin 4) (hx : g.val * 512 + o.val < 2048) (w : S4x512x512.Idx → EReal) (hw : w = iblk m c 2 t) (u : S1x2048.Idx → EReal) (hu : u = iblk m c 3 t)
      (w' : S1x4x512x512.Idx → EReal) (hw' : w' = m ((c : Thread nD τ).loc main_arg1)) (u' : S1x2048.Idx → EReal) (hu' : u' = m ((c : Thread nD τ).loc main_arg2)),
      (∑ j : Fin 512, w (ix3 g j o) * mean (fun n j => (zr (m ((c : Thread nD τ).loc main_arg0)) n j : EReal)) (2 ^ (g.val + 1)) ((grid0.coords t 0).val * 512 + r.val) (g.val * 512 + j.val))
        * u (ix2 (0 : Fin 1) (⟨g.val * 512 + o.val, hx⟩ : Fin 2048))
      = (∑ k : Fin 512, w' (ix4 (0 : Fin 1) g k o) * mean (Z (m ((c : Thread nD τ).loc main_arg0))) (2 ^ (g.val + 1)) (512 * t.val + r.val) (g.val * 512 + k.val))
        * u' (ix2 (0 : Fin 1) (⟨g.val * 512 + o.val, hx⟩ : Fin 2048)) := by
    intro g hx w hw u hu w' hw' u' hu'
    subst hw hu hw' hu'
    have hg := g.isLt
    refine congrArg₂ (· * ·) (Finset.sum_congr rfl fun j _ => congrArg₂ (· * ·) (weight_blk m c t g j o) ?_) (scale_blk m c t _)
    have hj := j.isLt
    rw [hi, show t.val * 512 + r.val = 512 * t.val + r.val by omega]
    exact mean_congr _ _ _ _ _ fun n => zr_eq _ hf n _ (by omega)
  refine Eq.trans ?_ (fin g hx _ rfl _ rfl _ rfl _ rfl)
  unfold outsAt0
  exact out_all c (grid0.coords t) _ _ _ _ _ _ _ _ _ _ _ _ _ _ _ _ _ _ _ _ _ h0 h1 r o g _ _ rfl rfl hx

theorem final (c : Dev nD) (hf : Finite (m ((c : Thread nD τ).loc main_arg0))) : (dats m 0 c).arrAt 4 cfg0.N
    = Cert.Reference12Ideal.Read.val_main_v138 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have ht := grid_lt t
  have y0 : (y 0).val < 512 := (y 0).isLt
  have y1 : (y 1).val < 2048 := (y 1).isLt
  blk_simp
  rw [after0_4]
  have hp := point m c t hf ⟨(y 0).val, y0⟩ ⟨(y 1).val / 512, by omega⟩ ⟨(y 1).val % 512, by omega⟩ (by show (y 1).val / 512 * 512 + (y 1).val % 512 < 2048; omega) (by show 512 * t.val + (y 0).val < 8192; omega)
  refine Eq.trans (congrArg (outsAt0 m c t) (funext fun a => Fin.ext ?_)) (hp.trans (congrArg _ (funext fun a => Fin.ext ?_)))
  · match a with
    | ⟨0, _⟩ => rfl
    | ⟨1, _⟩ => show (y 1).val = (y 1).val / 512 * 512 + (y 1).val % 512; omega
  · match a with
    | ⟨0, _⟩ =>
      show 512 * t.val + (y 0).val = win0_4.index t 0 * 512 + 1 * (y 0).val
      rw [(idx t).2.2.2.2.1]
      show 512 * t.val + (y 0).val = t.val * 512 + 1 * (y 0).val
      omega
    | ⟨1, _⟩ =>
      show (y 1).val / 512 * 512 + (y 1).val % 512 = win0_4.index t 1 * 2048 + 1 * (y 1).val
      rw [(idx t).2.2.2.2.1]
      show (y 1).val / 512 * 512 + (y 1).val % 512 = 0 * 2048 + 1 * (y 1).val
      omega

theorem finite_of_pre [Cert.Pre_finite12.Facts] (a0 : S8192x3584.Idx → EReal) (a1 : S1x4x512x512.Idx → EReal) (a2 : S1x2048.Idx → EReal)
    (h : Cert.Pre_finite12.fn (F := Ideal) a0 a1 a2 = fun _ => 1#1) : Finite a0 := by
  intro n j hj
  have h := congrFun h (ix2 n (⟨j, hj⟩ : Fin 2048))
  unfold Cert.Pre_finite12.fn at h
  dsimp only at h
  pointwise [] at h
  have htop : Ideal.ofBits .f32 2139095040#32 = (⊤ : EReal) := by
    unfold Ideal.ofBits Ideal.ieee
    rfl
  rw [htop] at h
  have hlt : max (a0 (ix2 n (⟨j, by omega⟩ : Fin 3584))) (-(a0 (ix2 n (⟨j, by omega⟩ : Fin 3584)))) < ⊤ := by
    by_contra hc
    have hd : decide (FloatOps.absf (F := Ideal) (φ := .f32) (a0 (ix2 n (⟨j, by omega⟩ : Fin 3584))) < (⊤ : EReal)) = false := decide_eq_false hc
    rw [hd] at h
    exact absurd h (by decide)
  refine ⟨fun e => ?_, fun e => ?_⟩
  · rw [e] at hlt
    simp at hlt
  · rw [e] at hlt
    simp at hlt

end Value

theorem pre_facts : Cert.Pre_finite12.Facts := ⟨by decide, by decide⟩

instance : Cert.Pre_finite12.Facts := pre_facts

theorem frame_kernel : Cert.quiescent_Kernel12 := fun m ρ _ => Cert.Kernel12.Gen.frame m ρ
theorem frame_ideal : Cert.quiescent_Kernel12Ideal := fun m ρ _ => Cert.Kernel12Ideal.Gen.frame m ρ
theorem frame_ideal_pre : Cert.quiescent_Kernel12Ideal_pre_finite12 := fun m ρ _ => Cert.Kernel12Ideal.Gen.frame m ρ
theorem frame_reference : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)
theorem frame_reference_pre : Cert.quiescent_Reference12Ideal_pre_finite12 := fun m ρ _ => frame_reference m ρ trivial
theorem preserves : Cert.preserves_Kernel12_Kernel12Ideal := trivial

theorem algebraic : Cert.algebraic_Kernel12Ideal_Reference12Ideal_pre_finite12 := by
  intro m ρ m' ρ' hpre hag
  refine ⟨fun c => (Cert.Kernel12Ideal.Gen.dats m 0 c).arrAt 4 Cert.Kernel12Ideal.cfg0.N,
    (θ_run Cert.Kernel12Ideal.defs _ _).mono (fun _ h c => h c) (Cert.Kernel12Ideal.Value.run_blocks (F := Ideal) m ρ),
    (θ_run Cert.Reference12Ideal.defs _ _).mono (fun r h c => ?_) (Cert.Reference12Ideal.Value.run (F := Ideal) m' ρ')⟩
  obtain ⟨h0, h1, h2⟩ := hag c
  obtain ⟨r1, hrest⟩ := h c
  refine ⟨r1.trans ?_, hrest⟩
  rw [Cert.Reference12Ideal.Read.val_main_v138_eq m' c, h0, h1, h2]
  exact (final m c (finite_of_pre _ _ _ (hpre c))).symm

end Cert.Proof.PoolMixer

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Value
public import proofs.«01_k».proof.Proof.SwigluUp
public import proofs.«01_k».proof.Proof.GatedMerge
public import proofs.«01_k».proof.Proof.FfnDown
public import proofs.«01_k».proof.Proof.PleGate
public import proofs.«01_k».proof.Proof.OutProj
public import proofs.«01_k».proof.Proof.InProj
public import proofs.«01_k».proof.Proof.FinalValue
public import proofs.«01_k».proof.Proof.RmsnormCast
public import proofs.«01_k».proof.Proof.KvProj
public import proofs.«01_k».proof.Proof.QProjValue
public import proofs.«01_k».proof.Proof.PoolMixer

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts, PoolMixer.pre_facts,
  Norm.frame_kernel, Norm.frame_ideal, Norm.frame_reference,
  SwigluUp.frame_kernel, SwigluUp.frame_ideal, SwigluUp.frame_reference,
  GatedMerge.frame_kernel, GatedMerge.frame_ideal, GatedMerge.frame_reference,
  FfnDown.frame_kernel, FfnDown.frame_ideal, FfnDown.frame_reference,
  PleGate.frame_kernel, PleGate.frame_ideal, PleGate.frame_reference,
  OutProj.frame_kernel, OutProj.frame_ideal, OutProj.frame_reference,
  InProj.frame_kernel, InProj.frame_ideal, InProj.frame_reference,
  Final.frame_kernel, Final.frame_ideal, Final.frame_reference,
  RmsnormCast.frame_kernel, RmsnormCast.frame_ideal, RmsnormCast.frame_reference,
  KvProj.frame_kernel, KvProj.frame_ideal, KvProj.frame_reference,
  QProj.frame_kernel, QProj.frame_ideal, QProj.frame_reference,
  PoolMixer.frame_kernel, PoolMixer.frame_ideal, PoolMixer.frame_ideal_pre, PoolMixer.frame_reference, PoolMixer.frame_reference_pre,
  Norm.preserves, Norm.algebraic,
  SwigluUp.preserves, SwigluUp.algebraic,
  GatedMerge.preserves, GatedMerge.algebraic,
  FfnDown.preserves, FfnDown.algebraic,
  PleGate.preserves, PleGate.algebraic,
  OutProj.preserves, OutProj.algebraic,
  InProj.preserves, InProj.algebraic,
  Final.preserves, Final.algebraic,
  RmsnormCast.preserves, RmsnormCast.algebraic,
  KvProj.preserves, KvProj.algebraic,
  QProj.preserves, QProj.algebraic,
  PoolMixer.preserves, PoolMixer.algebraic⟩

end Cert.Proof

end
